-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays [hPre_decays : Cert.Pre_decays.Facts] (m : (ℓ : Loc Cert.KernelIdeal.nD Cert.KernelIdeal.τ Cert.KernelIdeal.sig) → Buf (Elt Ideal) ℓ) : Prop :=
  ∀ c : Dev Cert.KernelIdeal.nD,
    (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays [hPre_decays : Cert.Pre_decays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Experts [hPre_experts : Cert.Pre_experts.Facts] (m : (ℓ : Loc Cert.Experts.nD Cert.Experts.τ Cert.Experts.sig) → Buf (Elt Bits) ℓ) : Prop :=
  ∀ c : Dev Cert.Experts.nD,
    (Cert.Pre_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_experts : Cert.Pre_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts [hPre_experts : Cert.Pre_experts.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Third (m : (ℓ : Loc Cert.Third.nD Cert.Third.τ Cert.Third.sig) → Buf (Elt Bits) ℓ) : Prop :=
  True

def Pre_ThirdIdeal (m : (ℓ : Loc Cert.ThirdIdeal.nD Cert.ThirdIdeal.τ Cert.ThirdIdeal.sig) → Buf (Elt Ideal) ℓ) : Prop :=
  True

def Pre_ThirdRefIdeal (m : (ℓ : Loc Cert.ThirdRefIdeal.nD Cert.ThirdRefIdeal.τ Cert.ThirdRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_decays [hKernelIdeal : Cert.KernelIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_decays [hReferenceIdeal : Cert.ReferenceIdeal.Facts] [hPre_decays : Cert.Pre_decays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Experts [hExperts : Cert.Experts.Facts] [hPre_experts : Cert.Pre_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_experts : Cert.Pre_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_ExpertsRefIdeal_pre_experts [hExpertsRefIdeal : Cert.ExpertsRefIdeal.Facts] [hPre_experts : Cert.Pre_experts.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5))
      ∧ r.2.sem = fun _ => 0)

def quiescent_Third [hThird : Cert.Third.Facts] : Prop :=
  ∀ (m : (ℓ : Loc Cert.Third.nD Cert.Third.τ Cert.Third.sig) → Buf (Elt Bits) ℓ) (g : Dev Cert.Third.nD → PrngReg), Pre_Third m →
    θ_run (Cert.Third.defs (F := Bits)) (onTc (τ := Cert.Third.τ) (Cert.Third.main (F := Bits))) ⟨m, fun _ => 0, g⟩ (fun r => (∀ c : Dev Cert.Third.nD,
      r.2.mem ((c.tc : Thread Cert.Third.nD Cert.Third.τ).loc Cert.Third.main_arg0) = m ((c.tc : Thread Cert.Third.nD Cert.Third.τ).loc Cert.Third.main_arg0)
      ∧ r.2.mem ((c.tc : Thread Cert.Third.nD Cert.Third.τ).loc Cert.Third.main_arg1) = m ((c.tc : Thread Cert.Third.nD Cert.Third.τ).loc Cert.Third.main_arg1)
      ∧ r.2.mem ((c.tc : Thread Cert.Third.nD Cert.Third.τ).loc Cert.Third.main_arg2) = m ((c.tc : Thread Cert.Third.nD Cert.Third.τ).loc Cert.Third.main_arg2)
      ∧ r.2.mem ((c.tc : Thread Cert.Third.nD Cert.Third.τ).loc Cert.Third.main_arg3) = m ((c.tc : Thread Cert.Third.nD Cert.Third.τ).loc Cert.Third.main_arg3)
      ∧ r.2.mem ((c.tc : Thread Cert.Third.nD Cert.Third.τ).loc Cert.Third.main_arg4) = m ((c.tc : Thread Cert.Third.nD Cert.Third.τ).loc Cert.Third.main_arg4)
      ∧ r.2.mem ((c.tc : Thread Cert.Third.nD Cert.Third.τ).loc Cert.Third.main_arg5) = m ((c.tc : Thread Cert.Third.nD Cert.Third.τ).loc Cert.Third.main_arg5))
      ∧ r.2.sem = fun _ => 0)

def quiescent_ThirdIdeal [hThirdIdeal : Cert.ThirdIdeal.Facts] : Prop :=
  ∀ (m : (ℓ : Loc Cert.ThirdIdeal.nD Cert.ThirdIdeal.τ Cert.ThirdIdeal.sig) → Buf (Elt Ideal) ℓ) (g : Dev Cert.ThirdIdeal.nD → PrngReg), Pre_ThirdIdeal m →
    θ_run (Cert.ThirdIdeal.defs (F := Ideal)) (onTc (τ := Cert.ThirdIdeal.τ) (Cert.ThirdIdeal.main (F := Ideal))) ⟨m, fun _ => 0, g⟩ (fun r => (∀ c : Dev Cert.ThirdIdeal.nD,
      r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
      ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
      ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2)
      ∧ r.2.mem ((c.tc : Thread Cert.ThirdIdeal.nD Cert.ThirdIdeal.τ).loc Cert.ThirdIdeal.main_arg3) = m ((c.tc : Thread Cert.ThirdIdeal.nD Cert.ThirdIdeal.τ).loc Cert.ThirdIdeal.main_arg3)
      ∧ r.2.mem ((c.tc : Thread Cert.ThirdIdeal.nD Cert.ThirdIdeal.τ).loc Cert.ThirdIdeal.main_arg4) = m ((c.tc : Thread Cert.ThirdIdeal.nD Cert.ThirdIdeal.τ).loc Cert.ThirdIdeal.main_arg4)
      ∧ r.2.mem ((c.tc : Thread Cert.ThirdIdeal.nD Cert.ThirdIdeal.τ).loc Cert.ThirdIdeal.main_arg5) = m ((c.tc : Thread Cert.ThirdIdeal.nD Cert.ThirdIdeal.τ).loc Cert.ThirdIdeal.main_arg5))
      ∧ r.2.sem = fun _ => 0)

def quiescent_ThirdRefIdeal [hThirdRefIdeal : Cert.ThirdRefIdeal.Facts] : Prop :=
  ∀ (m : (ℓ : Loc Cert.ThirdRefIdeal.nD Cert.ThirdRefIdeal.τ Cert.ThirdRefIdeal.sig) → Buf (Elt Ideal) ℓ) (g : Dev Cert.ThirdRefIdeal.nD → PrngReg), Pre_ThirdRefIdeal m →
    θ_run (Cert.ThirdRefIdeal.defs (F := Ideal)) (onTc (τ := Cert.ThirdRefIdeal.τ) (Cert.ThirdRefIdeal.main (F := Ideal))) ⟨m, fun _ => 0, g⟩ (fun r => (∀ c : Dev Cert.ThirdRefIdeal.nD,
      r.2.mem ((c.tc : Thread Cert.ThirdRefIdeal.nD Cert.ThirdRefIdeal.τ).loc Cert.ThirdRefIdeal.main_arg0) = m ((c.tc : Thread Cert.ThirdRefIdeal.nD Cert.ThirdRefIdeal.τ).loc Cert.ThirdRefIdeal.main_arg0)
      ∧ r.2.mem ((c.tc : Thread Cert.ThirdRefIdeal.nD Cert.ThirdRefIdeal.τ).loc Cert.ThirdRefIdeal.main_arg1) = m ((c.tc : Thread Cert.ThirdRefIdeal.nD Cert.ThirdRefIdeal.τ).loc Cert.ThirdRefIdeal.main_arg1)
      ∧ r.2.mem ((c.tc : Thread Cert.ThirdRefIdeal.nD Cert.ThirdRefIdeal.τ).loc Cert.ThirdRefIdeal.main_arg2) = m ((c.tc : Thread Cert.ThirdRefIdeal.nD Cert.ThirdRefIdeal.τ).loc Cert.ThirdRefIdeal.main_arg2)
      ∧ r.2.mem ((c.tc : Thread Cert.ThirdRefIdeal.nD Cert.ThirdRefIdeal.τ).loc Cert.ThirdRefIdeal.main_arg3) = m ((c.tc : Thread Cert.ThirdRefIdeal.nD Cert.ThirdRefIdeal.τ).loc Cert.ThirdRefIdeal.main_arg3)
      ∧ r.2.mem ((c.tc : Thread Cert.ThirdRefIdeal.nD Cert.ThirdRefIdeal.τ).loc Cert.ThirdRefIdeal.main_arg4) = m ((c.tc : Thread Cert.ThirdRefIdeal.nD Cert.ThirdRefIdeal.τ).loc Cert.ThirdRefIdeal.main_arg4)
      ∧ r.2.mem ((c.tc : Thread Cert.ThirdRefIdeal.nD Cert.ThirdRefIdeal.τ).loc Cert.ThirdRefIdeal.main_arg5) = m ((c.tc : Thread Cert.ThirdRefIdeal.nD Cert.ThirdRefIdeal.τ).loc Cert.ThirdRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def preserves_Kernel_KernelIdeal : Prop :=
  True

def algebraic_KernelIdeal_ReferenceIdeal_pre_decays [hKernelIdeal : Cert.KernelIdeal.Facts] [hReferenceIdeal : Cert.ReferenceIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts : Cert.Pre_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v7)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v7) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v22) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v20)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v20) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v33) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)) →
    ∃ (v0 : (c : Dev Cert.DenseIdeal.nD) → Buf (Elt Ideal) ((c.tc : Thread Cert.DenseIdeal.nD Cert.DenseIdeal.τ).loc Cert.DenseIdeal.main_v17)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v17) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v37) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5))

def preserves_Third_ThirdIdeal : Prop :=
  True

def algebraic_ThirdIdeal_ThirdRefIdeal [hThirdIdeal : Cert.ThirdIdeal.Facts] [hThirdRefIdeal : Cert.ThirdRefIdeal.Facts] : Prop :=
  ∀ (m : (ℓ : Loc Cert.ThirdIdeal.nD Cert.ThirdIdeal.τ Cert.ThirdIdeal.sig) → Buf (Elt Ideal) ℓ) (g : Dev Cert.ThirdIdeal.nD → PrngReg)
    (m' : (ℓ : Loc Cert.ThirdRefIdeal.nD Cert.ThirdRefIdeal.τ Cert.ThirdRefIdeal.sig) → Buf (Elt Ideal) ℓ) (g' : Dev Cert.ThirdRefIdeal.nD → PrngReg), Pre_ThirdIdeal m →
    (∀ c : Dev Cert.ThirdIdeal.nD,
      m' ((c.tc : Thread Cert.ThirdRefIdeal.nD Cert.ThirdRefIdeal.τ).loc Cert.ThirdRefIdeal.main_arg0) = m ((c.tc : Thread Cert.ThirdIdeal.nD Cert.ThirdIdeal.τ).loc Cert.ThirdIdeal.main_arg0)
      ∧ m' ((c.tc : Thread Cert.ThirdRefIdeal.nD Cert.ThirdRefIdeal.τ).loc Cert.ThirdRefIdeal.main_arg1) = m ((c.tc : Thread Cert.ThirdIdeal.nD Cert.ThirdIdeal.τ).loc Cert.ThirdIdeal.main_arg1)
      ∧ m' ((c.tc : Thread Cert.ThirdRefIdeal.nD Cert.ThirdRefIdeal.τ).loc Cert.ThirdRefIdeal.main_arg2) = m ((c.tc : Thread Cert.ThirdIdeal.nD Cert.ThirdIdeal.τ).loc Cert.ThirdIdeal.main_arg2)
      ∧ m' ((c.tc : Thread Cert.ThirdRefIdeal.nD Cert.ThirdRefIdeal.τ).loc Cert.ThirdRefIdeal.main_arg3) = m ((c.tc : Thread Cert.ThirdIdeal.nD Cert.ThirdIdeal.τ).loc Cert.ThirdIdeal.main_arg3)
      ∧ m' ((c.tc : Thread Cert.ThirdRefIdeal.nD Cert.ThirdRefIdeal.τ).loc Cert.ThirdRefIdeal.main_arg4) = m ((c.tc : Thread Cert.ThirdIdeal.nD Cert.ThirdIdeal.τ).loc Cert.ThirdIdeal.main_arg4)
      ∧ m' ((c.tc : Thread Cert.ThirdRefIdeal.nD Cert.ThirdRefIdeal.τ).loc Cert.ThirdRefIdeal.main_arg5) = m ((c.tc : Thread Cert.ThirdIdeal.nD Cert.ThirdIdeal.τ).loc Cert.ThirdIdeal.main_arg5)) →
    ∃ (v0 : (c : Dev Cert.ThirdIdeal.nD) → Buf (Elt Ideal) ((c.tc : Thread Cert.ThirdIdeal.nD Cert.ThirdIdeal.τ).loc Cert.ThirdIdeal.main_v17)),
      θ_run (Cert.ThirdIdeal.defs (F := Ideal)) (onTc (τ := Cert.ThirdIdeal.τ) (Cert.ThirdIdeal.main (F := Ideal))) ⟨m, fun _ => 0, g⟩ (fun r => ∀ c : Dev Cert.ThirdIdeal.nD,
          r.2.mem ((c.tc : Thread Cert.ThirdIdeal.nD Cert.ThirdIdeal.τ).loc Cert.ThirdIdeal.main_v17) = v0 c
          ∧ r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
          ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
          ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2)
          ∧ r.2.mem ((c.tc : Thread Cert.ThirdIdeal.nD Cert.ThirdIdeal.τ).loc Cert.ThirdIdeal.main_arg3) = m ((c.tc : Thread Cert.ThirdIdeal.nD Cert.ThirdIdeal.τ).loc Cert.ThirdIdeal.main_arg3)
          ∧ r.2.mem ((c.tc : Thread Cert.ThirdIdeal.nD Cert.ThirdIdeal.τ).loc Cert.ThirdIdeal.main_arg4) = m ((c.tc : Thread Cert.ThirdIdeal.nD Cert.ThirdIdeal.τ).loc Cert.ThirdIdeal.main_arg4)
          ∧ r.2.mem ((c.tc : Thread Cert.ThirdIdeal.nD Cert.ThirdIdeal.τ).loc Cert.ThirdIdeal.main_arg5) = m ((c.tc : Thread Cert.ThirdIdeal.nD Cert.ThirdIdeal.τ).loc Cert.ThirdIdeal.main_arg5))
      ∧ θ_run (Cert.ThirdRefIdeal.defs (F := Ideal)) (onTc (τ := Cert.ThirdRefIdeal.τ) (Cert.ThirdRefIdeal.main (F := Ideal))) ⟨m', fun _ => 0, g'⟩ (fun r => ∀ c : Dev Cert.ThirdRefIdeal.nD,
          r.2.mem ((c.tc : Thread Cert.ThirdRefIdeal.nD Cert.ThirdRefIdeal.τ).loc Cert.ThirdRefIdeal.main_v37) = v0 c
          ∧ r.2.mem ((c.tc : Thread Cert.ThirdRefIdeal.nD Cert.ThirdRefIdeal.τ).loc Cert.ThirdRefIdeal.main_arg0) = m' ((c.tc : Thread Cert.ThirdRefIdeal.nD Cert.ThirdRefIdeal.τ).loc Cert.ThirdRefIdeal.main_arg0)
          ∧ r.2.mem ((c.tc : Thread Cert.ThirdRefIdeal.nD Cert.ThirdRefIdeal.τ).loc Cert.ThirdRefIdeal.main_arg1) = m' ((c.tc : Thread Cert.ThirdRefIdeal.nD Cert.ThirdRefIdeal.τ).loc Cert.ThirdRefIdeal.main_arg1)
          ∧ r.2.mem ((c.tc : Thread Cert.ThirdRefIdeal.nD Cert.ThirdRefIdeal.τ).loc Cert.ThirdRefIdeal.main_arg2) = m' ((c.tc : Thread Cert.ThirdRefIdeal.nD Cert.ThirdRefIdeal.τ).loc Cert.ThirdRefIdeal.main_arg2)
          ∧ r.2.mem ((c.tc : Thread Cert.ThirdRefIdeal.nD Cert.ThirdRefIdeal.τ).loc Cert.ThirdRefIdeal.main_arg3) = m' ((c.tc : Thread Cert.ThirdRefIdeal.nD Cert.ThirdRefIdeal.τ).loc Cert.ThirdRefIdeal.main_arg3)
          ∧ r.2.mem ((c.tc : Thread Cert.ThirdRefIdeal.nD Cert.ThirdRefIdeal.τ).loc Cert.ThirdRefIdeal.main_arg4) = m' ((c.tc : Thread Cert.ThirdRefIdeal.nD Cert.ThirdRefIdeal.τ).loc Cert.ThirdRefIdeal.main_arg4)
          ∧ r.2.mem ((c.tc : Thread Cert.ThirdRefIdeal.nD Cert.ThirdRefIdeal.τ).loc Cert.ThirdRefIdeal.main_arg5) = m' ((c.tc : Thread Cert.ThirdRefIdeal.nD Cert.ThirdRefIdeal.τ).loc Cert.ThirdRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v24_0)) (v1 : (c : Dev Cert.ProjIdeal.nD) → Buf (Elt Ideal) ((c.tc : Thread Cert.ProjIdeal.nD Cert.ProjIdeal.τ).loc Cert.ProjIdeal.main_v24_1)) (v2 : (c : Dev Cert.ProjIdeal.nD) → Buf (Elt Ideal) ((c.tc : Thread Cert.ProjIdeal.nD Cert.ProjIdeal.τ).loc Cert.ProjIdeal.main_v25)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v24_0) = v0 c
          ∧ r.2.mem ((c.tc : Thread Cert.ProjIdeal.nD Cert.ProjIdeal.τ).loc Cert.ProjIdeal.main_v24_1) = v1 c
          ∧ r.2.mem ((c.tc : Thread Cert.ProjIdeal.nD Cert.ProjIdeal.τ).loc Cert.ProjIdeal.main_v25) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v19) = v0 c
          ∧ r.2.mem ((c.tc : Thread Cert.ProjRefIdeal.nD Cert.ProjRefIdeal.τ).loc Cert.ProjRefIdeal.main_v20) = v1 c
          ∧ r.2.mem ((c.tc : Thread Cert.ProjRefIdeal.nD Cert.ProjRefIdeal.τ).loc Cert.ProjRefIdeal.main_v21) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hLast : Cert.Last.Facts) (hLastIdeal : Cert.LastIdeal.Facts) (hLastRefIdeal : Cert.LastRefIdeal.Facts) (hDense : Cert.Dense.Facts) (hDenseIdeal : Cert.DenseIdeal.Facts) (hDenseRefIdeal : Cert.DenseRefIdeal.Facts) (hThird : Cert.Third.Facts) (hThirdIdeal : Cert.ThirdIdeal.Facts) (hThirdRefIdeal : Cert.ThirdRefIdeal.Facts) (hProj : Cert.Proj.Facts) (hProjIdeal : Cert.ProjIdeal.Facts) (hProjRefIdeal : Cert.ProjRefIdeal.Facts) (hPre_decays : Cert.Pre_decays.Facts) (hPre_experts : Cert.Pre_experts.Facts),
    quiescent_Kernel (hKernel := hKernel)
    ∧ quiescent_KernelIdeal (hKernelIdeal := hKernelIdeal)
    ∧ quiescent_KernelIdeal_pre_decays (hKernelIdeal := hKernelIdeal) (hPre_decays := hPre_decays)
    ∧ quiescent_ReferenceIdeal (hReferenceIdeal := hReferenceIdeal)
    ∧ quiescent_ReferenceIdeal_pre_decays (hReferenceIdeal := hReferenceIdeal) (hPre_decays := hPre_decays)
    ∧ quiescent_Experts (hExperts := hExperts) (hPre_experts := hPre_experts)
    ∧ quiescent_ExpertsIdeal (hExpertsIdeal := hExpertsIdeal) (hPre_experts := hPre_experts)
    ∧ quiescent_ExpertsRefIdeal (hExpertsRefIdeal := hExpertsRefIdeal)
    ∧ quiescent_ExpertsRefIdeal_pre_experts (hExpertsRefIdeal := hExpertsRefIdeal) (hPre_experts := hPre_experts)
    ∧ quiescent_Last (hLast := hLast)
    ∧ quiescent_LastIdeal (hLastIdeal := hLastIdeal)
    ∧ quiescent_LastRefIdeal (hLastRefIdeal := hLastRefIdeal)
    ∧ quiescent_Dense (hDense := hDense)
    ∧ quiescent_DenseIdeal (hDenseIdeal := hDenseIdeal)
    ∧ quiescent_DenseRefIdeal (hDenseRefIdeal := hDenseRefIdeal)
    ∧ quiescent_Third (hThird := hThird)
    ∧ quiescent_ThirdIdeal (hThirdIdeal := hThirdIdeal)
    ∧ quiescent_ThirdRefIdeal (hThirdRefIdeal := hThirdRefIdeal)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ algebraic_KernelIdeal_ReferenceIdeal_pre_decays (hKernelIdeal := hKernelIdeal) (hReferenceIdeal := hReferenceIdeal) (hPre_decays := hPre_decays)
    ∧ preserves_Experts_ExpertsIdeal
    ∧ algebraic_ExpertsIdeal_ExpertsRefIdeal (hExpertsIdeal := hExpertsIdeal) (hExpertsRefIdeal := hExpertsRefIdeal) (hPre_experts := hPre_experts)
    ∧ preserves_Last_LastIdeal
    ∧ algebraic_LastIdeal_LastRefIdeal (hLastIdeal := hLastIdeal) (hLastRefIdeal := hLastRefIdeal)
    ∧ preserves_Dense_DenseIdeal
    ∧ algebraic_DenseIdeal_DenseRefIdeal (hDenseIdeal := hDenseIdeal) (hDenseRefIdeal := hDenseRefIdeal)
    ∧ preserves_Third_ThirdIdeal
    ∧ algebraic_ThirdIdeal_ThirdRefIdeal (hThirdIdeal := hThirdIdeal) (hThirdRefIdeal := hThirdRefIdeal)
    ∧ preserves_Proj_ProjIdeal
    ∧ algebraic_ProjIdeal_ProjRefIdeal (hProjIdeal := hProjIdeal) (hProjRefIdeal := hProjRefIdeal)
-- ==== Pre_decays.lean ====
abbrev S4096x8x8x64 : Shape := ⟨4, ![4096, 8, 8, 64]⟩
abbrev S_ : Shape := ⟨0, ![]⟩

class Facts : Prop where
  bcast_S_S4096x8x8x64 : S_.BroadcastsInDim S4096x8x8x64 (![] : Fin 0 → Fin S4096x8x8x64.rank)
  reducesTo_S4096x8x8x64_S_d0_1_2_3 : S4096x8x8x64.ReducesTo [0, 1, 2, 3] S_
  h_S_ : 0 < S_.numel

variable [Facts]

def fn {F : FTy → Type} [FloatOps F] (main_arg0 : FVec F S4096x8x8x64 .f32) (main_arg1 : FVec F S4096x8x8x64 .f32) (main_arg2 : FVec F S4096x8x8x64 .f32) (main_arg3 : FVec F S4096x8x8x64 .f32) (main_arg4 : FVec F S4096x8x8x64 .f32) (main_arg5 : FVec F S4096x8x8x64 .f32) : IVec S_ 1 :=
  let main_cst : FVec F S_ .f32 := constant S_ .f32 0x7F800000#32
  let main_v0 : FVec F S4096x8x8x64 .f32 := broadcastInDim S4096x8x8x64 ![] bcast_S_S4096x8x8x64 main_cst
  let main_v1 : IVec S4096x8x8x64 1 := cmpf .olt main_arg1 main_v0
  let main_c : IVec S_ 1 := constantI S_ 1 1#1
  let main_v2 : IVec S_ 1 := (fun x v => Host.reduce IntOp.andi x v reducesTo_S4096x8x8x64_S_d0_1_2_3 h_S_) main_v1 main_c
  main_v2
-- ==== Pre_experts.lean ====
abbrev S136 : Shape := ⟨1, ![136]⟩
abbrev S69632x1024 : Shape := ⟨2, ![69632, 1024]⟩
abbrev S2x8x1024x3584 : Shape := ⟨4, ![2, 8, 1024, 3584]⟩
abbrev S2x8x3584x1024 : Shape := ⟨4, ![2, 8, 3584, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : IVec S136 32) (main_arg1 : FVec F S69632x1024 .f32) (main_arg2 : FVec F S2x8x1024x3584 .f32) (main_arg3 : FVec F S2x8x1024x3584 .f32) (main_arg4 : FVec F S2x8x3584x1024 .f32) : IVec S_ 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 16#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Kernel.lean ====
abbrev S4096x8x8x64 : Shape := ⟨4, ![4096, 8, 8, 64]⟩
abbrev S128x32x8x8x64 : Shape := ⟨5, ![128, 32, 8, 8, 64]⟩
abbrev S_ : Shape := ⟨0, ![]⟩
abbrev S4096x8x8x2x32 : Shape := ⟨5, ![4096, 8, 8, 2, 32]⟩
abbrev S4096x32x2x8x8 : Shape := ⟨5, ![4096, 32, 2, 8, 8]⟩
abbrev S4096x32x128 : Shape := ⟨3, ![4096, 32, 128]⟩
abbrev S128x32x128 : Shape := ⟨3, ![128, 32, 128]⟩
abbrev S4096x64x8x8 : Shape := ⟨4, ![4096, 64, 8, 8]⟩
abbrev S4096x64x64 : Shape := ⟨3, ![4096, 64, 64]⟩
abbrev S4096x64x128 : Shape := ⟨3, ![4096, 64, 128]⟩
abbrev S32x32x128 : Shape := ⟨3, ![32, 32, 128]⟩
abbrev S1x32x128 : Shape := ⟨3, ![1, 32, 128]⟩
abbrev S32x64x128 : Shape := ⟨3, ![32, 64, 128]⟩
abbrev S64x128 : Shape := ⟨2, ![64, 128]⟩
abbrev S1x64x128 : Shape := ⟨3, ![1, 64, 128]⟩
abbrev S1x1x128 : Shape := ⟨3, ![1, 1, 128]⟩
abbrev S1x128 : Shape := ⟨2, ![1, 128]⟩

abbrev nBuf : Space → Nat
  | .hbm => 49
  | .vmem => 18
  | .smem => 0
  | _ => 0

abbrev bufTy : (tb : Table) → Fin (tcTables nBuf tb) → BufTy
  | .hbm, ⟨0, _⟩ => ⟨S4096x8x8x64, .f32⟩
  | .hbm, ⟨1, _⟩ => ⟨S4096x8x8x64, .f32⟩
  | .hbm, ⟨2, _⟩ => ⟨S4096x8x8x64, .f32⟩
  | .hbm, ⟨3, _⟩ => ⟨S4096x8x8x64, .f32⟩
  | .hbm, ⟨4, _⟩ => ⟨S4096x8x8x64, .f32⟩
  | .hbm, ⟨5, _⟩ => ⟨S4096x8x8x64, .f32⟩
  | .hbm, ⟨6, _⟩ => ⟨S4096x8x8x64, .f32⟩
  | .hbm, ⟨7, _⟩ => ⟨S4096x8x8x64, .f32⟩
  | .hbm, ⟨8, _⟩ => ⟨S128x32x8x8x64, .f32⟩
  | .hbm, ⟨9, _⟩ => ⟨S_, .f32⟩
  | .hbm, ⟨10, _⟩ => ⟨S_, .f32⟩
  | .hbm, ⟨11, _⟩ => ⟨S128x32x8x8x64, .f32⟩
  | .hbm, ⟨12, _⟩ => ⟨S4096x8x8x64, .f32⟩
  | .hbm, ⟨13, _⟩ => ⟨S4096x8x8x64, .f32⟩
  | .hbm, ⟨14, _⟩ => ⟨S4096x8x8x64, .f32⟩
  | .hbm, ⟨15, _⟩ => ⟨S4096x8x8x64, .f32⟩
  | .hbm, ⟨16, _⟩ => ⟨S4096x8x8x64, .f32⟩
  | .hbm, ⟨17, _⟩ => ⟨S4096x8x8x64, .f32⟩
  | .hbm, ⟨18, _⟩ => ⟨S4096x8x8x64, .f32⟩
  | .hbm, ⟨19, _⟩ => ⟨S4096x8x8x64, .f32⟩
  | .hbm, ⟨20, _⟩ => ⟨S4096x8x8x2x32, .f32⟩
  | .hbm, ⟨21, _⟩ => ⟨S4096x32x2x8x8, .f32⟩
  | .hbm, ⟨22, _⟩ => ⟨S4096x32x128, .f32⟩
  | .hbm, ⟨23, _⟩ => ⟨S4096x8x8x64, .f32⟩
  | .hbm, ⟨24, _⟩ => ⟨S4096x8x8x64, .f32⟩
  | .hbm, ⟨25, _⟩ => ⟨S4096x8x8x2x32, .f32⟩
  | .hbm, ⟨26, _⟩ => ⟨S4096x32x2x8x8, .f32⟩
  | .hbm, ⟨27, _⟩ => ⟨S4096x32x128, .f32⟩
  | .hbm, ⟨28, _⟩ => ⟨S4096x8x8x64, .f32⟩
  | .hbm, ⟨29, _⟩ => ⟨S4096x8x8x2x32, .f32⟩
  | .hbm, ⟨30, _⟩ => ⟨S4096x32x2x8x8, .f32⟩
  | .hbm, ⟨31, _⟩ => ⟨S4096x32x128, .f32⟩
  | .hbm, ⟨32, _⟩ => ⟨S4096x8x8x64, .f32⟩
  | .hbm, ⟨33, _⟩ => ⟨S4096x8x8x2x32, .f32⟩
  | .hbm, ⟨34, _⟩ => ⟨S4096x32x2x8x8, .f32⟩
  | .hbm, ⟨35, _⟩ => ⟨S4096x32x128, .f32⟩
  | .hbm, ⟨36, _⟩ => ⟨S4096x8x8x2x32, .f32⟩
  | .hbm, ⟨37, _⟩ => ⟨S4096x32x2x8x8, .f32⟩
  | .hbm, ⟨38, _⟩ => ⟨S4096x32x128, .f32⟩
  | .hbm, ⟨39, _⟩ => ⟨S128x32x128, .f32⟩
  | .hbm, ⟨40, _⟩ => ⟨S4096x64x8x8, .f32⟩
  | .hbm, ⟨41, _⟩ => ⟨S4096x64x64, .f32⟩
  | .hbm, ⟨42, _⟩ => ⟨S4096x64x128, .f32⟩
  | .hbm, ⟨43, _⟩ => ⟨S4096x64x128, .f32⟩
  | .hbm, ⟨44, _⟩ => ⟨S4096x64x64, .f32⟩
  | .hbm, ⟨45, _⟩ => ⟨S4096x64x64, .f32⟩
  | .hbm, ⟨46, _⟩ => ⟨S4096x64x64, .f32⟩
  | .hbm, ⟨47, _⟩ => ⟨S4096x64x8x8, .f32⟩
  | .hbm, ⟨48, _⟩ => ⟨S4096x8x8x64, .f32⟩
  | .local _ .vmem, ⟨0, _⟩ => ⟨S32x32x128, .f32⟩
  | .local _ .vmem, ⟨1, _⟩ => ⟨S32x32x128, .f32⟩
  | .local _ .vmem, ⟨2, _⟩ => ⟨S1x32x128, .f32⟩
  | .local _ .vmem, ⟨3, _⟩ => ⟨S1x32x128, .f32⟩
  | .local _ .vmem, ⟨4, _⟩ => ⟨S32x32x128, .f32⟩
  | .local _ .vmem, ⟨5, _⟩ => ⟨S32x32x128, .f32⟩
  | .local _ .vmem, ⟨6, _⟩ => ⟨S32x32x128, .f32⟩
  | .local _ .vmem, ⟨7, _⟩ => ⟨S32x32x128, .f32⟩
  | .local _ .vmem, ⟨8, _⟩ => ⟨S32x32x128, .f32⟩
  | .local _ .vmem, ⟨9, _⟩ => ⟨S32x32x128, .f32⟩
  | .local _ .vmem, ⟨10, _⟩ => ⟨S1x32x128, .f32⟩
  | .local _ .vmem, ⟨11, _⟩ => ⟨S1x32x128, .f32⟩
  | .local _ .vmem, ⟨12, _⟩ => ⟨S32x64x128, .f32⟩
  | .local _ .vmem, ⟨13, _⟩ => ⟨S32x64x128, .f32⟩
  | .local _ .vmem, ⟨14, _⟩ => ⟨S32x64x128, .f32⟩
  | .local _ .vmem, ⟨15, _⟩ => ⟨S32x64x128, .f32⟩
  | .local _ .vmem, ⟨16, _⟩ => ⟨S32x64x128, .f32⟩
  | .local _ .vmem, ⟨17, _⟩ => ⟨S64x128, .f32⟩
  | _, _ => ⟨S4096x8x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_call0_cst : Ref sig .tc := ⟨.hbm, 9, rfl⟩
abbrev main_call0_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_2 : BitVec 32 := 0#32
  let c31_i32 : BitVec 32 := 31#32
  let v4 : BitVec 32 := Scalar.addi c0_i32_2 c31_i32
  let c1_i32 : BitVec 32 := 1#32
  ⟨c0_i32_2, v4, c1_i32⟩
def k0_off1 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1104 : Index := Scalar.indexCast arg11
  let c0_654 : Index := 0#32
  let c0_655 : Index := 0#32
  ![v1104.toNat, 0, 0]
def k0_off2 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1109 : Index := Scalar.indexCast arg11
  let c0_659 : Index := 0#32
  let c0_660 : Index := 0#32
  ![v1109.toNat, 0, 0]
def k0_off3 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_668 : BitVec 32 := 1#32
  let v1132 : BitVec 32 := Scalar.addi arg11 c1_i32_668
  let v1133 : Index := Scalar.indexCast v1132
  let c0_669 : Index := 0#32
  let c0_670 : Index := 0#32
  ![v1133.toNat, 0, 0]
def k0_off4 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1141 : Index := Scalar.indexCast arg11
  let c1_674 : Index := 1#32
  let c0_675 : Index := 0#32
  ![v1141.toNat, 1, 0]
def k0_off5 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_683 : BitVec 32 := 1#32
  let v1164 : BitVec 32 := Scalar.addi arg11 c1_i32_683
  let v1165 : Index := Scalar.indexCast v1164
  let c1_684 : Index := 1#32
  let c0_685 : Index := 0#32
  ![v1165.toNat, 1, 0]
def k0_off6 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1175 : Index := Scalar.indexCast arg11
  let c2_689 : Index := 2#32
  let c0_690 : Index := 0#32
  ![v1175.toNat, 2, 0]
def k0_off7 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_698 : BitVec 32 := 1#32
  let v1198 : BitVec 32 := Scalar.addi arg11 c1_i32_698
  let v1199 : Index := Scalar.indexCast v1198
  let c2_699 : Index := 2#32
  let c0_700 : Index := 0#32
  ![v1199.toNat, 2, 0]
def k0_off8 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1209 : Index := Scalar.indexCast arg11
  let c3_704 : Index := 3#32
  let c0_705 : Index := 0#32
  ![v1209.toNat, 3, 0]
def k0_off9 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_713 : BitVec 32 := 1#32
  let v1232 : BitVec 32 := Scalar.addi arg11 c1_i32_713
  let v1233 : Index := Scalar.indexCast v1232
  let c3_714 : Index := 3#32
  let c0_715 : Index := 0#32
  ![v1233.toNat, 3, 0]
def k0_off10 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1243 : Index := Scalar.indexCast arg11
  let c4_719 : Index := 4#32
  let c0_720 : Index := 0#32
  ![v1243.toNat, 4, 0]
def k0_off11 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_728 : BitVec 32 := 1#32
  let v1266 : BitVec 32 := Scalar.addi arg11 c1_i32_728
  let v1267 : Index := Scalar.indexCast v1266
  let c4_729 : Index := 4#32
  let c0_730 : Index := 0#32
  ![v1267.toNat, 4, 0]
def k0_off12 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1277 : Index := Scalar.indexCast arg11
  let c5_734 : Index := 5#32
  let c0_735 : Index := 0#32
  ![v1277.toNat, 5, 0]
def k0_off13 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_743 : BitVec 32 := 1#32
  let v1300 : BitVec 32 := Scalar.addi arg11 c1_i32_743
  let v1301 : Index := Scalar.indexCast v1300
  let c5_744 : Index := 5#32
  let c0_745 : Index := 0#32
  ![v1301.toNat, 5, 0]
def k0_off14 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1311 : Index := Scalar.indexCast arg11
  let c6_749 : Index := 6#32
  let c0_750 : Index := 0#32
  ![v1311.toNat, 6, 0]
def k0_off15 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_758 : BitVec 32 := 1#32
  let v1334 : BitVec 32 := Scalar.addi arg11 c1_i32_758
  let v1335 : Index := Scalar.indexCast v1334
  let c6_759 : Index := 6#32
  let c0_760 : Index := 0#32
  ![v1335.toNat, 6, 0]
def k0_off16 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1345 : Index := Scalar.indexCast arg11
  let c7_764 : Index := 7#32
  let c0_765 : Index := 0#32
  ![v1345.toNat, 7, 0]
def k0_off17 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_773 : BitVec 32 := 1#32
  let v1368 : BitVec 32 := Scalar.addi arg11 c1_i32_773
  let v1369 : Index := Scalar.indexCast v1368
  let c7_774 : Index := 7#32
  let c0_775 : Index := 0#32
  ![v1369.toNat, 7, 0]
def k0_off18 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1379 : Index := Scalar.indexCast arg11
  let c8_779 : Index := 8#32
  let c0_780 : Index := 0#32
  ![v1379.toNat, 8, 0]
def k0_off19 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_788 : BitVec 32 := 1#32
  let v1402 : BitVec 32 := Scalar.addi arg11 c1_i32_788
  let v1403 : Index := Scalar.indexCast v1402
  let c8_789 : Index := 8#32
  let c0_790 : Index := 0#32
  ![v1403.toNat, 8, 0]
def k0_off20 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1413 : Index := Scalar.indexCast arg11
  let c9_794 : Index := 9#32
  let c0_795 : Index := 0#32
  ![v1413.toNat, 9, 0]
def k0_off21 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_803 : BitVec 32 := 1#32
  let v1436 : BitVec 32 := Scalar.addi arg11 c1_i32_803
  let v1437 : Index := Scalar.indexCast v1436
  let c9_804 : Index := 9#32
  let c0_805 : Index := 0#32
  ![v1437.toNat, 9, 0]
def k0_off22 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1447 : Index := Scalar.indexCast arg11
  let c10_809 : Index := 10#32
  let c0_810 : Index := 0#32
  ![v1447.toNat, 10, 0]
def k0_off23 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_818 : BitVec 32 := 1#32
  let v1470 : BitVec 32 := Scalar.addi arg11 c1_i32_818
  let v1471 : Index := Scalar.indexCast v1470
  let c10_819 : Index := 10#32
  let c0_820 : Index := 0#32
  ![v1471.toNat, 10, 0]
def k0_off24 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1481 : Index := Scalar.indexCast arg11
  let c11_824 : Index := 11#32
  let c0_825 : Index := 0#32
  ![v1481.toNat, 11, 0]
def k0_off25 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_833 : BitVec 32 := 1#32
  let v1504 : BitVec 32 := Scalar.addi arg11 c1_i32_833
  let v1505 : Index := Scalar.indexCast v1504
  let c11_834 : Index := 11#32
  let c0_835 : Index := 0#32
  ![v1505.toNat, 11, 0]
def k0_off26 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1515 : Index := Scalar.indexCast arg11
  let c12_839 : Index := 12#32
  let c0_840 : Index := 0#32
  ![v1515.toNat, 12, 0]
def k0_off27 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_848 : BitVec 32 := 1#32
  let v1538 : BitVec 32 := Scalar.addi arg11 c1_i32_848
  let v1539 : Index := Scalar.indexCast v1538
  let c12_849 : Index := 12#32
  let c0_850 : Index := 0#32
  ![v1539.toNat, 12, 0]
def k0_off28 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1549 : Index := Scalar.indexCast arg11
  let c13_854 : Index := 13#32
  let c0_855 : Index := 0#32
  ![v1549.toNat, 13, 0]
def k0_off29 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_863 : BitVec 32 := 1#32
  let v1572 : BitVec 32 := Scalar.addi arg11 c1_i32_863
  let v1573 : Index := Scalar.indexCast v1572
  let c13_864 : Index := 13#32
  let c0_865 : Index := 0#32
  ![v1573.toNat, 13, 0]
def k0_off30 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1583 : Index := Scalar.indexCast arg11
  let c14_869 : Index := 14#32
  let c0_870 : Index := 0#32
  ![v1583.toNat, 14, 0]
def k0_off31 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_878 : BitVec 32 := 1#32
  let v1606 : BitVec 32 := Scalar.addi arg11 c1_i32_878
  let v1607 : Index := Scalar.indexCast v1606
  let c14_879 : Index := 14#32
  let c0_880 : Index := 0#32
  ![v1607.toNat, 14, 0]
def k0_off32 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1617 : Index := Scalar.indexCast arg11
  let c15_884 : Index := 15#32
  let c0_885 : Index := 0#32
  ![v1617.toNat, 15, 0]
def k0_off33 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_893 : BitVec 32 := 1#32
  let v1640 : BitVec 32 := Scalar.addi arg11 c1_i32_893
  let v1641 : Index := Scalar.indexCast v1640
  let c15_894 : Index := 15#32
  let c0_895 : Index := 0#32
  ![v1641.toNat, 15, 0]
def k0_off34 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1651 : Index := Scalar.indexCast arg11
  let c16_899 : Index := 16#32
  let c0_900 : Index := 0#32
  ![v1651.toNat, 16, 0]
def k0_off35 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_908 : BitVec 32 := 1#32
  let v1674 : BitVec 32 := Scalar.addi arg11 c1_i32_908
  let v1675 : Index := Scalar.indexCast v1674
  let c16_909 : Index := 16#32
  let c0_910 : Index := 0#32
  ![v1675.toNat, 16, 0]
def k0_off36 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1685 : Index := Scalar.indexCast arg11
  let c17_914 : Index := 17#32
  let c0_915 : Index := 0#32
  ![v1685.toNat, 17, 0]
def k0_off37 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_923 : BitVec 32 := 1#32
  let v1708 : BitVec 32 := Scalar.addi arg11 c1_i32_923
  let v1709 : Index := Scalar.indexCast v1708
  let c17_924 : Index := 17#32
  let c0_925 : Index := 0#32
  ![v1709.toNat, 17, 0]
def k0_off38 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1719 : Index := Scalar.indexCast arg11
  let c18_929 : Index := 18#32
  let c0_930 : Index := 0#32
  ![v1719.toNat, 18, 0]
def k0_off39 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_938 : BitVec 32 := 1#32
  let v1742 : BitVec 32 := Scalar.addi arg11 c1_i32_938
  let v1743 : Index := Scalar.indexCast v1742
  let c18_939 : Index := 18#32
  let c0_940 : Index := 0#32
  ![v1743.toNat, 18, 0]
def k0_off40 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1753 : Index := Scalar.indexCast arg11
  let c19_944 : Index := 19#32
  let c0_945 : Index := 0#32
  ![v1753.toNat, 19, 0]
def k0_off41 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_953 : BitVec 32 := 1#32
  let v1776 : BitVec 32 := Scalar.addi arg11 c1_i32_953
  let v1777 : Index := Scalar.indexCast v1776
  let c19_954 : Index := 19#32
  let c0_955 : Index := 0#32
  ![v1777.toNat, 19, 0]
def k0_off42 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1787 : Index := Scalar.indexCast arg11
  let c20_959 : Index := 20#32
  let c0_960 : Index := 0#32
  ![v1787.toNat, 20, 0]
def k0_off43 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_968 : BitVec 32 := 1#32
  let v1810 : BitVec 32 := Scalar.addi arg11 c1_i32_968
  let v1811 : Index := Scalar.indexCast v1810
  let c20_969 : Index := 20#32
  let c0_970 : Index := 0#32
  ![v1811.toNat, 20, 0]
def k0_off44 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1821 : Index := Scalar.indexCast arg11
  let c21_974 : Index := 21#32
  let c0_975 : Index := 0#32
  ![v1821.toNat, 21, 0]
def k0_off45 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_983 : BitVec 32 := 1#32
  let v1844 : BitVec 32 := Scalar.addi arg11 c1_i32_983
  let v1845 : Index := Scalar.indexCast v1844
  let c21_984 : Index := 21#32
  let c0_985 : Index := 0#32
  ![v1845.toNat, 21, 0]
def k0_off46 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1855 : Index := Scalar.indexCast arg11
  let c22_989 : Index := 22#32
  let c0_990 : Index := 0#32
  ![v1855.toNat, 22, 0]
def k0_off47 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_998 : BitVec 32 := 1#32
  let v1878 : BitVec 32 := Scalar.addi arg11 c1_i32_998
  let v1879 : Index := Scalar.indexCast v1878
  let c22_999 : Index := 22#32
  let c0_1000 : Index := 0#32
  ![v1879.toNat, 22, 0]
def k0_off48 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1889 : Index := Scalar.indexCast arg11
  let c23_1004 : Index := 23#32
  let c0_1005 : Index := 0#32
  ![v1889.toNat, 23, 0]
def k0_off49 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_1013 : BitVec 32 := 1#32
  let v1912 : BitVec 32 := Scalar.addi arg11 c1_i32_1013
  let v1913 : Index := Scalar.indexCast v1912
  let c23_1014 : Index := 23#32
  let c0_1015 : Index := 0#32
  ![v1913.toNat, 23, 0]
def k0_off50 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1923 : Index := Scalar.indexCast arg11
  let c24_1019 : Index := 24#32
  let c0_1020 : Index := 0#32
  ![v1923.toNat, 24, 0]
def k0_off51 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_1028 : BitVec 32 := 1#32
  let v1946 : BitVec 32 := Scalar.addi arg11 c1_i32_1028
  let v1947 : Index := Scalar.indexCast v1946
  let c24_1029 : Index := 24#32
  let c0_1030 : Index := 0#32
  ![v1947.toNat, 24, 0]
def k0_off52 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1957 : Index := Scalar.indexCast arg11
  let c25_1034 : Index := 25#32
  let c0_1035 : Index := 0#32
  ![v1957.toNat, 25, 0]
def k0_off53 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_1043 : BitVec 32 := 1#32
  let v1980 : BitVec 32 := Scalar.addi arg11 c1_i32_1043
  let v1981 : Index := Scalar.indexCast v1980
  let c25_1044 : Index := 25#32
  let c0_1045 : Index := 0#32
  ![v1981.toNat, 25, 0]
def k0_off54 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v1991 : Index := Scalar.indexCast arg11
  let c26_1049 : Index := 26#32
  let c0_1050 : Index := 0#32
  ![v1991.toNat, 26, 0]
def k0_off55 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_1058 : BitVec 32 := 1#32
  let v2014 : BitVec 32 := Scalar.addi arg11 c1_i32_1058
  let v2015 : Index := Scalar.indexCast v2014
  let c26_1059 : Index := 26#32
  let c0_1060 : Index := 0#32
  ![v2015.toNat, 26, 0]
def k0_off56 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v2025 : Index := Scalar.indexCast arg11
  let c27_1064 : Index := 27#32
  let c0_1065 : Index := 0#32
  ![v2025.toNat, 27, 0]
def k0_off57 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_1073 : BitVec 32 := 1#32
  let v2048 : BitVec 32 := Scalar.addi arg11 c1_i32_1073
  let v2049 : Index := Scalar.indexCast v2048
  let c27_1074 : Index := 27#32
  let c0_1075 : Index := 0#32
  ![v2049.toNat, 27, 0]
def k0_off58 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v2059 : Index := Scalar.indexCast arg11
  let c28_1079 : Index := 28#32
  let c0_1080 : Index := 0#32
  ![v2059.toNat, 28, 0]
def k0_off59 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_1088 : BitVec 32 := 1#32
  let v2082 : BitVec 32 := Scalar.addi arg11 c1_i32_1088
  let v2083 : Index := Scalar.indexCast v2082
  let c28_1089 : Index := 28#32
  let c0_1090 : Index := 0#32
  ![v2083.toNat, 28, 0]
def k0_off60 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v2093 : Index := Scalar.indexCast arg11
  let c29_1094 : Index := 29#32
  let c0_1095 : Index := 0#32
  ![v2093.toNat, 29, 0]
def k0_off61 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_1103 : BitVec 32 := 1#32
  let v2116 : BitVec 32 := Scalar.addi arg11 c1_i32_1103
  let v2117 : Index := Scalar.indexCast v2116
  let c29_1104 : Index := 29#32
  let c0_1105 : Index := 0#32
  ![v2117.toNat, 29, 0]
def k0_off62 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v2127 : Index := Scalar.indexCast arg11
  let c30_1109 : Index := 30#32
  let c0_1110 : Index := 0#32
  ![v2127.toNat, 30, 0]
def k0_off63 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_1118 : BitVec 32 := 1#32
  let v2150 : BitVec 32 := Scalar.addi arg11 c1_i32_1118
  let v2151 : Index := Scalar.indexCast v2150
  let c30_1119 : Index := 30#32
  let c0_1120 : Index := 0#32
  ![v2151.toNat, 30, 0]
def k0_off64 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let v2161 : Index := Scalar.indexCast arg11
  let c31_1124 : Index := 31#32
  let c0_1125 : Index := 0#32
  ![v2161.toNat, 31, 0]
def k0_off65 (k0_t1 : Fin k0_t1_loop.trips) : Fin 3 → Nat :=
  let c0_i32_2 : BitVec 32 := 0#32
  let c1_i32 : BitVec 32 := 1#32
  let arg11 : BitVec 32 := Scf.iv c0_i32_2 c1_i32 k0_t1
  let c1_i32_1133 : BitVec 32 := 1#32
  let v2184 : BitVec 32 := Scalar.addi arg11 c1_i32_1133
  let v2185 : Index := Scalar.indexCast v2184
  let c31_1134 : Index := 31#32
  let c0_1135 : Index := 0#32
  ![v2185.toNat, 31, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  let c0_i32_1 : BitVec 32 := 0#32
  ![v2.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x8x8x64 : Shape := ⟨4, ![4096, 8, 8, 64]⟩
abbrev S_ : Shape := ⟨0, ![]⟩
abbrev S8x8x64x64 : Shape := ⟨4, ![8, 8, 64, 64]⟩
abbrev S1x8x8x64 : Shape := ⟨4, ![1, 8, 8, 64]⟩
abbrev S8x8x64 : Shape := ⟨3, ![8, 8, 64]⟩
abbrev S8x8x1x64 : Shape := ⟨4, ![8, 8, 1, 64]⟩
abbrev S8x8x64x1 : Shape := ⟨4, ![8, 8, 64, 1]⟩

abbrev nBuf : Space → Nat
  | .hbm => 81
  | .vmem => 0
  | .smem => 0
  | _ => 0

abbrev bufTy : (tb : Table) → Fin (tcTables nBuf tb) → BufTy
  | .hbm, ⟨0, _⟩ => ⟨S4096x8x8x64, .f32⟩
  | .hbm, ⟨1, _⟩ => ⟨S4096x8x8x64, .f32⟩
  | .hbm, ⟨2, _⟩ => ⟨S4096x8x8x64, .f32⟩
  | .hbm, ⟨3, _⟩ => ⟨S4096x8x8x64, .f32⟩
  | .hbm, ⟨4, _⟩ => ⟨S4096x8x8x64, .f32⟩
  | .hbm, ⟨5, _⟩ => ⟨S4096x8x8x64, .f32⟩
  | .hbm, ⟨6, _⟩ => ⟨S4096x8x8x64, .f32⟩
  | .hbm, ⟨7, _⟩ => ⟨S4096x8x8x64, .f32⟩
  | .hbm, ⟨8, _⟩ => ⟨S4096x8x8x64, .f32⟩
  | .hbm, ⟨9, _⟩ => ⟨S_, .f32⟩
  | .hbm, ⟨10, _⟩ => ⟨S8x8x64x64, .f32⟩
  | .hbm, ⟨11, _⟩ => ⟨S_, .f32⟩
  | .hbm, ⟨12, _⟩ => ⟨S4096x8x8x64, .f32⟩
  | .hbm, ⟨13, _⟩ => ⟨S_, .i32⟩
  | .hbm, ⟨14, _⟩ => ⟨S4096x8x8x64, .f32⟩
  | .hbm, ⟨15, _⟩ => ⟨S4096x8x8x64, .f32⟩
  | .hbm, ⟨16, _⟩ => ⟨S4096x8x8x64, .f32⟩
  | .hbm, ⟨17, _⟩ => ⟨S4096x8x8x64, .f32⟩
  | .hbm, ⟨18, _⟩ => ⟨S4096x8x8x64, .f32⟩
  | .hbm, ⟨19, _⟩ => ⟨S4096x8x8x64, .f32⟩
  | .hbm, ⟨20, _⟩ => ⟨S_, .i32⟩
  | .hbm, ⟨21, _⟩ => ⟨S8x8x64x64, .f32⟩
  | .hbm, ⟨22, _⟩ => ⟨S4096x8x8x64, .f32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x8x8x64, .f32⟩
  | .hbm, ⟨29, _⟩ => ⟨S8x8x64, .f32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x8x8x64, .f32⟩
  | .hbm, ⟨34, _⟩ => ⟨S8x8x64, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x8x8x64, .f32⟩
  | .hbm, ⟨39, _⟩ => ⟨S8x8x64, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x8x8x64, .f32⟩
  | .hbm, ⟨44, _⟩ => ⟨S8x8x64, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x8x8x64, .f32⟩
  | .hbm, ⟨49, _⟩ => ⟨S8x8x64, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x8x8x64, .f32⟩
  | .hbm, ⟨54, _⟩ => ⟨S8x8x64, .f32⟩
  | .hbm, ⟨55, _⟩ => ⟨S8x8x64, .f32⟩
  | .hbm, ⟨56, _⟩ => ⟨S8x8x64, .f32⟩
  | .hbm, ⟨57, _⟩ => ⟨S8x8x1x64, .f32⟩
  | .hbm, ⟨58, _⟩ => ⟨S8x8x64x64, .f32⟩
  | .hbm, ⟨59, _⟩ => ⟨S8x8x64x64, .f32⟩
  | .hbm, ⟨60, _⟩ => ⟨S8x8x64x1, .f32⟩
  | .hbm, ⟨61, _⟩ => ⟨S8x8x64, .f32⟩
  | .hbm, ⟨62, _⟩ => ⟨S8x8x1x64, .f32⟩
  | .hbm, ⟨63, _⟩ => ⟨S8x8x64x64, .f32⟩
  | .hbm, ⟨64, _⟩ => ⟨S8x8x64x64, .f32⟩
  | .hbm, ⟨65, _⟩ => ⟨S8x8x64x64, .f32⟩
  | .hbm, ⟨66, _⟩ => ⟨S8x8x64x64, .f32⟩
  | .hbm, ⟨67, _⟩ => ⟨S8x8x64x1, .f32⟩
  | .hbm, ⟨68, _⟩ => ⟨S8x8x1x64, .f32⟩
  | .hbm, ⟨69, _⟩ => ⟨S8x8x64x64, .f32⟩
  | .hbm, ⟨70, _⟩ => ⟨S8x8x64x64, .f32⟩
  | .hbm, ⟨71, _⟩ => ⟨S8x8x64x64, .f32⟩
  | .hbm, ⟨72, _⟩ => ⟨S8x8x64x64, .f32⟩
  | .hbm, ⟨73, _⟩ => ⟨S8x8x64, .f32⟩
  | .hbm, ⟨74, _⟩ => ⟨S1x8x8x64, .f32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S4096x8x8x64, .f32⟩
  | .hbm, ⟨79, _⟩ => ⟨S_, .i32⟩
  | .hbm, ⟨80, _⟩ => ⟨S_, .i32⟩
  | _, _ => ⟨S4096x8x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_c : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev main_v5_7 : Ref sig .tc := ⟨.hbm, 21, rfl⟩
abbrev main_v5_8 : Ref sig .tc := ⟨.hbm, 22, rfl⟩
abbrev main_while0c_c_9 : Ref sig .tc := ⟨.hbm, 23, rfl⟩
abbrev main_while0c_v6 : Ref sig .tc := ⟨.hbm, 24, rfl⟩
abbrev main_while0b_call0_c : Ref sig .tc := ⟨.hbm, 25, rfl⟩
abbrev main_while0b_call0_c_0 : Ref sig .tc := ⟨.hbm, 26, rfl⟩
abbrev main_while0b_call0_c_1 : Ref sig .tc := ⟨.hbm, 27, rfl⟩
abbrev main_while0b_call0_v0 : Ref sig .tc := ⟨.hbm, 28, rfl⟩
abbrev main_while0b_v6 : Ref sig .tc := ⟨.hbm, 29, rfl⟩
abbrev main_while0b_call1_c : Ref sig .tc := ⟨.hbm, 30, rfl⟩
abbrev main_while0b_call1_c_0 : Ref sig .tc := ⟨.hbm, 31, rfl⟩
abbrev main_while0b_call1_c_1 : Ref sig .tc := ⟨.hbm, 32, rfl⟩
abbrev main_while0b_call1_v0 : Ref sig .tc := ⟨.hbm, 33, rfl⟩
abbrev main_while0b_v7 : Ref sig .tc := ⟨.hbm, 34, rfl⟩
abbrev main_while0b_call2_c : Ref sig .tc := ⟨.hbm, 35, rfl⟩
abbrev main_while0b_call2_c_0 : Ref sig .tc := ⟨.hbm, 36, rfl⟩
abbrev main_while0b_call2_c_1 : Ref sig .tc := ⟨.hbm, 37, rfl⟩
abbrev main_while0b_call2_v0 : Ref sig .tc := ⟨.hbm, 38, rfl⟩
abbrev main_while0b_v8 : Ref sig .tc := ⟨.hbm, 39, rfl⟩
abbrev main_while0b_call3_c : Ref sig .tc := ⟨.hbm, 40, rfl⟩
abbrev main_while0b_call3_c_0 : Ref sig .tc := ⟨.hbm, 41, rfl⟩
abbrev main_while0b_call3_c_1 : Ref sig .tc := ⟨.hbm, 42, rfl⟩
abbrev main_while0b_call3_v0 : Ref sig .tc := ⟨.hbm, 43, rfl⟩
abbrev main_while0b_v9 : Ref sig .tc := ⟨.hbm, 44, rfl⟩
abbrev main_while0b_call4_c : Ref sig .tc := ⟨.hbm, 45, rfl⟩
abbrev main_while0b_call4_c_0 : Ref sig .tc := ⟨.hbm, 46, rfl⟩
abbrev main_while0b_call4_c_1 : Ref sig .tc := ⟨.hbm, 47, rfl⟩
abbrev main_while0b_call4_v0 : Ref sig .tc := ⟨.hbm, 48, rfl⟩
abbrev main_while0b_v10 : Ref sig .tc := ⟨.hbm, 49, rfl⟩
abbrev main_while0b_call5_c : Ref sig .tc := ⟨.hbm, 50, rfl⟩
abbrev main_while0b_call5_c_0 : Ref sig .tc := ⟨.hbm, 51, rfl⟩
abbrev main_while0b_call5_c_1 : Ref sig .tc := ⟨.hbm, 52, rfl⟩
abbrev main_while0b_call5_v0 : Ref sig .tc := ⟨.hbm, 53, rfl⟩
abbrev main_while0b_v11 : Ref sig .tc := ⟨.hbm, 54, rfl⟩
abbrev main_while0b_v12 : Ref sig .tc := ⟨.hbm, 55, rfl⟩
abbrev main_while0b_v13 : Ref sig .tc := ⟨.hbm, 56, rfl⟩
abbrev main_while0b_v14 : Ref sig .tc := ⟨.hbm, 57, rfl⟩
abbrev main_while0b_v15 : Ref sig .tc := ⟨.hbm, 58, rfl⟩
abbrev main_while0b_v16 : Ref sig .tc := ⟨.hbm, 59, rfl⟩
abbrev main_while0b_v17 : Ref sig .tc := ⟨.hbm, 60, rfl⟩
abbrev main_while0b_v18 : Ref sig .tc := ⟨.hbm, 61, rfl⟩
abbrev main_while0b_v19 : Ref sig .tc := ⟨.hbm, 62, rfl⟩
abbrev main_while0b_v20 : Ref sig .tc := ⟨.hbm, 63, rfl⟩
abbrev main_while0b_v21 : Ref sig .tc := ⟨.hbm, 64, rfl⟩
abbrev main_while0b_v22 : Ref sig .tc := ⟨.hbm, 65, rfl⟩
abbrev main_while0b_v23 : Ref sig .tc := ⟨.hbm, 66, rfl⟩
abbrev main_while0b_v24 : Ref sig .tc := ⟨.hbm, 67, rfl⟩
abbrev main_while0b_v25 : Ref sig .tc := ⟨.hbm, 68, rfl⟩
abbrev main_while0b_v26 : Ref sig .tc := ⟨.hbm, 69, rfl⟩
abbrev main_while0b_v27 : Ref sig .tc := ⟨.hbm, 70, rfl⟩
abbrev main_while0b_v28 : Ref sig .tc := ⟨.hbm, 71, rfl⟩
abbrev main_while0b_v29 : Ref sig .tc := ⟨.hbm, 72, rfl⟩
abbrev main_while0b_v30 : Ref sig .tc := ⟨.hbm, 73, rfl⟩
abbrev main_while0b_call6_v0 : Ref sig .tc := ⟨.hbm, 74, rfl⟩
abbrev main_while0b_call6_c : Ref sig .tc := ⟨.hbm, 75, rfl⟩
abbrev main_while0b_call6_c_0 : Ref sig .tc := ⟨.hbm, 76, rfl⟩
abbrev main_while0b_call6_c_1 : Ref sig .tc := ⟨.hbm, 77, rfl⟩
abbrev main_while0b_v31 : Ref sig .tc := ⟨.hbm, 78, rfl⟩
abbrev main_while0b_c_9 : Ref sig .tc := ⟨.hbm, 79, rfl⟩
abbrev main_while0b_v32 : Ref sig .tc := ⟨.hbm, 80, rfl⟩

abbrev nD : Nat := 1
abbrev τ : Topo := Topo.v7x

variable {F : FTy → Type} [FloatOps F]

abbrev main_while0_count : Scf.Loop 32 := ⟨0#32, 4096#32, 1#32⟩
-- ==== Experts.lean ====
abbrev S136 : Shape := ⟨1, ![136]⟩
abbrev S69632x1024 : Shape := ⟨2, ![69632, 1024]⟩
abbrev S2x8x1024x3584 : Shape := ⟨4, ![2, 8, 1024, 3584]⟩
abbrev S2x8x3584x1024 : Shape := ⟨4, ![2, 8, 3584, 1024]⟩
abbrev S16x1024x3584 : Shape := ⟨3, ![16, 1024, 3584]⟩
abbrev S16x3584x1024 : Shape := ⟨3, ![16, 3584, 1024]⟩
abbrev S512x1024 : Shape := ⟨2, ![512, 1024]⟩
abbrev S1x1024x1792 : Shape := ⟨3, ![1, 1024, 1792]⟩
abbrev S1 : Shape := ⟨1, ![1]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 12
  | .vmem => 11
  | .smem => 1
  | _ => 0

abbrev bufTy : (tb : Table) → Fin (tcTables nBuf tb) → BufTy
  | .hbm, ⟨0, _⟩ => ⟨S69632x1024, .f32⟩
  | .hbm, ⟨1, _⟩ => ⟨S2x8x1024x3584, .f32⟩
  | .hbm, ⟨2, _⟩ => ⟨S2x8x1024x3584, .f32⟩
  | .hbm, ⟨3, _⟩ => ⟨S2x8x3584x1024, .f32⟩
  | .hbm, ⟨4, _⟩ => ⟨S2x8x1024x3584, .bf16⟩
  | .hbm, ⟨5, _⟩ => ⟨S16x1024x3584, .bf16⟩
  | .hbm, ⟨6, _⟩ => ⟨S2x8x1024x3584, .bf16⟩
  | .hbm, ⟨7, _⟩ => ⟨S16x1024x3584, .bf16⟩
  | .hbm, ⟨8, _⟩ => ⟨S2x8x3584x1024, .bf16⟩
  | .hbm, ⟨9, _⟩ => ⟨S16x3584x1024, .bf16⟩
  | .hbm, ⟨10, _⟩ => ⟨S69632x1024, .bf16⟩
  | .hbm, ⟨11, _⟩ => ⟨S69632x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .smem, ⟨0, _⟩ => ⟨S136, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S136 : Shape := ⟨1, ![136]⟩
abbrev S69632x1024 : Shape := ⟨2, ![69632, 1024]⟩
abbrev S2x8x1024x3584 : Shape := ⟨4, ![2, 8, 1024, 3584]⟩
abbrev S2x8x3584x1024 : Shape := ⟨4, ![2, 8, 3584, 1024]⟩
abbrev S136x512 : Shape := ⟨2, ![136, 512]⟩
abbrev S69632 : Shape := ⟨1, ![69632]⟩
abbrev S16x1024x3584 : Shape := ⟨3, ![16, 1024, 3584]⟩
abbrev S16x3584x1024 : Shape := ⟨3, ![16, 3584, 1024]⟩
abbrev S1x69632 : Shape := ⟨2, ![1, 69632]⟩
abbrev S16 : Shape := ⟨1, ![16]⟩
abbrev S16x1 : Shape := ⟨2, ![16, 1]⟩
abbrev S16x69632 : Shape := ⟨2, ![16, 69632]⟩
abbrev S16x3584x69632 : Shape := ⟨3, ![16, 3584, 69632]⟩
abbrev S16x69632x3584 : Shape := ⟨3, ![16, 69632, 3584]⟩
abbrev S_ : Shape := ⟨0, ![]⟩
abbrev S16x69632x1024 : Shape := ⟨3, ![16, 69632, 1024]⟩
abbrev S16x69632x1 : Shape := ⟨3, ![16, 69632, 1]⟩

abbrev nBuf : Space → Nat
  | .hbm => 37
  | .vmem => 0
  | .smem => 0
  | _ => 0

abbrev bufTy : (tb : Table) → Fin (tcTables nBuf tb) → BufTy
  | .hbm, ⟨0, _⟩ => ⟨S136, .i32⟩
  | .hbm, ⟨1, _⟩ => ⟨S69632x1024, .f32⟩
  | .hbm, ⟨2, _⟩ => ⟨S2x8x1024x3584, .f32⟩
  | .hbm, ⟨3, _⟩ => ⟨S2x8x1024x3584, .f32⟩
  | .hbm, ⟨4, _⟩ => ⟨S2x8x3584x1024, .f32⟩
  | .hbm, ⟨5, _⟩ => ⟨S136x512, .i32⟩
  | .hbm, ⟨6, _⟩ => ⟨S69632, .i32⟩
  | .hbm, ⟨7, _⟩ => ⟨S16x1024x3584, .f32⟩
  | .hbm, ⟨8, _⟩ => ⟨S16x1024x3584, .f32⟩
  | .hbm, ⟨9, _⟩ => ⟨S16x3584x1024, .f32⟩
  | .hbm, ⟨10, _⟩ => ⟨S1x69632, .i32⟩
  | .hbm, ⟨11, _⟩ => ⟨S16, .i32⟩
  | .hbm, ⟨12, _⟩ => ⟨S16x1, .i32⟩
  | .hbm, ⟨13, _⟩ => ⟨S16x69632, .i32⟩
  | .hbm, ⟨14, _⟩ => ⟨S16x69632, .i32⟩
  | .hbm, ⟨15, _⟩ => ⟨S16x69632, .i1⟩
  | .hbm, ⟨16, _⟩ => ⟨S16x69632, .f32⟩
  | .hbm, ⟨17, _⟩ => ⟨S16x3584x69632, .f32⟩
  | .hbm, ⟨18, _⟩ => ⟨S16x69632x3584, .f32⟩
  | .hbm, ⟨19, _⟩ => ⟨S16x69632x3584, .f32⟩
  | .hbm, ⟨20, _⟩ => ⟨S16x69632x3584, .f32⟩
  | .hbm, ⟨21, _⟩ => ⟨S_, .f32⟩
  | .hbm, ⟨22, _⟩ => ⟨S16x69632x3584, .f32⟩
  | .hbm, ⟨23, _⟩ => ⟨S16x69632x3584, .f32⟩
  | .hbm, ⟨24, _⟩ => ⟨S_, .f32⟩
  | .hbm, ⟨25, _⟩ => ⟨S16x69632x3584, .f32⟩
  | .hbm, ⟨26, _⟩ => ⟨S16x69632x3584, .f32⟩
  | .hbm, ⟨27, _⟩ => ⟨S16x69632x3584, .f32⟩
  | .hbm, ⟨28, _⟩ => ⟨S16x3584x69632, .f32⟩
  | .hbm, ⟨29, _⟩ => ⟨S16x69632x3584, .f32⟩
  | .hbm, ⟨30, _⟩ => ⟨S16x69632x3584, .f32⟩
  | .hbm, ⟨31, _⟩ => ⟨S16x69632x1024, .f32⟩
  | .hbm, ⟨32, _⟩ => ⟨S16x69632x1, .f32⟩
  | .hbm, ⟨33, _⟩ => ⟨S16x69632x1024, .f32⟩
  | .hbm, ⟨34, _⟩ => ⟨S16x69632x1024, .f32⟩
  | .hbm, ⟨35, _⟩ => ⟨S_, .f32⟩
  | .hbm, ⟨36, _⟩ => ⟨S69632x1024, .f32⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Last.lean ====
abbrev S8x4096x1024 : Shape := ⟨3, ![8, 4096, 1024]⟩
abbrev S8x4096x2 : Shape := ⟨3, ![8, 4096, 2]⟩
abbrev S1024 : Shape := ⟨1, ![1024]⟩
abbrev S4096x8x2 : Shape := ⟨3, ![4096, 8, 2]⟩
abbrev S32768x2 : Shape := ⟨2, ![32768, 2]⟩
abbrev S_ : Shape := ⟨0, ![]⟩
abbrev S32768x128 : Shape := ⟨2, ![32768, 128]⟩
abbrev S1x1024 : Shape := ⟨2, ![1, 1024]⟩
abbrev S8x1024 : Shape := ⟨2, ![8, 1024]⟩
abbrev S4096x8x1024 : Shape := ⟨3, ![4096, 8, 1024]⟩
abbrev S32768x1024 : Shape := ⟨2, ![32768, 1024]⟩
abbrev S65536x1024 : Shape := ⟨2, ![65536, 1024]⟩
abbrev S512x1024 : Shape := ⟨2, ![512, 1024]⟩
abbrev S512x128 : Shape := ⟨2, ![512, 128]⟩
abbrev S8x64x1024 : Shape := ⟨3, ![8, 64, 1024]⟩
abbrev S8x512x128 : Shape := ⟨3, ![8, 512, 128]⟩
abbrev S512x1 : Shape := ⟨2, ![512, 1]⟩
abbrev S512 : Shape := ⟨1, ![512]⟩
abbrev S1x512x128 : Shape := ⟨3, ![1, 512, 128]⟩
abbrev S1x64x128 : Shape := ⟨3, ![1, 64, 128]⟩
abbrev S64x128 : Shape := ⟨2, ![64, 128]⟩

abbrev nBuf : Space → Nat
  | .hbm => 30
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x2, .f32⟩
  | .hbm, ⟨4, _⟩ => ⟨S1024, .f32⟩
  | .hbm, ⟨5, _⟩ => ⟨S1024, .f32⟩
  | .hbm, ⟨6, _⟩ => ⟨S4096x8x2, .f32⟩
  | .hbm, ⟨7, _⟩ => ⟨S32768x2, .f32⟩
  | .hbm, ⟨8, _⟩ => ⟨S_, .i32⟩
  | .hbm, ⟨9, _⟩ => ⟨S_, .f32⟩
  | .hbm, ⟨10, _⟩ => ⟨S32768x128, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8x1024, .f32⟩
  | .hbm, ⟨22, _⟩ => ⟨S4096x8x1024, .f32⟩
  | .hbm, ⟨23, _⟩ => ⟨S32768x1024, .f32⟩
  | .hbm, ⟨24, _⟩ => ⟨S4096x8x1024, .f32⟩
  | .hbm, ⟨25, _⟩ => ⟨S32768x1024, .f32⟩
  | .hbm, ⟨26, _⟩ => ⟨S4096x8x1024, .f32⟩
  | .hbm, ⟨27, _⟩ => ⟨S32768x1024, .f32⟩
  | .hbm, ⟨28, _⟩ => ⟨S65536x1024, .f32⟩
  | .hbm, ⟨29, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S8x1024, .f32⟩
  | .local _ .vmem, ⟨9, _⟩ => ⟨S8x64x1024, .f32⟩
  | .local _ .vmem, ⟨10, _⟩ => ⟨S8x64x1024, .f32⟩
  | .local _ .vmem, ⟨11, _⟩ => ⟨S8x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LastRefIdeal.lean ====
abbrev S8x4096x1024 : Shape := ⟨3, ![8, 4096, 1024]⟩
abbrev S8x4096x2 : Shape := ⟨3, ![8, 4096, 2]⟩
abbrev S1024 : Shape := ⟨1, ![1024]⟩
abbrev S8x4096x1 : Shape := ⟨3, ![8, 4096, 1]⟩
abbrev S_ : Shape := ⟨0, ![]⟩
abbrev S8x4096 : Shape := ⟨2, ![8, 4096]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x2, .f32⟩
  | .hbm, ⟨4, _⟩ => ⟨S1024, .f32⟩
  | .hbm, ⟨5, _⟩ => ⟨S1024, .f32⟩
  | .hbm, ⟨6, _⟩ => ⟨S8x4096x1, .f32⟩
  | .hbm, ⟨7, _⟩ => ⟨S8x4096x1024, .f32⟩
  | .hbm, ⟨8, _⟩ => ⟨S8x4096x1024, .f32⟩
  | .hbm, ⟨9, _⟩ => ⟨S8x4096x1, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S1x1x1024, .f32⟩
  | .hbm, ⟨41, _⟩ => ⟨S8x4096x1024, .f32⟩
  | .hbm, ⟨42, _⟩ => ⟨S8x4096x1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Dense.lean ====
abbrev S32768x1024 : Shape := ⟨2, ![32768, 1024]⟩
abbrev S2x1024x2816 : Shape := ⟨3, ![2, 1024, 2816]⟩
abbrev S2x2816x1024 : Shape := ⟨3, ![2, 2816, 1024]⟩
abbrev S1024 : Shape := ⟨1, ![1024]⟩
abbrev S_ : Shape := ⟨0, ![]⟩
abbrev S1x1024 : Shape := ⟨2, ![1, 1024]⟩
abbrev S8x1024 : Shape := ⟨2, ![8, 1024]⟩
abbrev S64 : Shape := ⟨1, ![64]⟩
abbrev S512x1024 : Shape := ⟨2, ![512, 1024]⟩
abbrev S1x1024x1408 : Shape := ⟨3, ![1, 1024, 1408]⟩
abbrev S1 : Shape := ⟨1, ![1]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 26
  | .vmem => 14
  | .smem => 1
  | _ => 0

abbrev bufTy : (tb : Table) → Fin (tcTables nBuf tb) → BufTy
  | .hbm, ⟨0, _⟩ => ⟨S32768x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S1024, .f32⟩
  | .hbm, ⟨5, _⟩ => ⟨S1024, .f32⟩
  | .hbm, ⟨6, _⟩ => ⟨S2x1024x2816, .bf16⟩
  | .hbm, ⟨7, _⟩ => ⟨S2x1024x2816, .bf16⟩
  | .hbm, ⟨8, _⟩ => ⟨S2x2816x1024, .bf16⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S8x1024, .f32⟩
  | .hbm, ⟨20, _⟩ => ⟨S_, .i32⟩
  | .hbm, ⟨21, _⟩ => ⟨S64, .i32⟩
  | .hbm, ⟨22, _⟩ => ⟨S_, .i32⟩
  | .hbm, ⟨23, _⟩ => ⟨S64, .i32⟩
  | .hbm, ⟨24, _⟩ => ⟨S32768x1024, .bf16⟩
  | .hbm, ⟨25, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .smem, ⟨0, _⟩ => ⟨S64, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v16 : Ref sig .tc := ⟨.hbm, 24, rfl⟩
abbrev main_v17 : Ref sig .tc := ⟨.hbm, 25, rfl⟩
abbrev main_v15 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 2], ![false, false]⟩

abbrev pre0 : Pipeline.Prefetch sig := ⟨1, ![main_v15.idx], fun | 0 => main_v15.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DenseRefIdeal.lean ====
abbrev S32768x1024 : Shape := ⟨2, ![32768, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024x2816 : Shape := ⟨3, ![1, 1024, 2816]⟩
abbrev S1024x2816 : Shape := ⟨2, ![1024, 2816]⟩
abbrev S32768x2816 : Shape := ⟨2, ![32768, 2816]⟩
abbrev S_ : Shape := ⟨0, ![]⟩
abbrev S1x2816x1024 : Shape := ⟨3, ![1, 2816, 1024]⟩
abbrev S2816x1024 : Shape := ⟨2, ![2816, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S1024, .f32⟩
  | .hbm, ⟨5, _⟩ => ⟨S1024, .f32⟩
  | .hbm, ⟨6, _⟩ => ⟨S1x1024x2816, .f32⟩
  | .hbm, ⟨7, _⟩ => ⟨S1024x2816, .f32⟩
  | .hbm, ⟨8, _⟩ => ⟨S32768x2816, .f32⟩
  | .hbm, ⟨9, _⟩ => ⟨S32768x2816, .f32⟩
  | .hbm, ⟨10, _⟩ => ⟨S32768x2816, .f32⟩
  | .hbm, ⟨11, _⟩ => ⟨S_, .f32⟩
  | .hbm, ⟨12, _⟩ => ⟨S32768x2816, .f32⟩
  | .hbm, ⟨13, _⟩ => ⟨S32768x2816, .f32⟩
  | .hbm, ⟨14, _⟩ => ⟨S_, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S1x1024x2816, .f32⟩
  | .hbm, ⟨19, _⟩ => ⟨S1024x2816, .f32⟩
  | .hbm, ⟨20, _⟩ => ⟨S32768x2816, .f32⟩
  | .hbm, ⟨21, _⟩ => ⟨S32768x2816, .f32⟩
  | .hbm, ⟨22, _⟩ => ⟨S1x2816x1024, .f32⟩
  | .hbm, ⟨23, _⟩ => ⟨S2816x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S32768x1024, .f32⟩
  | .hbm, ⟨57, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Third.lean ====
abbrev S32768x1024 : Shape := ⟨2, ![32768, 1024]⟩
abbrev S2x1024x2816 : Shape := ⟨3, ![2, 1024, 2816]⟩
abbrev S2x2816x1024 : Shape := ⟨3, ![2, 2816, 1024]⟩
abbrev S1024 : Shape := ⟨1, ![1024]⟩
abbrev S_ : Shape := ⟨0, ![]⟩
abbrev S1x1024 : Shape := ⟨2, ![1, 1024]⟩
abbrev S8x1024 : Shape := ⟨2, ![8, 1024]⟩
abbrev S64 : Shape := ⟨1, ![64]⟩
abbrev S512x1024 : Shape := ⟨2, ![512, 1024]⟩
abbrev S1x1024x1408 : Shape := ⟨3, ![1, 1024, 1408]⟩
abbrev S1 : Shape := ⟨1, ![1]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 26
  | .vmem => 14
  | .smem => 1
  | _ => 0

abbrev bufTy : (tb : Table) → Fin (tcTables nBuf tb) → BufTy
  | .hbm, ⟨0, _⟩ => ⟨S32768x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S1024, .f32⟩
  | .hbm, ⟨5, _⟩ => ⟨S1024, .f32⟩
  | .hbm, ⟨6, _⟩ => ⟨S2x1024x2816, .bf16⟩
  | .hbm, ⟨7, _⟩ => ⟨S2x1024x2816, .bf16⟩
  | .hbm, ⟨8, _⟩ => ⟨S2x2816x1024, .bf16⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S8x1024, .f32⟩
  | .hbm, ⟨20, _⟩ => ⟨S_, .i32⟩
  | .hbm, ⟨21, _⟩ => ⟨S64, .i32⟩
  | .hbm, ⟨22, _⟩ => ⟨S_, .i32⟩
  | .hbm, ⟨23, _⟩ => ⟨S64, .i32⟩
  | .hbm, ⟨24, _⟩ => ⟨S32768x1024, .bf16⟩
  | .hbm, ⟨25, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .smem, ⟨0, _⟩ => ⟨S64, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v16 : Ref sig .tc := ⟨.hbm, 24, rfl⟩
abbrev main_v17 : Ref sig .tc := ⟨.hbm, 25, rfl⟩
abbrev main_v15 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 2], ![false, false]⟩

abbrev pre0 : Pipeline.Prefetch sig := ⟨1, ![main_v15.idx], fun | 0 => main_v15.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ThirdRefIdeal.lean ====
abbrev S32768x1024 : Shape := ⟨2, ![32768, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024x2816 : Shape := ⟨3, ![1, 1024, 2816]⟩
abbrev S1024x2816 : Shape := ⟨2, ![1024, 2816]⟩
abbrev S32768x2816 : Shape := ⟨2, ![32768, 2816]⟩
abbrev S_ : Shape := ⟨0, ![]⟩
abbrev S1x2816x1024 : Shape := ⟨3, ![1, 2816, 1024]⟩
abbrev S2816x1024 : Shape := ⟨2, ![2816, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S1024, .f32⟩
  | .hbm, ⟨5, _⟩ => ⟨S1024, .f32⟩
  | .hbm, ⟨6, _⟩ => ⟨S1x1024x2816, .f32⟩
  | .hbm, ⟨7, _⟩ => ⟨S1024x2816, .f32⟩
  | .hbm, ⟨8, _⟩ => ⟨S32768x2816, .f32⟩
  | .hbm, ⟨9, _⟩ => ⟨S32768x2816, .f32⟩
  | .hbm, ⟨10, _⟩ => ⟨S32768x2816, .f32⟩
  | .hbm, ⟨11, _⟩ => ⟨S_, .f32⟩
  | .hbm, ⟨12, _⟩ => ⟨S32768x2816, .f32⟩
  | .hbm, ⟨13, _⟩ => ⟨S32768x2816, .f32⟩
  | .hbm, ⟨14, _⟩ => ⟨S_, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S1x1024x2816, .f32⟩
  | .hbm, ⟨19, _⟩ => ⟨S1024x2816, .f32⟩
  | .hbm, ⟨20, _⟩ => ⟨S32768x2816, .f32⟩
  | .hbm, ⟨21, _⟩ => ⟨S32768x2816, .f32⟩
  | .hbm, ⟨22, _⟩ => ⟨S1x2816x1024, .f32⟩
  | .hbm, ⟨23, _⟩ => ⟨S2816x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S32768x1024, .f32⟩
  | .hbm, ⟨57, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Proj.lean ====
abbrev S32768x1024 : Shape := ⟨2, ![32768, 1024]⟩
abbrev S1024x3328 : Shape := ⟨2, ![1024, 3328]⟩
abbrev S1024x32 : Shape := ⟨2, ![1024, 32]⟩
abbrev S1792 : Shape := ⟨1, ![1792]⟩
abbrev S32 : Shape := ⟨1, ![32]⟩
abbrev S_ : Shape := ⟨0, ![]⟩
abbrev S512 : Shape := ⟨1, ![512]⟩
abbrev S1024 : Shape := ⟨1, ![1024]⟩
abbrev S1536 : Shape := ⟨1, ![1536]⟩
abbrev S1024x1536 : Shape := ⟨2, ![1024, 1536]⟩
abbrev S1x1536 : Shape := ⟨2, ![1, 1536]⟩
abbrev S1536x1024 : Shape := ⟨2, ![1536, 1024]⟩
abbrev S1024x256 : Shape := ⟨2, ![1024, 256]⟩
abbrev S1024x288 : Shape := ⟨2, ![1024, 288]⟩
abbrev S256 : Shape := ⟨1, ![256]⟩
abbrev S288 : Shape := ⟨1, ![288]⟩
abbrev S1024x384 : Shape := ⟨2, ![1024, 384]⟩
abbrev S384x1024 : Shape := ⟨2, ![384, 1024]⟩
abbrev S384 : Shape := ⟨1, ![384]⟩
abbrev S384x1 : Shape := ⟨2, ![384, 1]⟩
abbrev S384x128 : Shape := ⟨2, ![384, 128]⟩
abbrev S1536x1 : Shape := ⟨2, ![1536, 1]⟩
abbrev S1536x128 : Shape := ⟨2, ![1536, 128]⟩
abbrev S8x4096x1536 : Shape := ⟨3, ![8, 4096, 1536]⟩
abbrev S1536x32768 : Shape := ⟨2, ![1536, 32768]⟩
abbrev S384x32768 : Shape := ⟨2, ![384, 32768]⟩
abbrev S512x1024 : Shape := ⟨2, ![512, 1024]⟩
abbrev S8x64x1536 : Shape := ⟨3, ![8, 64, 1536]⟩
abbrev S1536x512 : Shape := ⟨2, ![1536, 512]⟩
abbrev S384x512 : Shape := ⟨2, ![384, 512]⟩
abbrev S12x512x128 : Shape := ⟨3, ![12, 512, 128]⟩
abbrev S512x1536 : Shape := ⟨2, ![512, 1536]⟩
abbrev S512x128 : Shape := ⟨2, ![512, 128]⟩
abbrev S1x512x128 : Shape := ⟨3, ![1, 512, 128]⟩
abbrev S1x64x128 : Shape := ⟨3, ![1, 64, 128]⟩
abbrev S64x128 : Shape := ⟨2, ![64, 128]⟩
abbrev S1x128 : Shape := ⟨2, ![1, 128]⟩
abbrev S288x32768 : Shape := ⟨2, ![288, 32768]⟩

abbrev nBuf : Space → Nat
  | .hbm => 39
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1024x3328, .f32⟩
  | .hbm, ⟨2, _⟩ => ⟨S1024x32, .f32⟩
  | .hbm, ⟨3, _⟩ => ⟨S1792, .f32⟩
  | .hbm, ⟨4, _⟩ => ⟨S32, .f32⟩
  | .hbm, ⟨5, _⟩ => ⟨S_, .f32⟩
  | .hbm, ⟨6, _⟩ => ⟨S512, .f32⟩
  | .hbm, ⟨7, _⟩ => ⟨S_, .f32⟩
  | .hbm, ⟨8, _⟩ => ⟨S1024, .f32⟩
  | .hbm, ⟨9, _⟩ => ⟨S1536, .f32⟩
  | .hbm, ⟨10, _⟩ => ⟨S1024x1536, .f32⟩
  | .hbm, ⟨11, _⟩ => ⟨S1x1536, .f32⟩
  | .hbm, ⟨12, _⟩ => ⟨S1024x1536, .f32⟩
  | .hbm, ⟨13, _⟩ => ⟨S1024x1536, .f32⟩
  | .hbm, ⟨14, _⟩ => ⟨S1024x1536, .bf16⟩
  | .hbm, ⟨15, _⟩ => ⟨S1024x1536, .f32⟩
  | .hbm, ⟨16, _⟩ => ⟨S1536x1024, .f32⟩
  | .hbm, ⟨17, _⟩ => ⟨S1536x1024, .bf16⟩
  | .hbm, ⟨18, _⟩ => ⟨S1024x256, .f32⟩
  | .hbm, ⟨19, _⟩ => ⟨S1024x288, .f32⟩
  | .hbm, ⟨20, _⟩ => ⟨S256, .f32⟩
  | .hbm, ⟨21, _⟩ => ⟨S288, .f32⟩
  | .hbm, ⟨22, _⟩ => ⟨S_, .i32⟩
  | .hbm, ⟨23, _⟩ => ⟨S_, .f32⟩
  | .hbm, ⟨24, _⟩ => ⟨S1024x384, .f32⟩
  | .hbm, ⟨25, _⟩ => ⟨S384x1024, .f32⟩
  | .hbm, ⟨26, _⟩ => ⟨S384x1024, .bf16⟩
  | .hbm, ⟨27, _⟩ => ⟨S_, .i32⟩
  | .hbm, ⟨28, _⟩ => ⟨S_, .f32⟩
  | .hbm, ⟨29, _⟩ => ⟨S384, .f32⟩
  | .hbm, ⟨30, _⟩ => ⟨S384x1, .f32⟩
  | .hbm, ⟨31, _⟩ => ⟨S384x128, .f32⟩
  | .hbm, ⟨32, _⟩ => ⟨S1536, .f32⟩
  | .hbm, ⟨33, _⟩ => ⟨S1536x1, .f32⟩
  | .hbm, ⟨34, _⟩ => ⟨S1536x128, .f32⟩
  | .hbm, ⟨35, _⟩ => ⟨S8x4096x1536, .f32⟩
  | .hbm, ⟨36, _⟩ => ⟨S1536x32768, .f32⟩
  | .hbm, ⟨37, _⟩ => ⟨S384x32768, .f32⟩
  | .hbm, ⟨38, _⟩ => ⟨S288x32768, .f32⟩
  | .local _ .vmem, ⟨0, _⟩ => ⟨S512x1024, .f32⟩
  | .local _ .vmem, ⟨1, _⟩ => ⟨S512x1024, .f32⟩
  | .local _ .vmem, ⟨2, _⟩ => ⟨S1024x1536, .bf16⟩
  | .local _ .vmem, ⟨3, _⟩ => ⟨S1536x1024, .bf16⟩
  | .local _ .vmem, ⟨4, _⟩ => ⟨S384x1024, .bf16⟩
  | .local _ .vmem, ⟨5, _⟩ => ⟨S1536x128, .f32⟩
  | .local _ .vmem, ⟨6, _⟩ => ⟨S384x128, .f32⟩
  | .local _ .vmem, ⟨7, _⟩ => ⟨S8x64x1536, .f32⟩
  | .local _ .vmem, ⟨8, _⟩ => ⟨S8x64x1536, .f32⟩
  | .local _ .vmem, ⟨9, _⟩ => ⟨S1536x512, .f32⟩
  | .local _ .vmem, ⟨10, _⟩ => ⟨S1536x512, .f32⟩
  | .local _ .vmem, ⟨11, _⟩ => ⟨S384x512, .f32⟩
  | .local _ .vmem, ⟨12, _⟩ => ⟨S384x512, .f32⟩
  | .local _ .vmem, ⟨13, _⟩ => ⟨S1536x128, .f32⟩
  | .local _ .vmem, ⟨14, _⟩ => ⟨S384x128, .f32⟩
  | .local _ .vmem, ⟨15, _⟩ => ⟨S12x512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_call1_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x64x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1536x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjRefIdeal.lean ====
abbrev S32768x1024 : Shape := ⟨2, ![32768, 1024]⟩
abbrev S1024x3328 : Shape := ⟨2, ![1024, 3328]⟩
abbrev S1024x32 : Shape := ⟨2, ![1024, 32]⟩
abbrev S1792 : Shape := ⟨1, ![1792]⟩
abbrev S32 : Shape := ⟨1, ![32]⟩
abbrev S4096x8x1024 : Shape := ⟨3, ![4096, 8, 1024]⟩
abbrev S8x4096x1024 : Shape := ⟨3, ![8, 4096, 1024]⟩
abbrev S1024x3360 : Shape := ⟨2, ![1024, 3360]⟩
abbrev S8x4096x3360 : Shape := ⟨3, ![8, 4096, 3360]⟩
abbrev S8x4096x512 : Shape := ⟨3, ![8, 4096, 512]⟩
abbrev S_ : Shape := ⟨0, ![]⟩
abbrev S8x4096x1824 : Shape := ⟨3, ![8, 4096, 1824]⟩
abbrev S1824 : Shape := ⟨1, ![1824]⟩
abbrev S8x4097x1824 : Shape := ⟨3, ![8, 4097, 1824]⟩
abbrev S1x1x1824 : Shape := ⟨3, ![1, 1, 1824]⟩
abbrev S1824x4096x8 : Shape := ⟨3, ![1824, 4096, 8]⟩
abbrev S1824x32768 : Shape := ⟨2, ![1824, 32768]⟩
abbrev S8x4096x1536 : Shape := ⟨3, ![8, 4096, 1536]⟩
abbrev S1536x32768 : Shape := ⟨2, ![1536, 32768]⟩
abbrev S288x32768 : Shape := ⟨2, ![288, 32768]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3328, .f32⟩
  | .hbm, ⟨2, _⟩ => ⟨S1024x32, .f32⟩
  | .hbm, ⟨3, _⟩ => ⟨S1792, .f32⟩
  | .hbm, ⟨4, _⟩ => ⟨S32, .f32⟩
  | .hbm, ⟨5, _⟩ => ⟨S4096x8x1024, .f32⟩
  | .hbm, ⟨6, _⟩ => ⟨S8x4096x1024, .f32⟩
  | .hbm, ⟨7, _⟩ => ⟨S1024x3360, .f32⟩
  | .hbm, ⟨8, _⟩ => ⟨S8x4096x3360, .f32⟩
  | .hbm, ⟨9, _⟩ => ⟨S8x4096x512, .f32⟩
  | .hbm, ⟨10, _⟩ => ⟨S_, .f32⟩
  | .hbm, ⟨11, _⟩ => ⟨S8x4096x512, .f32⟩
  | .hbm, ⟨12, _⟩ => ⟨S8x4096x512, .f32⟩
  | .hbm, ⟨13, _⟩ => ⟨S8x4096x1024, .f32⟩
  | .hbm, ⟨14, _⟩ => ⟨S8x4096x1824, .f32⟩
  | .hbm, ⟨15, _⟩ => ⟨S1824, .f32⟩
  | .hbm, ⟨16, _⟩ => ⟨S_, .i32⟩
  | .hbm, ⟨17, _⟩ => ⟨S_, .f32⟩
  | .hbm, ⟨18, _⟩ => ⟨S8x4097x1824, .f32⟩
  | .hbm, ⟨19, _⟩ => ⟨S8x4096x1824, .f32⟩
  | .hbm, ⟨20, _⟩ => ⟨S8x4096x1824, .f32⟩
  | .hbm, ⟨21, _⟩ => ⟨S1x1x1824, .f32⟩
  | .hbm, ⟨22, _⟩ => ⟨S8x4096x1824, .f32⟩
  | .hbm, ⟨23, _⟩ => ⟨S8x4096x1824, .f32⟩
  | .hbm, ⟨24, _⟩ => ⟨S8x4096x1824, .f32⟩
  | .hbm, ⟨25, _⟩ => ⟨S1824x4096x8, .f32⟩
  | .hbm, ⟨26, _⟩ => ⟨S1824x32768, .f32⟩
  | .hbm, ⟨27, _⟩ => ⟨S8x4096x1536, .f32⟩
  | .hbm, ⟨28, _⟩ => ⟨S1536x32768, .f32⟩
  | .hbm, ⟨29, _⟩ => ⟨S288x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Trip.lean ====
module

public import proofs.«01_k».proof.Proof.Gen.KernelIdeal.Loops
public import Idealize.ShloMosaic.Lib.Pointwise
public import Idealize.ShloMosaic.Lib.Tactic

@[expose] public section

noncomputable section

open Idealize.ShloMosaic Idealize.ShloMosaic.TcCoe Idealize.SL.Sem

namespace Cert.KernelIdeal.Scan

open Cert.KernelIdeal Cert.KernelIdeal.Gen

variable {F : FTy → Type} [FloatOps F]

/-- Row `(t, kx)` of a key-side block, as the body loads it. -/
def rowOf (K : FVec F S32x32x128 .f32) (t kx : ℕ) : Vec F S1x1x128 .f32 := fun j => K (ix3 (Fin.ofNat 32 t) (Fin.ofNat 32 kx) (j 2))

/-- Plane `t` of a value-side block or of the state, as the body loads it. -/
def planeOf (V : FVec F S32x64x128 .f32) (t : ℕ) : Vec F S1x64x128 .f32 := fun j => V (ix3 (Fin.ofNat 32 t) (j 1) (j 2))

/-- A row repeated over the 64 value rows. -/
def bc (r : Vec F S1x1x128 .f32) : FVec F S64x128 .f32 :=
  broadcastTo S64x128 (shapeCast S1x128 (shapeCast S1x128 r shapeCasts_S1x1x128_S1x128) shapeCasts_S1x128_S1x128) broadcasts_S1x128_S64x128

/-- One key's plane of the state after a step: the plane before, plus `v kᵀ`, plus `sa bᵀ`. -/
def nw (sf v : FVec F S64x128 .f32) (s : Vec F S1x64x128 .f32) (k b : Vec F S1x1x128 .f32) : FVec F S64x128 .f32 :=
  addf (addf (shapeCast S64x128 s shapeCasts_S1x64x128_S64x128) (mulf v (bc k))) (mulf sf (bc b))

/-- The sum of `f 0, …, f n` in this order. -/
def chainV (f : ℕ → FVec F S64x128 .f32) : ℕ → FVec F S64x128 .f32
  | 0 => f 0
  | n + 1 => addf (chainV f n) (f (n + 1))

/-- Key `kx`'s plane after step `t` of a chunk, from the carried half sums `acc` and the state `S`. -/
def newK (acc : FVec F S64x128 .f32) (V S : FVec F S32x64x128 .f32) (K B : FVec F S32x32x128 .f32) (t kx : ℕ) : FVec F S64x128 .f32 :=
  nw (k0_pay4 acc) (k0_pay5 (planeOf V t)) (planeOf S kx) (rowOf K t kx) (rowOf B t kx)

theorem fin_ofNat_eq {n : ℕ} [NeZero n] (a : Fin n) (b : ℕ) (h : a.val = b) : a = Fin.ofNat n b := by
  subst h; apply Fin.ext; simp [Fin.ofNat, Nat.mod_eq_of_lt a.isLt]

theorem ldRow (m : Memref sig .tc .vmem S32x32x128 .f32) (X : BufTy.Contents (Elt F) m.view.ty) (off : Fin 3 → ℕ)
    (inb : ∀ a, off a + S1x1x128.size a ≤ S32x32x128.size a) :
    View.readAt (Elt F) m.view (Rect.unit (s := S32x32x128) off S1x1x128.size inb).toLoadRect X
      = rowOf (m.view.read (Elt F) X) (off 0) (off 1) := by
  have h0 : off 0 + 1 ≤ 32 := inb 0
  have h1 : off 1 + 1 ≤ 32 := inb 1
  have h2 : off 2 + 128 ≤ 128 := inb 2
  funext j
  have j0 : (j 0).val < 1 := (j 0).isLt
  have j1 : (j 1).val < 1 := (j 1).isLt
  rw [View.readAt_eq_ld]
  unfold rowOf
  show m.view.read (Elt F) X _ = m.view.read (Elt F) X _
  congr 1
  funext a
  match a with
  | ⟨0, _⟩ => exact fin_ofNat_eq (n := 32) _ _ (by show off 0 + 1 * (j 0).val = _; omega)
  | ⟨1, _⟩ => exact fin_ofNat_eq (n := 32) _ _ (by show off 1 + 1 * (j 1).val = _; omega)
  | ⟨2, _⟩ => exact Fin.ext (by show off 2 + 1 * (j 2).val = (j 2).val; omega)

theorem ldPlane (m : Memref sig .tc .vmem S32x64x128 .f32) (X : BufTy.Contents (Elt F) m.view.ty) (off : Fin 3 → ℕ)
    (inb : ∀ a, off a + S1x64x128.size a ≤ S32x64x128.size a) :
    View.readAt (Elt F) m.view (Rect.unit (s := S32x64x128) off S1x64x128.size inb).toLoadRect X
      = planeOf (m.view.read (Elt F) X) (off 0) := by
  have h0 : off 0 + 1 ≤ 32 := inb 0
  have h1 : off 1 + 64 ≤ 64 := inb 1
  have h2 : off 2 + 128 ≤ 128 := inb 2
  funext j
  have j0 : (j 0).val < 1 := (j 0).isLt
  rw [View.readAt_eq_ld]
  unfold planeOf
  show m.view.read (Elt F) X _ = m.view.read (Elt F) X _
  congr 1
  funext a
  match a with
  | ⟨0, _⟩ => exact fin_ofNat_eq (n := 32) _ _ (by show off 0 + 1 * (j 0).val = _; omega)
  | ⟨1, _⟩ => exact Fin.ext (by show off 1 + 1 * (j 1).val = (j 1).val; omega)
  | ⟨2, _⟩ => exact Fin.ext (by show off 2 + 1 * (j 2).val = (j 2).val; omega)

/-- A whole state or output read from its planes. -/
def planes (f : ℕ → FVec F S64x128 .f32) : FVec F S32x64x128 .f32 := fun j => f (j 0).val (ix2 (j 1) (j 2))

theorem plane_piece (f : ℕ → FVec F S64x128 .f32) (n : ℕ) (off : Fin 3 → ℕ) (hoff : off = ![n, 0, 0])
    (inb : ∀ a, off a + S1x64x128.size a ≤ S32x64x128.size a) (w : FVec F S1x64x128 .f32)
    (hw : w = shapeCast S1x64x128 (f n) shapeCasts_S64x128_S1x64x128)
    (x : (Rect.unit (s := S32x64x128) off S1x64x128.size inb).shape.Idx) :
    w x = planes f ((Rect.unit (s := S32x64x128) off S1x64x128.size inb).emb x) := by
  subst hw
  subst hoff
  have x0 : (x 0).val < 1 := (x 0).isLt
  have e0 : (((Rect.unit (s := S32x64x128) ![n, 0, 0] S1x64x128.size inb).emb x) 0).val = n := by
    show n + 1 * (x 0).val = n
    omega
  unfold planes
  rw [e0]
  have e : (ix2 (((Rect.unit (s := S32x64x128) ![n, 0, 0] S1x64x128.size inb).emb x) 1) (((Rect.unit (s := S32x64x128) ![n, 0, 0] S1x64x128.size inb).emb x) 2) : S64x128.Idx)
      = ix2 (x 1) (x 2) := by
    refine congrArg₂ ix2 (Fin.ext ?_) (Fin.ext ?_)
    · show 0 + 1 * (x 1).val = (x 1).val
      omega
    · show 0 + 1 * (x 2).val = (x 2).val
      omega
  rw [e]
  show shapeCast S1x64x128 (f n) shapeCasts_S64x128_S1x64x128 (x : S1x64x128.Idx) = _
  pointwise

theorem plane_mem (y : S32x64x128.Idx) (n : ℕ) (hn : (y 0).val = n) (off : Fin 3 → ℕ) (hoff : off = ![n, 0, 0])
    (inb : ∀ a, off a + S1x64x128.size a ≤ S32x64x128.size a) :
    y ∈ (Rect.unit (s := S32x64x128) off S1x64x128.size inb).set := by
  subst hoff
  rw [Rect.mem_set_unit]
  intro a
  have y1 : (y 1).val < 64 := (y 1).isLt
  have y2 : (y 2).val < 128 := (y 2).isLt
  match a with
  | ⟨0, _⟩ => show n ≤ (y 0).val ∧ (y 0).val < n + 1; omega
  | ⟨1, _⟩ => show 0 ≤ (y 1).val ∧ (y 1).val < 0 + 64; omega
  | ⟨2, _⟩ => show 0 ≤ (y 2).val ∧ (y 2).val < 0 + 128; omega

theorem plane_not_mem (y : S32x64x128.Idx) (n : ℕ) (hn : (y 0).val ≠ n) (off : Fin 3 → ℕ) (hoff : off = ![n, 0, 0])
    (inb : ∀ a, off a + S1x64x128.size a ≤ S32x64x128.size a) :
    y ∉ (Rect.unit (s := S32x64x128) off S1x64x128.size inb).set := by
  subst hoff
  rw [Rect.mem_set_unit]
  intro h
  have := h 0
  have h' : n ≤ (y 0).val ∧ (y 0).val < n + 1 := this
  omega

section
variable (𝒱 : Variants) (c : Dev nD) (bd : Option 𝒱.V) (i : grid0.Coords)
  (arg1 : Memref sig .tc .vmem S32x32x128 .f32) (harg1 : arg1.IsWhole) (arg2 : Memref sig .tc .vmem S1x32x128 .f32) (harg2 : arg2.IsWhole)
  (arg3 : Memref sig .tc .vmem S32x32x128 .f32) (harg3 : arg3.IsWhole) (arg4 : Memref sig .tc .vmem S32x32x128 .f32) (harg4 : arg4.IsWhole)
  (arg5 : Memref sig .tc .vmem S32x32x128 .f32) (harg5 : arg5.IsWhole) (arg6 : Memref sig .tc .vmem S1x32x128 .f32) (harg6 : arg6.IsWhole)
  (arg7 : Memref sig .tc .vmem S32x64x128 .f32) (harg7 : arg7.IsWhole) (arg8 : Memref sig .tc .vmem S32x64x128 .f32) (harg8 : arg8.IsWhole)
  (arg9 : Memref sig .tc .vmem S32x64x128 .f32) (harg9 : arg9.IsWhole) (arg10 : Memref sig .tc .vmem S64x128 .f32) (harg10 : arg10.IsWhole)
  (X1 : BufTy.Contents (Elt F) arg1.view.ty) (X3 : BufTy.Contents (Elt F) arg3.view.ty) (X4 : BufTy.Contents (Elt F) arg4.view.ty)
  (X5 : BufTy.Contents (Elt F) arg5.view.ty) (X7 : BufTy.Contents (Elt F) arg7.view.ty) (k : Fin k0_t1_loop.trips)
  (acc : Vec F S64x128 .f32) (f8 : BufTy.Contents (Elt F) arg8.view.ty) (f9 : BufTy.Contents (Elt F) arg9.view.ty)

set_option maxHeartbeats 1000000 in
theorem tripR_eq : tripR_k0_t1 𝒱 c bd i arg1 harg1 arg2 harg2 arg3 harg3 arg4 harg4 arg5 harg5 arg6 harg6 arg7 harg7 arg8 harg8 arg9 harg9 arg10 harg10 X1 X3 X4 X5 X7 k acc f8 f9
    = chainV (fun kx => mulf (newK acc (arg7.view.read (Elt F) X7) (arg9.view.read (Elt F) f9) (arg4.view.read (Elt F) X4) (arg3.view.read (Elt F) X3) k.val kx)
        (bc (rowOf (arg1.view.read (Elt F) X1) (k.val + 1) kx))) 31 := by
  unfold tripR_k0_t1 trip_k0_t1
  dsimp only
  sl_unfold_run_names
  simp (config := { index := false }) only [ldRow, ldPlane]
  simp only [k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq, k0_off59_eq, k0_off60_eq, k0_off61_eq, k0_off62_eq, k0_off63_eq, k0_off64_eq, k0_off65_eq, Matrix.cons_val_zero, Matrix.cons_val_one]
  unfold_payloads
  simp only [chainV, newK, nw, bc]
  unfold_payloads

  rfl

set_option maxHeartbeats 1000000 in
theorem trip8_eq : arg8.view.read (Elt F) (arg8.view.writes (Elt F) f8 (tripL_k0_t1 𝒱 c bd i arg1 harg1 arg2 harg2 arg3 harg3 arg4 harg4 arg5 harg5 arg6 harg6 arg7 harg7 arg8 harg8 arg9 harg9 arg10 harg10 X1 X3 X4 X5 X7 k acc f8 f9).1)
    = fun y => if (y 0).val = k.val then
        chainV (fun kx => mulf (newK acc (arg7.view.read (Elt F) X7) (arg9.view.read (Elt F) f9) (arg4.view.read (Elt F) X4) (arg3.view.read (Elt F) X3) k.val kx) (bc (rowOf (arg5.view.read (Elt F) X5) k.val kx))) 31 (ix2 (y 1) (y 2))
      else arg8.view.read (Elt F) f8 y := by
  unfold tripL_k0_t1 trip_k0_t1
  dsimp only
  sl_unfold_run_names
  funext y
  by_cases h : (y 0).val = k.val
  · rw [if_pos h]
    refine (View.read_writes_apply_of_pieces (Val := Elt F) (e := .f32) _ _ (planes fun _ => chainV (fun kx => mulf (newK acc (arg7.view.read (Elt F) X7) (arg9.view.read (Elt F) f9) (arg4.view.read (Elt F) X4) (arg3.view.read (Elt F) X3) k.val kx) (bc (rowOf (arg5.view.read (Elt F) X5) k.val kx))) 31) _ ?_ y
      ⟨_, List.mem_singleton.mpr rfl, plane_mem y k.val h _ (k0_off1_eq k) (k0_off1_inb k)⟩).trans rfl
    intro p hp
    obtain rfl := List.mem_singleton.mp hp
    refine plane_piece _ k.val _ (k0_off1_eq k) (k0_off1_inb k) _ ?_
    simp (config := { index := false }) only [ldRow, ldPlane]
    simp only [k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq, k0_off59_eq, k0_off60_eq, k0_off61_eq, k0_off62_eq, k0_off63_eq, k0_off64_eq, k0_off65_eq, Matrix.cons_val_zero, Matrix.cons_val_one]
    unfold_payloads
    simp only [chainV, newK, nw, bc]
    unfold_payloads
    rfl
  · rw [if_neg h]
    rw [View.read_writes_cons_miss _ _ _ _ _ (plane_not_mem y k.val h _ (k0_off1_eq k) (k0_off1_inb k))]
    rfl

set_option maxHeartbeats 1000000 in
set_option maxRecDepth 65536 in
theorem trip9_eq : arg9.view.read (Elt F) (arg9.view.writes (Elt F) f9 (tripL_k0_t1 𝒱 c bd i arg1 harg1 arg2 harg2 arg3 harg3 arg4 harg4 arg5 harg5 arg6 harg6 arg7 harg7 arg8 harg8 arg9 harg9 arg10 harg10 X1 X3 X4 X5 X7 k acc f8 f9).2)
    = planes (newK acc (arg7.view.read (Elt F) X7) (arg9.view.read (Elt F) f9) (arg4.view.read (Elt F) X4) (arg3.view.read (Elt F) X3) k.val) := by
  unfold tripL_k0_t1 trip_k0_t1
  dsimp only
  sl_unfold_run_names
  funext y
  refine View.read_writes_apply_of_pieces (Val := Elt F) (e := .f32) _ _ (planes (newK acc (arg7.view.read (Elt F) X7) (arg9.view.read (Elt F) f9) (arg4.view.read (Elt F) X4) (arg3.view.read (Elt F) X3) k.val)) _ ?_ y ?_
  · simp only [List.forall_mem_cons]
    simp (config := { index := false }) only [ldRow, ldPlane]
    simp only [k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq, k0_off59_eq, k0_off60_eq, k0_off61_eq, k0_off62_eq, k0_off63_eq, k0_off64_eq, k0_off65_eq, Matrix.cons_val_zero, Matrix.cons_val_one]
    unfold_payloads
    repeat' apply And.intro
    on_goal -1 => exact fun _ h => absurd h List.not_mem_nil
    all_goals (refine plane_piece _ _ _ rfl _ _ ?_; simp only [newK, nw, bc]; unfold_payloads; rfl)
  · have hy : (y 0).val < 32 := (y 0).isLt
    simp only [List.exists_mem_cons_iff]
    generalize hn : (y 0).val = n at hy
    interval_cases n
    all_goals (repeat (first | with_reducible exact Or.inl (plane_mem y _ hn _ rfl _) | with_reducible refine Or.inr ?_))

end
end Cert.KernelIdeal.Scan
-- ==== Proof.Chunk.lean ====
module

public import proofs.«01_k».proof.Proof.Trip

@[expose] public section

noncomputable section

open Idealize.ShloMosaic Idealize.ShloMosaic.TcCoe Idealize.SL.Sem

namespace Cert.KernelIdeal.Scan

open Cert.KernelIdeal Cert.KernelIdeal.Gen

variable {F : FTy → Type} [FloatOps F]

/-- Key row `kx` of a one-row block, as the body loads it. -/
def rowOf1 (P : FVec F S1x32x128 .f32) (kx : ℕ) : Vec F S1x1x128 .f32 := fun j => P (ix3 0 (Fin.ofNat 32 kx) (j 2))

/-- The half sums and the state before step `n` of a chunk, from those it starts with. -/
def loopSt (A B K : FVec F S32x32x128 .f32) (V : FVec F S32x64x128 .f32) (a0 : FVec F S64x128 .f32) (S0 : FVec F S32x64x128 .f32) :
    ℕ → FVec F S64x128 .f32 × FVec F S32x64x128 .f32
  | 0 => (a0, S0)
  | n + 1 =>
    (chainV (fun kx => mulf (newK (loopSt A B K V a0 S0 n).1 V (loopSt A B K V a0 S0 n).2 K B n kx) (bc (rowOf A (n + 1) kx))) 31,
      planes (newK (loopSt A B K V a0 S0 n).1 V (loopSt A B K V a0 S0 n).2 K B n))

/-- Key `kx`'s plane of the state after step `n`, before any rescaling. -/
def stepNew (A B K : FVec F S32x32x128 .f32) (V : FVec F S32x64x128 .f32) (a0 : FVec F S64x128 .f32) (S0 : FVec F S32x64x128 .f32) (n kx : ℕ) :
    FVec F S64x128 .f32 :=
  newK (loopSt A B K V a0 S0 n).1 V (loopSt A B K V a0 S0 n).2 K B n kx

/-- Step `n`'s output. -/
def stepY (A B K R : FVec F S32x32x128 .f32) (V : FVec F S32x64x128 .f32) (a0 : FVec F S64x128 .f32) (S0 : FVec F S32x64x128 .f32) (n : ℕ) :
    FVec F S64x128 .f32 :=
  chainV (fun kx => mulf (stepNew A B K V a0 S0 n kx) (bc (rowOf R n kx))) 31

/-- The chunk's output block. -/
def chunkY (A B K R : FVec F S32x32x128 .f32) (V : FVec F S32x64x128 .f32) (a0 : FVec F S64x128 .f32) (S0 : FVec F S32x64x128 .f32) :
    FVec F S32x64x128 .f32 :=
  planes (stepY A B K R V a0 S0)

/-- The state the chunk ends with: the last step's, each key scaled by its decay over the chunk. -/
def chunkS (A B K : FVec F S32x32x128 .f32) (P : FVec F S1x32x128 .f32) (V : FVec F S32x64x128 .f32) (a0 : FVec F S64x128 .f32) (S0 : FVec F S32x64x128 .f32) :
    FVec F S32x64x128 .f32 :=
  planes (fun kx => mulf (stepNew A B K V a0 S0 31 kx) (bc (rowOf1 P kx)))

/-- The half sums the chunk ends with. -/
def chunkA (A B K : FVec F S32x32x128 .f32) (P N : FVec F S1x32x128 .f32) (V : FVec F S32x64x128 .f32) (a0 : FVec F S64x128 .f32) (S0 : FVec F S32x64x128 .f32) :
    FVec F S64x128 .f32 :=
  chainV (fun kx => mulf (mulf (stepNew A B K V a0 S0 31 kx) (bc (rowOf1 P kx))) (bc (rowOf1 N kx))) 31

section
variable (𝒱 : Variants) (c : Dev nD) (bd : Option 𝒱.V) (i : grid0.Coords)
  (arg1 : Memref sig .tc .vmem S32x32x128 .f32) (harg1 : arg1.IsWhole) (arg2 : Memref sig .tc .vmem S1x32x128 .f32) (harg2 : arg2.IsWhole)
  (arg3 : Memref sig .tc .vmem S32x32x128 .f32) (harg3 : arg3.IsWhole) (arg4 : Memref sig .tc .vmem S32x32x128 .f32) (harg4 : arg4.IsWhole)
  (arg5 : Memref sig .tc .vmem S32x32x128 .f32) (harg5 : arg5.IsWhole) (arg6 : Memref sig .tc .vmem S1x32x128 .f32) (harg6 : arg6.IsWhole)
  (arg7 : Memref sig .tc .vmem S32x64x128 .f32) (harg7 : arg7.IsWhole) (arg8 : Memref sig .tc .vmem S32x64x128 .f32) (harg8 : arg8.IsWhole)
  (arg9 : Memref sig .tc .vmem S32x64x128 .f32) (harg9 : arg9.IsWhole) (arg10 : Memref sig .tc .vmem S64x128 .f32) (harg10 : arg10.IsWhole)
  (X1 : BufTy.Contents (Elt F) arg1.view.ty) (X3 : BufTy.Contents (Elt F) arg3.view.ty) (X4 : BufTy.Contents (Elt F) arg4.view.ty)
  (X5 : BufTy.Contents (Elt F) arg5.view.ty) (X7 : BufTy.Contents (Elt F) arg7.view.ty)
  (a0 : Vec F S64x128 .f32) (f8 : BufTy.Contents (Elt F) arg8.view.ty) (f9 : BufTy.Contents (Elt F) arg9.view.ty)

/-- The loop's state before trip `n`: the half sums, the output rows written so far, the state planes. -/
theorem loop_eq (n : ℕ) (hn : n ≤ 31) :
    (st_k0_t1 𝒱 c bd i arg1 harg1 arg2 harg2 arg3 harg3 arg4 harg4 arg5 harg5 arg6 harg6 arg7 harg7 arg8 harg8 arg9 harg9 arg10 harg10 X1 X3 X4 X5 X7 f8 f9 a0 n).1
        = (loopSt (arg1.view.read (Elt F) X1) (arg3.view.read (Elt F) X3) (arg4.view.read (Elt F) X4) (arg7.view.read (Elt F) X7) a0 (arg9.view.read (Elt F) f9) n).1
      ∧ arg9.view.read (Elt F) (arg9.view.writes (Elt F) f9 (st_k0_t1 𝒱 c bd i arg1 harg1 arg2 harg2 arg3 harg3 arg4 harg4 arg5 harg5 arg6 harg6 arg7 harg7 arg8 harg8 arg9 harg9 arg10 harg10 X1 X3 X4 X5 X7 f8 f9 a0 n).2.2)
        = (loopSt (arg1.view.read (Elt F) X1) (arg3.view.read (Elt F) X3) (arg4.view.read (Elt F) X4) (arg7.view.read (Elt F) X7) a0 (arg9.view.read (Elt F) f9) n).2
      ∧ arg8.view.read (Elt F) (arg8.view.writes (Elt F) f8 (st_k0_t1 𝒱 c bd i arg1 harg1 arg2 harg2 arg3 harg3 arg4 harg4 arg5 harg5 arg6 harg6 arg7 harg7 arg8 harg8 arg9 harg9 arg10 harg10 X1 X3 X4 X5 X7 f8 f9 a0 n).2.1)
        = fun y => if (y 0).val < n then
            stepY (arg1.view.read (Elt F) X1) (arg3.view.read (Elt F) X3) (arg4.view.read (Elt F) X4) (arg5.view.read (Elt F) X5) (arg7.view.read (Elt F) X7) a0 (arg9.view.read (Elt F) f9) (y 0).val (ix2 (y 1) (y 2))
          else arg8.view.read (Elt F) f8 y := by
  induction n with
  | zero => exact ⟨rfl, rfl, by funext y; rw [if_neg (Nat.not_lt_zero _)]; rfl⟩
  | succ n ih =>
    obtain ⟨h1, h2, h3⟩ := ih (by omega)
    have ht : k0_t1_loop.trips = 31 := by decide
    have hs := st_k0_t1_succ 𝒱 c bd i arg1 harg1 arg2 harg2 arg3 harg3 arg4 harg4 arg5 harg5 arg6 harg6 arg7 harg7 arg8 harg8 arg9 harg9 arg10 harg10 X1 X3 X4 X5 X7 f8 f9 a0 ⟨n, by omega⟩
    dsimp only at hs
    rw [hs]
    refine ⟨?_, ?_, ?_⟩
    · dsimp only
      rw [tripR_eq, h1, h2]
      rfl
    · dsimp only
      rw [View.writes_append, trip9_eq, h1, h2]
      rfl
    · dsimp only
      rw [View.writes_append, trip8_eq, h1, h2, h3]
      funext y
      rcases lt_trichotomy (y 0).val n with h | h | h
      · exact (if_neg (by dsimp only; omega)).trans ((if_pos h).trans (if_pos (by omega)).symm)
      · refine (if_pos h).trans (Eq.trans ?_ (if_pos (by omega)).symm)
        rw [h]
        rfl
      · refine (if_neg (by dsimp only; omega)).trans ((if_neg (by omega)).trans (if_neg (by omega)).symm)
end

end Cert.KernelIdeal.Scan
-- ==== Proof.Body.lean ====
module

public import proofs.«01_k».proof.Proof.Chunk

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Scan

open Cert.KernelIdeal Cert.KernelIdeal.Gen

variable {F : FTy → Type} [FloatOps F]

local notation "𝕄" => MT nD τ sig Unit (Elt F) ℕ (UR sig nD τ) ℕ

/-- The body's test that the point is the first. -/
abbrev isFirst (i : grid0.Coords) : Prop :=
  Scalar.cmpi .ne ((Scalar.extui (Scalar.cmpi .eq (BitVec.ofNat 32 (i 0).val) 0#32) : BitVec 32)) 0#32 = 1#1

/-- The first point's lines: both scratch buffers filled with zeros, then `p`. -/
def zeroThen (arg9 : Memref sig .tc .vmem S32x64x128 .f32) (arg10 : Memref sig .tc .vmem S64x128 .f32)
    (p : Prog (TpuEff nD τ sig (Elt F) Λ₀ .tc) PUnit) : Prog (TpuEff nD τ sig (Elt F) Λ₀ .tc) PUnit := do
  let _ ← Prog.lift (.load arg9 (Rect.unit (s := S32x64x128) ![0, 0, 0] S32x64x128.size inb_S32x64x128_S32x64x128_0_0_0).toLoadRect (View.loadsAt_vmem h_S32x64x128))
  Prog.lift (.store arg9 (Rect.unit (s := S32x64x128) ![0, 0, 0] S32x64x128.size inb_S32x64x128_S32x64x128_0_0_0) (k0_pay143 (F := F)) Finset.univ (View.stores_vmem_bits_univ h_S32x64x128 rfl) (.inl rfl))
  let _ ← Prog.lift (.load arg10 (Rect.unit (s := S64x128) ![0, 0] S64x128.size inb_S64x128_S64x128_0_0).toLoadRect (View.loadsAt_vmem h_S64x128))
  Prog.lift (.store arg10 (Rect.unit (s := S64x128) ![0, 0] S64x128.size inb_S64x128_S64x128_0_0) (k0_pay144 (F := F)) Finset.univ (View.stores_vmem_bits_univ h_S64x128 rfl) (.inl rfl))
  p

set_option maxHeartbeats 4000000 in
set_option maxRecDepth 65536 in
/-- The body past the zero fill, which only the first point runs. -/
noncomputable def restProg (i : grid0.Coords)
    (arg1 : Memref sig .tc .vmem S32x32x128 .f32) (harg1 : arg1.IsWhole) (arg2 : Memref sig .tc .vmem S1x32x128 .f32) (harg2 : arg2.IsWhole)
    (arg3 : Memref sig .tc .vmem S32x32x128 .f32) (harg3 : arg3.IsWhole) (arg4 : Memref sig .tc .vmem S32x32x128 .f32) (harg4 : arg4.IsWhole)
    (arg5 : Memref sig .tc .vmem S32x32x128 .f32) (harg5 : arg5.IsWhole) (arg6 : Memref sig .tc .vmem S1x32x128 .f32) (harg6 : arg6.IsWhole)
    (arg7 : Memref sig .tc .vmem S32x64x128 .f32) (harg7 : arg7.IsWhole) (arg8 : Memref sig .tc .vmem S32x64x128 .f32) (harg8 : arg8.IsWhole)
    (arg9 : Memref sig .tc .vmem S32x64x128 .f32) (harg9 : arg9.IsWhole) (arg10 : Memref sig .tc .vmem S64x128 .f32) (harg10 : arg10.IsWhole) :
    { p : Prog (TpuEff nD τ sig (Elt F) Λ₀ .tc) PUnit //
      cc0_rwkv_scan (F := F) i arg1 harg1 arg2 harg2 arg3 harg3 arg4 harg4 arg5 harg5 arg6 harg6 arg7 harg7 arg8 harg8 arg9 harg9 arg10 harg10 = if isFirst i then zeroThen arg9 arg10 p else p } := by
  refine ⟨?_, ?eq⟩
  case eq =>
    rw [cc0_rwkv_scan_eq_skeleton]
    unfold cc0_rwkv_scan_skel
    rw [k0_part28_eq_skeleton]
    unfold k0_part28_skel
    dsimp only
    by_cases h : ¬ isFirst i
    · rw [dif_neg h, if_neg h]
    · rw [dif_pos (not_not.mp h), if_pos (not_not.mp h)]
      unfold zeroThen
      simp only [bind_assoc]
      rfl

set_option maxHeartbeats 4000000 in
/-- The rest of the body from the point's blocks and from what the two scratch buffers hold: what it leaves in the output
    and in the scratch. -/
noncomputable def restRun (c : Dev nD) (i : grid0.Coords)
    (arg1 : Memref sig .tc .vmem S32x32x128 .f32) (harg1 : arg1.IsWhole) (arg2 : Memref sig .tc .vmem S1x32x128 .f32) (harg2 : arg2.IsWhole)
    (arg3 : Memref sig .tc .vmem S32x32x128 .f32) (harg3 : arg3.IsWhole) (arg4 : Memref sig .tc .vmem S32x32x128 .f32) (harg4 : arg4.IsWhole)
    (arg5 : Memref sig .tc .vmem S32x32x128 .f32) (harg5 : arg5.IsWhole) (arg6 : Memref sig .tc .vmem S1x32x128 .f32) (harg6 : arg6.IsWhole)
    (arg7 : Memref sig .tc .vmem S32x64x128 .f32) (harg7 : arg7.IsWhole) (arg8 : Memref sig .tc .vmem S32x64x128 .f32) (harg8 : arg8.IsWhole)
    (arg9 : Memref sig .tc .vmem S32x64x128 .f32) (harg9 : arg9.IsWhole) (arg10 : Memref sig .tc .vmem S64x128 .f32) (harg10 : arg10.IsWhole)
    (X1 : BufTy.Contents (Elt F) arg1.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) :
    Σ' (Y8 : BufTy.Contents (Elt F) arg8.view.ty) (Y9 : BufTy.Contents (Elt F) arg9.view.ty), { Y10 : BufTy.Contents (Elt F) arg10.view.ty //
      ∀ (E : Set ℕ) (K : PUnit → sProp 𝕄),
        iprop((arg1.view.loc (c : Thread nD τ) ↦[arg1.view.set]{fullShare} X1) ∗ (arg2.view.loc (c : Thread nD τ) ↦[arg2.view.set]{fullShare} X2)
            ∗ (arg3.view.loc (c : Thread nD τ) ↦[arg3.view.set]{fullShare} X3) ∗ (arg4.view.loc (c : Thread nD τ) ↦[arg4.view.set]{fullShare} X4)
            ∗ (arg5.view.loc (c : Thread nD τ) ↦[arg5.view.set]{fullShare} X5) ∗ (arg6.view.loc (c : Thread nD τ) ↦[arg6.view.set]{fullShare} X6)
            ∗ (arg7.view.loc (c : Thread nD τ) ↦[arg7.view.set]{fullShare} X7) ∗ (arg8.view.loc (c : Thread nD τ) ↦[arg8.view.set]{fullShare} f8)
            ∗ (arg9.view.loc (c : Thread nD τ) ↦[arg9.view.set]{fullShare} f9) ∗ (arg10.view.loc (c : Thread nD τ) ↦[arg10.view.set]{fullShare} f10)
            ∗ (iprop((arg1.view.loc (c : Thread nD τ) ↦[arg1.view.set]{fullShare} X1) ∗ (arg2.view.loc (c : Thread nD τ) ↦[arg2.view.set]{fullShare} X2)
            ∗ (arg3.view.loc (c : Thread nD τ) ↦[arg3.view.set]{fullShare} X3) ∗ (arg4.view.loc (c : Thread nD τ) ↦[arg4.view.set]{fullShare} X4)
            ∗ (arg5.view.loc (c : Thread nD τ) ↦[arg5.view.set]{fullShare} X5) ∗ (arg6.view.loc (c : Thread nD τ) ↦[arg6.view.set]{fullShare} X6)
            ∗ (arg7.view.loc (c : Thread nD τ) ↦[arg7.view.set]{fullShare} X7) ∗ (arg8.view.loc (c : Thread nD τ) ↦[arg8.view.set]{fullShare} Y8)
            ∗ (arg9.view.loc (c : Thread nD τ) ↦[arg9.view.set]{fullShare} Y9) ∗ (arg10.view.loc (c : Thread nD τ) ↦[arg10.view.set]{fullShare} Y10)) -∗ K ⟨⟩))
          ⊢ wp frame (wpE (defs₀ (F := F)) Variants.none c none) E
              (restProg (F := F) i arg1 harg1 arg2 harg2 arg3 harg3 arg4 harg4 arg5 harg5 arg6 harg6 arg7 harg7 arg8 harg8 arg9 harg9 arg10 harg10).1 K } := by
  refine ⟨?_, ?_, ?_, fun E K => ?run⟩
  case run =>
    unfold restProg; simp only [bind_assoc]
    iintro ⟨H1, H2, H3, H4, H5, H6, H7, H8, H9, H10, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.KernelIdeal.Scan
-- ==== Proof.BodyVal.lean ====
module

public import proofs.«01_k».proof.Proof.Body

@[expose] public section

noncomputable section

open Idealize.ShloMosaic Idealize.ShloMosaic.TcCoe Idealize.ShloMosaic.Tactic Idealize.SL.Sem

namespace Cert.KernelIdeal.Scan

open Cert.KernelIdeal Cert.KernelIdeal.Gen

variable {F : FTy → Type} [FloatOps F]

theorem ldRow1 (m : Memref sig .tc .vmem S1x32x128 .f32) (X : BufTy.Contents (Elt F) m.view.ty) (off : Fin 3 → ℕ)
    (inb : ∀ a, off a + S1x1x128.size a ≤ S1x32x128.size a) :
    View.readAt (Elt F) m.view (Rect.unit (s := S1x32x128) off S1x1x128.size inb).toLoadRect X
      = rowOf1 (m.view.read (Elt F) X) (off 1) := by
  have h0 : off 0 + 1 ≤ 1 := inb 0
  have h1 : off 1 + 1 ≤ 32 := inb 1
  have h2 : off 2 + 128 ≤ 128 := inb 2
  funext j
  have j0 : (j 0).val < 1 := (j 0).isLt
  have j1 : (j 1).val < 1 := (j 1).isLt
  rw [View.readAt_eq_ld]
  unfold rowOf1
  show m.view.read (Elt F) X _ = m.view.read (Elt F) X _
  congr 1
  funext a
  match a with
  | ⟨0, _⟩ => exact Fin.ext (by show off 0 + 1 * (j 0).val = 0; omega)
  | ⟨1, _⟩ => exact fin_ofNat_eq (n := 32) _ _ (by show off 1 + 1 * (j 1).val = _; omega)
  | ⟨2, _⟩ => exact Fin.ext (by show off 2 + 1 * (j 2).val = (j 2).val; omega)

theorem ldFlat (m : Memref sig .tc .vmem S64x128 .f32) (X : BufTy.Contents (Elt F) m.view.ty)
    (inb : ∀ a, ![0, 0] a + S64x128.size a ≤ S64x128.size a) :
    View.readAt (Elt F) m.view (Rect.unit (s := S64x128) ![0, 0] S64x128.size inb).toLoadRect X
      = m.view.read (Elt F) X := by
  funext j
  rw [View.readAt_eq_ld]
  show m.view.read (Elt F) X _ = m.view.read (Elt F) X _
  congr 1
  funext a
  match a with
  | ⟨0, _⟩ => exact Fin.ext (by show 0 + 1 * (j 0).val = (j 0).val; omega)
  | ⟨1, _⟩ => exact Fin.ext (by show 0 + 1 * (j 1).val = (j 1).val; omega)

/-- A plane read past a store of another plane. -/
theorem planeOf_miss (m : Memref sig .tc .vmem S32x64x128 .f32) (f : BufTy.Contents (Elt F) m.view.ty)
    (L : List (View.Piece (Elt F) S32x64x128 .f32)) (n k : ℕ)
    (inb : ∀ a, ![n, 0, 0] a + S1x64x128.size a ≤ S32x64x128.size a) (w : FVec F S1x64x128 .f32) (hk : k < 32) (h : k ≠ n) :
    planeOf (m.view.read (Elt F) (m.view.writes (Elt F) f (⟨Rect.unit (s := S32x64x128) ![n, 0, 0] S1x64x128.size inb, w⟩ :: L))) k
      = planeOf (m.view.read (Elt F) (m.view.writes (Elt F) f L)) k := by
  funext j
  unfold planeOf
  refine View.read_writes_cons_miss _ _ _ _ _ (plane_not_mem _ n ?_ _ rfl inb)
  show (Fin.ofNat 32 k).val ≠ n
  simp only [Fin.ofNat, Nat.mod_eq_of_lt hk]
  exact h

theorem read_flat (m : Memref sig .tc .vmem S64x128 .f32) (f : BufTy.Contents (Elt F) m.view.ty)
    (inb : ∀ a, ![0, 0] a + S64x128.size a ≤ S64x128.size a) (w : FVec F S64x128 .f32) :
    m.view.read (Elt F) (m.view.writes (Elt F) f [⟨Rect.unit (s := S64x128) ![0, 0] S64x128.size inb, w⟩]) = w := by
  funext y
  refine View.read_writes_apply_of_pieces (Val := Elt F) (e := .f32) _ _ w _ ?_ y ?_
  · intro p hp x
    rcases List.mem_singleton.mp hp with rfl
    show w x = w _
    congr 1
    funext a
    match a with
    | ⟨0, _⟩ => exact Fin.ext (by show (x 0).val = 0 + 1 * (x 0).val; omega)
    | ⟨1, _⟩ => exact Fin.ext (by show (x 1).val = 0 + 1 * (x 1).val; omega)
  · refine ⟨_, List.mem_singleton.mpr rfl, ?_⟩
    rw [Rect.mem_set_unit]
    intro a
    have y0 : (y 0).val < 64 := (y 0).isLt
    have y1 : (y 1).val < 128 := (y 1).isLt
    match a with
    | ⟨0, _⟩ => show 0 ≤ (y 0).val ∧ (y 0).val < 0 + 64; omega
    | ⟨1, _⟩ => show 0 ≤ (y 1).val ∧ (y 1).val < 0 + 128; omega

/-- A block read at an index after one more plane is stored: that plane, or what the block held. -/
theorem read_plane_cons (m : Memref sig .tc .vmem S32x64x128 .f32) (f : BufTy.Contents (Elt F) m.view.ty)
    (L : List (View.Piece (Elt F) S32x64x128 .f32)) (n : ℕ) (G : ℕ → FVec F S64x128 .f32) (y : S32x64x128.Idx)
    (inb : ∀ a, ![n, 0, 0] a + S1x64x128.size a ≤ S32x64x128.size a) (w : FVec F S1x64x128 .f32)
    (hw : w = shapeCast S1x64x128 (G n) shapeCasts_S64x128_S1x64x128)
    (hrest : (y 0).val ≠ n → m.view.read (Elt F) (m.view.writes (Elt F) f L) y = planes G y) :
    m.view.read (Elt F) (m.view.writes (Elt F) f (⟨Rect.unit (s := S32x64x128) ![n, 0, 0] S1x64x128.size inb, w⟩ :: L)) y = planes G y := by
  by_cases h : (y 0).val = n
  · obtain ⟨x, rfl⟩ := (Rect.unit (s := S32x64x128) ![n, 0, 0] S1x64x128.size inb).exists_idx_of_mem (plane_mem y n h _ rfl inb)
    exact (View.read_writes_cons_emb _ _ _ _ _ x).trans (plane_piece G n _ rfl inb w hw x)
  · exact (View.read_writes_cons_miss _ _ _ _ _ (plane_not_mem y n h ![n, 0, 0] rfl inb)).trans (hrest h)

theorem pay3_eq (a b : FVec F S64x128 .f32) (r : Vec F S1x1x128 .f32) : k0_pay3 a b r = addf a (mulf b (bc r)) := by
  unfold k0_pay3
  dsimp only
  show shapeCast S64x128 (addf a (mulf b (bc r))) shapeCasts_S64x128_S64x128 = _
  generalize addf a (mulf b (bc r)) = x
  funext j
  pointwise

section
variable (c : Dev nD) (i : grid0.Coords)
    (arg1 : Memref sig .tc .vmem S32x32x128 .f32) (harg1 : arg1.IsWhole) (arg2 : Memref sig .tc .vmem S1x32x128 .f32) (harg2 : arg2.IsWhole)
    (arg3 : Memref sig .tc .vmem S32x32x128 .f32) (harg3 : arg3.IsWhole) (arg4 : Memref sig .tc .vmem S32x32x128 .f32) (harg4 : arg4.IsWhole)
    (arg5 : Memref sig .tc .vmem S32x32x128 .f32) (harg5 : arg5.IsWhole) (arg6 : Memref sig .tc .vmem S1x32x128 .f32) (harg6 : arg6.IsWhole)
    (arg7 : Memref sig .tc .vmem S32x64x128 .f32) (harg7 : arg7.IsWhole) (arg8 : Memref sig .tc .vmem S32x64x128 .f32) (harg8 : arg8.IsWhole)
    (arg9 : Memref sig .tc .vmem S32x64x128 .f32) (harg9 : arg9.IsWhole) (arg10 : Memref sig .tc .vmem S64x128 .f32) (harg10 : arg10.IsWhole)
    (X1 : BufTy.Contents (Elt F) arg1.view.ty) (X2 : BufTy.Contents (Elt F) arg2.view.ty)
    (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty)

set_option maxHeartbeats 1000000 in
set_option maxRecDepth 65536 in
/-- What the rest of the body leaves in the half sums. -/
theorem rest10_eq : arg10.view.read (Elt F) (restRun c i arg1 harg1 arg2 harg2 arg3 harg3 arg4 harg4 arg5 harg5 arg6 harg6 arg7 harg7 arg8 harg8 arg9 harg9 arg10 harg10 X1 X2 X3 X4 X5 X6 X7 f8 f9 f10).2.2.1
    = chunkA (arg1.view.read (Elt F) X1) (arg3.view.read (Elt F) X3) (arg4.view.read (Elt F) X4) (arg6.view.read (Elt F) X6) (arg2.view.read (Elt F) X2)
        (arg7.view.read (Elt F) X7) (arg10.view.read (Elt F) f10) (arg9.view.read (Elt F) f9) := by
  unfold restRun
  dsimp only
  sl_unfold_run_names
  simp (config := { index := false }) only [ldRow, ldPlane, ldRow1, ldFlat]
  simp only [Matrix.cons_val_zero, Matrix.cons_val_one]
  simp (config := { index := false, decide := true }) only [planeOf_miss]
  simp (config := { index := false }) only [read_flat]
  generalize hw : Scf.trips _ _ _ = n
  have hn : n = 31 := by rw [← hw]; decide
  obtain ⟨e1, e2, e3⟩ := loop_eq Variants.none c none i arg1 harg1 arg2 harg2 arg3 harg3 arg4 harg4 arg5 harg5 arg6 harg6 arg7 harg7 arg8 harg8 arg9 harg9 arg10 harg10 X1 X3 X4 X5 X7 (arg10.view.read (Elt F) f10) f8 f9 31 (by decide)
  rw [hn, e1, e2]
  unfold chunkA
  simp only [pay3_eq, chainV, stepNew, newK, nw, bc]
  unfold_payloads
  rfl
set_option maxHeartbeats 1000000 in
set_option maxRecDepth 65536 in
/-- What the rest of the body leaves in the state. -/
theorem rest9_eq : arg9.view.read (Elt F) (restRun c i arg1 harg1 arg2 harg2 arg3 harg3 arg4 harg4 arg5 harg5 arg6 harg6 arg7 harg7 arg8 harg8 arg9 harg9 arg10 harg10 X1 X2 X3 X4 X5 X6 X7 f8 f9 f10).2.1
    = chunkS (arg1.view.read (Elt F) X1) (arg3.view.read (Elt F) X3) (arg4.view.read (Elt F) X4) (arg6.view.read (Elt F) X6)
        (arg7.view.read (Elt F) X7) (arg10.view.read (Elt F) f10) (arg9.view.read (Elt F) f9) := by
  unfold restRun
  dsimp only
  sl_unfold_run_names
  simp (config := { index := false }) only [ldRow, ldPlane, ldRow1, ldFlat]
  simp only [Matrix.cons_val_zero, Matrix.cons_val_one]
  simp (config := { index := false, decide := true }) only [planeOf_miss]
  generalize hw : Scf.trips _ _ _ = n
  have hn : n = 31 := by rw [← hw]; decide
  obtain ⟨e1, e2, e3⟩ := loop_eq Variants.none c none i arg1 harg1 arg2 harg2 arg3 harg3 arg4 harg4 arg5 harg5 arg6 harg6 arg7 harg7 arg8 harg8 arg9 harg9 arg10 harg10 X1 X3 X4 X5 X7 (arg10.view.read (Elt F) f10) f8 f9 31 (by decide)
  rw [hn, e1, e2]
  unfold chunkS
  funext y
  have hy : (y 0).val < 32 := (y 0).isLt
  iterate 32 on_goal -1 => refine read_plane_cons _ _ _ _ _ y _ _ ?_ fun _ => ?_
  on_goal -1 => exfalso; omega
  all_goals
    simp only [stepNew, newK, nw, bc]
    unfold_payloads
    rfl

set_option maxHeartbeats 1000000 in
set_option maxRecDepth 65536 in
/-- What the rest of the body leaves in the output's block. -/
theorem rest8_eq : arg8.view.read (Elt F) (restRun c i arg1 harg1 arg2 harg2 arg3 harg3 arg4 harg4 arg5 harg5 arg6 harg6 arg7 harg7 arg8 harg8 arg9 harg9 arg10 harg10 X1 X2 X3 X4 X5 X6 X7 f8 f9 f10).1
    = chunkY (arg1.view.read (Elt F) X1) (arg3.view.read (Elt F) X3) (arg4.view.read (Elt F) X4) (arg5.view.read (Elt F) X5)
        (arg7.view.read (Elt F) X7) (arg10.view.read (Elt F) f10) (arg9.view.read (Elt F) f9) := by
  unfold restRun
  dsimp only
  sl_unfold_run_names
  simp (config := { index := false }) only [ldRow, ldPlane, ldRow1, ldFlat]
  simp only [Matrix.cons_val_zero, Matrix.cons_val_one]
  simp (config := { index := false, decide := true }) only [planeOf_miss]
  generalize hw : Scf.trips _ _ _ = n
  have hn : n = 31 := by rw [← hw]; decide
  obtain ⟨e1, e2, e3⟩ := loop_eq Variants.none c none i arg1 harg1 arg2 harg2 arg3 harg3 arg4 harg4 arg5 harg5 arg6 harg6 arg7 harg7 arg8 harg8 arg9 harg9 arg10 harg10 X1 X3 X4 X5 X7 (arg10.view.read (Elt F) f10) f8 f9 31 (by decide)
  rw [hn, e1, e2]
  unfold chunkY
  funext y
  have hy : (y 0).val < 32 := (y 0).isLt
  refine read_plane_cons _ _ _ _ _ y _ _ ?_ fun h => ?_
  · simp only [stepY, chainV, stepNew, newK, nw, bc]
    unfold_payloads
    rfl
  · rw [e3]
    exact if_pos (by show (y 0).val < 31; omega)
end

end Cert.KernelIdeal.Scan
-- ==== Proof.Run.lean ====
module

public import proofs.«01_k».proof.Proof.BodyVal
public import proofs.«01_k».proof.Proof.Gen.KernelIdeal.Frame
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

namespace Cert.KernelIdeal.Scan

open Cert.KernelIdeal Cert.KernelIdeal.Gen

variable {F : FTy → Type} [FloatOps F]

local notation "𝕄" => MT nD τ sig Unit (Elt F) ℕ (UR sig nD τ) ℕ

/-- A block read after the whole of it is stored is what was stored. -/
theorem read_full (m : Memref sig .tc .vmem S32x64x128 .f32) (f : BufTy.Contents (Elt F) m.view.ty)
    (inb : ∀ a, ![0, 0, 0] a + S32x64x128.size a ≤ S32x64x128.size a) (w : FVec F S32x64x128 .f32) :
    m.view.read (Elt F) (m.view.writes (Elt F) f [⟨Rect.unit (s := S32x64x128) ![0, 0, 0] S32x64x128.size inb, w⟩]) = w := by
  funext y
  refine View.read_writes_apply_of_pieces (Val := Elt F) (e := .f32) _ _ w _ ?_ y ?_
  · intro p hp x
    rcases List.mem_singleton.mp hp with rfl
    show w x = w _
    congr 1
    funext a
    match a with
    | ⟨0, _⟩ => exact Fin.ext (by show (x 0).val = 0 + 1 * (x 0).val; omega)
    | ⟨1, _⟩ => exact Fin.ext (by show (x 1).val = 0 + 1 * (x 1).val; omega)
    | ⟨2, _⟩ => exact Fin.ext (by show (x 2).val = 0 + 1 * (x 2).val; omega)
  · refine ⟨_, List.mem_singleton.mpr rfl, ?_⟩
    rw [Rect.mem_set_unit]
    intro a
    have y0 : (y 0).val < 32 := (y 0).isLt
    have y1 : (y 1).val < 64 := (y 1).isLt
    have y2 : (y 2).val < 128 := (y 2).isLt
    match a with
    | ⟨0, _⟩ => show 0 ≤ (y 0).val ∧ (y 0).val < 0 + 32; omega
    | ⟨1, _⟩ => show 0 ≤ (y 1).val ∧ (y 1).val < 0 + 64; omega
    | ⟨2, _⟩ => show 0 ≤ (y 2).val ∧ (y 2).val < 0 + 128; omega

/-- The zero fill, whatever program follows it. -/
theorem zero_run (c : Dev nD) (arg9 : Memref sig .tc .vmem S32x64x128 .f32) (harg9 : arg9.IsWhole)
    (arg10 : Memref sig .tc .vmem S64x128 .f32) (harg10 : arg10.IsWhole)
    (p : Prog (TpuEff nD τ sig (Elt F) Λ₀ .tc) PUnit) (E : Set ℕ) (K : PUnit → sProp 𝕄) :
    iprop((∃ d, owns (c : Thread nD τ) arg9 fullShare d) ∗ (∃ d, owns (c : Thread nD τ) arg10 fullShare d)
        ∗ (iprop(owns (c : Thread nD τ) arg9 fullShare (k0_pay143 (F := F)) ∗ owns (c : Thread nD τ) arg10 fullShare (k0_pay144 (F := F)))
          -∗ wp frame (wpE (defs₀ (F := F)) Variants.none c none) E p K))
      ⊢ wp frame (wpE (defs₀ (F := F)) Variants.none c none) E (zeroThen arg9 arg10 p) K := by
  unfold zeroThen owns
  iintro ⟨⟨%d9, %f9, %e9, H9⟩, ⟨%d10, %f10, %e10, H10⟩, Hk⟩
  sl_exec
  iapply Hk
  isplitl [H9]
  · iexists _; isplitr
    swap; · iexact H9
    ipureintro; exact read_full arg9 f9 _ _
  iexists _; isplitr
  swap; · iexact H10
  ipureintro; exact read_flat arg10 f10 _ _

/-- The body past the zero fill, from the blocks and the scratch to the chunk's output and the next scratch. -/
theorem rest_triple (c : Dev nD) (i : grid0.Coords)
    (arg1 : Memref sig .tc .vmem S32x32x128 .f32) (harg1 : arg1.IsWhole)
    (arg2 : Memref sig .tc .vmem S1x32x128 .f32) (harg2 : arg2.IsWhole)
    (arg3 : Memref sig .tc .vmem S32x32x128 .f32) (harg3 : arg3.IsWhole)
    (arg4 : Memref sig .tc .vmem S32x32x128 .f32) (harg4 : arg4.IsWhole)
    (arg5 : Memref sig .tc .vmem S32x32x128 .f32) (harg5 : arg5.IsWhole)
    (arg6 : Memref sig .tc .vmem S1x32x128 .f32) (harg6 : arg6.IsWhole)
    (arg7 : Memref sig .tc .vmem S32x64x128 .f32) (harg7 : arg7.IsWhole)
    (arg8 : Memref sig .tc .vmem S32x64x128 .f32) (harg8 : arg8.IsWhole)
    (arg9 : Memref sig .tc .vmem S32x64x128 .f32) (harg9 : arg9.IsWhole)
    (arg10 : Memref sig .tc .vmem S64x128 .f32) (harg10 : arg10.IsWhole)
    (x1 x3 x4 x5 : FVec F S32x32x128 .f32) (x2 x6 : FVec F S1x32x128 .f32) (x7 : FVec F S32x64x128 .f32)
    (a0 : FVec F S64x128 .f32) (S0 : FVec F S32x64x128 .f32) (E : Set ℕ) (K : PUnit → sProp 𝕄) :
    iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ (∃ d, owns (c : Thread nD τ) arg8 fullShare d)
            ∗ owns (c : Thread nD τ) arg9 fullShare S0
            ∗ owns (c : Thread nD τ) arg10 fullShare a0
            ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare (chunkY x1 x3 x4 x5 x7 a0 S0)
            ∗ owns (c : Thread nD τ) arg9 fullShare (chunkS x1 x3 x4 x6 x7 a0 S0)
            ∗ owns (c : Thread nD τ) arg10 fullShare (chunkA x1 x3 x4 x6 x2 x7 a0 S0)) -∗ K ⟨⟩))
      ⊢ wp frame (wpE (defs₀ (F := F)) Variants.none c none) E
          (restProg (F := F) i arg1 harg1 arg2 harg2 arg3 harg3 arg4 harg4 arg5 harg5 arg6 harg6 arg7 harg7 arg8 harg8 arg9 harg9 arg10 harg10).1 K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, %e8, H8⟩, ⟨%f9, %e9, H9⟩, ⟨%f10, %e10, H10⟩, Hk⟩
  subst e1 e2 e3 e4 e5 e6 e7 e9 e10
  iapply ((restRun c i arg1 harg1 arg2 harg2 arg3 harg3 arg4 harg4 arg5 harg5 arg6 harg6 arg7 harg7 arg8 harg8 arg9 harg9 arg10 harg10 f1 f2 f3 f4 f5 f6 f7 f8 f9 f10).2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, H8, H9, H10⟩
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; exact rest8_eq c i arg1 harg1 arg2 harg2 arg3 harg3 arg4 harg4 arg5 harg5 arg6 harg6 arg7 harg7 arg8 harg8 arg9 harg9 arg10 harg10 f1 f2 f3 f4 f5 f6 f7 f8 f9 f10
  isplitl [H9]
  · iexists _; isplitr
    swap; · iexact H9
    ipureintro; exact rest9_eq c i arg1 harg1 arg2 harg2 arg3 harg3 arg4 harg4 arg5 harg5 arg6 harg6 arg7 harg7 arg8 harg8 arg9 harg9 arg10 harg10 f1 f2 f3 f4 f5 f6 f7 f8 f9 f10
  iexists _; isplitr
  swap; · iexact H10
  ipureintro; exact rest10_eq c i arg1 harg1 arg2 harg2 arg3 harg3 arg4 harg4 arg5 harg5 arg6 harg6 arg7 harg7 arg8 harg8 arg9 harg9 arg10 harg10 f1 f2 f3 f4 f5 f6 f7 f8 f9 f10

variable (m : (ℓ : Loc nD τ sig) → Buf (Elt F) ℓ) (ρ : Dev nD → PrngReg)

abbrev ms0_0 (t : Fin cfg0.N) : Memref sig .tc .vmem S32x32x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x32x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x32x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x32x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x64x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x64x128 .f32 := win0_7.stage (cfg0.slots t 7)
abbrev hs0_7 (t : Fin cfg0.N) : (ms0_7 t).IsWhole := hstage0_7 ((cfg0.slots t 7).cast nbuf0_7)
abbrev scM0_0 : Memref sig .tc .vmem S32x64x128 .f32 := Memref.whole cc0_scratch0
abbrev scM0_1 : Memref sig .tc .vmem S64x128 .f32 := Memref.whole cc0_scratch1

/-- The half sums and the state before the `n`-th chunk: zeros, then what each chunk leaves. -/
def blkSt (c : Dev nD) : ℕ → FVec F S64x128 .f32 × FVec F S32x64x128 .f32
  | 0 => (k0_pay144 (F := F), k0_pay143 (F := F))
  | n + 1 =>
    if h : n < cfg0.N then
      (chunkA (iblk m c 0 ⟨n, h⟩) (iblk m c 2 ⟨n, h⟩) (iblk m c 3 ⟨n, h⟩) (iblk m c 5 ⟨n, h⟩) (iblk m c 1 ⟨n, h⟩) (iblk m c 6 ⟨n, h⟩) (blkSt c n).1 (blkSt c n).2,
        chunkS (iblk m c 0 ⟨n, h⟩) (iblk m c 2 ⟨n, h⟩) (iblk m c 3 ⟨n, h⟩) (iblk m c 5 ⟨n, h⟩) (iblk m c 6 ⟨n, h⟩) (blkSt c n).1 (blkSt c n).2)
    else blkSt c n

theorem blkSt_succ (c : Dev nD) (t : Fin cfg0.N) : blkSt m c (t.val + 1)
    = (chunkA (iblk m c 0 t) (iblk m c 2 t) (iblk m c 3 t) (iblk m c 5 t) (iblk m c 1 t) (iblk m c 6 t) (blkSt m c t.val).1 (blkSt m c t.val).2,
        chunkS (iblk m c 0 t) (iblk m c 2 t) (iblk m c 3 t) (iblk m c 5 t) (iblk m c 6 t) (blkSt m c t.val).1 (blkSt m c t.val).2) :=
  dif_pos t.isLt

/-- The output block of chunk `t`. -/
def outY (c : Dev nD) (t : Fin cfg0.N) : FVec F S32x64x128 .f32 :=
  chunkY (iblk m c 0 t) (iblk m c 2 t) (iblk m c 3 t) (iblk m c 4 t) (iblk m c 6 t) (blkSt m c t.val).1 (blkSt m c t.val).2

/-- The invariant before point `n`: at first every scratch buffer at anything, later the two at `blkSt n`; and the
    generator register at some state. -/
def PhiS (c : Dev nD) : (n : ℕ) → n ≤ cfg0.N → sProp 𝕄
  | 0, _ => Pipeline.ΦA spec0 c
  | n + 1, _ => iprop(iprop(owns (c : Thread nD τ) scM0_0 fullShare (blkSt m c (n + 1)).2 ∗ owns (c : Thread nD τ) scM0_1 fullShare (blkSt m c (n + 1)).1) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (blkSt m c (n + 1)).2 ∗ owns (c : Thread nD τ) scM0_1 fullShare (blkSt m c (n + 1)).1) ∗ (∃ r, prngReg c r)) := rfl

theorem PhiS_pos (c : Dev nD) (n : ℕ) (h : n ≤ cfg0.N) (hz : n ≠ 0) :
    PhiS m c n h = iprop(iprop(owns (c : Thread nD τ) scM0_0 fullShare (blkSt m c n).2 ∗ owns (c : Thread nD τ) scM0_1 fullShare (blkSt m c n).1) ∗ (∃ r, prngReg c r)) := by
  cases n with
  | zero => exact absurd rfl hz
  | succ n => rfl

/-- The class's invariant, the two scratch buffers spelt as memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The pipeline's proof data. The array behind the first two windows is shared between them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outY m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outY m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- The zero fill runs at the first point only. -/
theorem isFirst_iff : ∀ t : Fin cfg0.N, isFirst (grid0.coords t) ↔ t.val = 0 :=
  (fun t => by
    have ht : t.val < 128 := Nat.lt_of_lt_of_eq t.isLt N_0
    have e0 : (grid0.coords t 0).val = t.val / 1 % 128 := Pipeline.Grid.coords_val t 0 (by decide) rfl
    simp only [isFirst, e0]
    word_cmp
   : ∀ t : Fin grid0.N, isFirst (grid0.coords t) ↔ t.val = 0)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ, blkSt_succ]
  dsimp only
  unfold outY
  rw [(restProg (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)).2]
  by_cases hz : t.val = 0
  · rw [if_pos ((isFirst_iff t).mpr hz), PhiS_castSucc m c t, PhiS_zero m c _ _ hz, PhiA0_eq]
    rw [hz]; unfold blkSt; dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (zero_run c scM0_0 (Memref.isWhole_whole _) scM0_1 (Memref.isWhole_whole _))
    isplitl [HS0]; · iexact HS0
    isplitl [HS1]; · iexact HS1
    iintro ⟨HS0, HS1⟩
    iapply (rest_triple c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 2 t) (iblk m c 3 t) (iblk m c 4 t) (iblk m c 1 t) (iblk m c 5 t) (iblk m c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

  · rw [if_neg (fun h => hz ((isFirst_iff t).mp h)), PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (rest_triple c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 2 t) (iblk m c 3 t) (iblk m c 4 t) (iblk m c 1 t) (iblk m c 5 t) (iblk m c 6 t) (blkSt m c t.val).1 (blkSt m c t.val).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hN : cfg0.N = 128 := N_0
  rw [show (dats m 0 c).Φ (Fin.last cfg0.N) = PhiS m c cfg0.N (Nat.le_refl _) from rfl, PhiS_pos m c _ _ (by omega), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The whole program's run, with every counter at zero at the end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun c w _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The whole program's run: the arrays and every other buffer at the end. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: arguments unchanged, counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) (run_main m ρ)) ((θ_run defs _ _).mono (fun _ h => h.2) (run_main_quiescent m ρ))

end Cert.KernelIdeal.Scan
-- ==== Proof.Cumsum.lean ====
/- The running sum along the second axis of a five-dimensional array, at an index. -/
module

public import proofs.«01_k».proof.Proof.Gen.KernelIdeal
public import Idealize.ShloMosaic.Lib.Pointwise

@[expose] public section

noncomputable section

open Idealize.ShloMosaic Idealize.ShloMosaic.TcCoe

namespace Cert.KernelIdeal.Scan

open Cert.KernelIdeal Cert.KernelIdeal.Gen

theorem foldl_sum {α : Type} (l : List α) (g : α → EReal) (z : EReal) : l.foldl (fun r x => r + g x) z = z + (l.map g).sum := by
  induction l generalizing z with
  | nil => simp
  | cons a l ih => rw [List.foldl_cons, ih, List.map_cons, List.sum_cons, add_assoc]

/-- A window position's second coordinate is its number, the others are zero. -/
theorem win_symm (n : Fin (⟨5, ![1, 32, 1, 1, 1]⟩ : Shape).numel) :
    ∀ a, ((⟨5, ![1, 32, 1, 1, 1]⟩ : Shape).rowMajor.symm n a).val = if a = 1 then n.val else 0 := by
  have hw : (⟨5, ![1, 32, 1, 1, 1]⟩ : Shape).numel = 32 := by decide
  have key : ∀ j : Fin 32, ∀ a, ((⟨5, ![1, 32, 1, 1, 1]⟩ : Shape).rowMajor.symm (j.cast (show 32 = (⟨5, ![1, 32, 1, 1, 1]⟩ : Shape).numel by decide)) a).val = if a = 1 then j.val else 0 := by decide
  exact key (n.cast hw)

theorem cumsum_at (x : FVec Ideal S128x32x8x8x64 .f32) (init : FVec Ideal S_ .f32) (hi : ∀ i, init i = 0)
    (c : Fin 128) (n : Fin 32) (b h : Fin 8) (κ : Fin 64) (hh) (hu) :
    Host.reduceWindowAdd ![1, 32, 1, 1, 1] ![1, 1, 1, 1, 1] ![0, 31, 0, 0, 0] ![0, 0, 0, 0, 0] x init hh hu (ix5 c n b h κ)
      = ∑ i ∈ Finset.range (n.val + 1), x (ix5 c (Fin.ofNat 32 i) b h κ) := by
  have hn := n.isLt
  have hw : (⟨5, ![1, 32, 1, 1, 1]⟩ : Shape).numel = 32 := by decide
  show Host.reduceWindow (· + ·) ![1, 32, 1, 1, 1] ![1, 1, 1, 1, 1] ![0, 31, 0, 0, 0] ![0, 0, 0, 0, 0] x
    (fun _ : (⟨0, ![]⟩ : Shape).Idx => init (Shape.Idx.first hu)) hh (by decide) (ix5 c n b h κ) = _
  rw [hi]
  unfold Host.reduceWindow
  dsimp only
  refine (foldl_sum _ _ _).trans ?_
  rw [zero_add]
  refine (congrArg List.sum (List.map_congr_left
    (g := fun m => if 31 ≤ n.val + m.val then x (ix5 c (Fin.ofNat 32 (n.val + m.val - 31)) b h κ) else (0 : EReal)) fun m _ => ?_)).trans ?_
  · have hm : m.val < 32 := Nat.lt_of_lt_of_eq m.isLt hw
    have hs := win_symm m
    have s0 : ((⟨5, ![1, 32, 1, 1, 1]⟩ : Shape).rowMajor.symm m 0).val = 0 := hs 0
    have s1 : ((⟨5, ![1, 32, 1, 1, 1]⟩ : Shape).rowMajor.symm m 1).val = m.val := hs 1
    have s2 : ((⟨5, ![1, 32, 1, 1, 1]⟩ : Shape).rowMajor.symm m 2).val = 0 := hs 2
    have s3 : ((⟨5, ![1, 32, 1, 1, 1]⟩ : Shape).rowMajor.symm m 3).val = 0 := hs 3
    have s4 : ((⟨5, ![1, 32, 1, 1, 1]⟩ : Shape).rowMajor.symm m 4).val = 0 := hs 4
    by_cases hle : 31 ≤ n.val + m.val
    · rw [if_pos hle, dif_pos]
      · congr 1
        funext a
        apply Fin.ext
        match a with
        | ⟨0, _⟩ => show c.val * 1 + ((⟨5, ![1, 32, 1, 1, 1]⟩ : Shape).rowMajor.symm m 0).val - 0 = c.val; rw [s0]; omega
        | ⟨1, _⟩ => show n.val * 1 + ((⟨5, ![1, 32, 1, 1, 1]⟩ : Shape).rowMajor.symm m 1).val - 31 = (n.val + m.val - 31) % 32; rw [s1]; omega
        | ⟨2, _⟩ => show b.val * 1 + ((⟨5, ![1, 32, 1, 1, 1]⟩ : Shape).rowMajor.symm m 2).val - 0 = b.val; rw [s2]; omega
        | ⟨3, _⟩ => show h.val * 1 + ((⟨5, ![1, 32, 1, 1, 1]⟩ : Shape).rowMajor.symm m 3).val - 0 = h.val; rw [s3]; omega
        | ⟨4, _⟩ => show κ.val * 1 + ((⟨5, ![1, 32, 1, 1, 1]⟩ : Shape).rowMajor.symm m 4).val - 0 = κ.val; rw [s4]; omega
      · intro a
        match a with
        | ⟨0, _⟩ => have := c.isLt; show 0 ≤ c.val * 1 + ((⟨5, ![1, 32, 1, 1, 1]⟩ : Shape).rowMajor.symm m 0).val ∧ c.val * 1 + ((⟨5, ![1, 32, 1, 1, 1]⟩ : Shape).rowMajor.symm m 0).val - 0 < 128; rw [s0]; omega
        | ⟨1, _⟩ => show 31 ≤ n.val * 1 + ((⟨5, ![1, 32, 1, 1, 1]⟩ : Shape).rowMajor.symm m 1).val ∧ n.val * 1 + ((⟨5, ![1, 32, 1, 1, 1]⟩ : Shape).rowMajor.symm m 1).val - 31 < 32; rw [s1]; omega
        | ⟨2, _⟩ => have := b.isLt; show 0 ≤ b.val * 1 + ((⟨5, ![1, 32, 1, 1, 1]⟩ : Shape).rowMajor.symm m 2).val ∧ b.val * 1 + ((⟨5, ![1, 32, 1, 1, 1]⟩ : Shape).rowMajor.symm m 2).val - 0 < 8; rw [s2]; omega
        | ⟨3, _⟩ => have := h.isLt; show 0 ≤ h.val * 1 + ((⟨5, ![1, 32, 1, 1, 1]⟩ : Shape).rowMajor.symm m 3).val ∧ h.val * 1 + ((⟨5, ![1, 32, 1, 1, 1]⟩ : Shape).rowMajor.symm m 3).val - 0 < 8; rw [s3]; omega
        | ⟨4, _⟩ => have := κ.isLt; show 0 ≤ κ.val * 1 + ((⟨5, ![1, 32, 1, 1, 1]⟩ : Shape).rowMajor.symm m 4).val ∧ κ.val * 1 + ((⟨5, ![1, 32, 1, 1, 1]⟩ : Shape).rowMajor.symm m 4).val - 0 < 64; rw [s4]; omega
    · rw [if_neg hle, dif_neg]
      intro hin
      have h1 := (hin 1).1
      have h2 : 31 ≤ n.val * 1 + ((⟨5, ![1, 32, 1, 1, 1]⟩ : Shape).rowMajor.symm m 1).val := h1
      rw [s1] at h2
      omega
  have hfin : ∀ (M : ℕ) (hM : M = 32) (g : ℕ → EReal), ((List.finRange M).map fun m => g m.val).sum = ∑ i ∈ Finset.range 32, g i := by
    intro M hM g
    subst hM
    rw [← List.ofFn_eq_map, List.sum_ofFn]
    exact Fin.sum_univ_eq_sum_range g 32
  refine (hfin _ hw (fun m => if 31 ≤ n.val + m then x (ix5 c (Fin.ofNat 32 (n.val + m - 31)) b h κ) else 0)).trans ?_
  rw [← Finset.sum_filter]
  refine Finset.sum_bij' (fun m _ => n.val + m - 31) (fun i _ => i + 31 - n.val) ?_ ?_ ?_ ?_ ?_
  · intro m hm; simp only [Finset.mem_filter, Finset.mem_range] at hm ⊢; omega
  · intro i hi'; simp only [Finset.mem_filter, Finset.mem_range] at hi' ⊢; omega
  · intro m hm; simp only [Finset.mem_filter, Finset.mem_range] at hm; omega
  · intro i hi'; simp only [Finset.mem_range] at hi'; omega
  · intro m hm; rfl

end Cert.KernelIdeal.Scan

end
-- ==== Proof.Math.lean ====
/- Extended reals: the decays of a chunk and their products, and one step of the recurrence under a rescaled state. -/
module

public import Idealize.ShloMosaic.PureOps
public import Idealize.ShloMosaic.PureOps.Ideal
public import Idealize.ShloMosaic.Lib.Pointwise

@[expose] public section

noncomputable section

namespace Cert.KernelIdeal.Scan

open Idealize.ShloMosaic

/-- The logarithm of the decay that the raw value `w` stands for. -/
def lw (w : EReal) : EReal := -(Ideal.exp w)

theorem lw_real (w : EReal) (h : w < ⊤) : ∃ x : ℝ, lw w = (x : EReal) := by
  induction w using EReal.rec with
  | bot => exact ⟨0, by unfold lw; show -(0 : EReal) = _; simp⟩
  | coe r => exact ⟨-Real.exp r, by unfold lw; show -((Real.exp r : ℝ) : EReal) = _; rw [EReal.coe_neg]⟩
  | top => exact absurd h (lt_irrefl _)

/-- The product of the first `n` decays. -/
def Pn (L : ℕ → EReal) (n : ℕ) : EReal := Ideal.exp (∑ i ∈ Finset.range n, L i)

section
variable (L : ℕ → EReal) (hL : ∀ i, ∃ x : ℝ, L i = (x : EReal))
include hL

theorem sum_real (n : ℕ) : ∃ x : ℝ, ∑ i ∈ Finset.range n, L i = (x : EReal) := by
  induction n with
  | zero => exact ⟨0, by simp⟩
  | succ n ih =>
    obtain ⟨x, hx⟩ := ih
    obtain ⟨y, hy⟩ := hL n
    exact ⟨x + y, by rw [Finset.sum_range_succ, hx, hy, EReal.coe_add]⟩

theorem Pn_real (n : ℕ) : ∃ y : ℝ, 0 < y ∧ Pn L n = (y : EReal) := by
  obtain ⟨x, hx⟩ := sum_real L hL n
  exact ⟨Real.exp x, Real.exp_pos x, by unfold Pn; rw [hx]; rfl⟩

theorem Pn_succ (n : ℕ) : Pn L (n + 1) = Pn L n * Ideal.exp (L n) := by
  obtain ⟨x, hx⟩ := sum_real L hL n
  obtain ⟨y, hy⟩ := hL n
  unfold Pn
  rw [Finset.sum_range_succ, hx, hy, ← EReal.coe_add]
  show ((Real.exp (x + y) : ℝ) : EReal) = (Real.exp x : ℝ) * (Real.exp y : ℝ)
  rw [Real.exp_add, EReal.coe_mul]

theorem Pn_inv (n : ℕ) : Ideal.exp (-(∑ i ∈ Finset.range n, L i)) * Pn L n = 1 := by
  obtain ⟨x, hx⟩ := sum_real L hL n
  unfold Pn
  rw [hx, ← EReal.coe_neg]
  show ((Real.exp (-x) : ℝ) : EReal) * (Real.exp x : ℝ) = 1
  rw [← EReal.coe_mul, ← Real.exp_add, neg_add_cancel, Real.exp_zero, EReal.coe_one]

theorem Pn_prev (n : ℕ) : Ideal.exp (∑ i ∈ Finset.range (n + 1), L i - L n) = Pn L n := by
  obtain ⟨x, hx⟩ := sum_real L hL n
  obtain ⟨y, hy⟩ := hL n
  unfold Pn
  rw [Finset.sum_range_succ, hx, hy, ← EReal.coe_add, ← EReal.coe_sub, add_sub_cancel_right]

end

theorem Pn_zero (L : ℕ → EReal) : Pn L 0 = 1 := by
  unfold Pn
  rw [Finset.sum_range_zero]
  show ((Real.exp 0 : ℝ) : EReal) = 1
  rw [Real.exp_zero, EReal.coe_one]

/-- A sum times a positive real. -/
theorem add_mul_pos (x y P : EReal) (hP : ∃ p : ℝ, 0 < p ∧ P = (p : EReal)) : (x + y) * P = x * P + y * P := by
  obtain ⟨p, hp, rfl⟩ := hP
  exact EReal.right_distrib_of_nonneg_of_ne_top (by exact_mod_cast hp.le) (EReal.coe_ne_top p) x y

/-- One step of the rescaled state, scaled back: `P` before the step, `P'` after it. -/
theorem step_scaled (s P P' d ip v K sf Q A u : EReal) (hP' : ∃ p : ℝ, 0 < p ∧ P' = (p : EReal)) (h : P' = P * d) (hip : ip * P' = 1)
    (hu : s * P = u) :
    ((s + v * (K * ip)) + sf * ((Q * A) * ip)) * P' = (u * d + sf * (Q * A)) + v * K := by
  rw [add_mul_pos _ _ _ hP', add_mul_pos _ _ _ hP']
  rw [show s * P' = u * d from by rw [h, ← mul_assoc, hu]]
  rw [show v * (K * ip) * P' = v * K from by rw [mul_assoc, mul_assoc K, hip, mul_one]]
  rw [show sf * ((Q * A) * ip) * P' = sf * (Q * A) from by rw [mul_assoc, mul_assoc (Q * A), hip, mul_one]]
  rw [add_right_comm]

/-- A product with a rescaled factor. -/
theorem mul_scaled (x a P : EReal) : x * (a * P) = (x * P) * a := by
  rw [mul_comm a P, mul_assoc]

/-- The recurrence: the state after `n` steps, from zero. -/
def st (W K Q A : ℕ → ℕ → EReal) (V : ℕ → Fin 64 → EReal) : ℕ → Fin 64 → ℕ → EReal
  | 0 => fun _ _ => 0
  | n + 1 => fun v κ =>
    (st W K Q A V n v κ * Ideal.exp (lw (W n κ)) + (∑ κ' ∈ Finset.range 64, st W K Q A V n v κ' * -(Q n κ')) * (Q n κ * A n κ)) + V n v * K n κ

/-- A sum over 64 keys as the sums over its two halves. -/
theorem sum_halves (f : ℕ → EReal) :
    ∑ κ ∈ Finset.range 64, f κ = ∑ x ∈ Finset.range 32, f (0 * 32 + x) + ∑ x ∈ Finset.range 32, f (1 * 32 + x) := by
  rw [show (64 : ℕ) = 32 + 32 from rfl, Finset.sum_range_add]
  simp only [Nat.zero_mul, Nat.zero_add, Nat.one_mul]

/-- An argument at one pair, by step and key number. -/
def el (X : FVec Ideal ⟨4, ![4096, 8, 8, 64]⟩ .f32) (b h : Fin 8) (t κ : ℕ) : EReal := X (ix4 (Fin.ofNat 4096 t) b h (Fin.ofNat 64 κ))

/-- The values at one pair, by step number. -/
def vl (X : FVec Ideal ⟨4, ![4096, 8, 8, 64]⟩ .f32) (b h : Fin 8) (t : ℕ) (y : Fin 64) : EReal := X (ix4 (Fin.ofNat 4096 t) b h y)

/-- The output at step `t`, value row `y`: the state after the step against the receptance. -/
def outR (x0 x1 x2 x3 x4 x5 : FVec Ideal ⟨4, ![4096, 8, 8, 64]⟩ .f32) (b h : Fin 8) (t : ℕ) (y : Fin 64) : EReal :=
  ∑ κ ∈ Finset.range 64, st (el x1 b h) (el x2 b h) (el x4 b h) (el x5 b h) (vl x3 b h) (t + 1) y κ * el x0 b h t κ

end Cert.KernelIdeal.Scan

end
-- ==== Proof.ChunkVal.lean ====
/- One chunk of the kernel over the extended reals: its rescaled state, half sums and outputs are the recurrence's. -/
module

public import proofs.«01_k».proof.Proof.Chunk
public import proofs.«01_k».proof.Proof.Math
public import Idealize.ShloMosaic.Lib.Pointwise

@[expose] public section

noncomputable section

open Idealize.ShloMosaic Idealize.ShloMosaic.TcCoe

namespace Cert.KernelIdeal.Scan

open Cert.KernelIdeal Cert.KernelIdeal.Gen

/-- The lane of half `hf` of the pair at base `hb`. -/
def lane (hb hf : ℕ) : Fin 128 := Fin.ofNat 128 (hf * 64 + hb)

theorem chainV_at (f : ℕ → FVec Ideal S64x128 .f32) (n : ℕ) (i : S64x128.Idx) : chainV f n i = ∑ x ∈ Finset.range (n + 1), f x i := by
  induction n with
  | zero => simp [chainV]
  | succ n ih => rw [Finset.sum_range_succ, ← ih]; rfl

theorem bc_at (r : Vec Ideal S1x1x128 .f32) (v : Fin 64) (l : Fin 128) : bc r (ix2 v l) = r (ix3 0 0 l) := by
  pointwise [bc]

theorem planes_at (f : ℕ → FVec Ideal S64x128 .f32) (k : ℕ) (hk : k < 32) (v : Fin 64) (l : Fin 128) :
    planes f (ix3 (Fin.ofNat 32 k) v l) = f k (ix2 v l) := by
  unfold planes
  show f (k % 32) (ix2 v l) = _
  rw [Nat.mod_eq_of_lt hk]

theorem pay5_at (x : Vec Ideal S1x64x128 .f32) (v : Fin 64) (l : Fin 128) : k0_pay5 x (ix2 v l) = x (ix3 0 v l) := by
  pointwise [k0_pay5]

theorem pay4_at (x : Vec Ideal S64x128 .f32) (v : Fin 64) (l : Fin 128) :
    k0_pay4 x (ix2 v l) = x (ix2 v l) + x (ix2 v (Fin.ofNat 128 (l.val + 64))) := by
  pointwise [k0_pay4]
  congr 3

theorem nw_at (sf v : FVec Ideal S64x128 .f32) (s : Vec Ideal S1x64x128 .f32) (k b : Vec Ideal S1x1x128 .f32) (r : Fin 64) (l : Fin 128) :
    nw sf v s k b (ix2 r l) = (s (ix3 0 r l) + v (ix2 r l) * k (ix3 0 0 l)) + sf (ix2 r l) * b (ix3 0 0 l) := by
  unfold nw
  show (shapeCast S64x128 s shapeCasts_S1x64x128_S64x128 (ix2 r l) + v (ix2 r l) * bc k (ix2 r l)) + sf (ix2 r l) * bc b (ix2 r l) = _
  rw [bc_at, bc_at]
  congr 2
  pointwise

theorem newK_at (acc : FVec Ideal S64x128 .f32) (V S : FVec Ideal S32x64x128 .f32) (K B : FVec Ideal S32x32x128 .f32) (t kx : ℕ) (r : Fin 64) (l : Fin 128) :
    newK acc V S K B t kx (ix2 r l)
      = (S (ix3 (Fin.ofNat 32 kx) r l) + V (ix3 (Fin.ofNat 32 t) r l) * K (ix3 (Fin.ofNat 32 t) (Fin.ofNat 32 kx) l))
        + (acc (ix2 r l) + acc (ix2 r (Fin.ofNat 128 (l.val + 64)))) * B (ix3 (Fin.ofNat 32 t) (Fin.ofNat 32 kx) l) := by
  unfold newK
  rw [nw_at, pay5_at, pay4_at]
  rfl

/-- What the blocks of a chunk hold at one pair's lanes, in the recurrence's terms. -/
structure ChunkData (A B K R : FVec Ideal S32x32x128 .f32) (V : FVec Ideal S32x64x128 .f32) (hb : ℕ) (w q a k r : ℕ → ℕ → EReal)
    (v : ℕ → Fin 64 → EReal) : Prop where
  hlt : hb < 64
  hL : ∀ κ i, ∃ x : ℝ, lw (w i κ) = (x : EReal)
  hA : ∀ n < 32, ∀ hf < 2, ∀ kx < 32, A (ix3 (Fin.ofNat 32 n) (Fin.ofNat 32 kx) (lane hb hf))
    = -(q n (hf * 32 + kx)) * Pn (fun i => lw (w i (hf * 32 + kx))) n
  hB : ∀ n < 32, ∀ hf < 2, ∀ kx < 32, B (ix3 (Fin.ofNat 32 n) (Fin.ofNat 32 kx) (lane hb hf))
    = (q n (hf * 32 + kx) * a n (hf * 32 + kx)) * Ideal.exp (-(∑ i ∈ Finset.range (n + 1), lw (w i (hf * 32 + kx))))
  hK : ∀ n < 32, ∀ hf < 2, ∀ kx < 32, K (ix3 (Fin.ofNat 32 n) (Fin.ofNat 32 kx) (lane hb hf))
    = k n (hf * 32 + kx) * Ideal.exp (-(∑ i ∈ Finset.range (n + 1), lw (w i (hf * 32 + kx))))
  hR : ∀ n < 32, ∀ hf < 2, ∀ kx < 32, R (ix3 (Fin.ofNat 32 n) (Fin.ofNat 32 kx) (lane hb hf))
    = r n (hf * 32 + kx) * Pn (fun i => lw (w i (hf * 32 + kx))) (n + 1)
  hV : ∀ n < 32, ∀ hf < 2, ∀ y, V (ix3 (Fin.ofNat 32 n) y (lane hb hf)) = v n y

section
variable {A B K R : FVec Ideal S32x32x128 .f32} {V : FVec Ideal S32x64x128 .f32} {hb : ℕ} {w q a k r : ℕ → ℕ → EReal}
  {v : ℕ → Fin 64 → EReal} (D : ChunkData A B K R V hb w q a k r v) (u : ℕ → Fin 64 → ℕ → EReal)
  (hu : ∀ n y κ, u (n + 1) y κ = (u n y κ * Ideal.exp (lw (w n κ)) + (∑ κ' ∈ Finset.range 64, u n y κ' * -(q n κ')) * (q n κ * a n κ)) + v n y * k n κ)
  (a0 : FVec Ideal S64x128 .f32) (S0 : FVec Ideal S32x64x128 .f32)
  (hS : ∀ hf < 2, ∀ kx < 32, ∀ y, S0 (ix3 (Fin.ofNat 32 kx) y (lane hb hf)) = u 0 y (hf * 32 + kx))
  (ha : ∀ hf < 2, ∀ y, a0 (ix2 y (lane hb hf)) = ∑ kx ∈ Finset.range 32, u 0 y (hf * 32 + kx) * -(q 0 (hf * 32 + kx)))

/-- The state before step `n` of the chunk is the recurrence's, rescaled, and the half sums are the recurrence's. -/
def Inv (A B K : FVec Ideal S32x32x128 .f32) (V : FVec Ideal S32x64x128 .f32) (hb : ℕ) (w q : ℕ → ℕ → EReal) (u : ℕ → Fin 64 → ℕ → EReal)
    (a0 : FVec Ideal S64x128 .f32) (S0 : FVec Ideal S32x64x128 .f32) (n : ℕ) : Prop :=
  (∀ hf < 2, ∀ kx < 32, ∀ y, (loopSt A B K V a0 S0 n).2 (ix3 (Fin.ofNat 32 kx) y (lane hb hf)) * Pn (fun i => lw (w i (hf * 32 + kx))) n = u n y (hf * 32 + kx))
  ∧ ∀ hf < 2, ∀ y, (loopSt A B K V a0 S0 n).1 (ix2 y (lane hb hf)) = ∑ kx ∈ Finset.range 32, u n y (hf * 32 + kx) * -(q n (hf * 32 + kx))

theorem lane_other {hb : ℕ} (h : hb < 64) : Fin.ofNat 128 ((lane hb 0).val + 64) = lane hb 1 ∧ Fin.ofNat 128 ((lane hb 1).val + 64) = lane hb 0 := by
  constructor
  · apply Fin.ext
    show ((0 * 64 + hb) % 128 + 64) % 128 = (1 * 64 + hb) % 128
    omega
  · apply Fin.ext
    show ((1 * 64 + hb) % 128 + 64) % 128 = (0 * 64 + hb) % 128
    omega

include D hu in
/-- The state after step `n`, scaled, is the recurrence's. -/
theorem stepNew_val (n : ℕ) (hn : n < 32) (hI : Inv A B K V hb w q u a0 S0 n) (hf : ℕ) (hhf : hf < 2) (kx : ℕ) (hk : kx < 32) (y : Fin 64) :
    stepNew A B K V a0 S0 n kx (ix2 y (lane hb hf)) * Pn (fun i => lw (w i (hf * 32 + kx))) (n + 1) = u (n + 1) y (hf * 32 + kx) := by
  have hL := D.hL (hf * 32 + kx)
  have hsa : (loopSt A B K V a0 S0 n).1 (ix2 y (lane hb hf)) + (loopSt A B K V a0 S0 n).1 (ix2 y (Fin.ofNat 128 ((lane hb hf).val + 64)))
      = ∑ κ' ∈ Finset.range 64, u n y κ' * -(q n κ') := by
    rw [sum_halves]
    match hf, hhf with
    | 0, _ => rw [(lane_other D.hlt).1, hI.2 0 (by omega), hI.2 1 (by omega)]
    | 1, _ => rw [(lane_other D.hlt).2, hI.2 0 (by omega), hI.2 1 (by omega), add_comm]
  unfold stepNew
  rw [newK_at, hsa, D.hV n hn hf hhf, D.hK n hn hf hhf kx hk, D.hB n hn hf hhf kx hk, hu]
  exact step_scaled _ _ _ _ _ _ _ _ _ _ _ (Pn_real _ hL _) (Pn_succ _ hL n) (Pn_inv _ hL (n + 1)) (hI.1 hf hhf kx hk y)

include D hu hS ha in
theorem inv_all (n : ℕ) (hn : n < 32) : Inv A B K V hb w q u a0 S0 n := by
  induction n with
  | zero =>
    refine ⟨fun hf hhf kx hk y => ?_, fun hf hhf y => ha hf hhf y⟩
    rw [Pn_zero, mul_one]
    exact hS hf hhf kx hk y
  | succ n ih =>
    have hI := ih (by omega)
    have hs := stepNew_val D u hu a0 S0 n (by omega) hI
    refine ⟨fun hf hhf kx hk y => ?_, fun hf hhf y => ?_⟩
    · rw [← hs hf hhf kx hk y]
      congr 1
      show planes (newK (loopSt A B K V a0 S0 n).1 V (loopSt A B K V a0 S0 n).2 K B n) _ = _
      rw [planes_at _ kx hk]
      rfl
    · show chainV _ 31 (ix2 y (lane hb hf)) = _
      rw [chainV_at]
      refine Finset.sum_congr rfl fun kx hkx => ?_
      have hk : kx < 32 := Finset.mem_range.mp hkx
      rw [← hs hf hhf kx hk y, ← mul_scaled]
      show _ * bc (rowOf A (n + 1) kx) (ix2 y (lane hb hf)) = _
      rw [bc_at]
      congr 1
      exact D.hA (n + 1) hn hf hhf kx hk

include D hu hS ha in
/-- The chunk's output at half `hf`. -/
theorem chunkY_val (n : ℕ) (hn : n < 32) (hf : ℕ) (hhf : hf < 2) (y : Fin 64) :
    chunkY A B K R V a0 S0 (ix3 (Fin.ofNat 32 n) y (lane hb hf)) = ∑ kx ∈ Finset.range 32, u (n + 1) y (hf * 32 + kx) * r n (hf * 32 + kx) := by
  have hs := stepNew_val D u hu a0 S0 n hn (inv_all D u hu a0 S0 hS ha n hn)
  unfold chunkY
  rw [planes_at _ n hn]
  unfold stepY
  rw [chainV_at]
  refine Finset.sum_congr rfl fun kx hkx => ?_
  have hk : kx < 32 := Finset.mem_range.mp hkx
  rw [← hs hf hhf kx hk y, ← mul_scaled]
  show _ * bc (rowOf R n kx) (ix2 y (lane hb hf)) = _
  rw [bc_at]
  congr 1
  exact D.hR n hn hf hhf kx hk

variable (P N : FVec Ideal S1x32x128 .f32)
  (hP : ∀ hf < 2, ∀ kx < 32, P (ix3 0 (Fin.ofNat 32 kx) (lane hb hf)) = Pn (fun i => lw (w i (hf * 32 + kx))) 32)

include D hu hS ha hP in
theorem chunkP_val (hf : ℕ) (hhf : hf < 2) (kx : ℕ) (hk : kx < 32) (y : Fin 64) :
    mulf (stepNew A B K V a0 S0 31 kx) (bc (rowOf1 P kx)) (ix2 y (lane hb hf)) = u 32 y (hf * 32 + kx) := by
  rw [← stepNew_val D u hu a0 S0 31 (by omega) (inv_all D u hu a0 S0 hS ha 31 (by omega)) hf hhf kx hk y]
  show _ * bc (rowOf1 P kx) (ix2 y (lane hb hf)) = _
  rw [bc_at]
  congr 1
  exact hP hf hhf kx hk

include D hu hS ha hP in
/-- The state the chunk hands on. -/
theorem chunkS_val (hf : ℕ) (hhf : hf < 2) (kx : ℕ) (hk : kx < 32) (y : Fin 64) :
    chunkS A B K P V a0 S0 (ix3 (Fin.ofNat 32 kx) y (lane hb hf)) = u 32 y (hf * 32 + kx) := by
  unfold chunkS
  rw [planes_at _ kx hk]
  exact chunkP_val D u hu a0 S0 hS ha P hP hf hhf kx hk y

include D hu hS ha hP in
/-- The half sums the chunk hands on. -/
theorem chunkA_val (hN : ∀ hf < 2, ∀ kx < 32, N (ix3 0 (Fin.ofNat 32 kx) (lane hb hf)) = -(q 32 (hf * 32 + kx))) (hf : ℕ) (hhf : hf < 2) (y : Fin 64) :
    chunkA A B K P N V a0 S0 (ix2 y (lane hb hf)) = ∑ kx ∈ Finset.range 32, u 32 y (hf * 32 + kx) * -(q 32 (hf * 32 + kx)) := by
  unfold chunkA
  rw [chainV_at]
  refine Finset.sum_congr rfl fun kx hkx => ?_
  have hk : kx < 32 := Finset.mem_range.mp hkx
  rw [← chunkP_val D u hu a0 S0 hS ha P hP hf hhf kx hk y]
  show _ * bc (rowOf1 N kx) (ix2 y (lane hb hf)) = _
  rw [bc_at]
  congr 1
  exact hN hf hhf kx hk

end

end Cert.KernelIdeal.Scan

end
-- ==== Proof.Host.lean ====
/- The arrays the kernel's program lays out before its call, at an index, from the arguments. -/
module

public import proofs.«01_k».proof.Proof.Gen.KernelIdeal.Frame
public import proofs.«01_k».proof.Proof.Cumsum
public import proofs.«01_k».proof.Proof.ChunkVal
public import Idealize.ShloMosaic.Lib.Pointwise
public import Idealize.ShloMosaic.Lib.StableHlo.ReadAt

@[expose] public section

noncomputable section

open Idealize.ShloMosaic Idealize.ShloMosaic.TcCoe

namespace Cert.KernelIdeal.Scan

open Cert.KernelIdeal Cert.KernelIdeal.Gen

variable (m : (ℓ : Loc nD τ sig) → Buf (Elt Ideal) ℓ) (c : Dev nD)

abbrev X0 : FVec Ideal S4096x8x8x64 .f32 := m ((c.tc : Thread nD τ).loc main_arg0)
abbrev X1 : FVec Ideal S4096x8x8x64 .f32 := m ((c.tc : Thread nD τ).loc main_arg1)
abbrev X2 : FVec Ideal S4096x8x8x64 .f32 := m ((c.tc : Thread nD τ).loc main_arg2)
abbrev X3 : FVec Ideal S4096x8x8x64 .f32 := m ((c.tc : Thread nD τ).loc main_arg3)
abbrev X4 : FVec Ideal S4096x8x8x64 .f32 := m ((c.tc : Thread nD τ).loc main_arg4)
abbrev X5 : FVec Ideal S4096x8x8x64 .f32 := m ((c.tc : Thread nD τ).loc main_arg5)

/-- The logarithms of the decays. -/
def lwV (w : FVec Ideal S4096x8x8x64 .f32) : FVec Ideal S4096x8x8x64 .f32 := Host.negf (Host.exp w)

/-- Their running sums within each chunk. -/
def lpV (w : FVec Ideal S4096x8x8x64 .f32) : FVec Ideal S4096x8x8x64 .f32 :=
  shapeCast S4096x8x8x64
    (Host.reduceWindowAdd ![1, 32, 1, 1, 1] ![1, 1, 1, 1, 1] ![0, 31, 0, 0, 0] ![0, 0, 0, 0, 0] (shapeCast S128x32x8x8x64 (lwV w) shapeCasts_S4096x8x8x64_S128x32x8x8x64)
      (broadcastInDim S_ ![] bcast_S_S_ (constant S_ .f32 0x00000000#32 : FVec Ideal S_ .f32))
      reduceWindows_S128x32x8x8x64_S128x32x8x8x64_w1s1p0_0_w32s1p31_0_w1s1p0_0_w1s1p0_0_w1s1p0_0 h_S_)
    shapeCasts_S128x32x8x8x64_S4096x8x8x64

/-- The key-side layout. -/
def layV (x : FVec Ideal S4096x8x8x64 .f32) : FVec Ideal S4096x32x128 .f32 :=
  shapeCast S4096x32x128 (transpose S4096x32x2x8x8 [0, 4, 3, 2, 1] (shapeCast S4096x8x8x2x32 x shapeCasts_S4096x8x8x64_S4096x8x8x2x32)
    transposes_S4096x8x8x2x32_S4096x32x2x8x8_0_4_3_2_1) shapeCasts_S4096x32x2x8x8_S4096x32x128

/-- The value-side layout, both halves of the lanes alike. -/
def valV (x : FVec Ideal S4096x8x8x64 .f32) : FVec Ideal S4096x64x128 .f32 :=
  concatenate S4096x64x128 2
    [⟨S4096x64x64, shapeCast S4096x64x64 (transpose S4096x64x8x8 [0, 3, 2, 1] x transposes_S4096x8x8x64_S4096x64x8x8_0_3_2_1) shapeCasts_S4096x64x8x8_S4096x64x64⟩,
      ⟨S4096x64x64, shapeCast S4096x64x64 (transpose S4096x64x8x8 [0, 3, 2, 1] x transposes_S4096x8x8x64_S4096x64x8x8_0_3_2_1) shapeCasts_S4096x64x8x8_S4096x64x64⟩]
    concatenates_S4096x64x64_S4096x64x64_S4096x64x128_d2

theorem v14_eq : V m c main_v14 = layV (mulf (Host.negf (X4 m c)) (Host.exp (subf (lpV (X1 m c)) (lwV (X1 m c))))) := by
  unfold V V0
  simp only [List.flatten_cons, List.flatten_nil, List.append_nil]
  after_reads_simp
  rfl

theorem v19_eq : V m c main_v19 = layV (mulf (mulf (X4 m c) (X5 m c)) (Host.exp (Host.negf (lpV (X1 m c))))) := by
  unfold V V0
  simp only [List.flatten_cons, List.flatten_nil, List.append_nil]
  after_reads_simp
  rfl

theorem v23_eq : V m c main_v23 = layV (mulf (X2 m c) (Host.exp (Host.negf (lpV (X1 m c))))) := by
  unfold V V0
  simp only [List.flatten_cons, List.flatten_nil, List.append_nil]
  after_reads_simp
  rfl

theorem v27_eq : V m c main_v27 = layV (mulf (X0 m c) (Host.exp (lpV (X1 m c)))) := by
  unfold V V0
  simp only [List.flatten_cons, List.flatten_nil, List.append_nil]
  after_reads_simp
  rfl

theorem v31_eq : V m c main_v31 = Host.slice S128x32x128 ![31, 0, 0] ![32, 1, 1] (layV (Host.exp (lpV (X1 m c)))) slicesBy_S4096x32x128_S128x32x128_31s32_0s1_0s1 := by
  unfold V V0
  simp only [List.flatten_cons, List.flatten_nil, List.append_nil]
  after_reads_simp
  rfl

theorem v34_eq : V m c main_v34 = valV (X3 m c) := by
  unfold V V0
  simp only [List.flatten_cons, List.flatten_nil, List.append_nil]
  after_reads_simp
  rfl

theorem layV_at (x : FVec Ideal S4096x8x8x64 .f32) (t : Fin 4096) (kx : Fin 32) (l : Fin 128) :
    layV x (ix3 t kx l) = x (ix4 t (Fin.ofNat 8 (l.val % 8)) (Fin.ofNat 8 (l.val / 8)) (Fin.ofNat 64 (l.val / 64 * 32 + kx.val))) := by
  have hl := l.isLt
  have hk := kx.isLt
  pointwise [layV]
  congr 2
  · apply Fin.ext; show l.val % 8 = l.val % 8 % 8; omega
  · apply Fin.ext; show l.val / 64 * 32 + kx.val = (l.val / 64 * 32 + kx.val) % 64; omega

theorem valV_at (x : FVec Ideal S4096x8x8x64 .f32) (t : Fin 4096) (y : Fin 64) (l : Fin 128) :
    valV x (ix3 t y l) = x (ix4 t (Fin.ofNat 8 (l.val % 8)) (Fin.ofNat 8 (l.val / 8)) y) := by
  have hl := l.isLt
  pointwise [valV]
  split
  · congr 2
    · apply Fin.ext; show l.val % 8 = l.val % 8 % 8; omega
    · apply Fin.ext; show l.val / 8 = l.val / 8 % 8; omega
  · congr 2
    · apply Fin.ext; show (l.val - 64) % 8 = l.val % 8 % 8; omega
    · apply Fin.ext; show (l.val - 64) / 8 = l.val / 8 % 8; omega

theorem lwV_at (x : FVec Ideal S4096x8x8x64 .f32) (i : S4096x8x8x64.Idx) : lwV x i = lw (x i) := rfl

theorem lpV_at (x : FVec Ideal S4096x8x8x64 .f32) (t : Fin 4096) (b h : Fin 8) (κ : Fin 64) :
    lpV x (ix4 t b h κ) = ∑ i ∈ Finset.range (t.val % 32 + 1), lw (x (ix4 (Fin.ofNat 4096 (t.val / 32 * 32 + i)) b h κ)) := by
  have ht := t.isLt
  pointwise [lpV]
  rw [cumsum_at _ _ (fun i => by pointwise)]
  refine Finset.sum_congr rfl fun i hi => ?_
  have hi' : i < t.val % 32 + 1 := Finset.mem_range.mp hi
  rw [← lwV_at]
  pointwise
  congr 2
  apply Fin.ext
  show t.val / 32 * 32 + i % 32 = (t.val / 32 * 32 + i) % 4096
  omega

end Cert.KernelIdeal.Scan

end
-- ==== Proof.Value.lean ====
/- What the kernel's run leaves over the extended reals: the recurrence's outputs. -/
module

public import proofs.«01_k».proof.Proof.Run
public import proofs.«01_k».proof.Proof.Host
public import Idealize.ShloMosaic.Lib.Pipeline.Value

@[expose] public section

noncomputable section

open Idealize.ShloMosaic Idealize.ShloMosaic.TcCoe Idealize.SL.Sem
open Idealize.ShloMosaic.Pipeline (Dat)

namespace Cert.KernelIdeal.Scan

open Cert.KernelIdeal Cert.KernelIdeal.Gen

theorem idx0_0 : ∀ t : Fin cfg0.N, win0_0.index t 0 = t.val ∧ win0_0.index t 1 = 0 ∧ win0_0.index t 2 = 0 := by decide +kernel
theorem idx0_1 : ∀ t : Fin cfg0.N, win0_1.index t 0 = min (32 * (t.val + 1)) 4095 ∧ win0_1.index t 1 = 0 ∧ win0_1.index t 2 = 0 := by decide +kernel
theorem idx0_2 : ∀ t : Fin cfg0.N, win0_2.index t 0 = t.val ∧ win0_2.index t 1 = 0 ∧ win0_2.index t 2 = 0 := by decide +kernel
theorem idx0_3 : ∀ t : Fin cfg0.N, win0_3.index t 0 = t.val ∧ win0_3.index t 1 = 0 ∧ win0_3.index t 2 = 0 := by decide +kernel
theorem idx0_4 : ∀ t : Fin cfg0.N, win0_4.index t 0 = t.val ∧ win0_4.index t 1 = 0 ∧ win0_4.index t 2 = 0 := by decide +kernel
theorem idx0_5 : ∀ t : Fin cfg0.N, win0_5.index t 0 = t.val ∧ win0_5.index t 1 = 0 ∧ win0_5.index t 2 = 0 := by decide +kernel
theorem idx0_6 : ∀ t : Fin cfg0.N, win0_6.index t 0 = t.val ∧ win0_6.index t 1 = 0 ∧ win0_6.index t 2 = 0 := by decide +kernel
theorem idx0_7 : ∀ t : Fin cfg0.N, win0_7.index t 0 = t.val ∧ win0_7.index t 1 = 0 ∧ win0_7.index t 2 = 0 := by decide +kernel

variable (m : (ℓ : Loc nD τ sig) → Buf (Elt Ideal) ℓ) (ρ : Dev nD → PrngReg) (c : Dev nD)

theorem blk0_at (t : Fin cfg0.N) (n : Fin 32) (k : Fin 32) (l : Fin 128) :
    (iblk m c 0 t : FVec Ideal S32x32x128 .f32) (ix3 n k l) = V m c main_v14 (ix3 (Fin.ofNat 4096 (32 * t.val + n.val)) k l) := by
  have hi := idx0_0 t
  have hn := n.isLt
  have ht : t.val < 128 := Nat.lt_of_lt_of_eq t.isLt N_0
  unfold iblk
  rw [View.read_apply]
  show V m c main_v14 _ = V m c main_v14 _
  congr 1
  funext a
  apply Fin.ext
  match a with
  | ⟨0, _⟩ => show win0_0.index t 0 * 32 + 1 * n.val = (32 * t.val + n.val) % 4096; rw [hi.1]; omega
  | ⟨1, _⟩ => show win0_0.index t 1 * 32 + 1 * k.val = k.val; rw [hi.2.1]; omega
  | ⟨2, _⟩ => show win0_0.index t 2 * 128 + 1 * l.val = l.val; rw [hi.2.2]; omega

theorem blk2_at (t : Fin cfg0.N) (n : Fin 32) (k : Fin 32) (l : Fin 128) :
    (iblk m c 2 t : FVec Ideal S32x32x128 .f32) (ix3 n k l) = V m c main_v19 (ix3 (Fin.ofNat 4096 (32 * t.val + n.val)) k l) := by
  have hi := idx0_2 t
  have hn := n.isLt
  have ht : t.val < 128 := Nat.lt_of_lt_of_eq t.isLt N_0
  unfold iblk
  rw [View.read_apply]
  show V m c main_v19 _ = V m c main_v19 _
  congr 1
  funext a
  apply Fin.ext
  match a with
  | ⟨0, _⟩ => show win0_2.index t 0 * 32 + 1 * n.val = (32 * t.val + n.val) % 4096; rw [hi.1]; omega
  | ⟨1, _⟩ => show win0_2.index t 1 * 32 + 1 * k.val = k.val; rw [hi.2.1]; omega
  | ⟨2, _⟩ => show win0_2.index t 2 * 128 + 1 * l.val = l.val; rw [hi.2.2]; omega

theorem blk3_at (t : Fin cfg0.N) (n : Fin 32) (k : Fin 32) (l : Fin 128) :
    (iblk m c 3 t : FVec Ideal S32x32x128 .f32) (ix3 n k l) = V m c main_v23 (ix3 (Fin.ofNat 4096 (32 * t.val + n.val)) k l) := by
  have hi := idx0_3 t
  have hn := n.isLt
  have ht : t.val < 128 := Nat.lt_of_lt_of_eq t.isLt N_0
  unfold iblk
  rw [View.read_apply]
  show V m c main_v23 _ = V m c main_v23 _
  congr 1
  funext a
  apply Fin.ext
  match a with
  | ⟨0, _⟩ => show win0_3.index t 0 * 32 + 1 * n.val = (32 * t.val + n.val) % 4096; rw [hi.1]; omega
  | ⟨1, _⟩ => show win0_3.index t 1 * 32 + 1 * k.val = k.val; rw [hi.2.1]; omega
  | ⟨2, _⟩ => show win0_3.index t 2 * 128 + 1 * l.val = l.val; rw [hi.2.2]; omega

theorem blk4_at (t : Fin cfg0.N) (n : Fin 32) (k : Fin 32) (l : Fin 128) :
    (iblk m c 4 t : FVec Ideal S32x32x128 .f32) (ix3 n k l) = V m c main_v27 (ix3 (Fin.ofNat 4096 (32 * t.val + n.val)) k l) := by
  have hi := idx0_4 t
  have hn := n.isLt
  have ht : t.val < 128 := Nat.lt_of_lt_of_eq t.isLt N_0
  unfold iblk
  rw [View.read_apply]
  show V m c main_v27 _ = V m c main_v27 _
  congr 1
  funext a
  apply Fin.ext
  match a with
  | ⟨0, _⟩ => show win0_4.index t 0 * 32 + 1 * n.val = (32 * t.val + n.val) % 4096; rw [hi.1]; omega
  | ⟨1, _⟩ => show win0_4.index t 1 * 32 + 1 * k.val = k.val; rw [hi.2.1]; omega
  | ⟨2, _⟩ => show win0_4.index t 2 * 128 + 1 * l.val = l.val; rw [hi.2.2]; omega

theorem blk6_at (t : Fin cfg0.N) (n : Fin 32) (k : Fin 64) (l : Fin 128) :
    (iblk m c 6 t : FVec Ideal S32x64x128 .f32) (ix3 n k l) = V m c main_v34 (ix3 (Fin.ofNat 4096 (32 * t.val + n.val)) k l) := by
  have hi := idx0_6 t
  have hn := n.isLt
  have ht : t.val < 128 := Nat.lt_of_lt_of_eq t.isLt N_0
  unfold iblk
  rw [View.read_apply]
  show V m c main_v34 _ = V m c main_v34 _
  congr 1
  funext a
  apply Fin.ext
  match a with
  | ⟨0, _⟩ => show win0_6.index t 0 * 32 + 1 * n.val = (32 * t.val + n.val) % 4096; rw [hi.1]; omega
  | ⟨1, _⟩ => show win0_6.index t 1 * 64 + 1 * k.val = k.val; rw [hi.2.1]; omega
  | ⟨2, _⟩ => show win0_6.index t 2 * 128 + 1 * l.val = l.val; rw [hi.2.2]; omega

theorem blk1_at (t : Fin cfg0.N) (n : Fin 1) (k : Fin 32) (l : Fin 128) :
    (iblk m c 1 t : FVec Ideal S1x32x128 .f32) (ix3 n k l) = V m c main_v14 (ix3 (Fin.ofNat 4096 (min (32 * (t.val + 1)) 4095)) k l) := by
  have hi := idx0_1 t
  have hn := n.isLt
  have ht : t.val < 128 := Nat.lt_of_lt_of_eq t.isLt N_0
  unfold iblk
  rw [View.read_apply]
  show V m c main_v14 _ = V m c main_v14 _
  congr 1
  funext a
  apply Fin.ext
  match a with
  | ⟨0, _⟩ => show win0_1.index t 0 * 1 + 1 * n.val = (min (32 * (t.val + 1)) 4095) % 4096; rw [hi.1]; omega
  | ⟨1, _⟩ => show win0_1.index t 1 * 32 + 1 * k.val = k.val; rw [hi.2.1]; omega
  | ⟨2, _⟩ => show win0_1.index t 2 * 128 + 1 * l.val = l.val; rw [hi.2.2]; omega

theorem blk5_at (t : Fin cfg0.N) (n : Fin 1) (k : Fin 32) (l : Fin 128) :
    (iblk m c 5 t : FVec Ideal S1x32x128 .f32) (ix3 n k l) = V m c main_v31 (ix3 (Fin.ofNat 128 (t.val)) k l) := by
  have hi := idx0_5 t
  have hn := n.isLt
  have ht : t.val < 128 := Nat.lt_of_lt_of_eq t.isLt N_0
  unfold iblk
  rw [View.read_apply]
  show V m c main_v31 _ = V m c main_v31 _
  congr 1
  funext a
  apply Fin.ext
  match a with
  | ⟨0, _⟩ => show win0_5.index t 0 * 1 + 1 * n.val = (t.val) % 128; rw [hi.1]; omega
  | ⟨1, _⟩ => show win0_5.index t 1 * 32 + 1 * k.val = k.val; rw [hi.2.1]; omega
  | ⟨2, _⟩ => show win0_5.index t 2 * 128 + 1 * l.val = l.val; rw [hi.2.2]; omega

end Cert.KernelIdeal.Scan

end
-- ==== Proof.ScanVal.lean ====
/- The kernel's chunks, one after another, over the extended reals: every block it writes is the recurrence's outputs. -/
module

public import proofs.«01_k».proof.Proof.Value

@[expose] public section

noncomputable section

open Idealize.ShloMosaic Idealize.ShloMosaic.TcCoe Idealize.SL.Sem

namespace Cert.KernelIdeal.Scan

open Cert.KernelIdeal Cert.KernelIdeal.Gen

variable (m : (ℓ : Loc nD τ sig) → Buf (Elt Ideal) ℓ) (c : Dev nD) (b h : Fin 8)

theorem lay_lane (x : FVec Ideal S4096x8x8x64 .f32) (t : Fin 4096) (kx : ℕ) (hk : kx < 32) (hf : ℕ) (hhf : hf < 2) :
    layV x (ix3 t (Fin.ofNat 32 kx) (lane (h.val * 8 + b.val) hf)) = x (ix4 t b h (Fin.ofNat 64 (hf * 32 + kx))) := by
  have hb := b.isLt
  have hh := h.isLt
  rw [layV_at]
  have hl : (lane (h.val * 8 + b.val) hf).val = hf * 64 + (h.val * 8 + b.val) := by
    show (hf * 64 + (h.val * 8 + b.val)) % 128 = _
    omega
  rw [hl]
  congr 2
  · apply Fin.ext; show (hf * 64 + (h.val * 8 + b.val)) % 8 % 8 = b.val; omega
  · apply Fin.ext; show (hf * 64 + (h.val * 8 + b.val)) / 8 % 8 = h.val; omega
  · apply Fin.ext; show ((hf * 64 + (h.val * 8 + b.val)) / 64 * 32 + kx % 32) % 64 = (hf * 32 + kx) % 64; omega

theorem val_lane (x : FVec Ideal S4096x8x8x64 .f32) (t : Fin 4096) (y : Fin 64) (hf : ℕ) (hhf : hf < 2) :
    valV x (ix3 t y (lane (h.val * 8 + b.val) hf)) = x (ix4 t b h y) := by
  have hb := b.isLt
  have hh := h.isLt
  rw [valV_at]
  have hl : (lane (h.val * 8 + b.val) hf).val = hf * 64 + (h.val * 8 + b.val) := by
    show (hf * 64 + (h.val * 8 + b.val)) % 128 = _
    omega
  rw [hl]
  congr 2
  · apply Fin.ext; show (hf * 64 + (h.val * 8 + b.val)) % 8 % 8 = b.val; omega
  · apply Fin.ext; show (hf * 64 + (h.val * 8 + b.val)) / 8 % 8 = h.val; omega

/-- The running sum of the logarithms at step `n` of chunk `t`. -/
theorem lp_row (x : FVec Ideal S4096x8x8x64 .f32) (t : ℕ) (ht : t < 128) (n : ℕ) (hn : n < 32) (κ : ℕ) :
    lpV x (ix4 (Fin.ofNat 4096 (32 * t + n)) b h (Fin.ofNat 64 κ)) = ∑ i ∈ Finset.range (n + 1), lw (el x b h (32 * t + i) κ) := by
  rw [lpV_at]
  have hv : (Fin.ofNat 4096 (32 * t + n)).val = 32 * t + n := by show (32 * t + n) % 4096 = _; omega
  rw [hv, show (32 * t + n) % 32 = n from by omega, show (32 * t + n) / 32 * 32 = 32 * t from by omega]
  rfl

variable (hw : ∀ i, X1 m c i < ⊤)

include hw in
theorem a_row (t : ℕ) (ht : t < 128) (n : ℕ) (hn : n < 32) (kx : ℕ) (hk : kx < 32) (hf : ℕ) (hhf : hf < 2) :
    V m c main_v14 (ix3 (Fin.ofNat 4096 (32 * t + n)) (Fin.ofNat 32 kx) (lane (h.val * 8 + b.val) hf))
      = -(el (X4 m c) b h (32 * t + n) (hf * 32 + kx)) * Pn (fun i => lw (el (X1 m c) b h (32 * t + i) (hf * 32 + kx))) n := by
  rw [v14_eq, lay_lane b h _ _ kx hk hf hhf]
  show -(X4 m c _) * Ideal.exp (lpV (X1 m c) _ - lw (X1 m c _)) = _
  rw [lp_row b h _ t ht n hn]
  congr 1
  exact Pn_prev (fun i => lw (el (X1 m c) b h (32 * t + i) (hf * 32 + kx))) (fun i => lw_real _ (hw _)) n

theorem b_row (t : ℕ) (ht : t < 128) (n : ℕ) (hn : n < 32) (kx : ℕ) (hk : kx < 32) (hf : ℕ) (hhf : hf < 2) :
    V m c main_v19 (ix3 (Fin.ofNat 4096 (32 * t + n)) (Fin.ofNat 32 kx) (lane (h.val * 8 + b.val) hf))
      = (el (X4 m c) b h (32 * t + n) (hf * 32 + kx) * el (X5 m c) b h (32 * t + n) (hf * 32 + kx))
        * Ideal.exp (-(∑ i ∈ Finset.range (n + 1), lw (el (X1 m c) b h (32 * t + i) (hf * 32 + kx)))) := by
  rw [v19_eq, lay_lane b h _ _ kx hk hf hhf]
  show (X4 m c _ * X5 m c _) * Ideal.exp (-(lpV (X1 m c) _)) = _
  rw [lp_row b h _ t ht n hn]
  rfl

theorem k_row (t : ℕ) (ht : t < 128) (n : ℕ) (hn : n < 32) (kx : ℕ) (hk : kx < 32) (hf : ℕ) (hhf : hf < 2) :
    V m c main_v23 (ix3 (Fin.ofNat 4096 (32 * t + n)) (Fin.ofNat 32 kx) (lane (h.val * 8 + b.val) hf))
      = el (X2 m c) b h (32 * t + n) (hf * 32 + kx)
        * Ideal.exp (-(∑ i ∈ Finset.range (n + 1), lw (el (X1 m c) b h (32 * t + i) (hf * 32 + kx)))) := by
  rw [v23_eq, lay_lane b h _ _ kx hk hf hhf]
  show X2 m c _ * Ideal.exp (-(lpV (X1 m c) _)) = _
  rw [lp_row b h _ t ht n hn]
  rfl

theorem r_row (t : ℕ) (ht : t < 128) (n : ℕ) (hn : n < 32) (kx : ℕ) (hk : kx < 32) (hf : ℕ) (hhf : hf < 2) :
    V m c main_v27 (ix3 (Fin.ofNat 4096 (32 * t + n)) (Fin.ofNat 32 kx) (lane (h.val * 8 + b.val) hf))
      = el (X0 m c) b h (32 * t + n) (hf * 32 + kx) * Pn (fun i => lw (el (X1 m c) b h (32 * t + i) (hf * 32 + kx))) (n + 1) := by
  rw [v27_eq, lay_lane b h _ _ kx hk hf hhf]
  show X0 m c _ * Ideal.exp (lpV (X1 m c) _) = _
  rw [lp_row b h _ t ht n hn]
  rfl

theorem p_row (t : ℕ) (ht : t < 128) (kx : ℕ) (hk : kx < 32) (hf : ℕ) (hhf : hf < 2) :
    V m c main_v31 (ix3 (Fin.ofNat 128 t) (Fin.ofNat 32 kx) (lane (h.val * 8 + b.val) hf))
      = Pn (fun i => lw (el (X1 m c) b h (32 * t + i) (hf * 32 + kx))) 32 := by
  have hs : ∀ (x : FVec Ideal S4096x32x128 .f32) (i : Fin 128) (k : Fin 32) (l : Fin 128),
      Host.slice S128x32x128 ![31, 0, 0] ![32, 1, 1] x slicesBy_S4096x32x128_S128x32x128_31s32_0s1_0s1 (ix3 i k l)
        = x (ix3 (Fin.ofNat 4096 (32 * i.val + 31)) k l) := by
    intro x i k l
    have hi := i.isLt
    unfold Host.slice
    congr 1
    funext a
    apply Fin.ext
    match a with
    | ⟨0, _⟩ => show 31 + 32 * i.val = (32 * i.val + 31) % 4096; omega
    | ⟨1, _⟩ => show 0 + 1 * k.val = k.val; omega
    | ⟨2, _⟩ => show 0 + 1 * l.val = l.val; omega
  rw [v31_eq, hs, lay_lane b h _ _ kx hk hf hhf]
  show Ideal.exp (lpV (X1 m c) _) = _
  have hv : (Fin.ofNat 128 t).val = t := by show t % 128 = t; omega
  rw [hv, lp_row b h _ t ht 31 (by omega)]
  rfl

theorem v_row (t n : ℕ) (y : Fin 64) (hf : ℕ) (hhf : hf < 2) :
    V m c main_v34 (ix3 (Fin.ofNat 4096 (32 * t + n)) y (lane (h.val * 8 + b.val) hf)) = vl (X3 m c) b h (32 * t + n) y := by
  rw [v34_eq, val_lane b h _ _ _ hf hhf]
  rfl

/-- The recurrence at one pair, from the arguments. -/
def stA : ℕ → Fin 64 → ℕ → EReal :=
  st (el (X1 m c) b h) (el (X2 m c) b h) (el (X4 m c) b h) (el (X5 m c) b h) (vl (X3 m c) b h)

include hw in
theorem data (t : Fin cfg0.N) :
    ChunkData (iblk m c 0 t) (iblk m c 2 t) (iblk m c 3 t) (iblk m c 4 t) (iblk m c 6 t) (h.val * 8 + b.val)
      (fun n => el (X1 m c) b h (32 * t.val + n)) (fun n => el (X4 m c) b h (32 * t.val + n)) (fun n => el (X5 m c) b h (32 * t.val + n))
      (fun n => el (X2 m c) b h (32 * t.val + n)) (fun n => el (X0 m c) b h (32 * t.val + n)) (fun n => vl (X3 m c) b h (32 * t.val + n)) := by
  have hb := b.isLt
  have hh := h.isLt
  have ht : t.val < 128 := Nat.lt_of_lt_of_eq t.isLt N_0
  have hv : ∀ n < 32, (Fin.ofNat 32 n).val = n := fun n hn => Nat.mod_eq_of_lt hn
  refine ⟨by omega, fun κ i => lw_real _ (hw _), fun n hn hf hhf kx hk => ?_, fun n hn hf hhf kx hk => ?_, fun n hn hf hhf kx hk => ?_,
    fun n hn hf hhf kx hk => ?_, fun n hn hf hhf y => ?_⟩
  · rw [blk0_at, hv n hn]; exact a_row m c b h hw t.val ht n hn kx hk hf hhf
  · rw [blk2_at, hv n hn]; exact b_row m c b h t.val ht n hn kx hk hf hhf
  · rw [blk3_at, hv n hn]; exact k_row m c b h t.val ht n hn kx hk hf hhf
  · rw [blk4_at, hv n hn]; exact r_row m c b h t.val ht n hn kx hk hf hhf
  · rw [blk6_at, hv n hn]; exact v_row m c b h t.val n y hf hhf

/-- What the two scratch buffers hold before chunk `t`. -/
def Held (t : ℕ) : Prop :=
  (∀ hf < 2, ∀ kx < 32, ∀ y, (blkSt m c t).2 (ix3 (Fin.ofNat 32 kx) y (lane (h.val * 8 + b.val) hf)) = stA m c b h (32 * t) y (hf * 32 + kx))
  ∧ ∀ hf < 2, ∀ y, (blkSt m c t).1 (ix2 y (lane (h.val * 8 + b.val) hf))
      = ∑ kx ∈ Finset.range 32, stA m c b h (32 * t) y (hf * 32 + kx) * -(el (X4 m c) b h (32 * t) (hf * 32 + kx))

include hw in
theorem held (t : ℕ) (ht : t < 128) : Held m c b h t := by
  induction t with
  | zero =>
    refine ⟨fun hf hhf kx hk y => ?_, fun hf hhf y => ?_⟩
    · have hz : k0_pay143 (F := Ideal) (ix3 (Fin.ofNat 32 kx) y (lane (h.val * 8 + b.val) hf)) = (0 : EReal) := by pointwise [k0_pay143]
      exact hz
    · have hz : k0_pay144 (F := Ideal) (ix2 y (lane (h.val * 8 + b.val) hf)) = (0 : EReal) := by pointwise [k0_pay144]
      refine hz.trans (Finset.sum_eq_zero fun kx _ => ?_).symm
      show (0 : EReal) * _ = 0
      rw [zero_mul]
  | succ t ih =>
    have hI := ih (by omega)
    have hN : t < cfg0.N := by rw [show cfg0.N = 128 from N_0]; omega
    have D := data m c b h hw ⟨t, hN⟩
    have hP : ∀ hf < 2, ∀ kx < 32, (iblk m c 5 ⟨t, hN⟩ : FVec Ideal S1x32x128 .f32) (ix3 0 (Fin.ofNat 32 kx) (lane (h.val * 8 + b.val) hf))
        = Pn (fun i => lw (el (X1 m c) b h (32 * t + i) (hf * 32 + kx))) 32 := by
      intro hf hhf kx hk
      rw [blk5_at]
      exact p_row m c b h t (by omega) kx hk hf hhf
    have hN' : ∀ hf < 2, ∀ kx < 32, (iblk m c 1 ⟨t, hN⟩ : FVec Ideal S1x32x128 .f32) (ix3 0 (Fin.ofNat 32 kx) (lane (h.val * 8 + b.val) hf))
        = -(el (X4 m c) b h (32 * t + 32) (hf * 32 + kx)) := by
      intro hf hhf kx hk
      rw [blk1_at]
      have e : min (32 * (t + 1)) 4095 = 32 * (t + 1) + 0 := by omega
      show V m c main_v14 (ix3 (Fin.ofNat 4096 (min (32 * (t + 1)) 4095)) _ _) = _
      rw [e, a_row m c b h hw (t + 1) ht 0 (by omega) kx hk hf hhf, Pn_zero, mul_one]
      rfl
    have hS : ∀ hf < 2, ∀ kx < 32, ∀ y, (blkSt m c t).2 (ix3 (Fin.ofNat 32 kx) y (lane (h.val * 8 + b.val) hf))
        = (fun n => stA m c b h (32 * t + n)) 0 y (hf * 32 + kx) := hI.1
    have hs := blkSt_succ m c ⟨t, hN⟩
    refine ⟨fun hf hhf kx hk y => ?_, fun hf hhf y => ?_⟩
    · rw [show (blkSt m c (t + 1)).2 = _ from congrArg Prod.snd hs]
      exact chunkS_val D (fun n => stA m c b h (32 * t + n)) (fun n y κ => rfl) _ _ hI.1 hI.2 _ hP hf hhf kx hk y
    · rw [show (blkSt m c (t + 1)).1 = _ from congrArg Prod.fst hs]
      exact chunkA_val D (fun n => stA m c b h (32 * t + n)) (fun n y κ => rfl) _ _ hI.1 hI.2 _ _ hP hN' hf hhf y

include hw in
/-- The output block of chunk `t`. -/
theorem outY_val (t : Fin cfg0.N) (n : ℕ) (hn : n < 32) (hf : ℕ) (hhf : hf < 2) (y : Fin 64) :
    outY m c t (ix3 (Fin.ofNat 32 n) y (lane (h.val * 8 + b.val) hf))
      = ∑ kx ∈ Finset.range 32, stA m c b h (32 * t.val + n + 1) y (hf * 32 + kx) * el (X0 m c) b h (32 * t.val + n) (hf * 32 + kx) := by
  have ht : t.val < 128 := Nat.lt_of_lt_of_eq t.isLt N_0
  have hI := held m c b h hw t.val ht
  exact chunkY_val (data m c b h hw t) (fun n => stA m c b h (32 * t.val + n)) (fun n y κ => rfl) _ _ hI.1 hI.2 n hn hf hhf y

end Cert.KernelIdeal.Scan

end
-- ==== Proof.Final.lean ====
/- The kernel's result over the extended reals: the recurrence's outputs, in the argument's layout. -/
module

public import proofs.«01_k».proof.Proof.ScanVal

@[expose] public section

noncomputable section

open Idealize.ShloMosaic Idealize.ShloMosaic.TcCoe Idealize.SL.Sem
open Idealize.ShloMosaic.Pipeline (Dat)

namespace Cert.KernelIdeal.Scan

open Cert.KernelIdeal Cert.KernelIdeal.Gen

variable (m : (ℓ : Loc nD τ sig) → Buf (Elt Ideal) ℓ) (ρ : Dev nD → PrngReg) (c : Dev nD)

/-- The output array: chunk after chunk. -/
def outArr : FVec Ideal S4096x64x128 .f32 := fun i =>
  outY m c ⟨(i 0).val / 32, by
    have h : (i 0).val < 4096 := (i 0).isLt
    rw [show cfg0.N = 128 from N_0]; omega⟩ (ix3 (Fin.ofNat 32 ((i 0).val % 32)) (i 1) (i 2))

theorem flushed_eq (t : Fin cfg0.N) (hf : (cfg0.win 7).flush t = true) :
    (dats m 0 c).flushed 7 t = ((cfg0.win 7).blk t).view.read (Elt Ideal) (outArr m c) := by
  have hi := idx0_7 t
  have ht : t.val < 128 := Nat.lt_of_lt_of_eq t.isLt N_0
  show (cfg0.win 7).cut (grid0.coords t) ((dats m 0 c).after 7 t) = _
  rw [after0_7]
  funext j
  have j0 : (j 0).val < 32 := (j 0).isLt
  rw [View.read_apply]
  show outY m c t j = outArr m c _
  unfold outArr
  have e0 : (((cfg0.win 7).blk t).view.emb j 0).val = 32 * t.val + (j 0).val := by
    show win0_7.index t 0 * 32 + 1 * (j 0).val = _
    rw [hi.1]; omega
  have et : t = ⟨(((cfg0.win 7).blk t).view.emb j 0).val / 32, Nat.lt_of_lt_of_eq (by rw [e0]; omega : _ < 128) N_0.symm⟩ := Fin.ext (by
    show t.val = _ / 32
    rw [e0]; omega)
  refine congrArg₂ (fun a b => outY m c a b) et ?_
  funext a
  apply Fin.ext
  match a with
  | ⟨0, _⟩ => show (j 0).val = ((((cfg0.win 7).blk t).view.emb j 0).val % 32) % 32; rw [e0]; omega
  | ⟨1, _⟩ => show (j 1).val = win0_7.index t 1 * 64 + 1 * (j 1).val; rw [hi.2.1]; omega
  | ⟨2, _⟩ => show (j 2).val = win0_7.index t 2 * 128 + 1 * (j 2).val; rw [hi.2.2]; omega

theorem final_o : (dats m 0 c).arrAt 7 cfg0.N = outArr m c :=
  (dats m 0 c).arrAt_eq_of_cover 7 (outArr m c) (flushed_eq m c) fun i => by
    have h0 : (i 0 : Nat) < 4096 := (i 0).isLt
    have h1 : (i 1 : Nat) < 64 := (i 1).isLt
    have h2 : (i 2 : Nat) < 128 := (i 2).isLt
    have hN : (i 0).val / 32 < cfg0.N := by rw [show cfg0.N = 128 from N_0]; omega
    refine ⟨⟨(i 0).val / 32, hN⟩, flush0_7 _, ?_⟩
    have hi := idx0_7 ⟨(i 0).val / 32, hN⟩
    show i ∈ ((View.whole main_v35).slice (win0_7.rect ⟨(i 0).val / 32, hN⟩)).set
    rw [View.set_slice_whole, Rect.mem_set_unit]
    intro a
    match a with
    | ⟨0, _⟩ =>
      show win0_7.index ⟨(i 0).val / 32, hN⟩ 0 * 32 ≤ (i 0 : Nat) ∧ (i 0 : Nat) < win0_7.index ⟨(i 0).val / 32, hN⟩ 0 * 32 + 32
      rw [hi.1]; dsimp only; omega
    | ⟨1, _⟩ =>
      show win0_7.index ⟨(i 0).val / 32, hN⟩ 1 * 64 ≤ (i 1 : Nat) ∧ (i 1 : Nat) < win0_7.index ⟨(i 0).val / 32, hN⟩ 1 * 64 + 64
      rw [hi.2.1]; omega
    | ⟨2, _⟩ =>
      show win0_7.index ⟨(i 0).val / 32, hN⟩ 2 * 128 ≤ (i 2 : Nat) ∧ (i 2 : Nat) < win0_7.index ⟨(i 0).val / 32, hN⟩ 2 * 128 + 128
      rw [hi.2.2]; omega

/-- The two halves of the lanes added, in the argument's layout. -/
def tailV (x : FVec Ideal S4096x64x128 .f32) : FVec Ideal S4096x8x8x64 .f32 :=
  transpose S4096x8x8x64 [0, 3, 2, 1]
    (shapeCast S4096x64x8x8
      (addf (extractStridedSlice S4096x64x64 ![0, 0, 0] x slices_S4096x64x128_S4096x64x64_0_0_0)
        (extractStridedSlice S4096x64x64 ![0, 0, 64] x slices_S4096x64x128_S4096x64x64_0_0_64))
      shapeCasts_S4096x64x64_S4096x64x8x8) transposes_S4096x64x8x8_S4096x8x8x64_0_3_2_1

theorem tailV_at (x : FVec Ideal S4096x64x128 .f32) (t : Fin 4096) (b h : Fin 8) (y : Fin 64) :
    tailV x (ix4 t b h y) = x (ix3 t y (lane (h.val * 8 + b.val) 0)) + x (ix3 t y (lane (h.val * 8 + b.val) 1)) := by
  have hb := b.isLt
  have hh := h.isLt
  pointwise [tailV]
  congr 3
  · apply Fin.ext; show _ = (0 * 64 + (h.val * 8 + b.val)) % 128; dsimp only; omega
  · apply Fin.ext; show _ = (1 * 64 + (h.val * 8 + b.val)) % 128; dsimp only; omega

theorem shared_in (w w' : Fin cfg0.W) (hne : w ≠ w') (e : Pipeline.arrRef spec0 w = Pipeline.arrRef spec0 w') :
    (dats m 0 c).arrAt w cfg0.N = V0 m c (Proc.devRef .tc (Pipeline.arrRef spec0 w)) := by
  have key : ∀ w w' : Fin 8, w ≠ w' → Pipeline.arrRef spec0 w = Pipeline.arrRef spec0 w' → w = 0 ∨ w = 1 := by decide
  rcases key w w' hne e with rfl | rfl
  · exact ((dats m 0 c).arrAt_in 0 rfl _).trans (A_eq m c 0)
  · exact ((dats m 0 c).arrAt_in 1 rfl _).trans (A_eq m c 1)

/-- What the program's result buffer ends with. -/
theorem tail_eq : Pipeline.afterTail₀ cfgs (dats m) 0 (V0 m) [hostOps1] c main_v40 = tailV (outArr m c) := by
  have hA : Pipeline.withArrays spec0 c (V0 m c) (fun w => (dats m 0 c).arrAt w cfg0.N) (Proc.devRef .tc main_v35) = outArr m c :=
    (Pipeline.withArrays_arr_shared spec0 c (V0 m c) (fun w => (dats m 0 c).arrAt w cfg0.N) (shared_in m c) 7).trans (final_o m c)
  unfold Pipeline.afterTail₀
  simp only [List.flatten_cons, List.flatten_nil, List.append_nil]
  after_reads_simp
  rw [show Pipeline.withArrays (cfgs 0).spec c (V0 m c) (fun w => (dats m 0 c).arrAt w (cfgs 0).N) (Proc.devRef .tc main_v35) = outArr m c from hA]
  rfl

/-- The result at an index. -/
theorem result_at (hw : ∀ i, X1 m c i < ⊤) (t : Fin 4096) (b h : Fin 8) (y : Fin 64) :
    tailV (outArr m c) (ix4 t b h y) = outR (X0 m c) (X1 m c) (X2 m c) (X3 m c) (X4 m c) (X5 m c) b h t.val y := by
  have ht := t.isLt
  have hN : t.val / 32 < cfg0.N := by rw [show cfg0.N = 128 from N_0]; omega
  have ho : ∀ hf < 2, outArr m c (ix3 t y (lane (h.val * 8 + b.val) hf))
      = ∑ kx ∈ Finset.range 32, stA m c b h (t.val + 1) y (hf * 32 + kx) * el (X0 m c) b h t.val (hf * 32 + kx) := by
    intro hf hhf
    have := outY_val m c b h hw ⟨t.val / 32, hN⟩ (t.val % 32) (by omega) hf hhf y
    rw [show 32 * (⟨t.val / 32, hN⟩ : Fin cfg0.N).val + t.val % 32 = t.val from by dsimp only; omega] at this
    exact this
  rw [tailV_at, ho 0 (by omega), ho 1 (by omega)]
  unfold outR
  rw [sum_halves]
  rfl

/-- The run: the result, and the arguments unchanged. -/
theorem run : θ_run defs (onTc (τ := τ) (main (F := Ideal))) ⟨m, fun _ => 0, ρ⟩ (fun r => ∀ c : Dev nD,
      r.2.mem ((c.tc : Thread nD τ).loc main_v40) = tailV (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).trans (tail_eq m c), (h.2 c)⟩)
    (θ_run_and ((θ_run defs _ _).mono (fun _ h c => (h c).2 main_v40 (Pipeline.mem_restRefs_of main_v40 (by decide) (by decide))) (run_main m ρ))
      (frame_of m ρ (dats m) (A_eq m) (run_main m ρ)))

end Cert.KernelIdeal.Scan

end
-- ==== Proof.RefRun.lean ====
/- The reference's run: its result is the last state of the step iterated from the first. -/
module

public import proofs.«01_k».proof.Proof.Gen.ReferenceIdeal.Run
public import proofs.«01_k».proof.Proof.Gen.ReferenceIdeal.Step

@[expose] public section

noncomputable section

namespace Cert.ReferenceIdeal.Scan

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The carried values, read off the loop's buffers. -/
def carried (V : Valuation τ sig (Elt F)) : State F where
  main_v5_0 := V (Proc.devRef .tc main_v5_0)
  main_v5_1 := V (Proc.devRef .tc main_v5_1)
  main_v5_2 := V (Proc.devRef .tc main_v5_2)
  main_v5_3 := V (Proc.devRef .tc main_v5_3)
  main_v5_4 := V (Proc.devRef .tc main_v5_4)
  main_v5_5 := V (Proc.devRef .tc main_v5_5)
  main_v5_7 := V (Proc.devRef .tc main_v5_7)
  main_v5_8 := V (Proc.devRef .tc main_v5_8)

set_option maxRecDepth 8192 in
/-- One trip over the buffers, at trip `j`, is one step of the carried values, and the next trip's number. -/
theorem carried_step (V : Valuation τ sig (Elt F)) (j : ℕ)
    (hj : V (Proc.devRef .tc main_v5_6) = constantI S_ 32 (BitVec.ofNat 32 j)) :
    carried (STEP V) = step j (carried V) ∧ STEP V (Proc.devRef .tc main_v5_6) = constantI S_ 32 (BitVec.ofNat 32 (j + 1)) := by
  constructor
  · unfold carried
    rw [STEP_main_v5_0, STEP_main_v5_1, STEP_main_v5_2, STEP_main_v5_3, STEP_main_v5_4, STEP_main_v5_5, STEP_main_v5_7,
      STEP_main_v5_8]
    unfold step_main_v5_7 step_main_v5_8 res_main_while0b_v29 res_main_while0b_v10
    rw [hj]
    rfl
  · rw [STEP_main_v5_6]
    unfold step_main_v5_6
    rw [hj]
    exact funext fun _ => (BitVec.ofNat_add j 1).symm

variable (m : (ℓ : Loc nD τ sig) → Buf (Elt F) ℓ) (c : Dev nD)

/-- The first carried values, of the arguments. -/
abbrev first : State F :=
  init (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg1))

set_option maxRecDepth 65536 in
set_option maxHeartbeats 400000 in
theorem carried_entry : carried (entryContents preI m c) = first m c
    ∧ entryContents preI m c (Proc.devRef .tc main_v5_6) = constantI S_ 32 (BitVec.ofNat 32 0) := by
  constructor
  · unfold carried
    congr 1 <;> (simp only [entryContents, afterL_cons, afterL_nil]; after_reads_simp) <;> rfl
  · simp only [entryContents, afterL_cons, afterL_nil]
    after_reads_simp
    rfl

/-- After `k` trips: the `k`-th of a sequence of states going on by steps. -/
theorem carried_trips (it : ℕ → State F) (h0 : it 0 = first m c) (hs : ∀ n, it (n + 1) = step n (it n)) (k : ℕ) :
    carried (STEP^[k] (entryContents preI m c)) = it k
    ∧ STEP^[k] (entryContents preI m c) (Proc.devRef .tc main_v5_6) = constantI S_ 32 (BitVec.ofNat 32 k) := by
  induction k with
  | zero => exact ⟨(carried_entry m c).1.trans h0.symm, (carried_entry m c).2⟩
  | succ k ih =>
    rw [Function.iterate_succ_apply']
    have h := carried_step _ k ih.2
    exact ⟨h.1.trans ((congrArg (step k) ih.1).trans (hs k).symm), h.2⟩

theorem result_trips (it : ℕ → State F) (h0 : it 0 = first m c) (hs : ∀ n, it (n + 1) = step n (it n)) (k : ℕ) :
    STEP^[k] (entryContents preI m c) (Proc.devRef .tc main_v5_8) = (it k).main_v5_8 :=
  congrArg State.main_v5_8 (carried_trips m c it h0 hs k).1

/-- The reference's run: the result after the last trip, and the arguments unchanged. -/
theorem run (ρ : Dev nD → PrngReg) (it : Dev nD → ℕ → State F) (h0 : ∀ c, it c 0 = first m c)
    (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v5_8) = (it c 4096).main_v5_8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := result_trips m c (it c) (h0 c) (hs c) 4096
    ⟨(h c).1.trans hk, (h c).2⟩) (Value.run m ρ)

end Cert.ReferenceIdeal.Scan

end
-- ==== Proof.Ref.lean ====
/- What the reference's loop leaves over the extended reals: the recurrence's outputs. -/
module

public import proofs.«01_k».proof.Proof.RefRun
public import proofs.«01_k».proof.Proof.Math
public import Idealize.ShloMosaic.Lib.Pointwise
public import Idealize.ShloMosaic.Lib.DynamicIndex
public import Idealize.ShloMosaic.Lib.Pipeline.Value

@[expose] public section

noncomputable section

open Idealize.ShloMosaic Idealize.ShloMosaic.TcCoe Idealize.SL.Sem

namespace Cert.ReferenceIdeal.Scan

open Cert.ReferenceIdeal Cert.ReferenceIdeal.Gen Cert.ReferenceIdeal.Step

variable (x0 x1 x2 x3 x4 x5 : FVec Ideal S4096x8x8x64 .f32)

/-- The loop's states. -/
def iter : ℕ → State Ideal
  | 0 => init x0 x2 x3 x4 x5 x1
  | n + 1 => step n (iter n)

theorem iter_0 (n : ℕ) : (iter x0 x1 x2 x3 x4 x5 n).main_v5_0 = x0 := by
  induction n with
  | zero => rfl
  | succ n ih => exact ih
theorem iter_1 (n : ℕ) : (iter x0 x1 x2 x3 x4 x5 n).main_v5_1 = A_main_v2 x1 := by
  induction n with
  | zero => rfl
  | succ n ih => exact ih
theorem iter_2 (n : ℕ) : (iter x0 x1 x2 x3 x4 x5 n).main_v5_2 = x2 := by
  induction n with
  | zero => rfl
  | succ n ih => exact ih
theorem iter_3 (n : ℕ) : (iter x0 x1 x2 x3 x4 x5 n).main_v5_3 = x3 := by
  induction n with
  | zero => rfl
  | succ n ih => exact ih
theorem iter_4 (n : ℕ) : (iter x0 x1 x2 x3 x4 x5 n).main_v5_4 = x4 := by
  induction n with
  | zero => rfl
  | succ n ih => exact ih
theorem iter_5 (n : ℕ) : (iter x0 x1 x2 x3 x4 x5 n).main_v5_5 = x5 := by
  induction n with
  | zero => rfl
  | succ n ih => exact ih

/-- The row a trip reads. -/
theorem row_at (x : FVec Ideal S4096x8x8x64 .f32) (j : ℕ) (hj : j < 4096) (st : Fin 4 → Int) (h0 : st 0 = (BitVec.ofNat 32 j).toInt)
    (h1 : st 1 = 0) (h2 : st 2 = 0) (h3 : st 3 = 0) (b h : Fin 8) (κ : Fin 64) (hs) (hc) :
    shapeCast S8x8x64 (Host.dynamicSlice S1x8x8x64 x st hs) hc (ix3 b h κ) = x (ix4 (Fin.ofNat 4096 j) b h κ) := by
  have hoff : S4096x8x8x64.Slices ![j, 0, 0, 0] S1x8x8x64 := ⟨rfl, fun a => by
    match a with
    | ⟨0, _⟩ => show j + 1 ≤ 4096; omega
    | ⟨1, _⟩ => show 0 + 8 ≤ 8; omega
    | ⟨2, _⟩ => show 0 + 8 ≤ 8; omega
    | ⟨3, _⟩ => show 0 + 64 ≤ 64; omega⟩
  rw [Host.dynamicSlice_eq_extractStridedSlice S1x8x8x64 x st ![j, 0, 0, 0] hs hoff (fun a => by
    match a with
    | ⟨0, _⟩ => exact h0.trans (toInt_ofNat_of_lt (by omega))
    | ⟨1, _⟩ => exact h1
    | ⟨2, _⟩ => exact h2
    | ⟨3, _⟩ => exact h3)]
  pointwise
  congr 2
  apply Fin.ext
  show _ = j % 4096
  simp
  omega

variable (b h : Fin 8)

theorem b4_at (j : ℕ) (hj : j < 4096) (s : State Ideal) (κ : Fin 64) : b4 j s (ix3 b h κ) = (s.main_v5_0 : FVec Ideal S4096x8x8x64 .f32) (ix4 (Fin.ofNat 4096 j) b h κ) :=
  row_at _ j hj _ rfl rfl rfl rfl b h κ _ _
theorem b9_at (j : ℕ) (hj : j < 4096) (s : State Ideal) (κ : Fin 64) : b9 j s (ix3 b h κ) = (s.main_v5_1 : FVec Ideal S4096x8x8x64 .f32) (ix4 (Fin.ofNat 4096 j) b h κ) :=
  row_at _ j hj _ rfl rfl rfl rfl b h κ _ _
theorem b14_at (j : ℕ) (hj : j < 4096) (s : State Ideal) (κ : Fin 64) : b14 j s (ix3 b h κ) = (s.main_v5_2 : FVec Ideal S4096x8x8x64 .f32) (ix4 (Fin.ofNat 4096 j) b h κ) :=
  row_at _ j hj _ rfl rfl rfl rfl b h κ _ _
theorem b19_at (j : ℕ) (hj : j < 4096) (s : State Ideal) (κ : Fin 64) : b19 j s (ix3 b h κ) = (s.main_v5_3 : FVec Ideal S4096x8x8x64 .f32) (ix4 (Fin.ofNat 4096 j) b h κ) :=
  row_at _ j hj _ rfl rfl rfl rfl b h κ _ _
theorem b24_at (j : ℕ) (hj : j < 4096) (s : State Ideal) (κ : Fin 64) : b24 j s (ix3 b h κ) = (s.main_v5_4 : FVec Ideal S4096x8x8x64 .f32) (ix4 (Fin.ofNat 4096 j) b h κ) :=
  row_at _ j hj _ rfl rfl rfl rfl b h κ _ _
theorem b29_at (j : ℕ) (hj : j < 4096) (s : State Ideal) (κ : Fin 64) : b29 j s (ix3 b h κ) = (s.main_v5_5 : FVec Ideal S4096x8x8x64 .f32) (ix4 (Fin.ofNat 4096 j) b h κ) :=
  row_at _ j hj _ rfl rfl rfl rfl b h κ _ _

theorem b31_at (j : ℕ) (s : State Ideal) (y : Fin 64) :
    b31 j s (ix3 b h y) = ∑ κ : Fin 64, (s.main_v5_7 : FVec Ideal S8x8x64x64 .f32) (ix4 b h y κ) * -(b24 j s (ix3 b h κ)) := by
  pointwise [b31, b30]

theorem b47_at (j : ℕ) (s : State Ideal) (y κ : Fin 64) :
    b47 j s (ix4 b h y κ)
      = ((s.main_v5_7 : FVec Ideal S8x8x64x64 .f32) (ix4 b h y κ) * b9 j s (ix3 b h κ)
          + b31 j s (ix3 b h y) * (b24 j s (ix3 b h κ) * b29 j s (ix3 b h κ)))
        + b19 j s (ix3 b h y) * b14 j s (ix3 b h κ) := by
  pointwise [b47, b41, b34, b33, b32, b40, b38, b35, b39, b37, b36, b46, b44, b42, b45, b43]

theorem b48_at (j : ℕ) (s : State Ideal) (y : Fin 64) :
    b48 j s (ix3 b h y) = ∑ κ : Fin 64, (b47 j s : FVec Ideal S8x8x64x64 .f32) (ix4 b h y κ) * b4 j s (ix3 b h κ) := by
  pointwise [b48]

theorem upd_at (x : FVec Ideal S4096x8x8x64 .f32) (u : FVec Ideal S1x8x8x64 .f32) (j : ℕ) (hj : j < 4096) (st : Fin 4 → Int)
    (h0 : st 0 = (BitVec.ofNat 32 j).toInt) (h1 : st 1 = 0) (h2 : st 2 = 0) (h3 : st 3 = 0) (t : Fin 4096) (y : Fin 64) (hs) :
    Host.dynamicUpdateSlice x u st hs (ix4 t b h y) = if t.val = j then u (ix4 0 b h y) else x (ix4 t b h y) := by
  have hb := b.isLt
  have hh := h.isLt
  have hy := y.isLt
  have hoff : S4096x8x8x64.Slices ![j, 0, 0, 0] S1x8x8x64 := ⟨rfl, fun a => by
    match a with
    | ⟨0, _⟩ => show j + 1 ≤ 4096; omega
    | ⟨1, _⟩ => show 0 + 8 ≤ 8; omega
    | ⟨2, _⟩ => show 0 + 8 ≤ 8; omega
    | ⟨3, _⟩ => show 0 + 64 ≤ 64; omega⟩
  rw [Host.dynamicUpdateSlice_eq_updateSlice x u st hs ![j, 0, 0, 0] (fun a => by
    match a with
    | ⟨0, _⟩ => show (min (max (st 0) 0) ((4096 - 1 : Nat) : Int)).toNat = j; rw [h0, toInt_ofNat_of_lt (by omega)]; omega
    | ⟨1, _⟩ => show (min (max (st 1) 0) ((8 - 8 : Nat) : Int)).toNat = 0; rw [h1]; rfl
    | ⟨2, _⟩ => show (min (max (st 2) 0) ((8 - 8 : Nat) : Int)).toNat = 0; rw [h2]; rfl
    | ⟨3, _⟩ => show (min (max (st 3) 0) ((64 - 64 : Nat) : Int)).toNat = 0; rw [h3]; rfl) hoff]
  unfold updateSlice
  by_cases hj' : t.val = j
  · rw [if_pos hj', dif_pos]
    · congr 1
      funext a
      apply Fin.ext
      match a with
      | ⟨0, _⟩ => show t.val - j = 0; omega
      | ⟨1, _⟩ => show b.val - 0 = b.val; omega
      | ⟨2, _⟩ => show h.val - 0 = h.val; omega
      | ⟨3, _⟩ => show y.val - 0 = y.val; omega
    · intro a
      match a with
      | ⟨0, _⟩ => show j ≤ t.val ∧ t.val < j + 1; omega
      | ⟨1, _⟩ => show 0 ≤ b.val ∧ b.val < 0 + 8; omega
      | ⟨2, _⟩ => show 0 ≤ h.val ∧ h.val < 0 + 8; omega
      | ⟨3, _⟩ => show 0 ≤ y.val ∧ y.val < 0 + 64; omega
  · rw [if_neg hj', dif_neg]
    intro hin
    have := hin 0
    have h1 : j ≤ t.val ∧ t.val < j + 1 := hin 0
    omega

theorem b53_at (j : ℕ) (hj : j < 4096) (s : State Ideal) (t : Fin 4096) (y : Fin 64) :
    b53 j s (ix4 t b h y) = if t.val = j then b48 j s (ix3 b h y) else (s.main_v5_8 : FVec Ideal S4096x8x8x64 .f32) (ix4 t b h y) := by
  have e : b49 j s (ix4 0 b h y) = b48 j s (ix3 b h y) := by pointwise [b49]
  rw [← e]
  exact upd_at b h _ _ j hj _ rfl rfl rfl rfl t y _

open Cert.KernelIdeal.Scan (el vl st lw outR)

theorem ofNat_val {n : ℕ} [NeZero n] (a : Fin n) : Fin.ofNat n a.val = a := by
  apply Fin.ext; exact Nat.mod_eq_of_lt a.isLt

theorem iter_7 (n : ℕ) (hn : n ≤ 4096) (y κ : Fin 64) :
    ((iter x0 x1 x2 x3 x4 x5 n).main_v5_7 : FVec Ideal S8x8x64x64 .f32) (ix4 b h y κ)
      = st (el x1 b h) (el x2 b h) (el x4 b h) (el x5 b h) (vl x3 b h) n y κ.val := by
  induction n generalizing y κ with
  | zero =>
    show (K_main_v3 (F := Ideal) : FVec Ideal S8x8x64x64 .f32) (ix4 b h y κ) = (0 : EReal)
    pointwise [K_main_v3, K_main_cst]
  | succ n ih =>
    have hI := ih (by omega)
    have hn' : n < 4096 := by omega
    show b47 n (iter x0 x1 x2 x3 x4 x5 n) (ix4 b h y κ) = _
    rw [b47_at, b31_at, b9_at b h n hn', b24_at b h n hn', b29_at b h n hn', b19_at b h n hn', b14_at b h n hn']
    simp only [hI, b24_at b h n hn', iter_1, iter_2, iter_3, iter_4, iter_5]
    show _ = (st _ _ _ _ _ n y κ.val * Ideal.exp (lw (el x1 b h n κ.val))
      + (∑ κ' ∈ Finset.range 64, st _ _ _ _ _ n y κ' * -(el x4 b h n κ')) * (el x4 b h n κ.val * el x5 b h n κ.val)) + vl x3 b h n y * el x2 b h n κ.val
    rw [Finset.sum_range (fun κ' => st _ _ _ _ _ n y κ' * -(el x4 b h n κ'))]
    simp only [el, vl, ofNat_val]
    rfl

theorem iter_8 (n : ℕ) (hn : n ≤ 4096) (t : Fin 4096) (y : Fin 64) :
    ((iter x0 x1 x2 x3 x4 x5 n).main_v5_8 : FVec Ideal S4096x8x8x64 .f32) (ix4 t b h y)
      = if t.val < n then outR x0 x1 x2 x3 x4 x5 b h t.val y else 0 := by
  induction n with
  | zero =>
    show (K_main_v4 (F := Ideal) : FVec Ideal S4096x8x8x64 .f32) (ix4 t b h y) = (0 : EReal)
    pointwise [K_main_v4, K_main_cst_0]
  | succ n ih =>
    have hI := ih (by omega)
    have hn' : n < 4096 := by omega
    show b53 n (iter x0 x1 x2 x3 x4 x5 n) (ix4 t b h y) = _
    rw [b53_at b h n hn', hI, b48_at]
    by_cases ht : t.val = n
    · rw [if_pos ht, if_pos (by omega)]
      unfold outR
      rw [Finset.sum_range]
      refine Finset.sum_congr rfl fun κ _ => ?_
      rw [show (b47 n (iter x0 x1 x2 x3 x4 x5 n) : FVec Ideal S8x8x64x64 .f32) (ix4 b h y κ) = _ from iter_7 x0 x1 x2 x3 x4 x5 b h (n + 1) hn y κ,
        b4_at b h n hn', iter_0, ht]
      simp only [el, ofNat_val]
    · rw [if_neg ht]
      by_cases h2 : t.val < n
      · rw [if_pos h2, if_pos (by omega)]
      · rw [if_neg h2, if_neg (by omega)]

/-- The outputs after the loop. -/
theorem ref_val (t : Fin 4096) (y : Fin 64) :
    ((iter x0 x1 x2 x3 x4 x5 4096).main_v5_8 : FVec Ideal S4096x8x8x64 .f32) (ix4 t b h y) = outR x0 x1 x2 x3 x4 x5 b h t.val y := by
  rw [iter_8 x0 x1 x2 x3 x4 x5 b h 4096 (Nat.le_refl _), if_pos t.isLt]

end Cert.ReferenceIdeal.Scan

end
-- ==== Proof.Moe.lean ====
/- The experts' feed-forward call: the table's range, and the blocks each step of the grid works on. -/
module

public import proofs.«01_k».proof.Proof.Gen.ExpertsIdeal.Frame
public import proofs.«01_k».proof.Proof.Gen.ExpertsIdeal.Points
public import Idealize.ShloMosaic.Lib.Pointwise
public import Idealize.ShloMosaic.Lib.StableHlo.ReadAt
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.ExpertsIdeal.Moe

open Cert.ExpertsIdeal Cert.ExpertsIdeal.Gen

section table
variable {F : FTy → Type} [FloatOps F]

theorem word_index : ∀ k : Fin 136, (Scalar.indexCast (BitVec.ofNat 32 k.val) : Index).toNat = k.val := by decide +kernel

/-- The word of the table that the index maps read at a point of the grid. -/
theorem table_at (pf : pre0.Contents (Elt F)) (i : grid0.Coords) (h) (h1 : S1.numel = 1) :
    (pf.at 0 (Rect.unit (s := S136) ![(Scalar.indexCast (BitVec.ofNat 32 (i 0).val) : Index).toNat] S1.size h) h1 : BitVec 32) = pf 0 (ix1 (i 0)) := by
  refine congrArg (pf 0) (funext fun (a : Fin 1) => ?_)
  obtain rfl : a = 0 := Subsingleton.elim _ _
  apply Fin.ext
  have hf : ∀ x : Fin 1, x.val = 0 := by decide
  exact (congrArg₂ (fun a b : Nat => a + 1 * b) (word_index (i 0)) (hf _)).trans (by show (i 0).val + 1 * 0 = (i 0).val; omega)

theorem step_word : ∀ k : Fin 2, (BitVec.ofNat 32 k.val).toNat = k.val := by decide
theorem tile_word : ∀ k : Fin 136, (BitVec.ofNat 32 k.val).toNat = k.val := by decide +kernel

theorem index_in (pf : pre0.Contents (Elt F)) (i : grid0.Coords) :
    cc0_transform_1 k0_off1_inb numel1_S1 pf i = ![(pf 0 (ix1 (i 0)) : BitVec 32).toNat, 0, (i 1).val] :=
  congrArg₂ (fun (a : BitVec 32) (b : Nat) => (![a.toNat, 0, b] : Fin 3 → Nat)) (table_at pf i (k0_off1_inb i) numel1_S1) (step_word (i 1))

theorem index_in' (pf : pre0.Contents (Elt F)) (i : grid0.Coords) :
    cc0_transform_2 k0_off1_inb numel1_S1 pf i = ![(pf 0 (ix1 (i 0)) : BitVec 32).toNat, 0, (i 1).val] :=
  congrArg₂ (fun (a : BitVec 32) (b : Nat) => (![a.toNat, 0, b] : Fin 3 → Nat)) (table_at pf i (k0_off1_inb i) numel1_S1) (step_word (i 1))

theorem index_out (pf : pre0.Contents (Elt F)) (i : grid0.Coords) :
    cc0_transform_3 k0_off1_inb numel1_S1 pf i = ![(pf 0 (ix1 (i 0)) : BitVec 32).toNat, (i 1).val, 0] :=
  congrArg₂ (fun (a : BitVec 32) (b : Nat) => (![a.toNat, b, 0] : Fin 3 → Nat)) (table_at pf i (k0_off1_inb i) numel1_S1) (step_word (i 1))

/-- With every word of the table below the number of experts, every block lies in its array. -/
theorem ok_of (pf : pre0.Contents (Elt F)) (h : ∀ k, (pf 0 k : BitVec 32).toNat < 16) : ok0 pf := by
  have hin : ∀ i : grid0.Coords, ∀ a, ((![(pf 0 (ix1 (i 0)) : BitVec 32).toNat, 0, (i 1).val] : Fin 3 → Nat) a + 1) * S1x1024x1792.size a ≤ S16x1024x3584.size a := by
    intro i a
    have h1 : (i 1).val < 2 := (i 1).isLt
    have h0 := h (ix1 (i 0))
    match a with
    | ⟨0, _⟩ => show ((pf 0 (ix1 (i 0)) : BitVec 32).toNat + 1) * 1 ≤ 16; omega
    | ⟨1, _⟩ => show (0 + 1) * 1024 ≤ 1024; omega
    | ⟨2, _⟩ => show ((i 1).val + 1) * 1792 ≤ 3584; omega
  have hout : ∀ i : grid0.Coords, ∀ a, ((![(pf 0 (ix1 (i 0)) : BitVec 32).toNat, (i 1).val, 0] : Fin 3 → Nat) a + 1) * S1x1792x1024.size a ≤ S16x3584x1024.size a := by
    intro i a
    have h1 : (i 1).val < 2 := (i 1).isLt
    have h0 := h (ix1 (i 0))
    match a with
    | ⟨0, _⟩ => show ((pf 0 (ix1 (i 0)) : BitVec 32).toNat + 1) * 1 ≤ 16; omega
    | ⟨1, _⟩ => show ((i 1).val + 1) * 1792 ≤ 3584; omega
    | ⟨2, _⟩ => show (0 + 1) * 1024 ≤ 1024; omega
  exact ⟨fun i => ⟨fun a => by rw [index_in]; exact hin i a, .inr (Affine.block_words_dvd (of_decide_eq_true rfl) (by decide))⟩,
    fun i => ⟨fun a => by rw [index_in']; exact hin i a, .inr (Affine.block_words_dvd (of_decide_eq_true rfl) (by decide))⟩,
    fun i => ⟨fun a => by rw [index_out]; exact hout i a, .inr (Affine.block_words_dvd (of_decide_eq_true rfl) (by decide))⟩⟩

theorem coords_eq : ∀ t : Fin grid0.N, (grid0.coords t 0).val = t.val / 2 ∧ (grid0.coords t 1).val = t.val % 2 := by decide +kernel

end table

variable (m : (ℓ : Loc nD τ sig) → Buf (Elt Ideal) ℓ) (hO : Ok m) (c : Dev nD)

abbrev X0 : IVec S136 32 := m ((c.tc : Thread nD τ).loc main_arg0)
abbrev X1 : FVec Ideal S69632x1024 .f32 := m ((c.tc : Thread nD τ).loc main_arg1)
abbrev X2 : FVec Ideal S2x8x1024x3584 .f32 := m ((c.tc : Thread nD τ).loc main_arg2)
abbrev X3 : FVec Ideal S2x8x1024x3584 .f32 := m ((c.tc : Thread nD τ).loc main_arg3)
abbrev X4 : FVec Ideal S2x8x3584x1024 .f32 := m ((c.tc : Thread nD τ).loc main_arg4)

/-- One step's addition to the accumulator: half of the hidden units, at a row and an output channel. -/
theorem pay2_at (x : FVec Ideal S512x1024 .bf16) (wg wu : FVec Ideal S1x1024x1792 .bf16) (acc : FVec Ideal S512x1024 .f32)
    (wd : FVec Ideal S1x1792x1024 .bf16) (r : Fin 512) (d : Fin 1024) :
    k0_pay2 (F := Ideal) x wg wu acc wd (ix2 r d) = acc (ix2 r d) + ∑ f : Fin 1792,
      (((∑ k : Fin 1024, x (ix2 r k) * wg (ix3 0 k f)) * Ideal.logistic (∑ k : Fin 1024, x (ix2 r k) * wg (ix3 0 k f)))
        * (∑ k : Fin 1024, x (ix2 r k) * wu (ix3 0 k f)) : EReal) * wd (ix3 0 f d) := by
  pointwise [k0_pay2]

theorem pay1_at (i : S512x1024.Idx) : k0_pay1 (F := Ideal) i = 0 := by
  pointwise [k0_pay1]

theorem pay2_congr {x x' : FVec Ideal S512x1024 .bf16} {wg wg' wu wu' : FVec Ideal S1x1024x1792 .bf16} {acc acc' : FVec Ideal S512x1024 .f32}
    {wd wd' : FVec Ideal S1x1792x1024 .bf16} (h0 : x = x') (h1 : wg = wg') (h2 : wu = wu') (h3 : acc = acc') (h4 : wd = wd') :
    k0_pay2 (F := Ideal) x wg wu acc wd = k0_pay2 x' wg' wu' acc' wd' := by rw [h0, h1, h2, h3, h4]

theorem outs_even (t : Fin (cfgM m hO).N) (h0 : t.val % 2 = 0) :
    (outsAt0 m hO c t.val t.isLt).2 = k0_pay2 (F := Ideal) (iblk m hO c 0 t) (iblk m hO c 1 t) (iblk m hO c 2 t) (k0_pay1 (F := Ideal)) (iblk m hO c 3 t) := by
  rw [outsAt0_A m hO c t h0 (by omega)]
  frame_out
  exact pay2_congr (Memref.IsWhole.read_unread _ _) (Memref.IsWhole.read_unread _ _) (Memref.IsWhole.read_unread _ _) rfl (Memref.IsWhole.read_unread _ _)

theorem outs_odd (t : Fin (cfgM m hO).N) (h1 : t.val % 2 = 1) :
    (outsAt0 m hO c t.val t.isLt).1 = k0_pay2 (F := Ideal) (iblk m hO c 0 t) (iblk m hO c 1 t) (iblk m hO c 2 t)
      (outsAt0 m hO c (t.val - 1) (Nat.lt_of_le_of_lt (Nat.sub_le _ _) t.isLt)).2 (iblk m hO c 3 t) := by
  rw [outsAt0_B m hO c t (by omega) h1]
  frame_out
  exact pay2_congr (Memref.IsWhole.read_unread _ _) (Memref.IsWhole.read_unread _ _) (Memref.IsWhole.read_unread _ _)
    (Memref.IsWhole.read_unread (Memref.isWhole_whole cc0_scratch0) _) (Memref.IsWhole.read_unread _ _)

/-! ## The arrays the call is given -/

theorem v6_eq : V m c main_v6 = (truncf .bf16 (X1 m c) bitsLt_bf16_f32 : FVec Ideal S69632x1024 .bf16) := by
  unfold V
  after_reads_simp

theorem v1_eq : V m c main_v1 = shapeCast S16x1024x3584 (truncf .bf16 (X2 m c) bitsLt_bf16_f32 : FVec Ideal S2x8x1024x3584 .bf16) shapeCasts_S2x8x1024x3584_S16x1024x3584 := by
  unfold V
  after_reads_simp
  rfl

theorem v3_eq : V m c main_v3 = shapeCast S16x1024x3584 (truncf .bf16 (X3 m c) bitsLt_bf16_f32 : FVec Ideal S2x8x1024x3584 .bf16) shapeCasts_S2x8x1024x3584_S16x1024x3584 := by
  unfold V
  after_reads_simp
  rfl

theorem v5_eq : V m c main_v5 = shapeCast S16x3584x1024 (truncf .bf16 (X4 m c) bitsLt_bf16_f32 : FVec Ideal S2x8x3584x1024 .bf16) shapeCasts_S2x8x3584x1024_S16x3584x1024 := by
  unfold V
  after_reads_simp
  rfl

/-- An expert's number as the weights' two leading coordinates. -/
abbrev hi (e : Fin 16) : Fin 2 := ⟨e.val / 8, by have := e.isLt; omega⟩
abbrev lo (e : Fin 16) : Fin 8 := ⟨e.val % 8, by omega⟩

theorem v1_at (e : Fin 16) (k : Fin 1024) (f : Fin 3584) : (V m c main_v1 : FVec Ideal S16x1024x3584 .bf16) (ix3 e k f) = X2 m c (ix4 (hi e) (lo e) k f) := by
  rw [v1_eq]
  pointwise

theorem v3_at (e : Fin 16) (k : Fin 1024) (f : Fin 3584) : (V m c main_v3 : FVec Ideal S16x1024x3584 .bf16) (ix3 e k f) = X3 m c (ix4 (hi e) (lo e) k f) := by
  rw [v3_eq]
  pointwise

theorem v5_at (e : Fin 16) (f : Fin 3584) (d : Fin 1024) : (V m c main_v5 : FVec Ideal S16x3584x1024 .bf16) (ix3 e f d) = X4 m c (ix4 (hi e) (lo e) f d) := by
  rw [v5_eq]
  pointwise

theorem v6_at (r : Fin 69632) (k : Fin 1024) : (V m c main_v6 : FVec Ideal S69632x1024 .bf16) (ix2 r k) = X1 m c (ix2 r k) := by
  rw [v6_eq]
  pointwise

/-! ## The blocks -/

theorem row_index (i : grid0.Coords) : cc0_transform_0 i = ![(i 0).val, 0] :=
  congrArg (fun b : Nat => (![b, 0] : Fin 2 → Nat)) (tile_word (i 0))

theorem table_eq : (tbl m 0 : IVec S136 32) = X0 m c := by
  obtain rfl : c = 0 := Subsingleton.elim _ _
  exact V_main_arg0 m 0

/-- The expert of a tile of rows. -/
def expert (i : Fin 136) : Fin 16 := Fin.ofNat 16 (X0 m c (ix1 i)).toNat

variable (hX : ∀ k, (X0 m c k).toNat < 16)
include hX

theorem expert_val (i : Fin 136) : (expert m c i).val = (X0 m c (ix1 i)).toNat := Nat.mod_eq_of_lt (hX _)

omit hX in
theorem blk0_at (t : Fin (cfgM m hO).N) (R : Fin 69632) (r : Fin 512) (hR : R.val = 512 * (t.val / 2) + r.val) (k : Fin 1024) :
    (iblk m hO c 0 t : FVec Ideal S512x1024 .bf16) (ix2 r k) = X1 m c (ix2 R k) := by
  have hp : ∀ a : Fin 2, ((((cfgM m hO).win 0).blk t).view.emb (ix2 r k) a).val = cc0_transform_0 (grid0.coords t) a * S512x1024.size a + 1 * (ix2 r k a).val := fun a => rfl
  rw [row_index, (coords_eq t).1] at hp
  unfold iblk
  refine Eq.trans (View.read_apply ..) (Eq.trans (congrArg (V m c main_v6 : FVec Ideal S69632x1024 .bf16) (funext fun (a : Fin 2) => ?_)) (v6_at m c R k))
  apply Fin.ext
  refine (hp a).trans ?_
  match a with
  | ⟨0, _⟩ => show t.val / 2 * 512 + 1 * r.val = R.val; omega
  | ⟨1, _⟩ => show 0 * 1024 + 1 * k.val = k.val; omega

theorem word_at (t : Fin grid0.N) (i : Fin 136) (hi' : i.val = t.val / 2) :
    (tbl m 0 (ix1 (grid0.coords t 0)) : BitVec 32).toNat = (expert m c i).val := by
  rw [expert_val m c hX, show grid0.coords t 0 = i from Fin.ext ((coords_eq t).1.trans hi'.symm)]
  exact congrArg BitVec.toNat (congrFun (table_eq m c) _)

theorem blk1_at (t : Fin (cfgM m hO).N) (i : Fin 136) (hi' : i.val = t.val / 2) (f : Fin 1792) (f' : Fin 3584) (hf : f'.val = 1792 * (t.val % 2) + f.val) (k : Fin 1024) :
    (iblk m hO c 1 t : FVec Ideal S1x1024x1792 .bf16) (ix3 0 k f) = X2 m c (ix4 (hi (expert m c i)) (lo (expert m c i)) k f') := by
  have hp : ∀ a : Fin 3, ((((cfgM m hO).win 1).blk t).view.emb (ix3 0 k f) a).val
      = cc0_transform_1 k0_off1_inb numel1_S1 (tbl m) (grid0.coords t) a * S1x1024x1792.size a + 1 * ((ix3 0 k f : S1x1024x1792.Idx) a).val := fun a => rfl
  rw [index_in, (coords_eq t).2, word_at m c hX t i hi'] at hp
  unfold iblk
  refine Eq.trans (View.read_apply ..) (Eq.trans (congrArg (V m c main_v1 : FVec Ideal S16x1024x3584 .bf16) (funext fun (a : Fin 3) => ?_)) (v1_at m c (expert m c i) k f'))
  apply Fin.ext
  refine (hp a).trans ?_
  match a with
  | ⟨0, _⟩ => show (expert m c i).val * 1 + 1 * 0 = (expert m c i).val; omega
  | ⟨1, _⟩ => show 0 * 1024 + 1 * k.val = k.val; omega
  | ⟨2, _⟩ => show t.val % 2 * 1792 + 1 * f.val = f'.val; omega

theorem blk2_at (t : Fin (cfgM m hO).N) (i : Fin 136) (hi' : i.val = t.val / 2) (f : Fin 1792) (f' : Fin 3584) (hf : f'.val = 1792 * (t.val % 2) + f.val) (k : Fin 1024) :
    (iblk m hO c 2 t : FVec Ideal S1x1024x1792 .bf16) (ix3 0 k f) = X3 m c (ix4 (hi (expert m c i)) (lo (expert m c i)) k f') := by
  have hp : ∀ a : Fin 3, ((((cfgM m hO).win 2).blk t).view.emb (ix3 0 k f) a).val
      = cc0_transform_2 k0_off1_inb numel1_S1 (tbl m) (grid0.coords t) a * S1x1024x1792.size a + 1 * ((ix3 0 k f : S1x1024x1792.Idx) a).val := fun a => rfl
  rw [index_in', (coords_eq t).2, word_at m c hX t i hi'] at hp
  unfold iblk
  refine Eq.trans (View.read_apply ..) (Eq.trans (congrArg (V m c main_v3 : FVec Ideal S16x1024x3584 .bf16) (funext fun (a : Fin 3) => ?_)) (v3_at m c (expert m c i) k f'))
  apply Fin.ext
  refine (hp a).trans ?_
  match a with
  | ⟨0, _⟩ => show (expert m c i).val * 1 + 1 * 0 = (expert m c i).val; omega
  | ⟨1, _⟩ => show 0 * 1024 + 1 * k.val = k.val; omega
  | ⟨2, _⟩ => show t.val % 2 * 1792 + 1 * f.val = f'.val; omega

theorem blk3_at (t : Fin (cfgM m hO).N) (i : Fin 136) (hi' : i.val = t.val / 2) (f : Fin 1792) (f' : Fin 3584) (hf : f'.val = 1792 * (t.val % 2) + f.val) (k : Fin 1024) :
    (iblk m hO c 3 t : FVec Ideal S1x1792x1024 .bf16) (ix3 0 f k) = X4 m c (ix4 (hi (expert m c i)) (lo (expert m c i)) f' k) := by
  have hp : ∀ a : Fin 3, ((((cfgM m hO).win 3).blk t).view.emb (ix3 0 f k) a).val
      = cc0_transform_3 k0_off1_inb numel1_S1 (tbl m) (grid0.coords t) a * S1x1792x1024.size a + 1 * ((ix3 0 f k : S1x1792x1024.Idx) a).val := fun a => rfl
  rw [index_out, (coords_eq t).2, word_at m c hX t i hi'] at hp
  unfold iblk
  refine Eq.trans (View.read_apply ..) (Eq.trans (congrArg (V m c main_v5 : FVec Ideal S16x3584x1024 .bf16) (funext fun (a : Fin 3) => ?_)) (v5_at m c (expert m c i) f' k))
  apply Fin.ext
  refine (hp a).trans ?_
  match a with
  | ⟨0, _⟩ => show (expert m c i).val * 1 + 1 * 0 = (expert m c i).val; omega
  | ⟨1, _⟩ => show t.val % 2 * 1792 + 1 * f.val = f'.val; omega
  | ⟨2, _⟩ => show 0 * 1024 + 1 * k.val = k.val; omega

end Cert.ExpertsIdeal.Moe

end
-- ==== Proof.MoeVal.lean ====
/- The experts' feed-forward call over the extended reals: each tile of rows through its expert. -/
module

public import proofs.«01_k».proof.Proof.Moe

@[expose] public section

noncomputable section

open Idealize.ShloMosaic Idealize.ShloMosaic.TcCoe Idealize.SL.Sem
open Idealize.ShloMosaic.Pipeline (Dat)

namespace Cert.ExpertsIdeal.Moe

open Cert.ExpertsIdeal Cert.ExpertsIdeal.Gen

/-- A row through one of an expert's two first matrices. -/
def gate (x : FVec Ideal S69632x1024 .f32) (w : FVec Ideal S2x8x1024x3584 .f32) (R : Fin 69632) (e : Fin 16) (f : Fin 3584) : EReal :=
  ∑ k : Fin 1024, x (ix2 R k) * w (ix4 (hi e) (lo e) k f)

/-- A hidden unit of an expert. -/
def unit (x : FVec Ideal S69632x1024 .f32) (wg wu : FVec Ideal S2x8x1024x3584 .f32) (R : Fin 69632) (e : Fin 16) (f : Fin 3584) : EReal :=
  gate x wg R e f * Ideal.logistic (gate x wg R e f) * gate x wu R e f

/-- A row through an expert. -/
def ffn (x : FVec Ideal S69632x1024 .f32) (wg wu : FVec Ideal S2x8x1024x3584 .f32) (wd : FVec Ideal S2x8x3584x1024 .f32) (R : Fin 69632) (e : Fin 16)
    (d : Fin 1024) : EReal :=
  ∑ f : Fin 3584, unit x wg wu R e f * wd (ix4 (hi e) (lo e) f d)

theorem gate_of (b0 : FVec Ideal S512x1024 .bf16) (b1 : FVec Ideal S1x1024x1792 .bf16) (x : FVec Ideal S69632x1024 .f32) (w : FVec Ideal S2x8x1024x3584 .f32)
    (r : Fin 512) (R : Fin 69632) (e : Fin 16) (f : Fin 1792) (f' : Fin 3584) (h0 : ∀ k, b0 (ix2 r k) = x (ix2 R k))
    (h1 : ∀ k, b1 (ix3 0 k f) = w (ix4 (hi e) (lo e) k f')) :
    (∑ k : Fin 1024, b0 (ix2 r k) * b1 (ix3 0 k f) : EReal) = gate x w R e f' :=
  Finset.sum_congr rfl fun k _ => congrArg₂ (fun a b : EReal => a * b) (h0 k) (h1 k)

/-- The sum over the hidden units in two halves. -/
theorem sum_two (g : Fin 3584 → EReal) :
    ∑ f : Fin 3584, g f = (∑ f : Fin 1792, g ⟨1792 * 0 + f.val, by have := f.isLt; omega⟩) + ∑ f : Fin 1792, g ⟨1792 * 1 + f.val, by have := f.isLt; omega⟩ := by
  refine (Fin.sum_univ_add (a := 1792) (b := 1792) g).trans (congrArg₂ (· + ·) ?_ ?_)
  · exact Finset.sum_congr rfl fun f _ => congrArg g (Fin.ext (by show f.val = 1792 * 0 + f.val; omega))
  · rfl

variable (m : (ℓ : Loc nD τ sig) → Buf (Elt Ideal) ℓ) (ρ : Dev nD → PrngReg) (hO : Ok m) (c : Dev nD)

abbrev tile (R : Fin 69632) : Fin 136 := ⟨R.val / 512, by have := R.isLt; omega⟩

/-- The output array. -/
def outArr : FVec Ideal S69632x1024 .f32 := fun j =>
  ffn (X1 m c) (X2 m c) (X3 m c) (X4 m c) (j 0) (expert m c (tile (j 0))) (j 1)

variable (hX : ∀ k, (X0 m c k).toNat < 16)
include hX

/-- One step's addition, over its half of the hidden units. -/
theorem half_at (t : Fin (cfgM m hO).N) (q : ℕ) (hq : t.val % 2 = q) (hq2 : q < 2) (R : Fin 69632) (r : Fin 512) (hR : R.val = 512 * (t.val / 2) + r.val)
    (acc : FVec Ideal S512x1024 .f32) (d : Fin 1024) :
    k0_pay2 (F := Ideal) (iblk m hO c 0 t) (iblk m hO c 1 t) (iblk m hO c 2 t) acc (iblk m hO c 3 t) (ix2 r d)
      = acc (ix2 r d) + ∑ f : Fin 1792, unit (X1 m c) (X2 m c) (X3 m c) R (expert m c (tile R)) ⟨1792 * q + f.val, by have := f.isLt; omega⟩
          * X4 m c (ix4 (hi (expert m c (tile R))) (lo (expert m c (tile R))) ⟨1792 * q + f.val, by have := f.isLt; omega⟩ d) := by
  have hi' : (tile R).val = t.val / 2 := by
    have := r.isLt
    show R.val / 512 = _; omega
  refine (pay2_at _ _ _ _ _ r d).trans (congrArg (acc (ix2 r d) + ·) (Finset.sum_congr rfl fun f _ => ?_))
  have hf : (⟨1792 * q + f.val, by have := f.isLt; omega⟩ : Fin 3584).val = 1792 * (t.val % 2) + f.val := by rw [hq]
  have g1 := gate_of (iblk m hO c 0 t) (iblk m hO c 1 t) (X1 m c) (X2 m c) r R (expert m c (tile R)) f _ (blk0_at m hO c t R r hR) (blk1_at m hO c hX t (tile R) hi' f _ hf)
  have g2 := gate_of (iblk m hO c 0 t) (iblk m hO c 2 t) (X1 m c) (X3 m c) r R (expert m c (tile R)) f _ (blk0_at m hO c t R r hR) (blk2_at m hO c hX t (tile R) hi' f _ hf)
  have g3 := blk3_at m hO c hX t (tile R) hi' f _ hf d
  exact congrArg₂ (fun a b : EReal => a * b) (congrArg₂ (fun a b : EReal => a * Ideal.logistic a * b) g1 g2) g3

theorem out_at (t : Fin (cfgM m hO).N) (h1 : t.val % 2 = 1) (R : Fin 69632) (r : Fin 512) (hR : R.val = 512 * (t.val / 2) + r.val) (d : Fin 1024) :
    (outsAt0 m hO c t.val t.isLt).1 (ix2 r d) = outArr m c (ix2 R d) := by
  rw [outs_odd m hO c t h1, half_at m hO c hX t 1 h1 (by omega) R r hR,
    outs_even m hO c ⟨t.val - 1, Nat.lt_of_le_of_lt (Nat.sub_le _ _) t.isLt⟩ (by show (t.val - 1) % 2 = 0; omega),
    half_at m hO c hX ⟨t.val - 1, Nat.lt_of_le_of_lt (Nat.sub_le _ _) t.isLt⟩ 0 (by show (t.val - 1) % 2 = 0; omega) (by omega) R r
      (by show R.val = 512 * ((t.val - 1) / 2) + r.val; omega), pay1_at, zero_add]
  exact (sum_two fun f => unit (X1 m c) (X2 m c) (X3 m c) R (expert m c (tile R)) f
    * X4 m c (ix4 (hi (expert m c (tile R))) (lo (expert m c (tile R))) f d)).symm

theorem flushed_eq (t : Fin (cfgM m hO).N) (hf : ((cfgM m hO).win 4).flush t = true) :
    (dats m hO 0 c).flushed 4 t = (((cfgM m hO).win 4).blk t).view.read (Elt Ideal) (outArr m c) := by
  have h1 : t.val % 2 = 1 := (flush0_4 (adm m hO) t).mp hf
  have ht : t.val < 272 := Nat.lt_of_lt_of_eq t.isLt N_0
  show ((cfgM m hO).win 4).cut (grid0.coords t) ((dats m hO 0 c).after 4 t) = _
  rw [after0_4]
  funext (j : S512x1024.Idx)
  have j0 : (j 0).val < 512 := (j 0).isLt
  have hp : ∀ a : Fin 2, ((((cfgM m hO).win 4).blk t).view.emb j a).val = cc0_transform_0 (grid0.coords t) a * S512x1024.size a + 1 * (j a).val := fun a => rfl
  rw [row_index, (coords_eq t).1] at hp
  refine Eq.trans ?_ (View.read_apply ..).symm
  show (outsAt0 m hO c t.val t.isLt).1 j = _
  refine (congrArg (outsAt0 m hO c t.val t.isLt).1 (eq_ix2 j)).trans ((out_at m hO c hX t h1 ⟨512 * (t.val / 2) + (j 0).val, by omega⟩ (j 0) rfl (j 1)).trans ?_)
  refine congrArg (outArr m c) (funext fun (a : Fin 2) => Fin.ext ?_)
  refine Eq.trans ?_ (hp a).symm
  match a with
  | ⟨0, _⟩ => show 512 * (t.val / 2) + (j 0).val = t.val / 2 * 512 + 1 * (j 0).val; omega
  | ⟨1, _⟩ => show (j 1).val = 0 * 1024 + 1 * (j 1).val; omega

theorem final : (dats m hO 0 c).arrAt 4 (cfgM m hO).N = outArr m c :=
  (dats m hO 0 c).arrAt_eq_of_cover 4 (outArr m c) (flushed_eq m hO c hX) fun (i : S69632x1024.Idx) => by
    have h0 : (i 0 : Nat) < 69632 := (i 0).isLt
    have h1 : (i 1 : Nat) < 1024 := (i 1).isLt
    have hN : 2 * ((i 0).val / 512) + 1 < (cfgM m hO).N := by rw [show (cfgM m hO).N = 272 from N_0]; omega
    refine ⟨⟨2 * ((i 0).val / 512) + 1, hN⟩, (flush0_4 (adm m hO) _).mpr (by show (2 * ((i 0).val / 512) + 1) % 2 = 1; omega), ?_⟩
    have hq : (2 * ((i 0).val / 512) + 1) / 2 = (i 0).val / 512 := by omega
    show i ∈ ((View.whole main_v7).slice (((cfgM m hO).win 4).rect ⟨2 * ((i 0).val / 512) + 1, hN⟩)).set
    have hix : ((cfgM m hO).win 4).index ⟨2 * ((i 0).val / 512) + 1, hN⟩ = (![(i 0).val / 512, 0] : Fin 2 → Nat) :=
      (row_index _).trans (by rw [(coords_eq _).1]; show ![(2 * ((i 0).val / 512) + 1) / 2, 0] = _; rw [hq])
    have key : ∀ a : Fin 2, (![(i 0).val / 512, 0] : Fin 2 → Nat) a * S512x1024.size a ≤ (i a).val
        ∧ (i a).val < (![(i 0).val / 512, 0] : Fin 2 → Nat) a * S512x1024.size a + S512x1024.size a := by
      intro a
      match a with
      | ⟨0, _⟩ => show (i 0).val / 512 * 512 ≤ (i 0).val ∧ (i 0).val < (i 0).val / 512 * 512 + 512; omega
      | ⟨1, _⟩ => show 0 * 1024 ≤ (i 1).val ∧ (i 1).val < 0 * 1024 + 1024; omega
    rw [← hix] at key
    exact (congrArg (fun s => i ∈ s) (View.set_slice_whole main_v7 _)).mpr (Rect.mem_set_unit.mpr key)

omit hX in
include hO in
/-- The run: the result, and the arguments unchanged. -/
theorem run (hX : ∀ c k, (X0 m c k).toNat < 16) : θ_run defs (onTc (τ := τ) (main (F := Ideal))) ⟨m, fun _ => 0, ρ⟩ (fun r => ∀ c : Dev nD,
      r.2.mem ((c.tc : Thread nD τ).loc main_v7) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).trans (final m hO c (hX c)), (h.2 c)⟩)
    (θ_run_and ((θ_run defs _ _).mono (fun _ h c => (h c).1 4) (run_main m ρ hO)) (unchanged m ρ hO))

end Cert.ExpertsIdeal.Moe

end
-- ==== Proof.MoeRef.lean ====
/- The experts' reference over the extended reals: every row through every expert, and its own expert's row kept. -/
module

public import proofs.«01_k».proof.Proof.Gen.ExpertsRefIdeal.Run
public import proofs.«01_k».proof.Proof.MoeVal

@[expose] public section

noncomputable section

namespace Cert.ExpertsRefIdeal.Moe

open Idealize.ShloMosaic Idealize.ShloMosaic.TcCoe Idealize.SL.Sem
open Cert.ExpertsRefIdeal Cert.ExpertsRefIdeal.Gen
open Cert.ExpertsIdeal.Moe (gate unit ffn hi lo tile)

/-- Every row through one of the first matrices of every expert. -/
def gateV (x : FVec Ideal S69632x1024 .f32) (w : FVec Ideal S2x8x1024x3584 .f32) : FVec Ideal S16x69632x3584 .f32 :=
  transpose S16x69632x3584 [0, 2, 1] (Host.dotGeneral dot_S16x1024x3584_S69632x1024_S16x3584x69632_1_1_02_0_n_n none
    (shapeCast S16x1024x3584 w shapeCasts_S2x8x1024x3584_S16x1024x3584) x) transposes_S16x3584x69632_S16x69632x3584_0_2_1

/-- Which rows are which expert's. -/
def combV (t : IVec S136 32) : FVec Ideal S16x69632 .f32 :=
  uitofp .f32 (cmpi .eq (broadcastInDim S16x69632 ![0, 1] bcast_S1x69632_S16x69632_0_1 (broadcastInDim S1x69632 ![1] bcast_S69632_S1x69632_1
      (shapeCast S69632 (broadcastInDim S136x512 ![0] bcast_S136_S136x512_0 t) shapeCasts_S136x512_S69632)))
    (broadcastInDim S16x69632 ![0, 1] bcast_S16x1_S16x69632_0_1 (broadcastInDim S16x1 ![0] bcast_S16_S16x1_0 (iotaInDim S16 32 0))))

/-- The hidden units of every expert. -/
def hidV (g u : FVec Ideal S16x69632x3584 .f32) : FVec Ideal S16x69632x3584 .f32 :=
  mulf (mulf g (Host.divf (broadcastInDim S16x69632x3584 ![] bcast_S_S16x69632x3584 (constant S_ .f32 0x3F800000#32))
    (addf (broadcastInDim S16x69632x3584 ![] bcast_S_S16x69632x3584 (constant S_ .f32 0x3F800000#32)) (Host.exp (Host.negf g))))) u

/-- The reference's result, as its operations compose. -/
def refV (t : IVec S136 32) (x : FVec Ideal S69632x1024 .f32) (wg wu : FVec Ideal S2x8x1024x3584 .f32) (wd : FVec Ideal S2x8x3584x1024 .f32) :
    FVec Ideal S69632x1024 .f32 :=
  Host.reduceAdd (mulf (broadcastInDim S16x69632x1024 ![0, 1, 2] bcast_S16x69632x1_S16x69632x1024_0_1_2
      (broadcastInDim S16x69632x1 ![0, 1] bcast_S16x69632_S16x69632x1_0_1 (combV t)))
    (Host.dotGeneral dot_S16x69632x3584_S16x3584x1024_S16x69632x1024_2_1_1_2_0_0 none (hidV (gateV x wg) (gateV x wu))
      (shapeCast S16x3584x1024 wd shapeCasts_S2x8x3584x1024_S16x3584x1024))) (constant S_ .f32 0x00000000#32) reducesTo_S16x69632x1024_S69632x1024_d0 h_S_

theorem gateV_at (x : FVec Ideal S69632x1024 .f32) (w : FVec Ideal S2x8x1024x3584 .f32) (e : Fin 16) (R : Fin 69632) (f : Fin 3584) :
    gateV x w (ix3 e R f) = gate x w R e f := by
  have h : gateV x w (ix3 e R f) = ∑ k : Fin 1024, w (ix4 (hi e) (lo e) k f) * x (ix2 R k) := by
    pointwise [gateV]
  rw [h]
  exact Finset.sum_congr rfl fun k _ => mul_comm _ _

theorem hidV_at (g u : FVec Ideal S16x69632x3584 .f32) (i : S16x69632x3584.Idx) :
    hidV g u i = (g i * Ideal.logistic (g i) * u i : EReal) := by
  pointwise [hidV]
  rfl

theorem combV_at (t : IVec S136 32) (e : Fin 16) (R : Fin 69632) :
    combV t (ix2 e R) = if t (ix1 (tile R)) = BitVec.ofNat 32 e.val then (1 : EReal) else 0 := by
  pointwise [combV]
  rw [show (⟨R.val / 512, by have := R.isLt; omega⟩ : Fin 136) = tile R from rfl]
  by_cases h : t (ix1 (tile R)) = BitVec.ofNat 32 e.val
  · rw [if_pos h, show IntOp.cmpi .eq (t (ix1 (tile R))) (BitVec.ofNat 32 e.val) = 1#1 from by simp [IntOp.cmpi, h]]
    show ((((1#1 : BitVec 1).toNat : ℝ)) : EReal) = 1
    simp
  · rw [if_neg h, show IntOp.cmpi .eq (t (ix1 (tile R))) (BitVec.ofNat 32 e.val) = 0#1 from by
      show BitVec.ofBool (t (ix1 (tile R)) == BitVec.ofNat 32 e.val) = 0#1
      rw [beq_eq_false_iff_ne.mpr h]; rfl]
    show ((((0#1 : BitVec 1).toNat : ℝ)) : EReal) = 0
    simp

theorem refV_at (t : IVec S136 32) (x : FVec Ideal S69632x1024 .f32) (wg wu : FVec Ideal S2x8x1024x3584 .f32) (wd : FVec Ideal S2x8x3584x1024 .f32)
    (R : Fin 69632) (d : Fin 1024) :
    refV t x wg wu wd (ix2 R d) = ∑ e : Fin 16, combV t (ix2 e R) * ∑ f : Fin 3584, hidV (gateV x wg) (gateV x wu) (ix3 e R f) * wd (ix4 (hi e) (lo e) f d) := by
  pointwise [refV]

/-- Only the row's own expert is kept. -/
theorem ref_val (t : IVec S136 32) (ht : ∀ k, (t k).toNat < 16) (x : FVec Ideal S69632x1024 .f32) (wg wu : FVec Ideal S2x8x1024x3584 .f32)
    (wd : FVec Ideal S2x8x3584x1024 .f32) (R : Fin 69632) (d : Fin 1024) :
    refV t x wg wu wd (ix2 R d) = ffn x wg wu wd R (Fin.ofNat 16 (t (ix1 (tile R))).toNat) d := by
  have he : (Fin.ofNat 16 (t (ix1 (tile R))).toNat).val = (t (ix1 (tile R))).toNat := Nat.mod_eq_of_lt (ht _)
  have hw : ∀ e : Fin 16, t (ix1 (tile R)) = BitVec.ofNat 32 e.val ↔ e = Fin.ofNat 16 (t (ix1 (tile R))).toNat := by
    intro e
    have e16 := e.isLt
    rw [Fin.ext_iff, he]
    constructor
    · intro h
      rw [h, BitVec.toNat_ofNat]
      omega
    · intro h
      apply BitVec.eq_of_toNat_eq
      rw [BitVec.toNat_ofNat, h]
      have := ht (ix1 (tile R))
      omega
  rw [refV_at, Finset.sum_eq_single (Fin.ofNat 16 (t (ix1 (tile R))).toNat)]
  · rw [combV_at, if_pos ((hw _).mpr rfl), one_mul]
    refine Finset.sum_congr rfl fun f _ => ?_
    rw [hidV_at, gateV_at, gateV_at]
    rfl
  · intro e _ hne
    rw [combV_at, if_neg fun h => hne ((hw e).mp h), zero_mul]
  · intro h
    exact absurd (Finset.mem_univ _) h

/-- The run: the result, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v22) = refV (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Cert.ExpertsRefIdeal.Value.run (F := Ideal) m ρ

end Cert.ExpertsRefIdeal.Moe

end
-- ==== Proof.MoeClaim.lean ====
/- The experts' claims: the two frames by one run, the reference's frame, and the two results equal. -/
module

public import proofs.«01_k».proof.Defs
public import proofs.«01_k».proof.Proof.MoeRef
public import proofs.«01_k».proof.Proof.Gen.Experts
public import Idealize.ShloMosaic.Lib.ReduceAll

@[expose] public section

noncomputable section

namespace Cert.Proof.Experts

open Idealize.ShloMosaic Idealize.ShloMosaic.TcCoe Idealize.SL.Sem

theorem experts_facts : Cert.Pre_experts.Facts where
  bcast_S_S136 := by decide
  reducesTo_S136_S_d0 := by decide
  h_S_ := by decide

theorem word_lt (w : BitVec 32) (h : IntOp.andi (IntOp.cmpi .sge w 0#32) (IntOp.cmpi .slt w 16#32) = 1#1) : w.toNat < 16 := by
  have andi_one (a b : BitVec 1) : IntOp.andi a b = 1#1 → a = 1#1 ∧ b = 1#1 := by revert a b; decide
  have of_true (b : Bool) : BitVec.ofBool b = 1#1 → b = true := by revert b; decide
  obtain ⟨h1, h2⟩ := andi_one _ _ h
  have e1 : (0#32).sle w = true := of_true _ h1
  have e2 : w.slt 16#32 = true := of_true _ h2
  rw [BitVec.sle_iff_toInt_le] at e1
  rw [BitVec.slt_iff_toInt_lt] at e2
  have hw := w.isLt
  have hc := BitVec.toInt_eq_toNat_cond w
  have z : (0#32).toInt = 0 := by decide
  have s : (16#32).toInt = 16 := by decide
  rw [z] at e1
  rw [s] at e2
  split at hc <;> omega

/-- The precondition says that every word of the table names an expert. -/
theorem in_range [hP : Cert.Pre_experts.Facts] {F : FTy → Type} [FloatOps F] (t : IVec ⟨1, ![136]⟩ 32) (x : FVec F ⟨2, ![69632, 1024]⟩ .f32)
    (wg wu : FVec F ⟨4, ![2, 8, 1024, 3584]⟩ .f32) (wd : FVec F ⟨4, ![2, 8, 3584, 1024]⟩ .f32) (j : Cert.Pre_experts.S_.Idx)
    (h : Cert.Pre_experts.fn (F := F) t x wg wu wd j = 1#1) (k) : (t k).toNat < 16 := by
  have hs : Subsingleton Cert.Pre_experts.S_.Idx := ⟨fun _ _ => funext fun a => a.elim0⟩
  unfold Cert.Pre_experts.fn at h
  exact word_lt (t k) (Host.reduce_andi_all (andi (cmpi .sge t (broadcastInDim Cert.Pre_experts.S136 ![] hP.bcast_S_S136 (constantI Cert.Pre_experts.S_ 32 0#32)))
    (cmpi .slt t (broadcastInDim Cert.Pre_experts.S136 ![] hP.bcast_S_S136 (constantI Cert.Pre_experts.S_ 32 16#32))))
    (constantI Cert.Pre_experts.S_ 1 1#1) hP.reducesTo_S136_S_d0 hP.h_S_ j h k)

open Cert.ExpertsIdeal Cert.ExpertsIdeal.Gen in
/-- Where every word of the table names an expert, every block of the call lies in its array. -/
theorem ok {F : FTy → Type} [FloatOps F] (m : (ℓ : Loc nD τ sig) → Buf (Elt F) ℓ)
    (h : ∀ k, ((m ((0 : Dev nD).tc.loc main_arg0) : IVec S136 32) k).toNat < 16) : Ok m := by
  refine Cert.ExpertsIdeal.Moe.ok_of (tbl m) fun k => ?_
  rw [show (tbl m 0 : IVec S136 32) = m ((0 : Dev nD).tc.loc main_arg0) from V_main_arg0 m 0]
  exact h k

/-- The two programs are the same text. -/
theorem defs_eq : Cert.Experts.defs (F := Bits) = Cert.ExpertsIdeal.defs (F := Bits) := by chain_rfl

theorem main_eq : Cert.Experts.main (F := Bits) = Cert.ExpertsIdeal.main (F := Bits) := by chain_rfl

theorem frame_kernel [hP : Cert.Pre_experts.Facts] : Cert.quiescent_Experts := fun m ρ h => by
  rw [defs_eq, main_eq]
  exact Cert.ExpertsIdeal.Gen.frame (F := Bits) m ρ (ok m (in_range _ _ _ _ _ (Shape.Idx.first hP.h_S_) (congrFun (h 0) _)))

theorem frame_ideal [hP : Cert.Pre_experts.Facts] : Cert.quiescent_ExpertsIdeal := fun m ρ h =>
  Cert.ExpertsIdeal.Gen.frame (F := Ideal) m ρ (ok m (in_range _ _ _ _ _ (Shape.Idx.first hP.h_S_) (congrFun (h 0) _)))

theorem frame_ref : Cert.quiescent_ExpertsRefIdeal := fun m ρ _ =>
  (θ_run Cert.ExpertsRefIdeal.defs _ _).mono
    (fun r h => ⟨fun c => (h c).2, Idealize.ShloMosaic.sem_eq_zero_of_no_sems (by decide) r.2⟩)
    (Cert.ExpertsRefIdeal.Moe.run m ρ)

theorem algebraic [hP : Cert.Pre_experts.Facts] : Cert.algebraic_ExpertsIdeal_ExpertsRefIdeal := by
  intro m g m' g' hpre hagree
  have hX : ∀ c k, (Cert.ExpertsIdeal.Moe.X0 m c k).toNat < 16 := fun c k =>
    in_range _ _ _ _ _ (Shape.Idx.first hP.h_S_) (congrFun (hpre c) _) k
  refine ⟨fun c => Cert.ExpertsIdeal.Moe.outArr m c, Cert.ExpertsIdeal.Moe.run m g (ok m (hX 0)) hX, ?_⟩
  refine (θ_run Cert.ExpertsRefIdeal.defs _ _).mono (fun r h c => ⟨(h c).1.trans ?_, (h c).2⟩) (Cert.ExpertsRefIdeal.Moe.run m' g')
  obtain ⟨a0, a1, a2, a3, a4⟩ := hagree c
  rw [a0, a1, a2, a3, a4]
  funext i
  rw [eq_ix2 i]
  exact Cert.ExpertsRefIdeal.Moe.ref_val _ (hX c) _ _ _ _ (i 0) (i 1)

end Cert.Proof.Experts

end
-- ==== Proof.Norm.lean ====
/- The layer norm of a row, over the extended reals. -/
module

public import Idealize.ShloMosaic.Lib.Pipeline.ValueKit

@[expose] public section

noncomputable section

namespace Cert.Norm

open Idealize.ShloMosaic

/-- The mean of a row's 1024 entries. -/
def mean (z : Fin 1024 → EReal) : EReal := Ideal.div (∑ x, z x) (Ideal.ofBits .f32 0x44800000#32)

/-- A row's layer norm at a column, with that column's gain and offset. -/
def ln (z : Fin 1024 → EReal) (g b : EReal) (d : Fin 1024) : EReal :=
  (z d - mean z) * Ideal.rsqrt (mean (fun x => (z x - mean z) * (z x - mean z)) + Ideal.ofBits .f32 0x3727C5AC#32) * g + b

/-- The factor of the residual. -/
def alpha : EReal := Ideal.ofBits .f32 0x3FD744FD#32

end Cert.Norm

end
-- ==== Proof.Last.lean ====
/- The last layer's sum and layer norm: the block of outputs a grid point leaves. -/
module

public import proofs.«01_k».proof.Proof.Gen.LastIdeal.Value
public import proofs.«01_k».proof.Proof.Norm

@[expose] public section

set_option maxRecDepth 16384

noncomputable section

namespace Cert.LastIdeal.Last

open Cert.LastIdeal Cert.LastIdeal.Gen Idealize.ShloMosaic Idealize.ShloMosaic.TcCoe Idealize.SL.Sem

/-- The rows laid out in eight tiles of 128 columns. -/
def scr (w : FVec Ideal S512x1024 .f32) : Vec Ideal S8x512x128 .f32 :=
  fun y => w (ix2 (y 1) ⟨128 * (y 0).val + (y 2).val, by have h0 : (y 0).val < 8 := (y 0).isLt; have h2 : (y 2).val < 128 := (y 2).isLt; omega⟩)

/-- The rows dealt to the eight batches. -/
def deal (w : FVec Ideal S512x1024 .f32) : Vec Ideal S8x64x1024 .f32 :=
  fun y => w (ix2 ⟨8 * (y 1).val + (y 0).val, by have h0 : (y 0).val < 8 := (y 0).isLt; have h1 : (y 1).val < 64 := (y 1).isLt; omega⟩ (y 2))

theorem scr_piece (w : FVec Ideal S512x1024 .f32) (o j : ℕ) (hs) (hc) (inb) (h : o = 128 * j) (x : S1x512x128.Idx) :
    shapeCast S1x512x128 (extractStridedSlice S512x128 ![0, o] w hs) hc x
      = scr w ((Rect.unit (s := S8x512x128) ![j, 0, 0] S1x512x128.size inb).emb x) := by
  subst h
  rw [eq_ix3 x]
  pointwise [scr]
  have h0 : (x 0).val = 0 := by have : (x 0).val < 1 := (x 0).isLt; omega
  refine congrArg w (congrArg₂ ix2 (Fin.ext ?_) (Fin.ext ?_))
  · show (x 1).val = 0 + 1 * (x 1).val
    omega
  · show 128 * j + (x 2).val = 128 * (j + 1 * (x 0).val) + (0 + 1 * (x 2).val)
    omega

theorem deal_piece (w : FVec Ideal S512x1024 .f32) (L : List (View.Piece (Elt Ideal) S8x512x128 .f32)) (hL : ∀ y, View.canon L y = scr w y)
    (v : Memref sig .tc .vmem S8x512x128 .f32) (j b o : ℕ) (inb) (h1) (h2) (inb') (h : o = 128 * j) (x : S1x64x128.Idx) :
    shapeCast S1x64x128 (shapeCast S64x128 (v.view.readCov L ⟨![j, b, 0], S1x64x128.size, ![1, 8, 1], inb⟩) h1) h2 x
      = deal w ((Rect.unit (s := S8x64x1024) ![b, 0, o] S1x64x128.size inb').emb x) := by
  subst h
  rw [View.readCov_eq_canon']
  rw [eq_ix3 x]
  pointwise [deal]
  rw [hL]
  have h0 : (x 0).val = 0 := by have : (x 0).val < 1 := (x 0).isLt; omega
  refine congrArg w (congrArg₂ ix2 (Fin.ext ?_) (Fin.ext ?_))
  · show b + 8 * (x 1).val = 8 * (0 + 1 * (x 1).val) + (b + 1 * (x 0).val)
    omega
  · show 128 * j + (x 2).val = 128 * j + 1 * (x 2).val
    omega

variable (c : Dev nD) (arg1 : Memref sig .tc .vmem S512x1024 .f32) (harg1 : arg1.IsWhole)
    (arg2 : Memref sig .tc .vmem S512x1024 .f32) (harg2 : arg2.IsWhole) (arg3 : Memref sig .tc .vmem S512x1024 .f32) (harg3 : arg3.IsWhole)
    (arg4 : Memref sig .tc .vmem S512x128 .f32) (harg4 : arg4.IsWhole) (arg5 : Memref sig .tc .vmem S8x1024 .f32) (harg5 : arg5.IsWhole)
    (x0 x1 x2 : Vec Ideal S512x1024 .f32) (x3 : Vec Ideal S512x128 .f32) (x4 : Vec Ideal S8x1024 .f32)

/-- What the call computes of a block of rows. -/
def rowsV : FVec Ideal S512x1024 .f32 :=
  k0_pay5 (kernelRun0_A.sl.r c arg5 harg5 x4) (kernelRun0_A.sl.r_1 c arg1 harg1 arg2 harg2 arg3 harg3 arg4 harg4 x0 x1 x2 x3)
    (kernelRun0_A.sl.r_2 c arg5 harg5 x4)

theorem scr_all (y : S8x512x128.Idx) :
    View.canon (kernelRun0_A.sl.HS0_8 c arg1 harg1 arg2 harg2 arg3 harg3 arg4 harg4 arg5 harg5 x0 x1 x2 x3 x4) y
      = scr (rowsV c arg1 harg1 arg2 harg2 arg3 harg3 arg4 harg4 arg5 harg5 x0 x1 x2 x3 x4) y := by
  refine View.canon_apply_of_pieces _ _ ?_ y ?_
  · unfold kernelRun0_A.sl.HS0_8 kernelRun0_A.sl.v73
    unfold kernelRun0_A.sl.r_3
    simp only [List.forall_mem_cons]
    exact ⟨fun x => scr_piece _ 896 7 slices_S512x1024_o0_896_S512x128 _ _ rfl x,
      fun x => scr_piece _ _ 6 _ _ _ rfl x,
      fun x => scr_piece _ _ 5 _ _ _ rfl x,
      fun x => scr_piece _ _ 4 _ _ _ rfl x,
      fun x => scr_piece _ _ 3 _ _ _ rfl x,
      fun x => scr_piece _ _ 2 _ _ _ rfl x,
      fun x => scr_piece _ _ 1 _ _ _ rfl x,
      fun x => scr_piece _ _ 0 _ _ _ rfl x, fun p hp => absurd hp List.not_mem_nil⟩
  · exact View.cover_of_tiledL (kernelRun0_A.sl.HS0_8 c arg1 harg1 arg2 harg2 arg3 harg3 arg4 harg4 arg5 harg5 x0 x1 x2 x3 x4) S1x512x128.size (by sl_kernel_rfl) y

theorem out_eq (i : grid0.Coords) (arg6 : Memref sig .tc .vmem S8x64x1024 .f32) (harg6 : arg6.IsWhole)
    (arg7 : Memref sig .tc .vmem S8x512x128 .f32) (harg7 : arg7.IsWhole) :
    out0_A_5 c i arg1 harg1 arg2 harg2 arg3 harg3 arg4 harg4 arg5 harg5 arg6 harg6 arg7 harg7 x0 x1 x2 x3 x4
      = deal (rowsV c arg1 harg1 arg2 harg2 arg3 harg3 arg4 harg4 arg5 harg5 x0 x1 x2 x3 x4) := by
  funext y
  unfold out0_A_5
  refine View.read_writes_apply_of_pieces _ _ _ _ ?_ y (cover0_A_5 c i arg1 harg1 arg2 harg2 arg3 harg3 arg4 harg4 arg5 harg5 arg6 harg6 arg7 harg7 x0 x1 x2 x3 x4 y)
  unfold kernelRun0_A
  simp only [List.forall_mem_cons]
  exact ⟨fun x => deal_piece _ _ (scr_all c arg1 harg1 arg2 harg2 arg3 harg3 arg4 harg4 arg5 harg5 x0 x1 x2 x3 x4) arg7 7 7 _ _ _ _ _ rfl x,
      fun x => deal_piece _ _ (scr_all c arg1 harg1 arg2 harg2 arg3 harg3 arg4 harg4 arg5 harg5 x0 x1 x2 x3 x4) arg7 6 7 _ _ _ _ _ rfl x,
      fun x => deal_piece _ _ (scr_all c arg1 harg1 arg2 harg2 arg3 harg3 arg4 harg4 arg5 harg5 x0 x1 x2 x3 x4) arg7 5 7 _ _ _ _ _ rfl x,
      fun x => deal_piece _ _ (scr_all c arg1 harg1 arg2 harg2 arg3 harg3 arg4 harg4 arg5 harg5 x0 x1 x2 x3 x4) arg7 4 7 _ _ _ _ _ rfl x,
      fun x => deal_piece _ _ (scr_all c arg1 harg1 arg2 harg2 arg3 harg3 arg4 harg4 arg5 harg5 x0 x1 x2 x3 x4) arg7 3 7 _ _ _ _ _ rfl x,
      fun x => deal_piece _ _ (scr_all c arg1 harg1 arg2 harg2 arg3 harg3 arg4 harg4 arg5 harg5 x0 x1 x2 x3 x4) arg7 2 7 _ _ _ _ _ rfl x,
      fun x => deal_piece _ _ (scr_all c arg1 harg1 arg2 harg2 arg3 harg3 arg4 harg4 arg5 harg5 x0 x1 x2 x3 x4) arg7 1 7 _ _ _ _ _ rfl x,
      fun x => deal_piece _ _ (scr_all c arg1 harg1 arg2 harg2 arg3 harg3 arg4 harg4 arg5 harg5 x0 x1 x2 x3 x4) arg7 0 7 _ _ _ _ _ rfl x,
      fun x => deal_piece _ _ (scr_all c arg1 harg1 arg2 harg2 arg3 harg3 arg4 harg4 arg5 harg5 x0 x1 x2 x3 x4) arg7 7 6 _ _ _ _ _ rfl x,
      fun x => deal_piece _ _ (scr_all c arg1 harg1 arg2 harg2 arg3 harg3 arg4 harg4 arg5 harg5 x0 x1 x2 x3 x4) arg7 6 6 _ _ _ _ _ rfl x,
      fun x => deal_piece _ _ (scr_all c arg1 harg1 arg2 harg2 arg3 harg3 arg4 harg4 arg5 harg5 x0 x1 x2 x3 x4) arg7 5 6 _ _ _ _ _ rfl x,
      fun x => deal_piece _ _ (scr_all c arg1 harg1 arg2 harg2 arg3 harg3 arg4 harg4 arg5 harg5 x0 x1 x2 x3 x4) arg7 4 6 _ _ _ _ _ rfl x,
      fun x => deal_piece _ _ (scr_all c arg1 harg1 arg2 harg2 arg3 harg3 arg4 harg4 arg5 harg5 x0 x1 x2 x3 x4) arg7 3 6 _ _ _ _ _ rfl x,
      fun x => deal_piece _ _ (scr_all c arg1 harg1 arg2 harg2 arg3 harg3 arg4 harg4 arg5 harg5 x0 x1 x2 x3 x4) arg7 2 6 _ _ _ _ _ rfl x,
      fun x => deal_piece _ _ (scr_all c arg1 harg1 arg2 harg2 arg3 harg3 arg4 harg4 arg5 harg5 x0 x1 x2 x3 x4) arg7 1 6 _ _ _ _ _ rfl x,
      fun x => deal_piece _ _ (scr_all c arg1 harg1 arg2 harg2 arg3 harg3 arg4 harg4 arg5 harg5 x0 x1 x2 x3 x4) arg7 0 6 _ _ _ _ _ rfl x,
      fun x => deal_piece _ _ (scr_all c arg1 harg1 arg2 harg2 arg3 harg3 arg4 harg4 arg5 harg5 x0 x1 x2 x3 x4) arg7 7 5 _ _ _ _ _ rfl x,
      fun x => deal_piece _ _ (scr_all c arg1 harg1 arg2 harg2 arg3 harg3 arg4 harg4 arg5 harg5 x0 x1 x2 x3 x4) arg7 6 5 _ _ _ _ _ rfl x,
      fun x => deal_piece _ _ (scr_all c arg1 harg1 arg2 harg2 arg3 harg3 arg4 harg4 arg5 harg5 x0 x1 x2 x3 x4) arg7 5 5 _ _ _ _ _ rfl x,
      fun x => deal_piece _ _ (scr_all c arg1 harg1 arg2 harg2 arg3 harg3 arg4 harg4 arg5 harg5 x0 x1 x2 x3 x4) arg7 4 5 _ _ _ _ _ rfl x,
      fun x => deal_piece _ _ (scr_all c arg1 harg1 arg2 harg2 arg3 harg3 arg4 harg4 arg5 harg5 x0 x1 x2 x3 x4) arg7 3 5 _ _ _ _ _ rfl x,
      fun x => deal_piece _ _ (scr_all c arg1 harg1 arg2 harg2 arg3 harg3 arg4 harg4 arg5 harg5 x0 x1 x2 x3 x4) arg7 2 5 _ _ _ _ _ rfl x,
      fun x => deal_piece _ _ (scr_all c arg1 harg1 arg2 harg2 arg3 harg3 arg4 harg4 arg5 harg5 x0 x1 x2 x3 x4) arg7 1 5 _ _ _ _ _ rfl x,
      fun x => deal_piece _ _ (scr_all c arg1 harg1 arg2 harg2 arg3 harg3 arg4 harg4 arg5 harg5 x0 x1 x2 x3 x4) arg7 0 5 _ _ _ _ _ rfl x,
      fun x => deal_piece _ _ (scr_all c arg1 harg1 arg2 harg2 arg3 harg3 arg4 harg4 arg5 harg5 x0 x1 x2 x3 x4) arg7 7 4 _ _ _ _ _ rfl x,
      fun x => deal_piece _ _ (scr_all c arg1 harg1 arg2 harg2 arg3 harg3 arg4 harg4 arg5 harg5 x0 x1 x2 x3 x4) arg7 6 4 _ _ _ _ _ rfl x,
      fun x => deal_piece _ _ (scr_all c arg1 harg1 arg2 harg2 arg3 harg3 arg4 harg4 arg5 harg5 x0 x1 x2 x3 x4) arg7 5 4 _ _ _ _ _ rfl x,
      fun x => deal_piece _ _ (scr_all c arg1 harg1 arg2 harg2 arg3 harg3 arg4 harg4 arg5 harg5 x0 x1 x2 x3 x4) arg7 4 4 _ _ _ _ _ rfl x,
      fun x => deal_piece _ _ (scr_all c arg1 harg1 arg2 harg2 arg3 harg3 arg4 harg4 arg5 harg5 x0 x1 x2 x3 x4) arg7 3 4 _ _ _ _ _ rfl x,
      fun x => deal_piece _ _ (scr_all c arg1 harg1 arg2 harg2 arg3 harg3 arg4 harg4 arg5 harg5 x0 x1 x2 x3 x4) arg7 2 4 _ _ _ _ _ rfl x,
      fun x => deal_piece _ _ (scr_all c arg1 harg1 arg2 harg2 arg3 harg3 arg4 harg4 arg5 harg5 x0 x1 x2 x3 x4) arg7 1 4 _ _ _ _ _ rfl x,
      fun x => deal_piece _ _ (scr_all c arg1 harg1 arg2 harg2 arg3 harg3 arg4 harg4 arg5 harg5 x0 x1 x2 x3 x4) arg7 0 4 _ _ _ _ _ rfl x,
      fun x => deal_piece _ _ (scr_all c arg1 harg1 arg2 harg2 arg3 harg3 arg4 harg4 arg5 harg5 x0 x1 x2 x3 x4) arg7 7 3 _ _ _ _ _ rfl x,
      fun x => deal_piece _ _ (scr_all c arg1 harg1 arg2 harg2 arg3 harg3 arg4 harg4 arg5 harg5 x0 x1 x2 x3 x4) arg7 6 3 _ _ _ _ _ rfl x,
      fun x => deal_piece _ _ (scr_all c arg1 harg1 arg2 harg2 arg3 harg3 arg4 harg4 arg5 harg5 x0 x1 x2 x3 x4) arg7 5 3 _ _ _ _ _ rfl x,
      fun x => deal_piece _ _ (scr_all c arg1 harg1 arg2 harg2 arg3 harg3 arg4 harg4 arg5 harg5 x0 x1 x2 x3 x4) arg7 4 3 _ _ _ _ _ rfl x,
      fun x => deal_piece _ _ (scr_all c arg1 harg1 arg2 harg2 arg3 harg3 arg4 harg4 arg5 harg5 x0 x1 x2 x3 x4) arg7 3 3 _ _ _ _ _ rfl x,
      fun x => deal_piece _ _ (scr_all c arg1 harg1 arg2 harg2 arg3 harg3 arg4 harg4 arg5 harg5 x0 x1 x2 x3 x4) arg7 2 3 _ _ _ _ _ rfl x,
      fun x => deal_piece _ _ (scr_all c arg1 harg1 arg2 harg2 arg3 harg3 arg4 harg4 arg5 harg5 x0 x1 x2 x3 x4) arg7 1 3 _ _ _ _ _ rfl x,
      fun x => deal_piece _ _ (scr_all c arg1 harg1 arg2 harg2 arg3 harg3 arg4 harg4 arg5 harg5 x0 x1 x2 x3 x4) arg7 0 3 _ _ _ _ _ rfl x,
      fun x => deal_piece _ _ (scr_all c arg1 harg1 arg2 harg2 arg3 harg3 arg4 harg4 arg5 harg5 x0 x1 x2 x3 x4) arg7 7 2 _ _ _ _ _ rfl x,
      fun x => deal_piece _ _ (scr_all c arg1 harg1 arg2 harg2 arg3 harg3 arg4 harg4 arg5 harg5 x0 x1 x2 x3 x4) arg7 6 2 _ _ _ _ _ rfl x,
      fun x => deal_piece _ _ (scr_all c arg1 harg1 arg2 harg2 arg3 harg3 arg4 harg4 arg5 harg5 x0 x1 x2 x3 x4) arg7 5 2 _ _ _ _ _ rfl x,
      fun x => deal_piece _ _ (scr_all c arg1 harg1 arg2 harg2 arg3 harg3 arg4 harg4 arg5 harg5 x0 x1 x2 x3 x4) arg7 4 2 _ _ _ _ _ rfl x,
      fun x => deal_piece _ _ (scr_all c arg1 harg1 arg2 harg2 arg3 harg3 arg4 harg4 arg5 harg5 x0 x1 x2 x3 x4) arg7 3 2 _ _ _ _ _ rfl x,
      fun x => deal_piece _ _ (scr_all c arg1 harg1 arg2 harg2 arg3 harg3 arg4 harg4 arg5 harg5 x0 x1 x2 x3 x4) arg7 2 2 _ _ _ _ _ rfl x,
      fun x => deal_piece _ _ (scr_all c arg1 harg1 arg2 harg2 arg3 harg3 arg4 harg4 arg5 harg5 x0 x1 x2 x3 x4) arg7 1 2 _ _ _ _ _ rfl x,
      fun x => deal_piece _ _ (scr_all c arg1 harg1 arg2 harg2 arg3 harg3 arg4 harg4 arg5 harg5 x0 x1 x2 x3 x4) arg7 0 2 _ _ _ _ _ rfl x,
      fun x => deal_piece _ _ (scr_all c arg1 harg1 arg2 harg2 arg3 harg3 arg4 harg4 arg5 harg5 x0 x1 x2 x3 x4) arg7 7 1 _ _ _ _ _ rfl x,
      fun x => deal_piece _ _ (scr_all c arg1 harg1 arg2 harg2 arg3 harg3 arg4 harg4 arg5 harg5 x0 x1 x2 x3 x4) arg7 6 1 _ _ _ _ _ rfl x,
      fun x => deal_piece _ _ (scr_all c arg1 harg1 arg2 harg2 arg3 harg3 arg4 harg4 arg5 harg5 x0 x1 x2 x3 x4) arg7 5 1 _ _ _ _ _ rfl x,
      fun x => deal_piece _ _ (scr_all c arg1 harg1 arg2 harg2 arg3 harg3 arg4 harg4 arg5 harg5 x0 x1 x2 x3 x4) arg7 4 1 _ _ _ _ _ rfl x,
      fun x => deal_piece _ _ (scr_all c arg1 harg1 arg2 harg2 arg3 harg3 arg4 harg4 arg5 harg5 x0 x1 x2 x3 x4) arg7 3 1 _ _ _ _ _ rfl x,
      fun x => deal_piece _ _ (scr_all c arg1 harg1 arg2 harg2 arg3 harg3 arg4 harg4 arg5 harg5 x0 x1 x2 x3 x4) arg7 2 1 _ _ _ _ _ rfl x,
      fun x => deal_piece _ _ (scr_all c arg1 harg1 arg2 harg2 arg3 harg3 arg4 harg4 arg5 harg5 x0 x1 x2 x3 x4) arg7 1 1 _ _ _ _ _ rfl x,
      fun x => deal_piece _ _ (scr_all c arg1 harg1 arg2 harg2 arg3 harg3 arg4 harg4 arg5 harg5 x0 x1 x2 x3 x4) arg7 0 1 _ _ _ _ _ rfl x,
      fun x => deal_piece _ _ (scr_all c arg1 harg1 arg2 harg2 arg3 harg3 arg4 harg4 arg5 harg5 x0 x1 x2 x3 x4) arg7 7 0 _ _ _ _ _ rfl x,
      fun x => deal_piece _ _ (scr_all c arg1 harg1 arg2 harg2 arg3 harg3 arg4 harg4 arg5 harg5 x0 x1 x2 x3 x4) arg7 6 0 _ _ _ _ _ rfl x,
      fun x => deal_piece _ _ (scr_all c arg1 harg1 arg2 harg2 arg3 harg3 arg4 harg4 arg5 harg5 x0 x1 x2 x3 x4) arg7 5 0 _ _ _ _ _ rfl x,
      fun x => deal_piece _ _ (scr_all c arg1 harg1 arg2 harg2 arg3 harg3 arg4 harg4 arg5 harg5 x0 x1 x2 x3 x4) arg7 4 0 _ _ _ _ _ rfl x,
      fun x => deal_piece _ _ (scr_all c arg1 harg1 arg2 harg2 arg3 harg3 arg4 harg4 arg5 harg5 x0 x1 x2 x3 x4) arg7 3 0 _ _ _ _ _ rfl x,
      fun x => deal_piece _ _ (scr_all c arg1 harg1 arg2 harg2 arg3 harg3 arg4 harg4 arg5 harg5 x0 x1 x2 x3 x4) arg7 2 0 _ _ _ _ _ rfl x,
      fun x => deal_piece _ _ (scr_all c arg1 harg1 arg2 harg2 arg3 harg3 arg4 harg4 arg5 harg5 x0 x1 x2 x3 x4) arg7 1 0 _ _ _ _ _ rfl x,
      fun x => deal_piece _ _ (scr_all c arg1 harg1 arg2 harg2 arg3 harg3 arg4 harg4 arg5 harg5 x0 x1 x2 x3 x4) arg7 0 0 _ _ _ _ _ rfl x, fun p hp => absurd hp List.not_mem_nil⟩

/-- The sum of a row before the layer norm. -/
def pre (x0 x1 x2 : FVec Ideal S512x1024 .f32) (x3 : FVec Ideal S512x128 .f32) (r : Fin 512) (d : Fin 1024) : EReal :=
  Norm.alpha * x0 (ix2 r d) + (x3 (ix2 r 2) * x1 (ix2 r d) + x3 (ix2 r 3) * x2 (ix2 r d))

theorem rd {s : Shape} (a : Memref sig .tc .vmem s .f32) (h : a.IsWhole) (x : Vec Ideal s .f32) (B : LoadRect s) (j : B.shape.Idx) (k : s.Idx)
    (hk : ∀ i, (B.idx j i).val = (k i).val) : View.readAt (Elt Ideal) a.view B (h.unread x) j = x k := by
  rw [View.readAt_apply]
  exact (congrFun (h.read_unread x) _).trans (congrArg x (funext fun i => Fin.ext (hk i)))

/-- A row of the call's block, at a column. -/
theorem rowsV_at (r : Fin 512) (d : Fin 1024) : rowsV c arg1 harg1 arg2 harg2 arg3 harg3 arg4 harg4 arg5 harg5 x0 x1 x2 x3 x4 (ix2 r d)
    = Norm.ln (pre x0 x1 x2 x3 r) (x4 (ix2 0 d)) (x4 (ix2 1 d)) d := by
  unfold rowsV kernelRun0_A.sl.r kernelRun0_A.sl.r_1 kernelRun0_A.sl.r_2
  pointwise [k0_pay5, k0_pay2, k0_pay3, k0_pay4]
  have e0 (x) : View.readAt (Elt Ideal) arg1.view (Rect.unit (s := S512x1024) ![0, 0] ![512, 1024] inb_S512x1024_S512x1024_0_0).toLoadRect (harg1.unread x0) (ix2 r x) = x0 (ix2 r x) :=
    rd _ _ _ _ _ _ (by intro i; fin_cases i <;> simp [LoadRect.idx, Rect.toLoadRect, Rect.unit, ix2])
  have e1 (x) : View.readAt (Elt Ideal) arg2.view (Rect.unit (s := S512x1024) ![0, 0] ![512, 1024] inb_S512x1024_S512x1024_0_0).toLoadRect (harg2.unread x1) (ix2 r x) = x1 (ix2 r x) :=
    rd _ _ _ _ _ _ (by intro i; fin_cases i <;> simp [LoadRect.idx, Rect.toLoadRect, Rect.unit, ix2])
  have e2 (x) : View.readAt (Elt Ideal) arg3.view (Rect.unit (s := S512x1024) ![0, 0] ![512, 1024] inb_S512x1024_S512x1024_0_0).toLoadRect (harg3.unread x2) (ix2 r x) = x2 (ix2 r x) :=
    rd _ _ _ _ _ _ (by intro i; fin_cases i <;> simp [LoadRect.idx, Rect.toLoadRect, Rect.unit, ix2])
  have e3 : View.readAt (Elt Ideal) arg4.view (Rect.unit (s := S512x128) ![0, 2] ![512, 1] inb_S512x128_S512x1_0_2).toLoadRect (harg4.unread x3) (ix2 r 0) = x3 (ix2 r 2) :=
    rd _ _ _ _ _ _ (by intro i; fin_cases i <;> simp [LoadRect.idx, Rect.toLoadRect, Rect.unit, ix2])
  have e4 : View.readAt (Elt Ideal) arg4.view (Rect.unit (s := S512x128) ![0, 3] ![512, 1] inb_S512x128_S512x1_0_3).toLoadRect (harg4.unread x3) (ix2 r 0) = x3 (ix2 r 3) :=
    rd _ _ _ _ _ _ (by intro i; fin_cases i <;> simp [LoadRect.idx, Rect.toLoadRect, Rect.unit, ix2])
  have e5 : View.readAt (Elt Ideal) arg5.view (Rect.unit (s := S8x1024) ![0, 0] ![1, 1024] inb_S8x1024_S1x1024_0_0).toLoadRect (harg5.unread x4) (ix2 0 d) = x4 (ix2 0 d) :=
    rd _ _ _ _ _ _ (by intro i; fin_cases i <;> simp [LoadRect.idx, Rect.toLoadRect, Rect.unit, ix2])
  have e6 : View.readAt (Elt Ideal) arg5.view (Rect.unit (s := S8x1024) ![1, 0] ![1, 1024] inb_S8x1024_S1x1024_1_0).toLoadRect (harg5.unread x4) (ix2 0 d) = x4 (ix2 1 d) :=
    rd _ _ _ _ _ _ (by intro i; fin_cases i <;> simp [LoadRect.idx, Rect.toLoadRect, Rect.unit, ix2])
  simp only [e0, e1, e2, e3, e4, e5, e6]
  rfl

end Cert.LastIdeal.Last

end
-- ==== Proof.LastVal.lean ====
/- The last layer's sum and layer norm over the extended reals: the result array. -/
module

public import proofs.«01_k».proof.Proof.Last
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.LastIdeal.Last

open Cert.LastIdeal Cert.LastIdeal.Gen

variable (m : (ℓ : Loc nD τ sig) → Buf (Elt Ideal) ℓ) (ρ : Dev nD → PrngReg) (c : Dev nD)

/-! ## The arrays the host lines prepare -/

abbrev X0 : FVec Ideal S8x4096x1024 .f32 := m ((c.tc : Thread nD τ).loc main_arg0)
abbrev X1 : FVec Ideal S8x4096x1024 .f32 := m ((c.tc : Thread nD τ).loc main_arg1)
abbrev X2 : FVec Ideal S8x4096x1024 .f32 := m ((c.tc : Thread nD τ).loc main_arg2)
abbrev X3 : FVec Ideal S8x4096x2 .f32 := m ((c.tc : Thread nD τ).loc main_arg3)
abbrev X4 : FVec Ideal S1024 .f32 := m ((c.tc : Thread nD τ).loc main_arg4)
abbrev X5 : FVec Ideal S1024 .f32 := m ((c.tc : Thread nD τ).loc main_arg5)

/-- The rows of an array, step by step and in a step batch by batch. -/
def rows (x : FVec Ideal S8x4096x1024 .f32) : FVec Ideal S32768x1024 .f32 :=
  shapeCast S32768x1024 (transpose S4096x8x1024 [1, 0, 2] x transposes_S8x4096x1024_S4096x8x1024_1_0_2) shapeCasts_S4096x8x1024_S32768x1024

theorem rows_at (x : FVec Ideal S8x4096x1024 .f32) (b : Fin 8) (s : Fin 4096) (d : Fin 1024) (R : Fin 32768) (hR : R.val = 8 * s.val + b.val) :
    rows x (ix2 R d) = x (ix3 b s d) := by
  have hb := b.isLt
  have h1 : (⟨R.val % 8, by omega⟩ : Fin 8) = b := Fin.ext (by show R.val % 8 = _; omega)
  have h2 : (⟨R.val / 8, by omega⟩ : Fin 4096) = s := Fin.ext (by show R.val / 8 = _; omega)
  refine Eq.trans ?_ (congrArg₂ (fun u v => x (ix3 u v d)) h1 h2)
  pointwise [rows]

theorem v14_eq : V m c main_v14 = rows (X0 m c) := by
  unfold V
  after_reads_simp
  rfl

theorem v19_eq : V m c main_v19 = concatenate S65536x1024 0 [⟨S32768x1024, rows (X1 m c)⟩, ⟨S32768x1024, rows (X2 m c)⟩] concatenates_S32768x1024_S32768x1024_S65536x1024_d0 := by
  unfold V
  after_reads_simp
  rfl

/-- The gates as the kernel takes them: columns 2 and 3 of 128 lanes. -/
def lanes (x : FVec Ideal S8x4096x2 .f32) : FVec Ideal S32768x128 .f32 :=
  pad S32768x128 ![0, 2] ![0, 124] ![0, 0]
    (shapeCast S32768x2 (transpose S4096x8x2 [1, 0, 2] x transposes_S8x4096x2_S4096x8x2_1_0_2) shapeCasts_S4096x8x2_S32768x2)
    (sitofp FTy.f32 (constantI S_ 32 0#32)) pads_S32768x2_S32768x128_000_21240 h_S_

theorem v2_eq : V m c main_v2 = lanes (X3 m c) := by
  unfold V
  after_reads_simp
  rfl

theorem lanes_at (x : FVec Ideal S8x4096x2 .f32) (b : Fin 8) (s : Fin 4096) (R : Fin 32768) (hR : R.val = 8 * s.val + b.val) :
    lanes x (ix2 R 2) = x (ix3 b s 0) ∧ lanes x (ix2 R 3) = x (ix3 b s 1) := by
  have hb := b.isLt
  have h1 : (⟨R.val % 8, by omega⟩ : Fin 8) = b := Fin.ext (by show R.val % 8 = _; omega)
  have h2 : (⟨R.val / 8, by omega⟩ : Fin 4096) = s := Fin.ext (by show R.val / 8 = _; omega)
  constructor
  · refine Eq.trans ?_ (congrArg₂ (fun u v => x (ix3 u v 0)) h1 h2)
    pointwise [lanes]
  · refine Eq.trans ?_ (congrArg₂ (fun u v => x (ix3 u v 1)) h1 h2)
    pointwise [lanes]

theorem v12_at (d : Fin 1024) : V m c main_v12 (ix2 0 d) = X4 m c (ix1 d) ∧ V m c main_v12 (ix2 1 d) = X5 m c (ix1 d) := by
  unfold V
  after_reads_simp
  constructor
  · pointwise
    after_reads_simp
    pointwise
  · pointwise
    after_reads_simp
    pointwise

/-- The two experts' rows, the first array's before the second's. -/
theorem pair_at (x1 x2 : FVec Ideal S32768x1024 .f32) (R : Fin 32768) (d : Fin 1024) :
    concatenate S65536x1024 0 [⟨S32768x1024, x1⟩, ⟨S32768x1024, x2⟩] concatenates_S32768x1024_S32768x1024_S65536x1024_d0 (ix2 ⟨R.val, by omega⟩ d) = x1 (ix2 R d)
    ∧ concatenate S65536x1024 0 [⟨S32768x1024, x1⟩, ⟨S32768x1024, x2⟩] concatenates_S32768x1024_S32768x1024_S65536x1024_d0 (ix2 ⟨32768 + R.val, by omega⟩ d) = x2 (ix2 R d) := by
  constructor
  · pointwise
  · pointwise

/-! ## The blocks of a step -/

theorem t0 (t : Fin grid0.N) : cc0_transform_0 (grid0.coords t) = ![t.val, 0] := (by decide +kernel : ∀ t : Fin grid0.N, cc0_transform_0 (grid0.coords t) = ![t.val, 0]) t
theorem t1 (t : Fin grid0.N) : cc0_transform_1 (grid0.coords t) = ![t.val, 0] := (by decide +kernel : ∀ t : Fin grid0.N, cc0_transform_1 (grid0.coords t) = ![t.val, 0]) t
theorem t2 (t : Fin grid0.N) : cc0_transform_2 (grid0.coords t) = ![64 + t.val, 0] := (by decide +kernel : ∀ t : Fin grid0.N, cc0_transform_2 (grid0.coords t) = ![64 + t.val, 0]) t
theorem t3 (t : Fin grid0.N) : cc0_transform_3 (grid0.coords t) = ![t.val, 0] := (by decide +kernel : ∀ t : Fin grid0.N, cc0_transform_3 (grid0.coords t) = ![t.val, 0]) t
theorem t4 (t : Fin grid0.N) : cc0_transform_4 (grid0.coords t) = ![0, 0] := (by decide +kernel : ∀ t : Fin grid0.N, cc0_transform_4 (grid0.coords t) = ![0, 0]) t
theorem t5 (t : Fin grid0.N) : cc0_transform_5 (grid0.coords t) = ![0, t.val, 0] := (by decide +kernel : ∀ t : Fin grid0.N, cc0_transform_5 (grid0.coords t) = ![0, t.val, 0]) t

theorem tlt (t : Fin cfg0.N) : t.val < 64 := t.isLt

theorem blk0_at (t : Fin cfg0.N) (R : Fin 32768) (r : Fin 512) (hR : R.val = 512 * t.val + r.val) (d : Fin 1024) :
    (iblk m c 0 t : FVec Ideal S512x1024 .f32) (ix2 r d) = rows (X0 m c) (ix2 R d) := by
  have hp : ∀ a : Fin 2, (((cfg0.win 0).blk t).view.emb (ix2 r d) a).val = cc0_transform_0 (grid0.coords t) a * S512x1024.size a + 1 * (ix2 r d a).val := fun a => rfl
  rw [t0] at hp
  unfold iblk
  refine Eq.trans (View.read_apply ..) (Eq.trans (congrArg (V m c main_v14 : FVec Ideal S32768x1024 .f32) (funext fun (a : Fin 2) => ?_)) (congrFun (v14_eq m c) (ix2 R d)))
  apply Fin.ext
  refine (hp a).trans ?_
  match a with
  | ⟨0, _⟩ => show t.val * 512 + 1 * r.val = R.val; omega
  | ⟨1, _⟩ => show 0 * 1024 + 1 * d.val = d.val; omega

theorem blk1_at (t : Fin cfg0.N) (R : Fin 32768) (r : Fin 512) (hR : R.val = 512 * t.val + r.val) (d : Fin 1024) :
    (iblk m c 1 t : FVec Ideal S512x1024 .f32) (ix2 r d) = rows (X1 m c) (ix2 R d) := by
  have hp : ∀ a : Fin 2, (((cfg0.win 1).blk t).view.emb (ix2 r d) a).val = cc0_transform_1 (grid0.coords t) a * S512x1024.size a + 1 * (ix2 r d a).val := fun a => rfl
  rw [t1] at hp
  unfold iblk
  refine Eq.trans (View.read_apply ..) (Eq.trans (congrArg (V m c main_v19 : FVec Ideal S65536x1024 .f32) (funext fun (a : Fin 2) => ?_))
    ((congrFun (v19_eq m c) (ix2 ⟨R.val, by omega⟩ d)).trans (pair_at _ _ R d).1))
  apply Fin.ext
  refine (hp a).trans ?_
  match a with
  | ⟨0, _⟩ => show t.val * 512 + 1 * r.val = R.val; omega
  | ⟨1, _⟩ => show 0 * 1024 + 1 * d.val = d.val; omega

theorem blk2_at (t : Fin cfg0.N) (R : Fin 32768) (r : Fin 512) (hR : R.val = 512 * t.val + r.val) (d : Fin 1024) :
    (iblk m c 2 t : FVec Ideal S512x1024 .f32) (ix2 r d) = rows (X2 m c) (ix2 R d) := by
  have hp : ∀ a : Fin 2, (((cfg0.win 2).blk t).view.emb (ix2 r d) a).val = cc0_transform_2 (grid0.coords t) a * S512x1024.size a + 1 * (ix2 r d a).val := fun a => rfl
  rw [t2] at hp
  unfold iblk
  refine Eq.trans (View.read_apply ..) (Eq.trans (congrArg (V m c main_v19 : FVec Ideal S65536x1024 .f32) (funext fun (a : Fin 2) => ?_))
    ((congrFun (v19_eq m c) (ix2 ⟨32768 + R.val, by omega⟩ d)).trans (pair_at _ _ R d).2))
  apply Fin.ext
  refine (hp a).trans ?_
  match a with
  | ⟨0, _⟩ => show (64 + t.val) * 512 + 1 * r.val = 32768 + R.val; omega
  | ⟨1, _⟩ => show 0 * 1024 + 1 * d.val = d.val; omega

theorem blk3_at (t : Fin cfg0.N) (R : Fin 32768) (r : Fin 512) (hR : R.val = 512 * t.val + r.val) (d : Fin 128) :
    (iblk m c 3 t : FVec Ideal S512x128 .f32) (ix2 r d) = lanes (X3 m c) (ix2 R d) := by
  have hp : ∀ a : Fin 2, (((cfg0.win 3).blk t).view.emb (ix2 r d) a).val = cc0_transform_3 (grid0.coords t) a * S512x128.size a + 1 * (ix2 r d a).val := fun a => rfl
  rw [t3] at hp
  unfold iblk
  refine Eq.trans (View.read_apply ..) (Eq.trans (congrArg (V m c main_v2 : FVec Ideal S32768x128 .f32) (funext fun (a : Fin 2) => ?_)) (congrFun (v2_eq m c) (ix2 R d)))
  apply Fin.ext
  refine (hp a).trans ?_
  match a with
  | ⟨0, _⟩ => show t.val * 512 + 1 * r.val = R.val; omega
  | ⟨1, _⟩ => show 0 * 128 + 1 * d.val = d.val; omega

theorem blk4_at (t : Fin cfg0.N) (r : Fin 8) (d : Fin 1024) :
    (iblk m c 4 t : FVec Ideal S8x1024 .f32) (ix2 r d) = V m c main_v12 (ix2 r d) := by
  have hp : ∀ a : Fin 2, (((cfg0.win 4).blk t).view.emb (ix2 r d) a).val = cc0_transform_4 (grid0.coords t) a * S8x1024.size a + 1 * (ix2 r d a).val := fun a => rfl
  rw [t4] at hp
  unfold iblk
  refine Eq.trans (View.read_apply ..) (congrArg (V m c main_v12 : FVec Ideal S8x1024 .f32) (funext fun (a : Fin 2) => ?_))
  apply Fin.ext
  refine (hp a).trans ?_
  match a with
  | ⟨0, _⟩ => show 0 * 8 + 1 * r.val = r.val; omega
  | ⟨1, _⟩ => show 0 * 1024 + 1 * d.val = d.val; omega

/-! ## The result -/

/-- What is normalized: the layer's input, scaled, and the two experts' outputs by their gates. -/
def preArr (x y1 y2 : FVec Ideal S8x4096x1024 .f32) (g : FVec Ideal S8x4096x2 .f32) (b : Fin 8) (s : Fin 4096) (d : Fin 1024) : EReal :=
  Norm.alpha * x (ix3 b s d) + (g (ix3 b s 0) * y1 (ix3 b s d) + g (ix3 b s 1) * y2 (ix3 b s d))

/-- The result as one function of the arguments. -/
def outArr : FVec Ideal S8x4096x1024 .f32 := fun i =>
  Norm.ln (preArr (X0 m c) (X1 m c) (X2 m c) (X3 m c) (i 0) (i 1)) (X4 m c (ix1 (i 2))) (X5 m c (ix1 (i 2))) (i 2)

theorem pre_at (t : Fin cfg0.N) (b : Fin 8) (s : Fin 4096) (r : Fin 512) (hs : 8 * s.val + b.val = 512 * t.val + r.val) :
    pre (iblk m c 0 t) (iblk m c 1 t) (iblk m c 2 t) (iblk m c 3 t) r = preArr (X0 m c) (X1 m c) (X2 m c) (X3 m c) b s := by
  have hb := b.isLt
  have hs' := s.isLt
  have hl := lanes_at (X3 m c) b s ⟨8 * s.val + b.val, by omega⟩ rfl
  funext d
  unfold pre preArr
  rw [blk0_at m c t ⟨8 * s.val + b.val, by omega⟩ r hs d, blk1_at m c t ⟨8 * s.val + b.val, by omega⟩ r hs d,
    blk2_at m c t ⟨8 * s.val + b.val, by omega⟩ r hs d, blk3_at m c t ⟨8 * s.val + b.val, by omega⟩ r hs 2,
    blk3_at m c t ⟨8 * s.val + b.val, by omega⟩ r hs 3, hl.1, hl.2, rows_at _ b s d _ rfl, rows_at _ b s d _ rfl, rows_at _ b s d _ rfl]

theorem block_at (t : Fin cfg0.N) (b : Fin 8) (s : Fin 4096) (r : Fin 512) (hs : 8 * s.val + b.val = 512 * t.val + r.val) (d : Fin 1024) :
    Norm.ln (pre (iblk m c 0 t) (iblk m c 1 t) (iblk m c 2 t) (iblk m c 3 t) r) ((iblk m c 4 t : FVec Ideal S8x1024 .f32) (ix2 0 d))
      ((iblk m c 4 t : FVec Ideal S8x1024 .f32) (ix2 1 d)) d = outArr m c (ix3 b s d) := by
  rw [pre_at m c t b s r hs]
  exact congrArg₂ (fun u v => Norm.ln (preArr (X0 m c) (X1 m c) (X2 m c) (X3 m c) b s) u v d)
    ((blk4_at m c t 0 d).trans (v12_at m c d).1) ((blk4_at m c t 1 d).trans (v12_at m c d).2)

theorem flushed_eq (t : Fin cfg0.N) (hf : (cfg0.win 5).flush t = true) :
    (dats m 0 c).flushed 5 t = ((cfg0.win 5).blk t).view.read (Elt Ideal) (outArr m c) := by
  have ht := tlt t
  rw [Value.flushed5_A, out_eq]
  funext (j : S8x64x1024.Idx)
  have j0 : (j 0).val < 8 := (j 0).isLt
  have j1 : (j 1).val < 64 := (j 1).isLt
  have hp : ∀ a : Fin 3, (((cfg0.win 5).blk t).view.emb j a).val = cc0_transform_5 (grid0.coords t) a * S8x64x1024.size a + 1 * (j a).val := fun a => rfl
  rw [t5] at hp
  refine Eq.trans ?_ (View.read_apply ..).symm
  show rowsV _ _ _ _ _ _ _ _ _ _ _ _ _ _ _ _ (ix2 ⟨8 * (j 1).val + (j 0).val, by omega⟩ (j 2)) = _
  refine (rowsV_at ..).trans ((block_at m c t (j 0) ⟨64 * t.val + (j 1).val, by omega⟩ ⟨8 * (j 1).val + (j 0).val, by omega⟩
      (by show 8 * (64 * t.val + (j 1).val) + (j 0).val = 512 * t.val + (8 * (j 1).val + (j 0).val); omega) (j 2)).trans ?_)
  show outArr m c (ix3 (j 0) ⟨64 * t.val + (j 1).val, by omega⟩ (j 2)) = _
  refine congrArg (outArr m c) (funext fun (a : Fin 3) => Fin.ext ?_)
  refine Eq.trans ?_ (hp a).symm
  match a with
  | ⟨0, _⟩ => show (j 0).val = 0 * 8 + 1 * (j 0).val; omega
  | ⟨1, _⟩ => show 64 * t.val + (j 1).val = t.val * 64 + 1 * (j 1).val; omega
  | ⟨2, _⟩ => show (j 2).val = 0 * 1024 + 1 * (j 2).val; omega

theorem final : (dats m 0 c).arrAt 5 cfg0.N = outArr m c :=
  (dats m 0 c).arrAt_eq_of_cover 5 (outArr m c) (flushed_eq m c) fun (i : S8x4096x1024.Idx) => by
    have h0 : (i 0 : Nat) < 8 := (i 0).isLt
    have h1 : (i 1 : Nat) < 4096 := (i 1).isLt
    have h2 : (i 2 : Nat) < 1024 := (i 2).isLt
    have hN : (i 1).val / 64 < cfg0.N := by show _ < 64; omega
    refine ⟨⟨(i 1).val / 64, hN⟩, (by decide +kernel : ∀ t : Fin cfg0.N, (cfg0.win 5).flush t = true) _, ?_⟩
    show i ∈ ((View.whole main_v20).slice ((cfg0.win 5).rect ⟨(i 1).val / 64, hN⟩)).set
    have hix : (cfg0.win 5).index ⟨(i 1).val / 64, hN⟩ = (![0, (i 1).val / 64, 0] : Fin 3 → Nat) := t5 _
    have key : ∀ a : Fin 3, (![0, (i 1).val / 64, 0] : Fin 3 → Nat) a * S8x64x1024.size a ≤ (i a).val
        ∧ (i a).val < (![0, (i 1).val / 64, 0] : Fin 3 → Nat) a * S8x64x1024.size a + S8x64x1024.size a := by
      intro a
      match a with
      | ⟨0, _⟩ => show 0 * 8 ≤ (i 0).val ∧ (i 0).val < 0 * 8 + 8; omega
      | ⟨1, _⟩ => show (i 1).val / 64 * 64 ≤ (i 1).val ∧ (i 1).val < (i 1).val / 64 * 64 + 64; omega
      | ⟨2, _⟩ => show 0 * 1024 ≤ (i 2).val ∧ (i 2).val < 0 * 1024 + 1024; omega
    rw [← hix] at key
    exact (congrArg (fun s => i ∈ s) (View.set_slice_whole main_v20 _)).mpr (Rect.mem_set_unit.mpr key)

/-- The run: the result, and the arguments unchanged. -/
theorem run : θ_run defs (onTc (τ := τ) (main (F := Ideal))) ⟨m, fun _ => 0, ρ⟩ (fun r => ∀ c : Dev nD,
      r.2.mem ((c.tc : Thread nD τ).loc main_v20) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final m c), (h c).2⟩) (Value.run_blocks m ρ)

end Cert.LastIdeal.Last

end
-- ==== Proof.LastRef.lean ====
/- The last layer's reference over the extended reals: the same layer norm of the same sum. -/
module

public import proofs.«01_k».proof.Proof.Gen.LastRefIdeal.Run
public import proofs.«01_k».proof.Proof.LastVal

@[expose] public section

noncomputable section

namespace Cert.LastRefIdeal.Last

open Idealize.ShloMosaic Idealize.ShloMosaic.TcCoe Idealize.SL.Sem
open Cert.LastRefIdeal Cert.LastRefIdeal.Gen
open Cert.LastIdeal.Last (preArr)

/-- What is normalized, as the reference's operations compose. -/
def preV (x y1 y2 : FVec Ideal S8x4096x1024 .f32) (g : FVec Ideal S8x4096x2 .f32) : FVec Ideal S8x4096x1024 .f32 :=
  addf (mulf (broadcastInDim S8x4096x1024 ![] bcast_S_S8x4096x1024 (constant S_ .f32 0x3FD744FD#32)) x)
    (addf (mulf (broadcastInDim S8x4096x1024 ![0, 1, 2] bcast_S8x4096x1_S8x4096x1024_0_1_2 (extractStridedSlice S8x4096x1 ![0, 0, 0] g slices_S8x4096x2_S8x4096x1_0_0_0)) y1)
      (mulf (broadcastInDim S8x4096x1024 ![0, 1, 2] bcast_S8x4096x1_S8x4096x1024_0_1_2 (extractStridedSlice S8x4096x1 ![0, 0, 1] g slices_S8x4096x2_S8x4096x1_0_0_1)) y2))

/-- The mean over the last dimension. -/
def meanV (z : FVec Ideal S8x4096x1024 .f32) : FVec Ideal S8x4096x1 .f32 :=
  Host.divf (broadcastInDim S8x4096x1 ![0, 1] bcast_S8x4096_S8x4096x1_0_1 (Host.reduceAdd z (constant S_ .f32 0x00000000#32) reducesTo_S8x4096x1024_S8x4096_d2 h_S_))
    (broadcastInDim S8x4096x1 ![] bcast_S_S8x4096x1 (constant S_ .f32 0x44800000#32))

/-- The deviation from the mean. -/
def devV (z : FVec Ideal S8x4096x1024 .f32) : FVec Ideal S8x4096x1024 .f32 :=
  subf z (broadcastInDim S8x4096x1024 ![0, 1, 2] bcast_S8x4096x1_S8x4096x1024_0_1_2 (meanV z))

/-- The layer norm, as the reference's operations compose. -/
def lnV (z : FVec Ideal S8x4096x1024 .f32) (g b : FVec Ideal S1024 .f32) : FVec Ideal S8x4096x1024 .f32 :=
  addf (mulf (mulf (devV z) (broadcastInDim S8x4096x1024 ![0, 1, 2] bcast_S8x4096x1_S8x4096x1024_0_1_2
        (Host.rsqrt (addf (meanV (mulf (devV z) (devV z))) (broadcastInDim S8x4096x1 ![] bcast_S_S8x4096x1 (constant S_ .f32 0x3727C5AC#32))))))
      (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S1x1x1024_S8x4096x1024_0_1_2 (broadcastInDim S1x1x1024 ![2] bcast_S1024_S1x1x1024_2 b))

theorem preV_at (x y1 y2 : FVec Ideal S8x4096x1024 .f32) (g : FVec Ideal S8x4096x2 .f32) (b : Fin 8) (s : Fin 4096) (d : Fin 1024) :
    preV x y1 y2 g (ix3 b s d) = preArr x y1 y2 g b s d := by
  unfold preArr Norm.alpha
  pointwise [preV]

theorem meanV_at (z : FVec Ideal S8x4096x1024 .f32) (b : Fin 8) (s : Fin 4096) :
    meanV z (ix3 b s 0) = Norm.mean fun d => z (ix3 b s d) := by
  unfold Norm.mean
  pointwise [meanV]

theorem devV_at (z : FVec Ideal S8x4096x1024 .f32) (b : Fin 8) (s : Fin 4096) (d : Fin 1024) :
    devV z (ix3 b s d) = z (ix3 b s d) - Norm.mean fun d => z (ix3 b s d) := by
  rw [← meanV_at]
  pointwise [devV]

theorem lnV_at (z : FVec Ideal S8x4096x1024 .f32) (g w : FVec Ideal S1024 .f32) (b : Fin 8) (s : Fin 4096) (d : Fin 1024) :
    lnV z g w (ix3 b s d) = Norm.ln (fun d => z (ix3 b s d)) (g (ix1 d)) (w (ix1 d)) d := by
  have h : lnV z g w (ix3 b s d) = devV z (ix3 b s d) * Ideal.rsqrt (meanV (mulf (devV z) (devV z)) (ix3 b s 0) + Ideal.ofBits .f32 0x3727C5AC#32) * g (ix1 d) + w (ix1 d) := by
    pointwise [lnV]
  rw [h, meanV_at, devV_at, show (fun d : Fin 1024 => mulf (devV z) (devV z) (ix3 b s d))
    = fun d => (z (ix3 b s d) - Norm.mean fun d => z (ix3 b s d)) * (z (ix3 b s d) - Norm.mean fun d => z (ix3 b s d)) from
      funext fun d => (congrArg₂ (fun u v : EReal => u * v) (devV_at z b s d) (devV_at z b s d))]
  rfl

/-- The run: the result, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v33) = lnV (preV (m ((c.tc : Thread nD τ).loc main_arg0)) (m ((c.tc : Thread nD τ).loc main_arg1))
        (m ((c.tc : Thread nD τ).loc main_arg2)) (m ((c.tc : Thread nD τ).loc main_arg3))) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Cert.LastRefIdeal.Value.run (F := Ideal) m ρ

end Cert.LastRefIdeal.Last

end
-- ==== Proof.LastClaim.lean ====
/- The last layer's claims: the two frames by one run, the reference's frame, and the two results equal. -/
module

public import proofs.«01_k».proof.Defs
public import proofs.«01_k».proof.Proof.LastRef
public import proofs.«01_k».proof.Proof.Gen.Last

@[expose] public section

noncomputable section

namespace Cert.Proof.Last

open Idealize.ShloMosaic Idealize.ShloMosaic.TcCoe Idealize.SL.Sem

/-- The two programs are the same text. -/
theorem defs_eq : Cert.Last.defs (F := Bits) = Cert.LastIdeal.defs (F := Bits) := by chain_rfl

theorem main_eq : Cert.Last.main (F := Bits) = Cert.LastIdeal.main (F := Bits) := by chain_rfl

theorem frame_kernel : Cert.quiescent_Last := fun m ρ _ => by
  rw [defs_eq, main_eq]
  exact Cert.LastIdeal.Gen.frame (F := Bits) m ρ

theorem frame_ideal : Cert.quiescent_LastIdeal := fun m ρ _ =>
  Cert.LastIdeal.Gen.frame (F := Ideal) m ρ

theorem frame_ref : Cert.quiescent_LastRefIdeal := fun m ρ _ =>
  (θ_run Cert.LastRefIdeal.defs _ _).mono
    (fun r h => ⟨fun c => (h c).2, Idealize.ShloMosaic.sem_eq_zero_of_no_sems (by decide) r.2⟩)
    (Cert.LastRefIdeal.Last.run m ρ)

theorem algebraic : Cert.algebraic_LastIdeal_LastRefIdeal := by
  intro m g m' g' _ hagree
  refine ⟨fun c => Cert.LastIdeal.Last.outArr m c, Cert.LastIdeal.Last.run m g, ?_⟩
  refine (θ_run Cert.LastRefIdeal.defs _ _).mono (fun r h c => ⟨(h c).1.trans ?_, (h c).2⟩) (Cert.LastRefIdeal.Last.run m' g')
  obtain ⟨a0, a1, a2, a3, a4, a5⟩ := hagree c
  rw [a0, a1, a2, a3, a4, a5]
  funext i
  rw [eq_ix3 i]
  refine (Cert.LastRefIdeal.Last.lnV_at _ _ _ (i 0) (i 1) (i 2)).trans ?_
  rw [show (fun d => Cert.LastRefIdeal.Last.preV (Cert.LastIdeal.Last.X0 m c) (Cert.LastIdeal.Last.X1 m c) (Cert.LastIdeal.Last.X2 m c) (Cert.LastIdeal.Last.X3 m c) (ix3 (i 0) (i 1) d))
    = Cert.LastIdeal.Last.preArr (Cert.LastIdeal.Last.X0 m c) (Cert.LastIdeal.Last.X1 m c) (Cert.LastIdeal.Last.X2 m c) (Cert.LastIdeal.Last.X3 m c) (i 0) (i 1) from
      funext fun d => Cert.LastRefIdeal.Last.preV_at _ _ _ _ (i 0) (i 1) d]
  rfl

end Cert.Proof.Last

end
-- ==== Proof.DenseFrame.lean ====
/- The dense feed-forward call's frame, over any float values: what the scratch and the output hold after each point of the
   grid, the proof data, the body at a point, and the run. -/
module

public import proofs.«01_k».proof.Proof.Gen.DenseIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.DenseIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg3 : Memref sig .tc .vmem S512x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S512x1024 .f32) (harg10 : arg10.IsWhole) (hc0 : cond0_0 i) (hc1 : ¬cond0_1 i)
    (x0 : Vec F S512x1024 .bf16) (x1 : Vec F S1x1024x1408 .bf16) (x2 : Vec F S1x1024x1408 .bf16) (x3 : Vec F S1x1408x1024 .bf16) (x4 : Vec F S512x1024 .f32) (x5 : Vec F S8x1024 .f32) (xt0 : TbBuf0 (F := F) c tbM0_0) : Vec F S512x1024 .f32 :=
  VO0_6.read (Elt F) (VO0_6.writes (Elt F) VO0_6.junk (kernelRun0_A c i arg3 harg3 arg4 harg4 arg5 harg5 arg6 harg6 arg7 harg7 arg8 harg8 arg9 harg9 arg10 harg10 hc0 hc1 x0 x1 x2 x3 x4 x5 xt0).1)

/-- Case A's pieces for scratch `arg10`, which the kernel carries between points, cover it: 2 pieces of `S512x1024` tiling it (Lib/Ring.lean `Piece.tiledL`). -/
theorem scover0_A_0 (c : Dev nD) (i : grid0.Coords) (arg3 : Memref sig .tc .vmem S512x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S512x1024 .f32) (harg10 : arg10.IsWhole) (hc0 : cond0_0 i) (hc1 : ¬cond0_1 i)
    (x0 : Vec F S512x1024 .bf16) (x1 : Vec F S1x1024x1408 .bf16) (x2 : Vec F S1x1024x1408 .bf16) (x3 : Vec F S1x1408x1024 .bf16) (x4 : Vec F S512x1024 .f32) (x5 : Vec F S8x1024 .f32) (xt0 : TbBuf0 (F := F) c tbM0_0) (y : S512x1024.Idx) :
    ∃ pc ∈ (kernelRun0_A c i arg3 harg3 arg4 harg4 arg5 harg5 arg6 harg6 arg7 harg7 arg8 harg8 arg9 harg9 arg10 harg10 hc0 hc1 x0 x1 x2 x3 x4 x5 xt0).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4 x5 xt0).2.1 S512x1024.size (by sl_kernel_rfl) y

/-- What case A leaves in scratch `arg10`: its pieces read back over junk. -/
def sout0_A_0 (c : Dev nD) (i : grid0.Coords) (arg3 : Memref sig .tc .vmem S512x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S512x1024 .f32) (harg10 : arg10.IsWhole) (hc0 : cond0_0 i) (hc1 : ¬cond0_1 i)
    (x0 : Vec F S512x1024 .bf16) (x1 : Vec F S1x1024x1408 .bf16) (x2 : Vec F S1x1024x1408 .bf16) (x3 : Vec F S1x1408x1024 .bf16) (x4 : Vec F S512x1024 .f32) (x5 : Vec F S8x1024 .f32) (xt0 : TbBuf0 (F := F) c tbM0_0) : Vec F S512x1024 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4 x5 xt0).2.1)

/-- Case B's pieces for output 6 tile its block (1 store of `S512x1024`, checked by the kernel's evaluation: Lib/Ring.lean `Piece.tiledL`, linear in the pieces, through a loop's `@[irreducible]` trip theorem too), so they cover it. -/
theorem cover0_B_6 (c : Dev nD) (i : grid0.Coords) (arg3 : Memref sig .tc .vmem S512x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i)
    (x0 : Vec F S512x1024 .bf16) (x1 : Vec F S1x1024x1408 .bf16) (x2 : Vec F S1x1024x1408 .bf16) (x3 : Vec F S1x1408x1024 .bf16) (x4 : Vec F S512x1024 .f32) (x5 : Vec F S8x1024 .f32) (xt0 : TbBuf0 (F := F) c tbM0_0) (xs0 : Vec F S512x1024 .f32) (y : S512x1024.Idx) :
    ∃ pc ∈ (kernelRun0_B c i arg3 harg3 arg4 harg4 arg5 harg5 arg6 harg6 arg7 harg7 arg8 harg8 arg9 harg9 arg10 harg10 hc0 hc1 x0 x1 x2 x3 x4 x5 xt0 xs0).1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 x5 xt0 xs0).1 S512x1024.size (by sl_kernel_rfl) y

/-- What case B leaves in output 6's staging buffer: its pieces read back over junk. -/
def out0_B_6 (c : Dev nD) (i : grid0.Coords) (arg3 : Memref sig .tc .vmem S512x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i)
    (x0 : Vec F S512x1024 .bf16) (x1 : Vec F S1x1024x1408 .bf16) (x2 : Vec F S1x1024x1408 .bf16) (x3 : Vec F S1x1408x1024 .bf16) (x4 : Vec F S512x1024 .f32) (x5 : Vec F S8x1024 .f32) (xt0 : TbBuf0 (F := F) c tbM0_0) (xs0 : Vec F S512x1024 .f32) : Vec F S512x1024 .f32 :=
  VO0_6.read (Elt F) (VO0_6.writes (Elt F) VO0_6.junk (kernelRun0_B c i arg3 harg3 arg4 harg4 arg5 harg5 arg6 harg6 arg7 harg7 arg8 harg8 arg9 harg9 arg10 harg10 hc0 hc1 x0 x1 x2 x3 x4 x5 xt0 xs0).1)

/-- Case B's pieces for scratch `arg10`, which the kernel carries between points, cover it: 1 piece of `S512x1024` tiling it (Lib/Ring.lean `Piece.tiledL`). -/
theorem scover0_B_0 (c : Dev nD) (i : grid0.Coords) (arg3 : Memref sig .tc .vmem S512x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i)
    (x0 : Vec F S512x1024 .bf16) (x1 : Vec F S1x1024x1408 .bf16) (x2 : Vec F S1x1024x1408 .bf16) (x3 : Vec F S1x1408x1024 .bf16) (x4 : Vec F S512x1024 .f32) (x5 : Vec F S8x1024 .f32) (xt0 : TbBuf0 (F := F) c tbM0_0) (xs0 : Vec F S512x1024 .f32) (y : S512x1024.Idx) :
    ∃ pc ∈ (kernelRun0_B c i arg3 harg3 arg4 harg4 arg5 harg5 arg6 harg6 arg7 harg7 arg8 harg8 arg9 harg9 arg10 harg10 hc0 hc1 x0 x1 x2 x3 x4 x5 xt0 xs0).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 x5 xt0 xs0).2.1 S512x1024.size (by sl_kernel_rfl) y

/-- What case B leaves in scratch `arg10`: its pieces read back over junk. -/
def sout0_B_0 (c : Dev nD) (i : grid0.Coords) (arg3 : Memref sig .tc .vmem S512x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i)
    (x0 : Vec F S512x1024 .bf16) (x1 : Vec F S1x1024x1408 .bf16) (x2 : Vec F S1x1024x1408 .bf16) (x3 : Vec F S1x1408x1024 .bf16) (x4 : Vec F S512x1024 .f32) (x5 : Vec F S8x1024 .f32) (xt0 : TbBuf0 (F := F) c tbM0_0) (xs0 : Vec F S512x1024 .f32) : Vec F S512x1024 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 x5 xt0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S512x1024 .f32 × Vec F S512x1024 .f32
  | 0, hn => (out0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0))
  | n + 1, hn =>
    if h0 : (n + 1) % 2 = 0 then
      if h1 : (n + 1) % 2 = 1 then
        False.elim (by have hN : n + 1 < 128 := lt_of_lt_of_eq hn (show (cfgM m hO).N = 128 from N_0); omega)
      else
        (out0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0))
    else
      if h1 : (n + 1) % 2 = 1 then
        (out0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2)
      else
        False.elim (by have hN : n + 1 < 128 := lt_of_lt_of_eq hn (show (cfgM m hO).N = 128 from N_0); omega)

set_option maxHeartbeats 4000000 in
/-- `outsAt0` at a point of case A: that case's contents. -/
theorem outsAt0_A (hO : Ok m) (c : Dev nD) (t : Fin (cfgM m hO).N) (h0 : t.val % 2 = 0) (h1 : ¬t.val % 2 = 1) :
    outsAt0 m hO c t.val t.isLt = (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)) := by
  obtain ⟨n, hn⟩ := t
  cases n with
  | zero => exact rfl
  | succ n => exact (dif_pos h0).trans ((dif_neg h1).trans rfl)

set_option maxHeartbeats 4000000 in
/-- `outsAt0` at a point of case B: that case's contents, over what the point before left. -/
theorem outsAt0_B (hO : Ok m) (c : Dev nD) (t : Fin (cfgM m hO).N) (h0 : ¬t.val % 2 = 0) (h1 : t.val % 2 = 1) :
    outsAt0 m hO c t.val t.isLt = (out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 128 := lt_of_lt_of_eq t.isLt (show (cfgM m hO).N = 128 from N_0)
  by_cases h0 : t.val % 2 = 0
  · by_cases h1 : t.val % 2 = 1
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [Dat.leavesExact_idle (dats m hO 0 c) 6 t (idleAt0_6_A m hO t ((hcond0_0 t).mpr h0) (fun h => h1 ((hcond0_1 t).mp h))) (noFlush0_6_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1]
        unfold sout0_A_0; (try dsimp only)
        iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HT0]; · iexact HT0
        iintro ⟨H0, H1, H2, H3, H4, H5, H6, ⟨%es0, HS0⟩, HT0⟩
        isplitl [HS0 Hg HT0]
        · isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m hO c t, PhiS_pos m hO c _ _ hz, PhiT0_eq]
        rw [outsAt0_A m hO c t h0 h1]
        unfold sout0_A_0; (try dsimp only)
        iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HT0]; · iexact HT0
        iintro ⟨H0, H1, H2, H3, H4, H5, H6, ⟨%es0, HS0⟩, HT0⟩
        isplitl [HS0 Hg HT0]
        · isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 2 = 1
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6_B m hO t (fun h => h0 ((hcond0_0 t).mp h)) ((hcond0_1 t).mpr h1)]; try rfl, after0_6]
      by_cases hz : t.val = 0
      · exfalso; have hN : t.val < 128 := lt_of_lt_of_eq t.isLt (show (cfgM m hO).N = 128 from N_0); omega
      · rw [PhiS_castSucc m hO c t, PhiS_pos m hO c _ _ hz, PhiT0_eq]
        rw [outsAt0_B m hO c t h0 h1]
        unfold out0_B_6 sout0_B_0; (try dsimp only)
        iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HT0]; · iexact HT0
        iintro ⟨H0, H1, H2, H3, H4, H5, ⟨%e6, H6⟩, ⟨%es0, HS0⟩, HT0⟩
        isplitl [HS0 Hg HT0]
        · isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_B_6 c _ _ _ _ _ _ _ _ _ _ _ _ _ _ _ _ _ _ _ _ _ _ _ _ _ _ _)
    · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 128 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- THE FRAME, at any float values, for every contents of the prefetched table under `Ok m`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.DenseIdeal.Gen

end
-- ==== Proof.Dense.lean ====
/- The dense feed-forward call: its table, and what a step of the grid leaves. -/
module

public import proofs.«01_k».proof.Proof.DenseFrame
public import proofs.«01_k».proof.Proof.Gen.DenseIdeal.Points
public import proofs.«01_k».proof.Proof.Norm
public import Idealize.ShloMosaic.Lib.Pointwise
public import Idealize.ShloMosaic.Lib.StableHlo.ReadAt
public import Idealize.ShloMosaic.Lib.StableHlo.RunRead
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.DenseIdeal.Ffn

open Cert.DenseIdeal Cert.DenseIdeal.Gen

section table
variable {F : FTy → Type} [FloatOps F]

theorem word_index : ∀ k : Fin 64, (Scalar.indexCast (BitVec.ofNat 32 k.val) : Index).toNat = k.val := by decide +kernel

/-- The word of the table that the index maps read at a point of the grid. -/
theorem table_at (pf : pre0.Contents (Elt F)) (i : grid0.Coords) (h) (h1 : S1.numel = 1) :
    (pf.at 0 (Rect.unit (s := S64) ![(Scalar.indexCast (BitVec.ofNat 32 (i 0).val) : Index).toNat] S1.size h) h1 : BitVec 32) = pf 0 (ix1 (i 0)) := by
  refine congrArg (pf 0) (funext fun (a : Fin 1) => ?_)
  obtain rfl : a = 0 := Subsingleton.elim _ _
  apply Fin.ext
  have hf : ∀ x : Fin 1, x.val = 0 := by decide
  exact (congrArg₂ (fun a b : Nat => a + 1 * b) (word_index (i 0)) (hf _)).trans (by show (i 0).val + 1 * 0 = (i 0).val; omega)

theorem step_word : ∀ k : Fin 2, (BitVec.ofNat 32 k.val).toNat = k.val := by decide
theorem tile_word : ∀ k : Fin 64, (BitVec.ofNat 32 k.val).toNat = k.val := by decide +kernel

/-- The table is all zeros: the weights of the first layer. -/
theorem table_zero (m : (ℓ : Loc nD τ sig) → Buf (Elt F) ℓ) (k) : (tbl m 0 k : BitVec 32) = 0#32 := by
  show (V m 0 main_v15 : IVec S64 32) k = 0#32
  rw [show (V m 0 main_v15 : IVec S64 32) = addi (broadcastInDim S64 ![] bcast_S_S64 (constantI S_ 32 0#32)) (broadcastInDim S64 ![] bcast_S_S64 (constantI S_ 32 0#32)) from by
    unfold V
    after_reads_simp]
  rfl

variable (pf : pre0.Contents (Elt F)) (hz : ∀ k, (pf 0 k : BitVec 32) = 0#32)
include hz

theorem index_in (i : grid0.Coords) : cc0_transform_1 k0_off1_inb numel1_S1 pf i = ![0, 0, (i 1).val] :=
  congrArg₂ (fun (a : BitVec 32) (b : Nat) => (![a.toNat, 0, b] : Fin 3 → Nat)) ((table_at pf i (k0_off1_inb i) numel1_S1).trans (hz _)) (step_word (i 1))

theorem index_in' (i : grid0.Coords) : cc0_transform_2 k0_off1_inb numel1_S1 pf i = ![0, 0, (i 1).val] :=
  congrArg₂ (fun (a : BitVec 32) (b : Nat) => (![a.toNat, 0, b] : Fin 3 → Nat)) ((table_at pf i (k0_off1_inb i) numel1_S1).trans (hz _)) (step_word (i 1))

theorem index_out (i : grid0.Coords) : cc0_transform_3 k0_off1_inb numel1_S1 pf i = ![0, (i 1).val, 0] :=
  congrArg₂ (fun (a : BitVec 32) (b : Nat) => (![a.toNat, b, 0] : Fin 3 → Nat)) ((table_at pf i (k0_off1_inb i) numel1_S1).trans (hz _)) (step_word (i 1))

/-- Every block lies in its array. -/
theorem ok_of : ok0 pf := by
  have hin : ∀ i : grid0.Coords, ∀ a, ((![0, 0, (i 1).val] : Fin 3 → Nat) a + 1) * S1x1024x1408.size a ≤ S2x1024x2816.size a := by
    intro i a
    have h1 : (i 1).val < 2 := (i 1).isLt
    match a with
    | ⟨0, _⟩ => show (0 + 1) * 1 ≤ 2; omega
    | ⟨1, _⟩ => show (0 + 1) * 1024 ≤ 1024; omega
    | ⟨2, _⟩ => show ((i 1).val + 1) * 1408 ≤ 2816; omega
  have hout : ∀ i : grid0.Coords, ∀ a, ((![0, (i 1).val, 0] : Fin 3 → Nat) a + 1) * S1x1408x1024.size a ≤ S2x2816x1024.size a := by
    intro i a
    have h1 : (i 1).val < 2 := (i 1).isLt
    match a with
    | ⟨0, _⟩ => show (0 + 1) * 1 ≤ 2; omega
    | ⟨1, _⟩ => show ((i 1).val + 1) * 1408 ≤ 2816; omega
    | ⟨2, _⟩ => show (0 + 1) * 1024 ≤ 1024; omega
  exact ⟨fun i => ⟨fun a => by rw [index_in pf hz]; exact hin i a, .inr (Affine.block_words_dvd (of_decide_eq_true rfl) (by decide))⟩,
    fun i => ⟨fun a => by rw [index_in' pf hz]; exact hin i a, .inr (Affine.block_words_dvd (of_decide_eq_true rfl) (by decide))⟩,
    fun i => ⟨fun a => by rw [index_out pf hz]; exact hout i a, .inr (Affine.block_words_dvd (of_decide_eq_true rfl) (by decide))⟩⟩

omit hz in
theorem ok (m : (ℓ : Loc nD τ sig) → Buf (Elt F) ℓ) : Ok m := ok_of (tbl m) (table_zero m)

end table

theorem coords_eq : ∀ t : Fin grid0.N, (grid0.coords t 0).val = t.val / 2 ∧ (grid0.coords t 1).val = t.val % 2 := by decide +kernel

variable (m : (ℓ : Loc nD τ sig) → Buf (Elt Ideal) ℓ) (hO : Ok m) (c : Dev nD)

abbrev X0 : FVec Ideal S32768x1024 .f32 := m ((c.tc : Thread nD τ).loc main_arg0)
abbrev X1 : FVec Ideal S2x1024x2816 .f32 := m ((c.tc : Thread nD τ).loc main_arg1)
abbrev X2 : FVec Ideal S2x1024x2816 .f32 := m ((c.tc : Thread nD τ).loc main_arg2)
abbrev X3 : FVec Ideal S2x2816x1024 .f32 := m ((c.tc : Thread nD τ).loc main_arg3)
abbrev X4 : FVec Ideal S1024 .f32 := m ((c.tc : Thread nD τ).loc main_arg4)
abbrev X5 : FVec Ideal S1024 .f32 := m ((c.tc : Thread nD τ).loc main_arg5)

/-- One step's addition to the accumulator: half of the hidden units, at a row and an output channel. -/
theorem pay2_at (x : FVec Ideal S512x1024 .bf16) (wg wu : FVec Ideal S1x1024x1408 .bf16) (acc : FVec Ideal S512x1024 .f32)
    (wd : FVec Ideal S1x1408x1024 .bf16) (r : Fin 512) (d : Fin 1024) :
    k0_pay2 (F := Ideal) x wg wu acc wd (ix2 r d) = acc (ix2 r d) + ∑ f : Fin 1408,
      (((∑ k : Fin 1024, x (ix2 r k) * wg (ix3 0 k f)) * Ideal.logistic (∑ k : Fin 1024, x (ix2 r k) * wg (ix3 0 k f)))
        * (∑ k : Fin 1024, x (ix2 r k) * wu (ix3 0 k f)) : EReal) * wd (ix3 0 f d) := by
  pointwise [k0_pay2]

theorem pay1_at (i : S512x1024.Idx) : k0_pay1 (F := Ideal) i = 0 := by
  pointwise [k0_pay1]

/-- The last step's result: the residual, scaled, and the accumulator, normalized. -/
theorem pay3_at (x acc : FVec Ideal S512x1024 .f32) (g b : FVec Ideal S1x1024 .f32) (r : Fin 512) (d : Fin 1024) :
    k0_pay3 (F := Ideal) x acc g b (ix2 r d) = Norm.ln (fun d => Norm.alpha * x (ix2 r d) + acc (ix2 r d)) (g (ix2 0 d)) (b (ix2 0 d)) d := by
  unfold Norm.ln Norm.mean Norm.alpha
  pointwise [k0_pay3]

theorem pay2_congr {x x' : FVec Ideal S512x1024 .bf16} {wg wg' wu wu' : FVec Ideal S1x1024x1408 .bf16} {acc acc' : FVec Ideal S512x1024 .f32}
    {wd wd' : FVec Ideal S1x1408x1024 .bf16} (h0 : x = x') (h1 : wg = wg') (h2 : wu = wu') (h3 : acc = acc') (h4 : wd = wd') :
    k0_pay2 (F := Ideal) x wg wu acc wd = k0_pay2 x' wg' wu' acc' wd' := by rw [h0, h1, h2, h3, h4]

theorem pay3_congr {x x' acc acc' : FVec Ideal S512x1024 .f32} {g g' b b' : FVec Ideal S1x1024 .f32}
    (h0 : x = x') (h1 : acc = acc') (h2 : g = g') (h3 : b = b') :
    k0_pay3 (F := Ideal) x acc g b = k0_pay3 x' acc' g' b' := by rw [h0, h1, h2, h3]

theorem outs_even (t : Fin (cfgM m hO).N) (h0 : t.val % 2 = 0) :
    (outsAt0 m hO c t.val t.isLt).2 = k0_pay2 (F := Ideal) (iblk m hO c 0 t) (iblk m hO c 1 t) (iblk m hO c 2 t) (k0_pay1 (F := Ideal)) (iblk m hO c 3 t) := by
  rw [outsAt0_A m hO c t h0 (by omega)]
  frame_out
  exact pay2_congr (Memref.IsWhole.read_unread _ _) (Memref.IsWhole.read_unread _ _) (Memref.IsWhole.read_unread _ _) rfl (Memref.IsWhole.read_unread _ _)

/-- A row of the layer norm's vectors. -/
def lnRow (x : FVec Ideal S8x1024 .f32) (r : Fin 8) : FVec Ideal S1x1024 .f32 := fun i => x (ix2 r (i 1))

theorem rd {s : Shape} (a : Memref sig .tc .vmem s .f32) (h : a.IsWhole) (x : Vec Ideal s .f32) (B : LoadRect s) (j : B.shape.Idx) (k : s.Idx)
    (hk : ∀ i, (B.idx j i).val = (k i).val) : View.readAt (Elt Ideal) a.view B (h.unread x) j = x k := by
  rw [View.readAt_apply]
  exact (congrFun (h.read_unread x) _).trans (congrArg x (funext fun i => Fin.ext (hk i)))

theorem outs_odd (t : Fin (cfgM m hO).N) (h1 : t.val % 2 = 1) :
    (outsAt0 m hO c t.val t.isLt).1 = k0_pay3 (F := Ideal) (iblk m hO c 4 t) (k0_pay2 (F := Ideal) (iblk m hO c 0 t) (iblk m hO c 1 t) (iblk m hO c 2 t)
      (outsAt0 m hO c (t.val - 1) (Nat.lt_of_le_of_lt (Nat.sub_le _ _) t.isLt)).2 (iblk m hO c 3 t)) (lnRow (iblk m hO c 5 t) 0) (lnRow (iblk m hO c 5 t) 1) := by
  rw [outsAt0_B m hO c t (by omega) h1]
  frame_out
  refine pay3_congr (Memref.IsWhole.read_unread _ _) (pay2_congr (Memref.IsWhole.read_unread _ _) (Memref.IsWhole.read_unread _ _) (Memref.IsWhole.read_unread _ _)
    (Memref.IsWhole.read_unread (Memref.isWhole_whole cc0_scratch0) _) (Memref.IsWhole.read_unread _ _)) ?_ ?_
  · funext (j : S1x1024.Idx)
    obtain ⟨u, d, rfl⟩ : ∃ (u : Fin 1) (d : Fin 1024), j = ix2 u d := ⟨j 0, j 1, eq_ix2 j⟩
    obtain rfl : u = 0 := Subsingleton.elim _ _
    exact rd _ _ _ _ _ _ (by intro i; fin_cases i <;> simp [LoadRect.idx, Rect.toLoadRect, Rect.unit, ix2])
  · funext (j : S1x1024.Idx)
    obtain ⟨u, d, rfl⟩ : ∃ (u : Fin 1) (d : Fin 1024), j = ix2 u d := ⟨j 0, j 1, eq_ix2 j⟩
    obtain rfl : u = 0 := Subsingleton.elim _ _
    exact rd _ _ _ _ _ _ (by intro i; fin_cases i <;> simp [LoadRect.idx, Rect.toLoadRect, Rect.unit, ix2])

/-! ## The operands -/

theorem v0_at (e : Fin 2) (k : Fin 1024) (f : Fin 2816) : (V m c main_v0 : FVec Ideal S2x1024x2816 .bf16) (ix3 e k f) = X1 m c (ix3 e k f) := by
  rw [show (V m c main_v0 : FVec Ideal S2x1024x2816 .bf16) = truncf .bf16 (X1 m c) bitsLt_bf16_f32 from by
    unfold V
    after_reads_simp]
  pointwise

theorem v1_at (e : Fin 2) (k : Fin 1024) (f : Fin 2816) : (V m c main_v1 : FVec Ideal S2x1024x2816 .bf16) (ix3 e k f) = X2 m c (ix3 e k f) := by
  rw [show (V m c main_v1 : FVec Ideal S2x1024x2816 .bf16) = truncf .bf16 (X2 m c) bitsLt_bf16_f32 from by
    unfold V
    after_reads_simp]
  pointwise

theorem v2_at (e : Fin 2) (f : Fin 2816) (d : Fin 1024) : (V m c main_v2 : FVec Ideal S2x2816x1024 .bf16) (ix3 e f d) = X3 m c (ix3 e f d) := by
  rw [show (V m c main_v2 : FVec Ideal S2x2816x1024 .bf16) = truncf .bf16 (X3 m c) bitsLt_bf16_f32 from by
    unfold V
    after_reads_simp]
  pointwise

theorem v16_at (r : Fin 32768) (k : Fin 1024) : (V m c main_v16 : FVec Ideal S32768x1024 .bf16) (ix2 r k) = X0 m c (ix2 r k) := by
  rw [show (V m c main_v16 : FVec Ideal S32768x1024 .bf16) = truncf .bf16 (X0 m c) bitsLt_bf16_f32 from by
    unfold V
    after_reads_simp]
  pointwise

theorem arg0_at (r : Fin 32768) (k : Fin 1024) : (V m c main_arg0 : FVec Ideal S32768x1024 .f32) (ix2 r k) = X0 m c (ix2 r k) :=
  congrFun (V_main_arg0 m c) _

theorem v12_at (d : Fin 1024) : (V m c main_v12 : FVec Ideal S8x1024 .f32) (ix2 0 d) = X4 m c (ix1 d)
    ∧ (V m c main_v12 : FVec Ideal S8x1024 .f32) (ix2 1 d) = X5 m c (ix1 d) := by
  unfold V
  after_reads_simp
  constructor
  · pointwise
    after_reads_simp
    pointwise
  · pointwise
    after_reads_simp
    pointwise

/-! ## The blocks -/

theorem row_index (i : grid0.Coords) : cc0_transform_0 i = ![(i 0).val, 0] :=
  congrArg (fun b : Nat => (![b, 0] : Fin 2 → Nat)) (tile_word (i 0))

theorem row_index4 (i : grid0.Coords) : cc0_transform_4 i = ![(i 0).val, 0] :=
  congrArg (fun b : Nat => (![b, 0] : Fin 2 → Nat)) (tile_word (i 0))

theorem row_index6 (i : grid0.Coords) : cc0_transform_6 i = ![(i 0).val, 0] :=
  congrArg (fun b : Nat => (![b, 0] : Fin 2 → Nat)) (tile_word (i 0))

theorem blk0_at (t : Fin (cfgM m hO).N) (R : Fin 32768) (r : Fin 512) (hR : R.val = 512 * (t.val / 2) + r.val) (k : Fin 1024) :
    (iblk m hO c 0 t : FVec Ideal S512x1024 .bf16) (ix2 r k) = X0 m c (ix2 R k) := by
  have hp : ∀ a : Fin 2, ((((cfgM m hO).win 0).blk t).view.emb (ix2 r k) a).val = cc0_transform_0 (grid0.coords t) a * S512x1024.size a + 1 * (ix2 r k a).val := fun a => rfl
  rw [row_index, (coords_eq t).1] at hp
  unfold iblk
  refine Eq.trans (View.read_apply ..) (Eq.trans (congrArg (V m c main_v16 : FVec Ideal S32768x1024 .bf16) (funext fun (a : Fin 2) => ?_)) (v16_at m c R k))
  apply Fin.ext
  refine (hp a).trans ?_
  match a with
  | ⟨0, _⟩ => show t.val / 2 * 512 + 1 * r.val = R.val; omega
  | ⟨1, _⟩ => show 0 * 1024 + 1 * k.val = k.val; omega

theorem blk4_at (t : Fin (cfgM m hO).N) (R : Fin 32768) (r : Fin 512) (hR : R.val = 512 * (t.val / 2) + r.val) (k : Fin 1024) :
    (iblk m hO c 4 t : FVec Ideal S512x1024 .f32) (ix2 r k) = X0 m c (ix2 R k) := by
  have hp : ∀ a : Fin 2, ((((cfgM m hO).win 4).blk t).view.emb (ix2 r k) a).val = cc0_transform_4 (grid0.coords t) a * S512x1024.size a + 1 * (ix2 r k a).val := fun a => rfl
  rw [row_index4, (coords_eq t).1] at hp
  unfold iblk
  refine Eq.trans (View.read_apply ..) (Eq.trans (congrArg (V m c main_arg0 : FVec Ideal S32768x1024 .f32) (funext fun (a : Fin 2) => ?_)) (arg0_at m c R k))
  apply Fin.ext
  refine (hp a).trans ?_
  match a with
  | ⟨0, _⟩ => show t.val / 2 * 512 + 1 * r.val = R.val; omega
  | ⟨1, _⟩ => show 0 * 1024 + 1 * k.val = k.val; omega

theorem blk5_at (t : Fin (cfgM m hO).N) (r : Fin 8) (k : Fin 1024) :
    (iblk m hO c 5 t : FVec Ideal S8x1024 .f32) (ix2 r k) = (V m c main_v12 : FVec Ideal S8x1024 .f32) (ix2 r k) := by
  have hp : ∀ a : Fin 2, ((((cfgM m hO).win 5).blk t).view.emb (ix2 r k) a).val = (![0, 0] : Fin 2 → Nat) a * S8x1024.size a + 1 * (ix2 r k a).val := fun a => rfl
  unfold iblk
  refine Eq.trans (View.read_apply ..) (congrArg (V m c main_v12 : FVec Ideal S8x1024 .f32) (funext fun (a : Fin 2) => ?_))
  apply Fin.ext
  refine (hp a).trans ?_
  match a with
  | ⟨0, _⟩ => show 0 * 8 + 1 * r.val = r.val; omega
  | ⟨1, _⟩ => show 0 * 1024 + 1 * k.val = k.val; omega

theorem blk1_at (t : Fin (cfgM m hO).N) (f : Fin 1408) (f' : Fin 2816) (hf : f'.val = 1408 * (t.val % 2) + f.val) (k : Fin 1024) :
    (iblk m hO c 1 t : FVec Ideal S1x1024x1408 .bf16) (ix3 0 k f) = X1 m c (ix3 0 k f') := by
  have hp : ∀ a : Fin 3, ((((cfgM m hO).win 1).blk t).view.emb (ix3 0 k f) a).val
      = cc0_transform_1 k0_off1_inb numel1_S1 (tbl m) (grid0.coords t) a * S1x1024x1408.size a + 1 * ((ix3 0 k f : S1x1024x1408.Idx) a).val := fun a => rfl
  rw [index_in (tbl m) (table_zero m), (coords_eq t).2] at hp
  unfold iblk
  refine Eq.trans (View.read_apply ..) (Eq.trans (congrArg (V m c main_v0 : FVec Ideal S2x1024x2816 .bf16) (funext fun (a : Fin 3) => ?_)) (v0_at m c 0 k f'))
  apply Fin.ext
  refine (hp a).trans ?_
  match a with
  | ⟨0, _⟩ => show 0 * 1 + 1 * 0 = 0; omega
  | ⟨1, _⟩ => show 0 * 1024 + 1 * k.val = k.val; omega
  | ⟨2, _⟩ => show t.val % 2 * 1408 + 1 * f.val = f'.val; omega

theorem blk2_at (t : Fin (cfgM m hO).N) (f : Fin 1408) (f' : Fin 2816) (hf : f'.val = 1408 * (t.val % 2) + f.val) (k : Fin 1024) :
    (iblk m hO c 2 t : FVec Ideal S1x1024x1408 .bf16) (ix3 0 k f) = X2 m c (ix3 0 k f') := by
  have hp : ∀ a : Fin 3, ((((cfgM m hO).win 2).blk t).view.emb (ix3 0 k f) a).val
      = cc0_transform_2 k0_off1_inb numel1_S1 (tbl m) (grid0.coords t) a * S1x1024x1408.size a + 1 * ((ix3 0 k f : S1x1024x1408.Idx) a).val := fun a => rfl
  rw [index_in' (tbl m) (table_zero m), (coords_eq t).2] at hp
  unfold iblk
  refine Eq.trans (View.read_apply ..) (Eq.trans (congrArg (V m c main_v1 : FVec Ideal S2x1024x2816 .bf16) (funext fun (a : Fin 3) => ?_)) (v1_at m c 0 k f'))
  apply Fin.ext
  refine (hp a).trans ?_
  match a with
  | ⟨0, _⟩ => show 0 * 1 + 1 * 0 = 0; omega
  | ⟨1, _⟩ => show 0 * 1024 + 1 * k.val = k.val; omega
  | ⟨2, _⟩ => show t.val % 2 * 1408 + 1 * f.val = f'.val; omega

theorem blk3_at (t : Fin (cfgM m hO).N) (f : Fin 1408) (f' : Fin 2816) (hf : f'.val = 1408 * (t.val % 2) + f.val) (d : Fin 1024) :
    (iblk m hO c 3 t : FVec Ideal S1x1408x1024 .bf16) (ix3 0 f d) = X3 m c (ix3 0 f' d) := by
  have hp : ∀ a : Fin 3, ((((cfgM m hO).win 3).blk t).view.emb (ix3 0 f d) a).val
      = cc0_transform_3 k0_off1_inb numel1_S1 (tbl m) (grid0.coords t) a * S1x1408x1024.size a + 1 * ((ix3 0 f d : S1x1408x1024.Idx) a).val := fun a => rfl
  rw [index_out (tbl m) (table_zero m), (coords_eq t).2] at hp
  unfold iblk
  refine Eq.trans (View.read_apply ..) (Eq.trans (congrArg (V m c main_v2 : FVec Ideal S2x2816x1024 .bf16) (funext fun (a : Fin 3) => ?_)) (v2_at m c 0 f' d))
  apply Fin.ext
  refine (hp a).trans ?_
  match a with
  | ⟨0, _⟩ => show 0 * 1 + 1 * 0 = 0; omega
  | ⟨1, _⟩ => show t.val % 2 * 1408 + 1 * f.val = f'.val; omega
  | ⟨2, _⟩ => show 0 * 1024 + 1 * d.val = d.val; omega

end Cert.DenseIdeal.Ffn

end
-- ==== Proof.DenseVal.lean ====
/- The dense feed-forward call over the extended reals: each row through the layer, added to the residual and normalized. -/
module

public import proofs.«01_k».proof.Proof.Dense

@[expose] public section

noncomputable section

open Idealize.ShloMosaic Idealize.ShloMosaic.TcCoe Idealize.SL.Sem
open Idealize.ShloMosaic.Pipeline (Dat)

namespace Cert.DenseIdeal.Ffn

open Cert.DenseIdeal Cert.DenseIdeal.Gen

/-- A row through one of the two first matrices. -/
def gate (x : FVec Ideal S32768x1024 .f32) (w : FVec Ideal S2x1024x2816 .f32) (R : Fin 32768) (f : Fin 2816) : EReal :=
  ∑ k : Fin 1024, x (ix2 R k) * w (ix3 0 k f)

/-- A hidden unit. -/
def unit (x : FVec Ideal S32768x1024 .f32) (wg wu : FVec Ideal S2x1024x2816 .f32) (R : Fin 32768) (f : Fin 2816) : EReal :=
  gate x wg R f * Ideal.logistic (gate x wg R f) * gate x wu R f

/-- The residual, scaled, and the row through the layer. -/
def preArr (x : FVec Ideal S32768x1024 .f32) (wg wu : FVec Ideal S2x1024x2816 .f32) (wd : FVec Ideal S2x2816x1024 .f32) (R : Fin 32768) (d : Fin 1024) : EReal :=
  Norm.alpha * x (ix2 R d) + ∑ f : Fin 2816, unit x wg wu R f * wd (ix3 0 f d)

theorem gate_of (b0 : FVec Ideal S512x1024 .bf16) (b1 : FVec Ideal S1x1024x1408 .bf16) (x : FVec Ideal S32768x1024 .f32) (w : FVec Ideal S2x1024x2816 .f32)
    (r : Fin 512) (R : Fin 32768) (f : Fin 1408) (f' : Fin 2816) (h0 : ∀ k, b0 (ix2 r k) = x (ix2 R k))
    (h1 : ∀ k, b1 (ix3 0 k f) = w (ix3 0 k f')) :
    (∑ k : Fin 1024, b0 (ix2 r k) * b1 (ix3 0 k f) : EReal) = gate x w R f' :=
  Finset.sum_congr rfl fun k _ => congrArg₂ (fun a b : EReal => a * b) (h0 k) (h1 k)

/-- The sum over the hidden units in two halves. -/
theorem sum_two (g : Fin 2816 → EReal) :
    ∑ f : Fin 2816, g f = (∑ f : Fin 1408, g ⟨1408 * 0 + f.val, by have := f.isLt; omega⟩) + ∑ f : Fin 1408, g ⟨1408 * 1 + f.val, by have := f.isLt; omega⟩ := by
  refine (Fin.sum_univ_add (a := 1408) (b := 1408) g).trans (congrArg₂ (· + ·) ?_ ?_)
  · exact Finset.sum_congr rfl fun f _ => congrArg g (Fin.ext (by show f.val = 1408 * 0 + f.val; omega))
  · rfl

variable (m : (ℓ : Loc nD τ sig) → Buf (Elt Ideal) ℓ) (ρ : Dev nD → PrngReg) (hO : Ok m) (c : Dev nD)

/-- The output array. -/
def outArr : FVec Ideal S32768x1024 .f32 := fun j =>
  Norm.ln (preArr (X0 m c) (X1 m c) (X2 m c) (X3 m c) (j 0)) (X4 m c (ix1 (j 1))) (X5 m c (ix1 (j 1))) (j 1)

/-- One step's addition, over its half of the hidden units. -/
theorem half_at (t : Fin (cfgM m hO).N) (q : ℕ) (hq : t.val % 2 = q) (hq2 : q < 2) (R : Fin 32768) (r : Fin 512) (hR : R.val = 512 * (t.val / 2) + r.val)
    (acc : FVec Ideal S512x1024 .f32) (d : Fin 1024) :
    k0_pay2 (F := Ideal) (iblk m hO c 0 t) (iblk m hO c 1 t) (iblk m hO c 2 t) acc (iblk m hO c 3 t) (ix2 r d)
      = acc (ix2 r d) + ∑ f : Fin 1408, unit (X0 m c) (X1 m c) (X2 m c) R ⟨1408 * q + f.val, by have := f.isLt; omega⟩
          * X3 m c (ix3 0 ⟨1408 * q + f.val, by have := f.isLt; omega⟩ d) := by
  refine (pay2_at _ _ _ _ _ r d).trans (congrArg (acc (ix2 r d) + ·) (Finset.sum_congr rfl fun f _ => ?_))
  have hf : (⟨1408 * q + f.val, by have := f.isLt; omega⟩ : Fin 2816).val = 1408 * (t.val % 2) + f.val := by rw [hq]
  have g1 := gate_of (iblk m hO c 0 t) (iblk m hO c 1 t) (X0 m c) (X1 m c) r R f _ (blk0_at m hO c t R r hR) (blk1_at m hO c t f _ hf)
  have g2 := gate_of (iblk m hO c 0 t) (iblk m hO c 2 t) (X0 m c) (X2 m c) r R f _ (blk0_at m hO c t R r hR) (blk2_at m hO c t f _ hf)
  have g3 := blk3_at m hO c t f _ hf d
  exact congrArg₂ (fun a b : EReal => a * b) (congrArg₂ (fun a b : EReal => a * Ideal.logistic a * b) g1 g2) g3

/-- The accumulator after a tile's second step. -/
theorem acc_at (t : Fin (cfgM m hO).N) (h1 : t.val % 2 = 1) (R : Fin 32768) (r : Fin 512) (hR : R.val = 512 * (t.val / 2) + r.val) (d : Fin 1024) :
    k0_pay2 (F := Ideal) (iblk m hO c 0 t) (iblk m hO c 1 t) (iblk m hO c 2 t)
        (outsAt0 m hO c (t.val - 1) (Nat.lt_of_le_of_lt (Nat.sub_le _ _) t.isLt)).2 (iblk m hO c 3 t) (ix2 r d)
      = ∑ f : Fin 2816, unit (X0 m c) (X1 m c) (X2 m c) R f * X3 m c (ix3 0 f d) := by
  rw [half_at m hO c t 1 h1 (by omega) R r hR,
    outs_even m hO c ⟨t.val - 1, Nat.lt_of_le_of_lt (Nat.sub_le _ _) t.isLt⟩ (by show (t.val - 1) % 2 = 0; omega),
    half_at m hO c ⟨t.val - 1, Nat.lt_of_le_of_lt (Nat.sub_le _ _) t.isLt⟩ 0 (by show (t.val - 1) % 2 = 0; omega) (by omega) R r
      (by show R.val = 512 * ((t.val - 1) / 2) + r.val; omega), pay1_at, zero_add]
  exact (sum_two fun f => unit (X0 m c) (X1 m c) (X2 m c) R f * X3 m c (ix3 0 f d)).symm

theorem out_at (t : Fin (cfgM m hO).N) (h1 : t.val % 2 = 1) (R : Fin 32768) (r : Fin 512) (hR : R.val = 512 * (t.val / 2) + r.val) (d : Fin 1024) :
    (outsAt0 m hO c t.val t.isLt).1 (ix2 r d) = outArr m c (ix2 R d) := by
  rw [outs_odd m hO c t h1]
  refine (pay3_at _ _ _ _ r d).trans ?_
  have hz := funext fun d => congrArg₂ (fun u v : EReal => Norm.alpha * u + v) (blk4_at m hO c t R r hR d) (acc_at m hO c t h1 R r hR d)
  have hg := (blk5_at m hO c t 0 d).trans (v12_at m c d).1
  have hb := (blk5_at m hO c t 1 d).trans (v12_at m c d).2
  exact (congrArg (fun z => Norm.ln z _ _ d) hz).trans (congrArg₂ (fun u v => Norm.ln (preArr (X0 m c) (X1 m c) (X2 m c) (X3 m c) R) u v d) hg hb)

theorem flushed_eq (t : Fin (cfgM m hO).N) (hf : ((cfgM m hO).win 6).flush t = true) :
    (dats m hO 0 c).flushed 6 t = (((cfgM m hO).win 6).blk t).view.read (Elt Ideal) (outArr m c) := by
  have h1 : t.val % 2 = 1 := (flush0_6 (adm m hO) t).mp hf
  have ht : t.val < 128 := Nat.lt_of_lt_of_eq t.isLt N_0
  show ((cfgM m hO).win 6).cut (grid0.coords t) ((dats m hO 0 c).after 6 t) = _
  rw [after0_6]
  funext (j : S512x1024.Idx)
  have j0 : (j 0).val < 512 := (j 0).isLt
  have hp : ∀ a : Fin 2, ((((cfgM m hO).win 6).blk t).view.emb j a).val = cc0_transform_6 (grid0.coords t) a * S512x1024.size a + 1 * (j a).val := fun a => rfl
  rw [row_index6, (coords_eq t).1] at hp
  refine Eq.trans ?_ (View.read_apply ..).symm
  show (outsAt0 m hO c t.val t.isLt).1 j = _
  refine (congrArg (outsAt0 m hO c t.val t.isLt).1 (eq_ix2 j)).trans ((out_at m hO c t h1 ⟨512 * (t.val / 2) + (j 0).val, by omega⟩ (j 0) rfl (j 1)).trans ?_)
  refine congrArg (outArr m c) (funext fun (a : Fin 2) => Fin.ext ?_)
  refine Eq.trans ?_ (hp a).symm
  match a with
  | ⟨0, _⟩ => show 512 * (t.val / 2) + (j 0).val = t.val / 2 * 512 + 1 * (j 0).val; omega
  | ⟨1, _⟩ => show (j 1).val = 0 * 1024 + 1 * (j 1).val; omega

theorem final : (dats m hO 0 c).arrAt 6 (cfgM m hO).N = outArr m c :=
  (dats m hO 0 c).arrAt_eq_of_cover 6 (outArr m c) (flushed_eq m hO c) fun (i : S32768x1024.Idx) => by
    have h0 : (i 0 : Nat) < 32768 := (i 0).isLt
    have h1 : (i 1 : Nat) < 1024 := (i 1).isLt
    have hN : 2 * ((i 0).val / 512) + 1 < (cfgM m hO).N := by rw [show (cfgM m hO).N = 128 from N_0]; omega
    refine ⟨⟨2 * ((i 0).val / 512) + 1, hN⟩, (flush0_6 (adm m hO) _).mpr (by show (2 * ((i 0).val / 512) + 1) % 2 = 1; omega), ?_⟩
    have hq : (2 * ((i 0).val / 512) + 1) / 2 = (i 0).val / 512 := by omega
    show i ∈ ((View.whole main_v17).slice (((cfgM m hO).win 6).rect ⟨2 * ((i 0).val / 512) + 1, hN⟩)).set
    have hix : ((cfgM m hO).win 6).index ⟨2 * ((i 0).val / 512) + 1, hN⟩ = (![(i 0).val / 512, 0] : Fin 2 → Nat) :=
      (row_index6 _).trans (by rw [(coords_eq _).1]; show ![(2 * ((i 0).val / 512) + 1) / 2, 0] = _; rw [hq])
    have key : ∀ a : Fin 2, (![(i 0).val / 512, 0] : Fin 2 → Nat) a * S512x1024.size a ≤ (i a).val
        ∧ (i a).val < (![(i 0).val / 512, 0] : Fin 2 → Nat) a * S512x1024.size a + S512x1024.size a := by
      intro a
      match a with
      | ⟨0, _⟩ => show (i 0).val / 512 * 512 ≤ (i 0).val ∧ (i 0).val < (i 0).val / 512 * 512 + 512; omega
      | ⟨1, _⟩ => show 0 * 1024 ≤ (i 1).val ∧ (i 1).val < 0 * 1024 + 1024; omega
    rw [← hix] at key
    exact (congrArg (fun s => i ∈ s) (View.set_slice_whole main_v17 _)).mpr (Rect.mem_set_unit.mpr key)

include hO in
/-- The run: the result, and the arguments unchanged. -/
theorem run : θ_run defs (onTc (τ := τ) (main (F := Ideal))) ⟨m, fun _ => 0, ρ⟩ (fun r => ∀ c : Dev nD,
      r.2.mem ((c.tc : Thread nD τ).loc main_v17) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).trans (final m hO c), (h.2 c)⟩)
    (θ_run_and ((θ_run defs _ _).mono (fun _ h c => (h c).1 6) (run_main m ρ hO)) (unchanged m ρ hO))

end Cert.DenseIdeal.Ffn

end
-- ==== Proof.DenseRef.lean ====
/- The dense layer's reference over the extended reals: the same layer norm of the same sum. -/
module

public import proofs.«01_k».proof.Proof.Gen.DenseRefIdeal.Run
public import proofs.«01_k».proof.Proof.DenseVal

@[expose] public section

noncomputable section

namespace Cert.DenseRefIdeal.Ffn

open Idealize.ShloMosaic Idealize.ShloMosaic.TcCoe Idealize.SL.Sem
open Cert.DenseRefIdeal Cert.DenseRefIdeal.Gen
open Cert.DenseIdeal.Ffn (gate unit preArr)

/-- Every row through one of the first matrices. -/
def gateV (x : FVec Ideal S32768x1024 .f32) (w : FVec Ideal S2x1024x2816 .f32) : FVec Ideal S32768x2816 .f32 :=
  Host.dotGeneral dot_S32768x1024_S1024x2816_S32768x2816_1_0_0_1_n_n none x
    (shapeCast _ (extractStridedSlice S1x1024x2816 ![0, 0, 0] w slices_S2x1024x2816_S1x1024x2816_0_0_0) shapeCasts_S1x1024x2816_S1024x2816)

/-- The hidden units. -/
def hidV (g u : FVec Ideal S32768x2816 .f32) : FVec Ideal S32768x2816 .f32 :=
  mulf (mulf g (Host.divf (broadcastInDim S32768x2816 ![] bcast_S_S32768x2816 (constant S_ .f32 0x3F800000#32))
    (addf (broadcastInDim S32768x2816 ![] bcast_S_S32768x2816 (constant S_ .f32 0x3F800000#32)) (Host.exp (Host.negf g))))) u

/-- What is normalized, as the reference's operations compose. -/
def preV (x : FVec Ideal S32768x1024 .f32) (h : FVec Ideal S32768x2816 .f32) (wd : FVec Ideal S2x2816x1024 .f32) : FVec Ideal S32768x1024 .f32 :=
  addf (mulf (broadcastInDim S32768x1024 ![] bcast_S_S32768x1024 (constant S_ .f32 0x3FD744FD#32)) x)
    (Host.dotGeneral dot_S32768x2816_S2816x1024_S32768x1024_1_0_0_1_n_n none h
      (shapeCast _ (extractStridedSlice S1x2816x1024 ![0, 0, 0] wd slices_S2x2816x1024_S1x2816x1024_0_0_0) shapeCasts_S1x2816x1024_S2816x1024))

/-- The mean over the last dimension. -/
def meanV (z : FVec Ideal S32768x1024 .f32) : FVec Ideal S32768x1 .f32 :=
  Host.divf (broadcastInDim S32768x1 ![0] bcast_S32768_S32768x1_0 (Host.reduceAdd z (constant S_ .f32 0x00000000#32) reducesTo_S32768x1024_S32768_d1 h_S_))
    (broadcastInDim S32768x1 ![] bcast_S_S32768x1 (constant S_ .f32 0x44800000#32))

/-- The deviation from the mean. -/
def devV (z : FVec Ideal S32768x1024 .f32) : FVec Ideal S32768x1024 .f32 :=
  subf z (broadcastInDim S32768x1024 ![0, 1] bcast_S32768x1_S32768x1024_0_1 (meanV z))

/-- The layer norm, as the reference's operations compose. -/
def lnV (z : FVec Ideal S32768x1024 .f32) (g b : FVec Ideal S1024 .f32) : FVec Ideal S32768x1024 .f32 :=
  addf (mulf (mulf (devV z) (broadcastInDim S32768x1024 ![0, 1] bcast_S32768x1_S32768x1024_0_1
        (Host.rsqrt (addf (meanV (mulf (devV z) (devV z))) (broadcastInDim S32768x1 ![] bcast_S_S32768x1 (constant S_ .f32 0x3727C5AC#32))))))
      (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

theorem gateV_at (x : FVec Ideal S32768x1024 .f32) (w : FVec Ideal S2x1024x2816 .f32) (R : Fin 32768) (f : Fin 2816) :
    gateV x w (ix2 R f) = gate x w R f := by
  unfold gate
  pointwise [gateV]

theorem hidV_at (g u : FVec Ideal S32768x2816 .f32) (i : S32768x2816.Idx) :
    hidV g u i = (g i * Ideal.logistic (g i) * u i : EReal) := by
  pointwise [hidV]
  rfl

theorem preV_at (x : FVec Ideal S32768x1024 .f32) (wg wu : FVec Ideal S2x1024x2816 .f32) (wd : FVec Ideal S2x2816x1024 .f32) (R : Fin 32768) (d : Fin 1024) :
    preV x (hidV (gateV x wg) (gateV x wu)) wd (ix2 R d) = preArr x wg wu wd R d := by
  have h : ∀ h, preV x h wd (ix2 R d) = Norm.alpha * x (ix2 R d) + ∑ f : Fin 2816, h (ix2 R f) * wd (ix3 0 f d) := by
    intro h
    unfold Norm.alpha
    pointwise [preV]
  rw [h]
  refine congrArg (fun s : EReal => Norm.alpha * x (ix2 R d) + s) (Finset.sum_congr rfl fun f _ => ?_)
  rw [hidV_at, gateV_at, gateV_at]
  rfl

theorem meanV_at (z : FVec Ideal S32768x1024 .f32) (R : Fin 32768) :
    meanV z (ix2 R 0) = Norm.mean fun d => z (ix2 R d) := by
  unfold Norm.mean
  pointwise [meanV]

theorem devV_at (z : FVec Ideal S32768x1024 .f32) (R : Fin 32768) (d : Fin 1024) :
    devV z (ix2 R d) = z (ix2 R d) - Norm.mean fun d => z (ix2 R d) := by
  rw [← meanV_at]
  pointwise [devV]

theorem lnV_at (z : FVec Ideal S32768x1024 .f32) (g w : FVec Ideal S1024 .f32) (R : Fin 32768) (d : Fin 1024) :
    lnV z g w (ix2 R d) = Norm.ln (fun d => z (ix2 R d)) (g (ix1 d)) (w (ix1 d)) d := by
  have h : lnV z g w (ix2 R d) = devV z (ix2 R d) * Ideal.rsqrt (meanV (mulf (devV z) (devV z)) (ix2 R 0) + Ideal.ofBits .f32 0x3727C5AC#32) * g (ix1 d) + w (ix1 d) := by
    pointwise [lnV]
  rw [h, meanV_at, devV_at, show (fun d : Fin 1024 => mulf (devV z) (devV z) (ix2 R d))
    = fun d => (z (ix2 R d) - Norm.mean fun d => z (ix2 R d)) * (z (ix2 R d) - Norm.mean fun d => z (ix2 R d)) from
      funext fun d => (congrArg₂ (fun u v : EReal => u * v) (devV_at z R d) (devV_at z R d))]
  rfl

/-- The reference's result, as its operations compose. -/
def refV (x : FVec Ideal S32768x1024 .f32) (wg wu : FVec Ideal S2x1024x2816 .f32) (wd : FVec Ideal S2x2816x1024 .f32) (g b : FVec Ideal S1024 .f32) :
    FVec Ideal S32768x1024 .f32 :=
  lnV (preV x (hidV (gateV x wg) (gateV x wu)) wd) g b

theorem ref_val (x : FVec Ideal S32768x1024 .f32) (wg wu : FVec Ideal S2x1024x2816 .f32) (wd : FVec Ideal S2x2816x1024 .f32) (g b : FVec Ideal S1024 .f32)
    (R : Fin 32768) (d : Fin 1024) : refV x wg wu wd g b (ix2 R d) = Norm.ln (preArr x wg wu wd R) (g (ix1 d)) (b (ix1 d)) d :=
  (lnV_at _ _ _ R d).trans (congrArg (fun z => Norm.ln z (g (ix1 d)) (b (ix1 d)) d) (funext fun d => preV_at x wg wu wd R d))

/-- The run: the result, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v37) = refV (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Cert.DenseRefIdeal.Value.run (F := Ideal) m ρ

end Cert.DenseRefIdeal.Ffn

end
-- ==== Proof.DenseClaim.lean ====
/- The dense layer's claims: the two frames by one run, the reference's frame, and the two results equal. -/
module

public import proofs.«01_k».proof.Defs
public import proofs.«01_k».proof.Proof.DenseRef
public import proofs.«01_k».proof.Proof.Gen.Dense

@[expose] public section

noncomputable section

namespace Cert.Proof.Dense

open Idealize.ShloMosaic Idealize.ShloMosaic.TcCoe Idealize.SL.Sem

/-- The two programs are the same text. -/
theorem defs_eq : Cert.Dense.defs (F := Bits) = Cert.DenseIdeal.defs (F := Bits) := by chain_rfl

theorem main_eq : Cert.Dense.main (F := Bits) = Cert.DenseIdeal.main (F := Bits) := by chain_rfl

theorem frame_kernel : Cert.quiescent_Dense := fun m ρ _ => by
  rw [defs_eq, main_eq]
  exact Cert.DenseIdeal.Gen.frame (F := Bits) m ρ (Cert.DenseIdeal.Ffn.ok m)

theorem frame_ideal : Cert.quiescent_DenseIdeal := fun m ρ _ =>
  Cert.DenseIdeal.Gen.frame (F := Ideal) m ρ (Cert.DenseIdeal.Ffn.ok m)

theorem frame_ref : Cert.quiescent_DenseRefIdeal := fun m ρ _ =>
  (θ_run Cert.DenseRefIdeal.defs _ _).mono
    (fun r h => ⟨fun c => (h c).2, Idealize.ShloMosaic.sem_eq_zero_of_no_sems (by decide) r.2⟩)
    (Cert.DenseRefIdeal.Ffn.run m ρ)

theorem algebraic : Cert.algebraic_DenseIdeal_DenseRefIdeal := by
  intro m g m' g' _ hagree
  refine ⟨fun c => Cert.DenseIdeal.Ffn.outArr m c, Cert.DenseIdeal.Ffn.run m g (Cert.DenseIdeal.Ffn.ok m), ?_⟩
  refine (θ_run Cert.DenseRefIdeal.defs _ _).mono (fun r h c => ⟨(h c).1.trans ?_, (h c).2⟩) (Cert.DenseRefIdeal.Ffn.run m' g')
  obtain ⟨a0, a1, a2, a3, a4, a5⟩ := hagree c
  rw [a0, a1, a2, a3, a4, a5]
  funext i
  rw [eq_ix2 i]
  exact Cert.DenseRefIdeal.Ffn.ref_val _ _ _ _ _ _ (i 0) (i 1)

end Cert.Proof.Dense

end
-- ==== Proof.ThirdFrame.lean ====
/- The third layer's feed-forward call's frame, over any float values: what the scratch and the output hold after each point of the
   grid, the proof data, the body at a point, and the run. -/
module

public import proofs.«01_k».proof.Proof.Gen.ThirdIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.ThirdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg3 : Memref sig .tc .vmem S512x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S512x1024 .f32) (harg10 : arg10.IsWhole) (hc0 : cond0_0 i) (hc1 : ¬cond0_1 i)
    (x0 : Vec F S512x1024 .bf16) (x1 : Vec F S1x1024x1408 .bf16) (x2 : Vec F S1x1024x1408 .bf16) (x3 : Vec F S1x1408x1024 .bf16) (x4 : Vec F S512x1024 .f32) (x5 : Vec F S8x1024 .f32) (xt0 : TbBuf0 (F := F) c tbM0_0) : Vec F S512x1024 .f32 :=
  VO0_6.read (Elt F) (VO0_6.writes (Elt F) VO0_6.junk (kernelRun0_A c i arg3 harg3 arg4 harg4 arg5 harg5 arg6 harg6 arg7 harg7 arg8 harg8 arg9 harg9 arg10 harg10 hc0 hc1 x0 x1 x2 x3 x4 x5 xt0).1)

/-- Case A's pieces for scratch `arg10`, which the kernel carries between points, cover it: 2 pieces of `S512x1024` tiling it (Lib/Ring.lean `Piece.tiledL`). -/
theorem scover0_A_0 (c : Dev nD) (i : grid0.Coords) (arg3 : Memref sig .tc .vmem S512x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S512x1024 .f32) (harg10 : arg10.IsWhole) (hc0 : cond0_0 i) (hc1 : ¬cond0_1 i)
    (x0 : Vec F S512x1024 .bf16) (x1 : Vec F S1x1024x1408 .bf16) (x2 : Vec F S1x1024x1408 .bf16) (x3 : Vec F S1x1408x1024 .bf16) (x4 : Vec F S512x1024 .f32) (x5 : Vec F S8x1024 .f32) (xt0 : TbBuf0 (F := F) c tbM0_0) (y : S512x1024.Idx) :
    ∃ pc ∈ (kernelRun0_A c i arg3 harg3 arg4 harg4 arg5 harg5 arg6 harg6 arg7 harg7 arg8 harg8 arg9 harg9 arg10 harg10 hc0 hc1 x0 x1 x2 x3 x4 x5 xt0).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4 x5 xt0).2.1 S512x1024.size (by sl_kernel_rfl) y

/-- What case A leaves in scratch `arg10`: its pieces read back over junk. -/
def sout0_A_0 (c : Dev nD) (i : grid0.Coords) (arg3 : Memref sig .tc .vmem S512x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S512x1024 .f32) (harg10 : arg10.IsWhole) (hc0 : cond0_0 i) (hc1 : ¬cond0_1 i)
    (x0 : Vec F S512x1024 .bf16) (x1 : Vec F S1x1024x1408 .bf16) (x2 : Vec F S1x1024x1408 .bf16) (x3 : Vec F S1x1408x1024 .bf16) (x4 : Vec F S512x1024 .f32) (x5 : Vec F S8x1024 .f32) (xt0 : TbBuf0 (F := F) c tbM0_0) : Vec F S512x1024 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4 x5 xt0).2.1)

/-- Case B's pieces for output 6 tile its block (1 store of `S512x1024`, checked by the kernel's evaluation: Lib/Ring.lean `Piece.tiledL`, linear in the pieces, through a loop's `@[irreducible]` trip theorem too), so they cover it. -/
theorem cover0_B_6 (c : Dev nD) (i : grid0.Coords) (arg3 : Memref sig .tc .vmem S512x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i)
    (x0 : Vec F S512x1024 .bf16) (x1 : Vec F S1x1024x1408 .bf16) (x2 : Vec F S1x1024x1408 .bf16) (x3 : Vec F S1x1408x1024 .bf16) (x4 : Vec F S512x1024 .f32) (x5 : Vec F S8x1024 .f32) (xt0 : TbBuf0 (F := F) c tbM0_0) (xs0 : Vec F S512x1024 .f32) (y : S512x1024.Idx) :
    ∃ pc ∈ (kernelRun0_B c i arg3 harg3 arg4 harg4 arg5 harg5 arg6 harg6 arg7 harg7 arg8 harg8 arg9 harg9 arg10 harg10 hc0 hc1 x0 x1 x2 x3 x4 x5 xt0 xs0).1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 x5 xt0 xs0).1 S512x1024.size (by sl_kernel_rfl) y

/-- What case B leaves in output 6's staging buffer: its pieces read back over junk. -/
def out0_B_6 (c : Dev nD) (i : grid0.Coords) (arg3 : Memref sig .tc .vmem S512x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i)
    (x0 : Vec F S512x1024 .bf16) (x1 : Vec F S1x1024x1408 .bf16) (x2 : Vec F S1x1024x1408 .bf16) (x3 : Vec F S1x1408x1024 .bf16) (x4 : Vec F S512x1024 .f32) (x5 : Vec F S8x1024 .f32) (xt0 : TbBuf0 (F := F) c tbM0_0) (xs0 : Vec F S512x1024 .f32) : Vec F S512x1024 .f32 :=
  VO0_6.read (Elt F) (VO0_6.writes (Elt F) VO0_6.junk (kernelRun0_B c i arg3 harg3 arg4 harg4 arg5 harg5 arg6 harg6 arg7 harg7 arg8 harg8 arg9 harg9 arg10 harg10 hc0 hc1 x0 x1 x2 x3 x4 x5 xt0 xs0).1)

/-- Case B's pieces for scratch `arg10`, which the kernel carries between points, cover it: 1 piece of `S512x1024` tiling it (Lib/Ring.lean `Piece.tiledL`). -/
theorem scover0_B_0 (c : Dev nD) (i : grid0.Coords) (arg3 : Memref sig .tc .vmem S512x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i)
    (x0 : Vec F S512x1024 .bf16) (x1 : Vec F S1x1024x1408 .bf16) (x2 : Vec F S1x1024x1408 .bf16) (x3 : Vec F S1x1408x1024 .bf16) (x4 : Vec F S512x1024 .f32) (x5 : Vec F S8x1024 .f32) (xt0 : TbBuf0 (F := F) c tbM0_0) (xs0 : Vec F S512x1024 .f32) (y : S512x1024.Idx) :
    ∃ pc ∈ (kernelRun0_B c i arg3 harg3 arg4 harg4 arg5 harg5 arg6 harg6 arg7 harg7 arg8 harg8 arg9 harg9 arg10 harg10 hc0 hc1 x0 x1 x2 x3 x4 x5 xt0 xs0).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 x5 xt0 xs0).2.1 S512x1024.size (by sl_kernel_rfl) y

/-- What case B leaves in scratch `arg10`: its pieces read back over junk. -/
def sout0_B_0 (c : Dev nD) (i : grid0.Coords) (arg3 : Memref sig .tc .vmem S512x1024 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i)
    (x0 : Vec F S512x1024 .bf16) (x1 : Vec F S1x1024x1408 .bf16) (x2 : Vec F S1x1024x1408 .bf16) (x3 : Vec F S1x1408x1024 .bf16) (x4 : Vec F S512x1024 .f32) (x5 : Vec F S8x1024 .f32) (xt0 : TbBuf0 (F := F) c tbM0_0) (xs0 : Vec F S512x1024 .f32) : Vec F S512x1024 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 x5 xt0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S512x1024 .f32 × Vec F S512x1024 .f32
  | 0, hn => (out0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0))
  | n + 1, hn =>
    if h0 : (n + 1) % 2 = 0 then
      if h1 : (n + 1) % 2 = 1 then
        False.elim (by have hN : n + 1 < 128 := lt_of_lt_of_eq hn (show (cfgM m hO).N = 128 from N_0); omega)
      else
        (out0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0))
    else
      if h1 : (n + 1) % 2 = 1 then
        (out0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2)
      else
        False.elim (by have hN : n + 1 < 128 := lt_of_lt_of_eq hn (show (cfgM m hO).N = 128 from N_0); omega)

set_option maxHeartbeats 4000000 in
/-- `outsAt0` at a point of case A: that case's contents. -/
theorem outsAt0_A (hO : Ok m) (c : Dev nD) (t : Fin (cfgM m hO).N) (h0 : t.val % 2 = 0) (h1 : ¬t.val % 2 = 1) :
    outsAt0 m hO c t.val t.isLt = (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)) := by
  obtain ⟨n, hn⟩ := t
  cases n with
  | zero => exact rfl
  | succ n => exact (dif_pos h0).trans ((dif_neg h1).trans rfl)

set_option maxHeartbeats 4000000 in
/-- `outsAt0` at a point of case B: that case's contents, over what the point before left. -/
theorem outsAt0_B (hO : Ok m) (c : Dev nD) (t : Fin (cfgM m hO).N) (h0 : ¬t.val % 2 = 0) (h1 : t.val % 2 = 1) :
    outsAt0 m hO c t.val t.isLt = (out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 128 := lt_of_lt_of_eq t.isLt (show (cfgM m hO).N = 128 from N_0)
  by_cases h0 : t.val % 2 = 0
  · by_cases h1 : t.val % 2 = 1
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [Dat.leavesExact_idle (dats m hO 0 c) 6 t (idleAt0_6_A m hO t ((hcond0_0 t).mpr h0) (fun h => h1 ((hcond0_1 t).mp h))) (noFlush0_6_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1]
        unfold sout0_A_0; (try dsimp only)
        iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HT0]; · iexact HT0
        iintro ⟨H0, H1, H2, H3, H4, H5, H6, ⟨%es0, HS0⟩, HT0⟩
        isplitl [HS0 Hg HT0]
        · isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m hO c t, PhiS_pos m hO c _ _ hz, PhiT0_eq]
        rw [outsAt0_A m hO c t h0 h1]
        unfold sout0_A_0; (try dsimp only)
        iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (tbl m 0)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HT0]; · iexact HT0
        iintro ⟨H0, H1, H2, H3, H4, H5, H6, ⟨%es0, HS0⟩, HT0⟩
        isplitl [HS0 Hg HT0]
        · isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 2 = 1
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6_B m hO t (fun h => h0 ((hcond0_0 t).mp h)) ((hcond0_1 t).mpr h1)]; try rfl, after0_6]
      by_cases hz : t.val = 0
      · exfalso; have hN : t.val < 128 := lt_of_lt_of_eq t.isLt (show (cfgM m hO).N = 128 from N_0); omega
      · rw [PhiS_castSucc m hO c t, PhiS_pos m hO c _ _ hz, PhiT0_eq]
        rw [outsAt0_B m hO c t h0 h1]
        unfold out0_B_6 sout0_B_0; (try dsimp only)
        iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (tbl m 0) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HT0]; · iexact HT0
        iintro ⟨H0, H1, H2, H3, H4, H5, ⟨%e6, H6⟩, ⟨%es0, HS0⟩, HT0⟩
        isplitl [HS0 Hg HT0]
        · isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_B_6 c _ _ _ _ _ _ _ _ _ _ _ _ _ _ _ _ _ _ _ _ _ _ _ _ _ _ _)
    · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 128 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- THE FRAME, at any float values, for every contents of the prefetched table under `Ok m`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.ThirdIdeal.Gen

end
-- ==== Proof.Third.lean ====
/- The third layer's feed-forward call: its table, and what a step of the grid leaves. -/
module

public import proofs.«01_k».proof.Proof.ThirdFrame
public import proofs.«01_k».proof.Proof.Gen.ThirdIdeal.Points
public import proofs.«01_k».proof.Proof.Norm
public import Idealize.ShloMosaic.Lib.Pointwise
public import Idealize.ShloMosaic.Lib.StableHlo.ReadAt
public import Idealize.ShloMosaic.Lib.StableHlo.RunRead
public import Idealize.ShloMosaic.Lib.Pipeline.ValueKit.Acc

@[expose] public section

noncomputable section

open Idealize.ShloMosaic Idealize.ShloMosaic.TcCoe Idealize.SL.Sem
open Idealize.ShloMosaic.Pipeline (Dat)

namespace Cert.ThirdIdeal.Ffn

open Cert.ThirdIdeal Cert.ThirdIdeal.Gen

section table
variable {F : FTy → Type} [FloatOps F]

theorem word_index : ∀ k : Fin 64, (Scalar.indexCast (BitVec.ofNat 32 k.val) : Index).toNat = k.val := by decide +kernel

/-- The word of the table that the index maps read at a point of the grid. -/
theorem table_at (pf : pre0.Contents (Elt F)) (i : grid0.Coords) (h) (h1 : S1.numel = 1) :
    (pf.at 0 (Rect.unit (s := S64) ![(Scalar.indexCast (BitVec.ofNat 32 (i 0).val) : Index).toNat] S1.size h) h1 : BitVec 32) = pf 0 (ix1 (i 0)) := by
  refine congrArg (pf 0) (funext fun (a : Fin 1) => ?_)
  obtain rfl : a = 0 := Subsingleton.elim _ _
  apply Fin.ext
  have hf : ∀ x : Fin 1, x.val = 0 := by decide
  exact (congrArg₂ (fun a b : Nat => a + 1 * b) (word_index (i 0)) (hf _)).trans (by show (i 0).val + 1 * 0 = (i 0).val; omega)

theorem step_word : ∀ k : Fin 2, (BitVec.ofNat 32 k.val).toNat = k.val := by decide
theorem tile_word : ∀ k : Fin 64, (BitVec.ofNat 32 k.val).toNat = k.val := by decide +kernel

/-- The table is all ones: the weights of the second dense layer. -/
theorem table_one (m : (ℓ : Loc nD τ sig) → Buf (Elt F) ℓ) (k) : (tbl m 0 k : BitVec 32) = 1#32 := by
  show (V m 0 main_v15 : IVec S64 32) k = 1#32
  rw [show (V m 0 main_v15 : IVec S64 32) = addi (broadcastInDim S64 ![] bcast_S_S64 (constantI S_ 32 0#32)) (broadcastInDim S64 ![] bcast_S_S64 (constantI S_ 32 1#32)) from by
    unfold V
    after_reads_simp]
  rfl

variable (pf : pre0.Contents (Elt F)) (hz : ∀ k, (pf 0 k : BitVec 32) = 1#32)
include hz

theorem index_in (i : grid0.Coords) : cc0_transform_1 k0_off1_inb numel1_S1 pf i = ![1, 0, (i 1).val] :=
  congrArg₂ (fun (a : BitVec 32) (b : Nat) => (![a.toNat, 0, b] : Fin 3 → Nat)) ((table_at pf i (k0_off1_inb i) numel1_S1).trans (hz _)) (step_word (i 1))

theorem index_in' (i : grid0.Coords) : cc0_transform_2 k0_off1_inb numel1_S1 pf i = ![1, 0, (i 1).val] :=
  congrArg₂ (fun (a : BitVec 32) (b : Nat) => (![a.toNat, 0, b] : Fin 3 → Nat)) ((table_at pf i (k0_off1_inb i) numel1_S1).trans (hz _)) (step_word (i 1))

theorem index_out (i : grid0.Coords) : cc0_transform_3 k0_off1_inb numel1_S1 pf i = ![1, (i 1).val, 0] :=
  congrArg₂ (fun (a : BitVec 32) (b : Nat) => (![a.toNat, b, 0] : Fin 3 → Nat)) ((table_at pf i (k0_off1_inb i) numel1_S1).trans (hz _)) (step_word (i 1))

/-- Every block lies in its array. -/
theorem ok_of : ok0 pf := by
  have hin : ∀ i : grid0.Coords, ∀ a, ((![1, 0, (i 1).val] : Fin 3 → Nat) a + 1) * S1x1024x1408.size a ≤ S2x1024x2816.size a := by
    intro i a
    have h1 : (i 1).val < 2 := (i 1).isLt
    match a with
    | ⟨0, _⟩ => show (1 + 1) * 1 ≤ 2; omega
    | ⟨1, _⟩ => show (0 + 1) * 1024 ≤ 1024; omega
    | ⟨2, _⟩ => show ((i 1).val + 1) * 1408 ≤ 2816; omega
  have hout : ∀ i : grid0.Coords, ∀ a, ((![1, (i 1).val, 0] : Fin 3 → Nat) a + 1) * S1x1408x1024.size a ≤ S2x2816x1024.size a := by
    intro i a
    have h1 : (i 1).val < 2 := (i 1).isLt
    match a with
    | ⟨0, _⟩ => show (1 + 1) * 1 ≤ 2; omega
    | ⟨1, _⟩ => show ((i 1).val + 1) * 1408 ≤ 2816; omega
    | ⟨2, _⟩ => show (0 + 1) * 1024 ≤ 1024; omega
  exact ⟨fun i => ⟨fun a => by rw [index_in pf hz]; exact hin i a, .inr (Affine.block_words_dvd (of_decide_eq_true rfl) (by decide))⟩,
    fun i => ⟨fun a => by rw [index_in' pf hz]; exact hin i a, .inr (Affine.block_words_dvd (of_decide_eq_true rfl) (by decide))⟩,
    fun i => ⟨fun a => by rw [index_out pf hz]; exact hout i a, .inr (Affine.block_words_dvd (of_decide_eq_true rfl) (by decide))⟩⟩

omit hz in
theorem ok (m : (ℓ : Loc nD τ sig) → Buf (Elt F) ℓ) : Ok m := ok_of (tbl m) (table_one m)

end table

theorem coords_eq : ∀ t : Fin grid0.N, (grid0.coords t 0).val = t.val / 2 ∧ (grid0.coords t 1).val = t.val % 2 := by decide +kernel

variable (m : (ℓ : Loc nD τ sig) → Buf (Elt Ideal) ℓ) (hO : Ok m) (c : Dev nD)

abbrev X0 : FVec Ideal S32768x1024 .f32 := m ((c.tc : Thread nD τ).loc main_arg0)
abbrev X1 : FVec Ideal S2x1024x2816 .f32 := m ((c.tc : Thread nD τ).loc main_arg1)
abbrev X2 : FVec Ideal S2x1024x2816 .f32 := m ((c.tc : Thread nD τ).loc main_arg2)
abbrev X3 : FVec Ideal S2x2816x1024 .f32 := m ((c.tc : Thread nD τ).loc main_arg3)
abbrev X4 : FVec Ideal S1024 .f32 := m ((c.tc : Thread nD τ).loc main_arg4)
abbrev X5 : FVec Ideal S1024 .f32 := m ((c.tc : Thread nD τ).loc main_arg5)

/-- One step's addition to the accumulator: half of the hidden units, at a row and an output channel. -/
theorem pay2_at (x : FVec Ideal S512x1024 .bf16) (wg wu : FVec Ideal S1x1024x1408 .bf16) (acc : FVec Ideal S512x1024 .f32)
    (wd : FVec Ideal S1x1408x1024 .bf16) (r : Fin 512) (d : Fin 1024) :
    k0_pay2 (F := Ideal) x wg wu acc wd (ix2 r d) = acc (ix2 r d) + ∑ f : Fin 1408,
      (((∑ k : Fin 1024, x (ix2 r k) * wg (ix3 0 k f)) * Ideal.logistic (∑ k : Fin 1024, x (ix2 r k) * wg (ix3 0 k f)))
        * (∑ k : Fin 1024, x (ix2 r k) * wu (ix3 0 k f)) : EReal) * wd (ix3 0 f d) := by
  pointwise [k0_pay2]

theorem pay1_at (i : S512x1024.Idx) : k0_pay1 (F := Ideal) i = 0 := by
  pointwise [k0_pay1]

/-- The last step's result: the residual, scaled, and the accumulator, normalized. -/
theorem pay3_at (x acc : FVec Ideal S512x1024 .f32) (g b : FVec Ideal S1x1024 .f32) (r : Fin 512) (d : Fin 1024) :
    k0_pay3 (F := Ideal) x acc g b (ix2 r d) = Norm.ln (fun d => Norm.alpha * x (ix2 r d) + acc (ix2 r d)) (g (ix2 0 d)) (b (ix2 0 d)) d := by
  unfold Norm.ln Norm.mean Norm.alpha
  pointwise [k0_pay3]

theorem pay2_congr {x x' : FVec Ideal S512x1024 .bf16} {wg wg' wu wu' : FVec Ideal S1x1024x1408 .bf16} {acc acc' : FVec Ideal S512x1024 .f32}
    {wd wd' : FVec Ideal S1x1408x1024 .bf16} (h0 : x = x') (h1 : wg = wg') (h2 : wu = wu') (h3 : acc = acc') (h4 : wd = wd') :
    k0_pay2 (F := Ideal) x wg wu acc wd = k0_pay2 x' wg' wu' acc' wd' := by rw [h0, h1, h2, h3, h4]

theorem pay3_congr {x x' acc acc' : FVec Ideal S512x1024 .f32} {g g' b b' : FVec Ideal S1x1024 .f32}
    (h0 : x = x') (h1 : acc = acc') (h2 : g = g') (h3 : b = b') :
    k0_pay3 (F := Ideal) x acc g b = k0_pay3 x' acc' g' b' := by rw [h0, h1, h2, h3]

theorem outs_even (t : Fin (cfgM m hO).N) (h0 : t.val % 2 = 0) :
    (outsAt0 m hO c t.val t.isLt).2 = k0_pay2 (F := Ideal) (iblk m hO c 0 t) (iblk m hO c 1 t) (iblk m hO c 2 t) (k0_pay1 (F := Ideal)) (iblk m hO c 3 t) := by
  rw [outsAt0_A m hO c t h0 (by omega)]
  frame_out
  exact pay2_congr (Memref.IsWhole.read_unread _ _) (Memref.IsWhole.read_unread _ _) (Memref.IsWhole.read_unread _ _) rfl (Memref.IsWhole.read_unread _ _)

/-- A row of the layer norm's vectors. -/
def lnRow (x : FVec Ideal S8x1024 .f32) (r : Fin 8) : FVec Ideal S1x1024 .f32 := fun i => x (ix2 r (i 1))

theorem rd {s : Shape} (a : Memref sig .tc .vmem s .f32) (h : a.IsWhole) (x : Vec Ideal s .f32) (B : LoadRect s) (j : B.shape.Idx) (k : s.Idx)
    (hk : ∀ i, (B.idx j i).val = (k i).val) : View.readAt (Elt Ideal) a.view B (h.unread x) j = x k := by
  rw [View.readAt_apply]
  exact (congrFun (h.read_unread x) _).trans (congrArg x (funext fun i => Fin.ext (hk i)))

theorem outs_odd (t : Fin (cfgM m hO).N) (h1 : t.val % 2 = 1) :
    (outsAt0 m hO c t.val t.isLt).1 = k0_pay3 (F := Ideal) (iblk m hO c 4 t) (k0_pay2 (F := Ideal) (iblk m hO c 0 t) (iblk m hO c 1 t) (iblk m hO c 2 t)
      (outsAt0 m hO c (t.val - 1) (Nat.lt_of_le_of_lt (Nat.sub_le _ _) t.isLt)).2 (iblk m hO c 3 t)) (lnRow (iblk m hO c 5 t) 0) (lnRow (iblk m hO c 5 t) 1) := by
  rw [outsAt0_B m hO c t (by omega) h1]
  frame_out
  refine pay3_congr (Memref.IsWhole.read_unread _ _) (pay2_congr (Memref.IsWhole.read_unread _ _) (Memref.IsWhole.read_unread _ _) (Memref.IsWhole.read_unread _ _)
    (Memref.IsWhole.read_unread (Memref.isWhole_whole cc0_scratch0) _) (Memref.IsWhole.read_unread _ _)) ?_ ?_
  · funext (j : S1x1024.Idx)
    obtain ⟨u, d, rfl⟩ : ∃ (u : Fin 1) (d : Fin 1024), j = ix2 u d := ⟨j 0, j 1, eq_ix2 j⟩
    obtain rfl : u = 0 := Subsingleton.elim _ _
    exact rd _ _ _ _ _ _ (by intro i; fin_cases i <;> simp [LoadRect.idx, Rect.toLoadRect, Rect.unit, ix2])
  · funext (j : S1x1024.Idx)
    obtain ⟨u, d, rfl⟩ : ∃ (u : Fin 1) (d : Fin 1024), j = ix2 u d := ⟨j 0, j 1, eq_ix2 j⟩
    obtain rfl : u = 0 := Subsingleton.elim _ _
    exact rd _ _ _ _ _ _ (by intro i; fin_cases i <;> simp [LoadRect.idx, Rect.toLoadRect, Rect.unit, ix2])

/-! ## The operands -/

theorem v0_at (e : Fin 2) (k : Fin 1024) (f : Fin 2816) : (V m c main_v0 : FVec Ideal S2x1024x2816 .bf16) (ix3 e k f) = X1 m c (ix3 e k f) := by
  rw [show (V m c main_v0 : FVec Ideal S2x1024x2816 .bf16) = truncf .bf16 (X1 m c) bitsLt_bf16_f32 from by
    unfold V
    after_reads_simp]
  pointwise

theorem v1_at (e : Fin 2) (k : Fin 1024) (f : Fin 2816) : (V m c main_v1 : FVec Ideal S2x1024x2816 .bf16) (ix3 e k f) = X2 m c (ix3 e k f) := by
  rw [show (V m c main_v1 : FVec Ideal S2x1024x2816 .bf16) = truncf .bf16 (X2 m c) bitsLt_bf16_f32 from by
    unfold V
    after_reads_simp]
  pointwise

theorem v2_at (e : Fin 2) (f : Fin 2816) (d : Fin 1024) : (V m c main_v2 : FVec Ideal S2x2816x1024 .bf16) (ix3 e f d) = X3 m c (ix3 e f d) := by
  rw [show (V m c main_v2 : FVec Ideal S2x2816x1024 .bf16) = truncf .bf16 (X3 m c) bitsLt_bf16_f32 from by
    unfold V
    after_reads_simp]
  pointwise

theorem v16_at (r : Fin 32768) (k : Fin 1024) : (V m c main_v16 : FVec Ideal S32768x1024 .bf16) (ix2 r k) = X0 m c (ix2 r k) := by
  rw [show (V m c main_v16 : FVec Ideal S32768x1024 .bf16) = truncf .bf16 (X0 m c) bitsLt_bf16_f32 from by
    unfold V
    after_reads_simp]
  pointwise

theorem arg0_at (r : Fin 32768) (k : Fin 1024) : (V m c main_arg0 : FVec Ideal S32768x1024 .f32) (ix2 r k) = X0 m c (ix2 r k) :=
  congrFun (V_main_arg0 m c) _

theorem v12_at (d : Fin 1024) : (V m c main_v12 : FVec Ideal S8x1024 .f32) (ix2 0 d) = X4 m c (ix1 d)
    ∧ (V m c main_v12 : FVec Ideal S8x1024 .f32) (ix2 1 d) = X5 m c (ix1 d) := by
  unfold V
  after_reads_simp
  constructor
  · pointwise
    after_reads_simp
    pointwise
  · pointwise
    after_reads_simp
    pointwise

/-! ## The blocks -/

theorem row_index (i : grid0.Coords) : cc0_transform_0 i = ![(i 0).val, 0] :=
  congrArg (fun b : Nat => (![b, 0] : Fin 2 → Nat)) (tile_word (i 0))

theorem row_index4 (i : grid0.Coords) : cc0_transform_4 i = ![(i 0).val, 0] :=
  congrArg (fun b : Nat => (![b, 0] : Fin 2 → Nat)) (tile_word (i 0))

theorem row_index6 (i : grid0.Coords) : cc0_transform_6 i = ![(i 0).val, 0] :=
  congrArg (fun b : Nat => (![b, 0] : Fin 2 → Nat)) (tile_word (i 0))

theorem blk0_at (t : Fin (cfgM m hO).N) (R : Fin 32768) (r : Fin 512) (hR : R.val = 512 * (t.val / 2) + r.val) (k : Fin 1024) :
    (iblk m hO c 0 t : FVec Ideal S512x1024 .bf16) (ix2 r k) = X0 m c (ix2 R k) := by
  have hp : ∀ a : Fin 2, ((((cfgM m hO).win 0).blk t).view.emb (ix2 r k) a).val = cc0_transform_0 (grid0.coords t) a * S512x1024.size a + 1 * (ix2 r k a).val := fun a => rfl
  rw [row_index, (coords_eq t).1] at hp
  unfold iblk
  refine Eq.trans (View.read_apply ..) (Eq.trans (congrArg (V m c main_v16 : FVec Ideal S32768x1024 .bf16) (funext fun (a : Fin 2) => ?_)) (v16_at m c R k))
  apply Fin.ext
  refine (hp a).trans ?_
  match a with
  | ⟨0, _⟩ => show t.val / 2 * 512 + 1 * r.val = R.val; omega
  | ⟨1, _⟩ => show 0 * 1024 + 1 * k.val = k.val; omega

theorem blk4_at (t : Fin (cfgM m hO).N) (R : Fin 32768) (r : Fin 512) (hR : R.val = 512 * (t.val / 2) + r.val) (k : Fin 1024) :
    (iblk m hO c 4 t : FVec Ideal S512x1024 .f32) (ix2 r k) = X0 m c (ix2 R k) := by
  have hp : ∀ a : Fin 2, ((((cfgM m hO).win 4).blk t).view.emb (ix2 r k) a).val = cc0_transform_4 (grid0.coords t) a * S512x1024.size a + 1 * (ix2 r k a).val := fun a => rfl
  rw [row_index4, (coords_eq t).1] at hp
  unfold iblk
  refine Eq.trans (View.read_apply ..) (Eq.trans (congrArg (V m c main_arg0 : FVec Ideal S32768x1024 .f32) (funext fun (a : Fin 2) => ?_)) (arg0_at m c R k))
  apply Fin.ext
  refine (hp a).trans ?_
  match a with
  | ⟨0, _⟩ => show t.val / 2 * 512 + 1 * r.val = R.val; omega
  | ⟨1, _⟩ => show 0 * 1024 + 1 * k.val = k.val; omega

theorem blk5_at (t : Fin (cfgM m hO).N) (r : Fin 8) (k : Fin 1024) :
    (iblk m hO c 5 t : FVec Ideal S8x1024 .f32) (ix2 r k) = (V m c main_v12 : FVec Ideal S8x1024 .f32) (ix2 r k) := by
  have hp : ∀ a : Fin 2, ((((cfgM m hO).win 5).blk t).view.emb (ix2 r k) a).val = (![0, 0] : Fin 2 → Nat) a * S8x1024.size a + 1 * (ix2 r k a).val := fun a => rfl
  unfold iblk
  refine Eq.trans (View.read_apply ..) (congrArg (V m c main_v12 : FVec Ideal S8x1024 .f32) (funext fun (a : Fin 2) => ?_))
  apply Fin.ext
  refine (hp a).trans ?_
  match a with
  | ⟨0, _⟩ => show 0 * 8 + 1 * r.val = r.val; omega
  | ⟨1, _⟩ => show 0 * 1024 + 1 * k.val = k.val; omega

theorem blk1_at (t : Fin (cfgM m hO).N) (f : Fin 1408) (f' : Fin 2816) (hf : f'.val = 1408 * (t.val % 2) + f.val) (k : Fin 1024) :
    (iblk m hO c 1 t : FVec Ideal S1x1024x1408 .bf16) (ix3 0 k f) = X1 m c (ix3 1 k f') := by
  have hp : ∀ a : Fin 3, ((((cfgM m hO).win 1).blk t).view.emb (ix3 0 k f) a).val
      = cc0_transform_1 k0_off1_inb numel1_S1 (tbl m) (grid0.coords t) a * S1x1024x1408.size a + 1 * ((ix3 0 k f : S1x1024x1408.Idx) a).val := fun a => rfl
  rw [index_in (tbl m) (table_one m), (coords_eq t).2] at hp
  unfold iblk
  refine Eq.trans (View.read_apply ..) (Eq.trans (congrArg (V m c main_v0 : FVec Ideal S2x1024x2816 .bf16) (funext fun (a : Fin 3) => ?_)) (v0_at m c 1 k f'))
  apply Fin.ext
  refine (hp a).trans ?_
  match a with
  | ⟨0, _⟩ => show 1 * 1 + 1 * 0 = 1; omega
  | ⟨1, _⟩ => show 0 * 1024 + 1 * k.val = k.val; omega
  | ⟨2, _⟩ => show t.val % 2 * 1408 + 1 * f.val = f'.val; omega

theorem blk2_at (t : Fin (cfgM m hO).N) (f : Fin 1408) (f' : Fin 2816) (hf : f'.val = 1408 * (t.val % 2) + f.val) (k : Fin 1024) :
    (iblk m hO c 2 t : FVec Ideal S1x1024x1408 .bf16) (ix3 0 k f) = X2 m c (ix3 1 k f') := by
  have hp : ∀ a : Fin 3, ((((cfgM m hO).win 2).blk t).view.emb (ix3 0 k f) a).val
      = cc0_transform_2 k0_off1_inb numel1_S1 (tbl m) (grid0.coords t) a * S1x1024x1408.size a + 1 * ((ix3 0 k f : S1x1024x1408.Idx) a).val := fun a => rfl
  rw [index_in' (tbl m) (table_one m), (coords_eq t).2] at hp
  unfold iblk
  refine Eq.trans (View.read_apply ..) (Eq.trans (congrArg (V m c main_v1 : FVec Ideal S2x1024x2816 .bf16) (funext fun (a : Fin 3) => ?_)) (v1_at m c 1 k f'))
  apply Fin.ext
  refine (hp a).trans ?_
  match a with
  | ⟨0, _⟩ => show 1 * 1 + 1 * 0 = 1; omega
  | ⟨1, _⟩ => show 0 * 1024 + 1 * k.val = k.val; omega
  | ⟨2, _⟩ => show t.val % 2 * 1408 + 1 * f.val = f'.val; omega

theorem blk3_at (t : Fin (cfgM m hO).N) (f : Fin 1408) (f' : Fin 2816) (hf : f'.val = 1408 * (t.val % 2) + f.val) (d : Fin 1024) :
    (iblk m hO c 3 t : FVec Ideal S1x1408x1024 .bf16) (ix3 0 f d) = X3 m c (ix3 1 f' d) := by
  have hp : ∀ a : Fin 3, ((((cfgM m hO).win 3).blk t).view.emb (ix3 0 f d) a).val
      = cc0_transform_3 k0_off1_inb numel1_S1 (tbl m) (grid0.coords t) a * S1x1408x1024.size a + 1 * ((ix3 0 f d : S1x1408x1024.Idx) a).val := fun a => rfl
  rw [index_out (tbl m) (table_one m), (coords_eq t).2] at hp
  unfold iblk
  refine Eq.trans (View.read_apply ..) (Eq.trans (congrArg (V m c main_v2 : FVec Ideal S2x2816x1024 .bf16) (funext fun (a : Fin 3) => ?_)) (v2_at m c 1 f' d))
  apply Fin.ext
  refine (hp a).trans ?_
  match a with
  | ⟨0, _⟩ => show 1 * 1 + 1 * 0 = 1; omega
  | ⟨1, _⟩ => show t.val % 2 * 1408 + 1 * f.val = f'.val; omega
  | ⟨2, _⟩ => show 0 * 1024 + 1 * d.val = d.val; omega

end Cert.ThirdIdeal.Ffn

end
-- ==== Proof.ThirdVal.lean ====
/- The third layer's feed-forward call over the extended reals: each row through the layer, added to the residual and normalized. -/
module

public import proofs.«01_k».proof.Proof.Third

@[expose] public section

noncomputable section

open Idealize.ShloMosaic Idealize.ShloMosaic.TcCoe Idealize.SL.Sem
open Idealize.ShloMosaic.Pipeline (Dat)

namespace Cert.ThirdIdeal.Ffn

open Cert.ThirdIdeal Cert.ThirdIdeal.Gen

/-- A row through one of the two first matrices. -/
def gate (x : FVec Ideal S32768x1024 .f32) (w : FVec Ideal S2x1024x2816 .f32) (R : Fin 32768) (f : Fin 2816) : EReal :=
  ∑ k : Fin 1024, x (ix2 R k) * w (ix3 1 k f)

/-- A hidden unit. -/
def unit (x : FVec Ideal S32768x1024 .f32) (wg wu : FVec Ideal S2x1024x2816 .f32) (R : Fin 32768) (f : Fin 2816) : EReal :=
  gate x wg R f * Ideal.logistic (gate x wg R f) * gate x wu R f

/-- The residual, scaled, and the row through the layer. -/
def preArr (x : FVec Ideal S32768x1024 .f32) (wg wu : FVec Ideal S2x1024x2816 .f32) (wd : FVec Ideal S2x2816x1024 .f32) (R : Fin 32768) (d : Fin 1024) : EReal :=
  Norm.alpha * x (ix2 R d) + ∑ f : Fin 2816, unit x wg wu R f * wd (ix3 1 f d)

theorem gate_of (b0 : FVec Ideal S512x1024 .bf16) (b1 : FVec Ideal S1x1024x1408 .bf16) (x : FVec Ideal S32768x1024 .f32) (w : FVec Ideal S2x1024x2816 .f32)
    (r : Fin 512) (R : Fin 32768) (f : Fin 1408) (f' : Fin 2816) (h0 : ∀ k, b0 (ix2 r k) = x (ix2 R k))
    (h1 : ∀ k, b1 (ix3 0 k f) = w (ix3 1 k f')) :
    (∑ k : Fin 1024, b0 (ix2 r k) * b1 (ix3 0 k f) : EReal) = gate x w R f' :=
  Finset.sum_congr rfl fun k _ => congrArg₂ (fun a b : EReal => a * b) (h0 k) (h1 k)

/-- The sum over the hidden units in two halves. -/
theorem sum_two (g : Fin 2816 → EReal) :
    ∑ f : Fin 2816, g f = (∑ f : Fin 1408, g ⟨1408 * 0 + f.val, by have := f.isLt; omega⟩) + ∑ f : Fin 1408, g ⟨1408 * 1 + f.val, by have := f.isLt; omega⟩ := by
  refine (Fin.sum_univ_add (a := 1408) (b := 1408) g).trans (congrArg₂ (· + ·) ?_ ?_)
  · exact Finset.sum_congr rfl fun f _ => congrArg g (Fin.ext (by show f.val = 1408 * 0 + f.val; omega))
  · rfl

variable (m : (ℓ : Loc nD τ sig) → Buf (Elt Ideal) ℓ) (ρ : Dev nD → PrngReg) (hO : Ok m) (c : Dev nD)

/-- The output array. -/
def outArr : FVec Ideal S32768x1024 .f32 := fun j =>
  Norm.ln (preArr (X0 m c) (X1 m c) (X2 m c) (X3 m c) (j 0)) (X4 m c (ix1 (j 1))) (X5 m c (ix1 (j 1))) (j 1)

/-- One step's addition, over its half of the hidden units. -/
theorem half_at (t : Fin (cfgM m hO).N) (q : ℕ) (hq : t.val % 2 = q) (hq2 : q < 2) (R : Fin 32768) (r : Fin 512) (hR : R.val = 512 * (t.val / 2) + r.val)
    (acc : FVec Ideal S512x1024 .f32) (d : Fin 1024) :
    k0_pay2 (F := Ideal) (iblk m hO c 0 t) (iblk m hO c 1 t) (iblk m hO c 2 t) acc (iblk m hO c 3 t) (ix2 r d)
      = acc (ix2 r d) + ∑ f : Fin 1408, unit (X0 m c) (X1 m c) (X2 m c) R ⟨1408 * q + f.val, by have := f.isLt; omega⟩
          * X3 m c (ix3 1 ⟨1408 * q + f.val, by have := f.isLt; omega⟩ d) := by
  refine (pay2_at _ _ _ _ _ r d).trans (congrArg (acc (ix2 r d) + ·) (Finset.sum_congr rfl fun f _ => ?_))
  have hf : (⟨1408 * q + f.val, by have := f.isLt; omega⟩ : Fin 2816).val = 1408 * (t.val % 2) + f.val := by rw [hq]
  have g1 := gate_of (iblk m hO c 0 t) (iblk m hO c 1 t) (X0 m c) (X1 m c) r R f _ (blk0_at m hO c t R r hR) (blk1_at m hO c t f _ hf)
  have g2 := gate_of (iblk m hO c 0 t) (iblk m hO c 2 t) (X0 m c) (X2 m c) r R f _ (blk0_at m hO c t R r hR) (blk2_at m hO c t f _ hf)
  have g3 := blk3_at m hO c t f _ hf d
  exact congrArg₂ (fun a b : EReal => a * b) (congrArg₂ (fun a b : EReal => a * Ideal.logistic a * b) g1 g2) g3

/-- The accumulator after a tile's second step. -/
theorem acc_at (t : Fin (cfgM m hO).N) (h1 : t.val % 2 = 1) (R : Fin 32768) (r : Fin 512) (hR : R.val = 512 * (t.val / 2) + r.val) (d : Fin 1024) :
    k0_pay2 (F := Ideal) (iblk m hO c 0 t) (iblk m hO c 1 t) (iblk m hO c 2 t)
        (outsAt0 m hO c (t.val - 1) (Nat.lt_of_le_of_lt (Nat.sub_le _ _) t.isLt)).2 (iblk m hO c 3 t) (ix2 r d)
      = ∑ f : Fin 2816, unit (X0 m c) (X1 m c) (X2 m c) R f * X3 m c (ix3 1 f d) := by
  rw [half_at m hO c t 1 h1 (by omega) R r hR,
    outs_even m hO c ⟨t.val - 1, Nat.lt_of_le_of_lt (Nat.sub_le _ _) t.isLt⟩ (by show (t.val - 1) % 2 = 0; omega),
    half_at m hO c ⟨t.val - 1, Nat.lt_of_le_of_lt (Nat.sub_le _ _) t.isLt⟩ 0 (by show (t.val - 1) % 2 = 0; omega) (by omega) R r
      (by show R.val = 512 * ((t.val - 1) / 2) + r.val; omega), pay1_at, zero_add]
  exact (sum_two fun f => unit (X0 m c) (X1 m c) (X2 m c) R f * X3 m c (ix3 1 f d)).symm

theorem out_at (t : Fin (cfgM m hO).N) (h1 : t.val % 2 = 1) (R : Fin 32768) (r : Fin 512) (hR : R.val = 512 * (t.val / 2) + r.val) (d : Fin 1024) :
    (outsAt0 m hO c t.val t.isLt).1 (ix2 r d) = outArr m c (ix2 R d) := by
  rw [outs_odd m hO c t h1]
  refine (pay3_at _ _ _ _ r d).trans ?_
  have hz := funext fun d => congrArg₂ (fun u v : EReal => Norm.alpha * u + v) (blk4_at m hO c t R r hR d) (acc_at m hO c t h1 R r hR d)
  have hg := (blk5_at m hO c t 0 d).trans (v12_at m c d).1
  have hb := (blk5_at m hO c t 1 d).trans (v12_at m c d).2
  exact (congrArg (fun z => Norm.ln z _ _ d) hz).trans (congrArg₂ (fun u v => Norm.ln (preArr (X0 m c) (X1 m c) (X2 m c) (X3 m c) R) u v d) hg hb)

theorem flushed_eq (t : Fin (cfgM m hO).N) (hf : ((cfgM m hO).win 6).flush t = true) :
    (dats m hO 0 c).flushed 6 t = (((cfgM m hO).win 6).blk t).view.read (Elt Ideal) (outArr m c) := by
  have h1 : t.val % 2 = 1 := (flush0_6 (adm m hO) t).mp hf
  have ht : t.val < 128 := Nat.lt_of_lt_of_eq t.isLt N_0
  show ((cfgM m hO).win 6).cut (grid0.coords t) ((dats m hO 0 c).after 6 t) = _
  rw [after0_6]
  funext (j : S512x1024.Idx)
  have j0 : (j 0).val < 512 := (j 0).isLt
  have hp : ∀ a : Fin 2, ((((cfgM m hO).win 6).blk t).view.emb j a).val = cc0_transform_6 (grid0.coords t) a * S512x1024.size a + 1 * (j a).val := fun a => rfl
  rw [row_index6, (coords_eq t).1] at hp
  refine Eq.trans ?_ (View.read_apply ..).symm
  show (outsAt0 m hO c t.val t.isLt).1 j = _
  refine (congrArg (outsAt0 m hO c t.val t.isLt).1 (eq_ix2 j)).trans ((out_at m hO c t h1 ⟨512 * (t.val / 2) + (j 0).val, by omega⟩ (j 0) rfl (j 1)).trans ?_)
  refine congrArg (outArr m c) (funext fun (a : Fin 2) => Fin.ext ?_)
  refine Eq.trans ?_ (hp a).symm
  match a with
  | ⟨0, _⟩ => show 512 * (t.val / 2) + (j 0).val = t.val / 2 * 512 + 1 * (j 0).val; omega
  | ⟨1, _⟩ => show (j 1).val = 0 * 1024 + 1 * (j 1).val; omega

theorem final : (dats m hO 0 c).arrAt 6 (cfgM m hO).N = outArr m c :=
  (dats m hO 0 c).arrAt_eq_of_cover 6 (outArr m c) (flushed_eq m hO c) fun (i : S32768x1024.Idx) => by
    have h0 : (i 0 : Nat) < 32768 := (i 0).isLt
    have h1 : (i 1 : Nat) < 1024 := (i 1).isLt
    have hN : 2 * ((i 0).val / 512) + 1 < (cfgM m hO).N := by rw [show (cfgM m hO).N = 128 from N_0]; omega
    refine ⟨⟨2 * ((i 0).val / 512) + 1, hN⟩, (flush0_6 (adm m hO) _).mpr (by show (2 * ((i 0).val / 512) + 1) % 2 = 1; omega), ?_⟩
    have hq : (2 * ((i 0).val / 512) + 1) / 2 = (i 0).val / 512 := by omega
    show i ∈ ((View.whole main_v17).slice (((cfgM m hO).win 6).rect ⟨2 * ((i 0).val / 512) + 1, hN⟩)).set
    have hix : ((cfgM m hO).win 6).index ⟨2 * ((i 0).val / 512) + 1, hN⟩ = (![(i 0).val / 512, 0] : Fin 2 → Nat) :=
      (row_index6 _).trans (by rw [(coords_eq _).1]; show ![(2 * ((i 0).val / 512) + 1) / 2, 0] = _; rw [hq])
    have key : ∀ a : Fin 2, (![(i 0).val / 512, 0] : Fin 2 → Nat) a * S512x1024.size a ≤ (i a).val
        ∧ (i a).val < (![(i 0).val / 512, 0] : Fin 2 → Nat) a * S512x1024.size a + S512x1024.size a := by
      intro a
      match a with
      | ⟨0, _⟩ => show (i 0).val / 512 * 512 ≤ (i 0).val ∧ (i 0).val < (i 0).val / 512 * 512 + 512; omega
      | ⟨1, _⟩ => show 0 * 1024 ≤ (i 1).val ∧ (i 1).val < 0 * 1024 + 1024; omega
    rw [← hix] at key
    exact (congrArg (fun s => i ∈ s) (View.set_slice_whole main_v17 _)).mpr (Rect.mem_set_unit.mpr key)

include hO in
/-- The run: the result, and the arguments unchanged. -/
theorem run : θ_run defs (onTc (τ := τ) (main (F := Ideal))) ⟨m, fun _ => 0, ρ⟩ (fun r => ∀ c : Dev nD,
      r.2.mem ((c.tc : Thread nD τ).loc main_v17) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).trans (final m hO c), (h.2 c)⟩)
    (θ_run_and ((θ_run defs _ _).mono (fun _ h c => (h c).1 6) (run_main m ρ hO)) (unchanged m ρ hO))

end Cert.ThirdIdeal.Ffn

end
-- ==== Proof.ThirdRef.lean ====
/- The third layer's reference over the extended reals: the same layer norm of the same sum. -/
module

public import proofs.«01_k».proof.Proof.Gen.ThirdRefIdeal.Run
public import proofs.«01_k».proof.Proof.ThirdVal

@[expose] public section

noncomputable section

namespace Cert.ThirdRefIdeal.Ffn

open Idealize.ShloMosaic Idealize.ShloMosaic.TcCoe Idealize.SL.Sem
open Cert.ThirdRefIdeal Cert.ThirdRefIdeal.Gen
open Cert.ThirdIdeal.Ffn (gate unit preArr)

/-- Every row through one of the first matrices. -/
def gateV (x : FVec Ideal S32768x1024 .f32) (w : FVec Ideal S2x1024x2816 .f32) : FVec Ideal S32768x2816 .f32 :=
  Host.dotGeneral dot_S32768x1024_S1024x2816_S32768x2816_1_0_0_1_n_n none x
    (shapeCast _ (extractStridedSlice S1x1024x2816 ![1, 0, 0] w slices_S2x1024x2816_S1x1024x2816_1_0_0) shapeCasts_S1x1024x2816_S1024x2816)

/-- The hidden units. -/
def hidV (g u : FVec Ideal S32768x2816 .f32) : FVec Ideal S32768x2816 .f32 :=
  mulf (mulf g (Host.divf (broadcastInDim S32768x2816 ![] bcast_S_S32768x2816 (constant S_ .f32 0x3F800000#32))
    (addf (broadcastInDim S32768x2816 ![] bcast_S_S32768x2816 (constant S_ .f32 0x3F800000#32)) (Host.exp (Host.negf g))))) u

/-- What is normalized, as the reference's operations compose. -/
def preV (x : FVec Ideal S32768x1024 .f32) (h : FVec Ideal S32768x2816 .f32) (wd : FVec Ideal S2x2816x1024 .f32) : FVec Ideal S32768x1024 .f32 :=
  addf (mulf (broadcastInDim S32768x1024 ![] bcast_S_S32768x1024 (constant S_ .f32 0x3FD744FD#32)) x)
    (Host.dotGeneral dot_S32768x2816_S2816x1024_S32768x1024_1_0_0_1_n_n none h
      (shapeCast _ (extractStridedSlice S1x2816x1024 ![1, 0, 0] wd slices_S2x2816x1024_S1x2816x1024_1_0_0) shapeCasts_S1x2816x1024_S2816x1024))

/-- The mean over the last dimension. -/
def meanV (z : FVec Ideal S32768x1024 .f32) : FVec Ideal S32768x1 .f32 :=
  Host.divf (broadcastInDim S32768x1 ![0] bcast_S32768_S32768x1_0 (Host.reduceAdd z (constant S_ .f32 0x00000000#32) reducesTo_S32768x1024_S32768_d1 h_S_))
    (broadcastInDim S32768x1 ![] bcast_S_S32768x1 (constant S_ .f32 0x44800000#32))

/-- The deviation from the mean. -/
def devV (z : FVec Ideal S32768x1024 .f32) : FVec Ideal S32768x1024 .f32 :=
  subf z (broadcastInDim S32768x1024 ![0, 1] bcast_S32768x1_S32768x1024_0_1 (meanV z))

/-- The layer norm, as the reference's operations compose. -/
def lnV (z : FVec Ideal S32768x1024 .f32) (g b : FVec Ideal S1024 .f32) : FVec Ideal S32768x1024 .f32 :=
  addf (mulf (mulf (devV z) (broadcastInDim S32768x1024 ![0, 1] bcast_S32768x1_S32768x1024_0_1
        (Host.rsqrt (addf (meanV (mulf (devV z) (devV z))) (broadcastInDim S32768x1 ![] bcast_S_S32768x1 (constant S_ .f32 0x3727C5AC#32))))))
      (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

theorem gateV_at (x : FVec Ideal S32768x1024 .f32) (w : FVec Ideal S2x1024x2816 .f32) (R : Fin 32768) (f : Fin 2816) :
    gateV x w (ix2 R f) = gate x w R f := by
  unfold gate
  pointwise [gateV]

theorem hidV_at (g u : FVec Ideal S32768x2816 .f32) (i : S32768x2816.Idx) :
    hidV g u i = (g i * Ideal.logistic (g i) * u i : EReal) := by
  pointwise [hidV]
  rfl

theorem preV_at (x : FVec Ideal S32768x1024 .f32) (wg wu : FVec Ideal S2x1024x2816 .f32) (wd : FVec Ideal S2x2816x1024 .f32) (R : Fin 32768) (d : Fin 1024) :
    preV x (hidV (gateV x wg) (gateV x wu)) wd (ix2 R d) = preArr x wg wu wd R d := by
  have h : ∀ h, preV x h wd (ix2 R d) = Norm.alpha * x (ix2 R d) + ∑ f : Fin 2816, h (ix2 R f) * wd (ix3 1 f d) := by
    intro h
    unfold Norm.alpha
    pointwise [preV]
  rw [h]
  refine congrArg (fun s : EReal => Norm.alpha * x (ix2 R d) + s) (Finset.sum_congr rfl fun f _ => ?_)
  rw [hidV_at, gateV_at, gateV_at]
  rfl

theorem meanV_at (z : FVec Ideal S32768x1024 .f32) (R : Fin 32768) :
    meanV z (ix2 R 0) = Norm.mean fun d => z (ix2 R d) := by
  unfold Norm.mean
  pointwise [meanV]

theorem devV_at (z : FVec Ideal S32768x1024 .f32) (R : Fin 32768) (d : Fin 1024) :
    devV z (ix2 R d) = z (ix2 R d) - Norm.mean fun d => z (ix2 R d) := by
  rw [← meanV_at]
  pointwise [devV]

theorem lnV_at (z : FVec Ideal S32768x1024 .f32) (g w : FVec Ideal S1024 .f32) (R : Fin 32768) (d : Fin 1024) :
    lnV z g w (ix2 R d) = Norm.ln (fun d => z (ix2 R d)) (g (ix1 d)) (w (ix1 d)) d := by
  have h : lnV z g w (ix2 R d) = devV z (ix2 R d) * Ideal.rsqrt (meanV (mulf (devV z) (devV z)) (ix2 R 0) + Ideal.ofBits .f32 0x3727C5AC#32) * g (ix1 d) + w (ix1 d) := by
    pointwise [lnV]
  rw [h, meanV_at, devV_at, show (fun d : Fin 1024 => mulf (devV z) (devV z) (ix2 R d))
    = fun d => (z (ix2 R d) - Norm.mean fun d => z (ix2 R d)) * (z (ix2 R d) - Norm.mean fun d => z (ix2 R d)) from
      funext fun d => (congrArg₂ (fun u v : EReal => u * v) (devV_at z R d) (devV_at z R d))]
  rfl

/-- The reference's result, as its operations compose. -/
def refV (x : FVec Ideal S32768x1024 .f32) (wg wu : FVec Ideal S2x1024x2816 .f32) (wd : FVec Ideal S2x2816x1024 .f32) (g b : FVec Ideal S1024 .f32) :
    FVec Ideal S32768x1024 .f32 :=
  lnV (preV x (hidV (gateV x wg) (gateV x wu)) wd) g b

theorem ref_val (x : FVec Ideal S32768x1024 .f32) (wg wu : FVec Ideal S2x1024x2816 .f32) (wd : FVec Ideal S2x2816x1024 .f32) (g b : FVec Ideal S1024 .f32)
    (R : Fin 32768) (d : Fin 1024) : refV x wg wu wd g b (ix2 R d) = Norm.ln (preArr x wg wu wd R) (g (ix1 d)) (b (ix1 d)) d :=
  (lnV_at _ _ _ R d).trans (congrArg (fun z => Norm.ln z (g (ix1 d)) (b (ix1 d)) d) (funext fun d => preV_at x wg wu wd R d))

/-- The run: the result, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v37) = refV (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Cert.ThirdRefIdeal.Value.run (F := Ideal) m ρ

end Cert.ThirdRefIdeal.Ffn

end
-- ==== Proof.ThirdClaim.lean ====
/- The third layer's claims: the two frames by one run, the reference's frame, and the two results equal. -/
module

public import proofs.«01_k».proof.Defs
public import proofs.«01_k».proof.Proof.ThirdRef
public import proofs.«01_k».proof.Proof.Gen.Third

@[expose] public section

noncomputable section

namespace Cert.Proof.Third

open Idealize.ShloMosaic Idealize.ShloMosaic.TcCoe Idealize.SL.Sem

/-- The two programs are the same text. -/
theorem defs_eq : Cert.Third.defs (F := Bits) = Cert.ThirdIdeal.defs (F := Bits) := by chain_rfl

theorem main_eq : Cert.Third.main (F := Bits) = Cert.ThirdIdeal.main (F := Bits) := by chain_rfl

theorem frame_kernel : Cert.quiescent_Third := fun m ρ _ => by
  rw [defs_eq, main_eq]
  exact Cert.ThirdIdeal.Gen.frame (F := Bits) m ρ (Cert.ThirdIdeal.Ffn.ok m)

theorem frame_ideal : Cert.quiescent_ThirdIdeal := fun m ρ _ =>
  Cert.ThirdIdeal.Gen.frame (F := Ideal) m ρ (Cert.ThirdIdeal.Ffn.ok m)

theorem frame_ref : Cert.quiescent_ThirdRefIdeal := fun m ρ _ =>
  (θ_run Cert.ThirdRefIdeal.defs _ _).mono
    (fun r h => ⟨fun c => (h c).2, Idealize.ShloMosaic.sem_eq_zero_of_no_sems (by decide) r.2⟩)
    (Cert.ThirdRefIdeal.Ffn.run m ρ)

theorem algebraic : Cert.algebraic_ThirdIdeal_ThirdRefIdeal := by
  intro m g m' g' _ hagree
  refine ⟨fun c => Cert.ThirdIdeal.Ffn.outArr m c, Cert.ThirdIdeal.Ffn.run m g (Cert.ThirdIdeal.Ffn.ok m), ?_⟩
  refine (θ_run Cert.ThirdRefIdeal.defs _ _).mono (fun r h c => ⟨(h c).1.trans ?_, (h c).2⟩) (Cert.ThirdRefIdeal.Ffn.run m' g')
  obtain ⟨a0, a1, a2, a3, a4, a5⟩ := hagree c
  rw [a0, a1, a2, a3, a4, a5]
  funext i
  rw [eq_ix2 i]
  exact Cert.ThirdRefIdeal.Ffn.ref_val _ _ _ _ _ _ (i 0) (i 1)

end Cert.Proof.Third

end
-- ==== Proof.ProjRef.lean ====
/- The input projections' reference over the extended reals. -/
module

public import proofs.«01_k».proof.Proof.Gen.ProjRefIdeal.Run
public import proofs.«01_k».proof.Proof.Norm
public import Idealize.ShloMosaic.Lib.Pointwise

@[expose] public section

noncomputable section

namespace Cert.ProjRefIdeal.Proj

open Idealize.ShloMosaic Idealize.ShloMosaic.TcCoe Idealize.SL.Sem
open Cert.ProjRefIdeal Cert.ProjRefIdeal.Gen

/-- The rows, batch by batch. -/
def rowsV (x : FVec Ideal S32768x1024 .f32) : FVec Ideal S8x4096x1024 .f32 :=
  transpose S8x4096x1024 [1, 0, 2] (shapeCast S4096x8x1024 x shapeCasts_S32768x1024_S4096x8x1024) transposes_S4096x8x1024_S8x4096x1024_1_0_2

/-- All the columns of the projections. -/
def wallV (w : FVec Ideal S1024x3328 .f32) (w2 : FVec Ideal S1024x32 .f32) : FVec Ideal S1024x3360 .f32 :=
  concatenate S1024x3360 1 [⟨S1024x3328, w⟩, ⟨S1024x32, w2⟩] concatenates_S1024x3328_S1024x32_S1024x3360_d1

def dotV (x : FVec Ideal S32768x1024 .f32) (w : FVec Ideal S1024x3328 .f32) (w2 : FVec Ideal S1024x32 .f32) : FVec Ideal S8x4096x3360 .f32 :=
  Host.dotGeneral dot_S8x4096x1024_S1024x3360_S8x4096x3360_2_0_01_1_n_n none (rowsV x) (wallV w w2)

/-- The first result. -/
def qV (z : FVec Ideal S8x4096x3360 .f32) : FVec Ideal S8x4096x1536 .f32 :=
  concatenate S8x4096x1536 2 [⟨S8x4096x512, mulf (extractStridedSlice S8x4096x512 ![0, 0, 0] z slices_S8x4096x3360_S8x4096x512_0_0_0)
      (broadcastInDim S8x4096x512 ![] bcast_S_S8x4096x512 (constant S_ .f32 0x3E000000#32))⟩,
    ⟨S8x4096x1024, extractStridedSlice S8x4096x1024 ![0, 0, 512] z slices_S8x4096x3360_S8x4096x1024_0_0_512⟩] concatenates_S8x4096x512_S8x4096x1024_S8x4096x1536_d2

def tokV (z : FVec Ideal S8x4096x3360 .f32) : FVec Ideal S8x4096x1824 .f32 :=
  extractStridedSlice S8x4096x1824 ![0, 0, 1536] z slices_S8x4096x3360_S8x4096x1824_0_0_1536

/-- The step before, zero before the first. -/
def prevV (y : FVec Ideal S8x4096x1824 .f32) : FVec Ideal S8x4096x1824 .f32 :=
  extractStridedSlice S8x4096x1824 ![0, 0, 0]
    (pad S8x4097x1824 ![0, 1, 0] ![0, 0, 0] ![0, 0, 0] y (sitofp .f32 (constantI S_ 32 0#32)) pads_S8x4096x1824_S8x4097x1824_000_100_000 h_S_)
    slices_S8x4097x1824_S8x4096x1824_0_0_0

def muV (a : FVec Ideal S1792 .f32) (b : FVec Ideal S32 .f32) : FVec Ideal S1824 .f32 :=
  concatenate S1824 0 [⟨S1792, a⟩, ⟨S32, b⟩] concatenates_S1792_S32_S1824_d0

def shiftV (y : FVec Ideal S8x4096x1824 .f32) (mu : FVec Ideal S1824 .f32) : FVec Ideal S8x4096x1824 .f32 :=
  addf y (mulf (subf (prevV y) y) (broadcastInDim S8x4096x1824 ![0, 1, 2] bcast_S1x1x1824_S8x4096x1824_0_1_2 (broadcastInDim S1x1x1824 ![2] bcast_S1824_S1x1x1824_2 mu)))

def lanesV (y : FVec Ideal S8x4096x1824 .f32) : FVec Ideal S1824x32768 .f32 :=
  shapeCast S1824x32768 (transpose S1824x4096x8 [2, 1, 0] y transposes_S8x4096x1824_S1824x4096x8_2_1_0) shapeCasts_S1824x4096x8_S1824x32768

theorem rowsV_at (x : FVec Ideal S32768x1024 .f32) (b : Fin 8) (s : Fin 4096) (k : Fin 1024) (R : Fin 32768) (hR : R.val = 8 * s.val + b.val) :
    rowsV x (ix3 b s k) = x (ix2 R k) := by
  have hb := b.isLt
  have e : R = ⟨s.val * 8 + b.val, by omega⟩ := Fin.ext (by show _ = s.val * 8 + b.val; omega)
  rw [e]
  pointwise [rowsV]

theorem wallV_lo (w : FVec Ideal S1024x3328 .f32) (w2 : FVec Ideal S1024x32 .f32) (k : Fin 1024) (o : Fin 3328) :
    wallV w w2 (ix2 k ⟨o.val, by omega⟩) = w (ix2 k o) := by
  pointwise [wallV]

theorem wallV_hi (w : FVec Ideal S1024x3328 .f32) (w2 : FVec Ideal S1024x32 .f32) (k : Fin 1024) (o : Fin 32) :
    wallV w w2 (ix2 k ⟨3328 + o.val, by omega⟩) = w2 (ix2 k o) := by
  pointwise [wallV]

theorem dotV_at (x : FVec Ideal S32768x1024 .f32) (w : FVec Ideal S1024x3328 .f32) (w2 : FVec Ideal S1024x32 .f32) (b : Fin 8) (s : Fin 4096) (o : Fin 3360) :
    dotV x w w2 (ix3 b s o) = ∑ k : Fin 1024, rowsV x (ix3 b s k) * wallV w w2 (ix2 k o) := by
  pointwise [dotV]

theorem qV_lo (z : FVec Ideal S8x4096x3360 .f32) (b : Fin 8) (s : Fin 4096) (o : Fin 512) :
    qV z (ix3 b s ⟨o.val, by omega⟩) = z (ix3 b s ⟨o.val, by omega⟩) * Ideal.ofBits .f32 0x3E000000#32 := by
  pointwise [qV]

theorem qV_hi (z : FVec Ideal S8x4096x3360 .f32) (b : Fin 8) (s : Fin 4096) (o : Fin 1024) :
    qV z (ix3 b s ⟨512 + o.val, by omega⟩) = z (ix3 b s ⟨512 + o.val, by omega⟩) := by
  pointwise [qV]

theorem tokV_at (z : FVec Ideal S8x4096x3360 .f32) (b : Fin 8) (s : Fin 4096) (o : Fin 1824) :
    tokV z (ix3 b s o) = z (ix3 b s ⟨1536 + o.val, by omega⟩) := by
  pointwise [tokV]

theorem prevV_zero (y : FVec Ideal S8x4096x1824 .f32) (b : Fin 8) (o : Fin 1824) : prevV y (ix3 b 0 o) = 0 := by
  pointwise [prevV]
  simp [FloatOps.sitofp]

theorem prevV_succ (y : FVec Ideal S8x4096x1824 .f32) (b : Fin 8) (s : Fin 4095) (o : Fin 1824) :
    prevV y (ix3 b ⟨s.val + 1, by omega⟩ o) = y (ix3 b ⟨s.val, by omega⟩ o) := by
  pointwise [prevV]
  rw [dif_pos (by omega)]
  rfl

theorem muV_lo (a : FVec Ideal S1792 .f32) (b : FVec Ideal S32 .f32) (o : Fin 1792) : muV a b (ix1 ⟨o.val, by omega⟩) = a (ix1 o) := by
  pointwise [muV]

theorem muV_hi (a : FVec Ideal S1792 .f32) (b : FVec Ideal S32 .f32) (o : Fin 32) : muV a b (ix1 ⟨1792 + o.val, by omega⟩) = b (ix1 o) := by
  pointwise [muV]

theorem shiftV_at (y : FVec Ideal S8x4096x1824 .f32) (mu : FVec Ideal S1824 .f32) (b : Fin 8) (s : Fin 4096) (o : Fin 1824) :
    shiftV y mu (ix3 b s o) = y (ix3 b s o) + (prevV y (ix3 b s o) - y (ix3 b s o)) * mu (ix1 o) := by
  pointwise [shiftV]

theorem lanesV_at (y : FVec Ideal S8x4096x1824 .f32) (o : Fin 1824) (R : Fin 32768) :
    lanesV y (ix2 o R) = y (ix3 ⟨R.val % 8, by omega⟩ ⟨R.val / 8, by omega⟩ o) := by
  pointwise [lanesV]

/-- The run: the results, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v19) = qV (dotV (m ((c.tc : Thread nD τ).loc main_arg0)) (m ((c.tc : Thread nD τ).loc main_arg1)) (m ((c.tc : Thread nD τ).loc main_arg2)))
      ∧ r.2.mem ((c.tc : Thread nD τ).loc main_v20) = extractStridedSlice S1536x32768 ![0, 0]
          (lanesV (shiftV (tokV (dotV (m ((c.tc : Thread nD τ).loc main_arg0)) (m ((c.tc : Thread nD τ).loc main_arg1)) (m ((c.tc : Thread nD τ).loc main_arg2))))
            (muV (m ((c.tc : Thread nD τ).loc main_arg3)) (m ((c.tc : Thread nD τ).loc main_arg4))))) slices_S1824x32768_S1536x32768_0_0
      ∧ r.2.mem ((c.tc : Thread nD τ).loc main_v21) = extractStridedSlice S288x32768 ![1536, 0]
          (lanesV (shiftV (tokV (dotV (m ((c.tc : Thread nD τ).loc main_arg0)) (m ((c.tc : Thread nD τ).loc main_arg1)) (m ((c.tc : Thread nD τ).loc main_arg2))))
            (muV (m ((c.tc : Thread nD τ).loc main_arg3)) (m ((c.tc : Thread nD τ).loc main_arg4))))) slices_S1824x32768_S288x32768_1536_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Cert.ProjRefIdeal.Value.run (F := Ideal) m ρ

end Cert.ProjRefIdeal.Proj

end
-- ==== Proof.Proj.lean ====
/- The input projections of a layer: what a grid point computes of its block of rows. -/
module

public import proofs.«01_k».proof.Proof.Gen.ProjIdeal.Frame
public import proofs.«01_k».proof.Proof.Norm
public import Idealize.ShloMosaic.Lib.KernelVsHost
public import Idealize.ShloMosaic.Lib.Pointwise
public import Idealize.ShloMosaic.Lib.StableHlo.ReadAt
public import Idealize.ShloMosaic.Lib.StableHlo.RunRead
public import Idealize.ShloMosaic.Lib.Pipeline.ValueKit.Acc

@[expose] public section

set_option maxRecDepth 16384

noncomputable section

namespace Cert.ProjIdeal.Proj

open Cert.ProjIdeal Cert.ProjIdeal.Gen Idealize.ShloMosaic Idealize.ShloMosaic.TcCoe Idealize.SL.Sem

/-- A value moved toward the one before it. -/
def mix (p q mu : EReal) : EReal := p + (q - p) * mu

theorem lane_lt : ∀ c : Fin 128, IntOp.cmpi CmpIPredicate.slt (BitVec.ofNat 32 c.val) 8#32 = if c.val < 8 then 1#1 else 0#1 := by decide +kernel

theorem lane_select (c : Fin 128) (a b : EReal) : Scalar.select (IntOp.cmpi CmpIPredicate.slt (BitVec.ofNat 32 c.val) 8#32) a b = if c.val < 8 then a else b := by
  rw [lane_lt]
  by_cases h : c.val < 8
  · rw [if_pos h, if_pos h]; rfl
  · rw [if_neg h, if_neg h]; rfl

/-- A whole block read back. -/
theorem rdAll {a b : ℕ} {e : EltTy} (M : Memref sig .tc .vmem ⟨2, ![a, b]⟩ e) (h : M.IsWhole) (x : Vec Ideal ⟨2, ![a, b]⟩ e) (inb) :
    View.readAt (Elt Ideal) M.view (Rect.unit (s := ⟨2, ![a, b]⟩) ![0, 0] ![a, b] inb).toLoadRect (h.unread x) = x := by
  funext j
  rw [View.readAt_apply]
  refine (congrFun (h.read_unread x) _).trans (congrArg x (funext fun (i : Fin 2) => Fin.ext ?_))
  match i with
  | ⟨0, _⟩ => show 0 + 1 * (j 0).val = (j 0).val; omega
  | ⟨1, _⟩ => show 0 + 1 * (j 1).val = (j 1).val; omega

/-! ## The shifted columns, 1536 at a time -/

/-- A row of the block through a row of the transposed matrix. -/
def projT (w : FVec Ideal S1536x1024 .bf16) (x : FVec Ideal S512x1024 .f32) (o : Fin 1536) (r : Fin 512) : EReal := ∑ k : Fin 1024, w (ix2 o k) * x (ix2 r k)

theorem payPT_at (x : FVec Ideal S512x1024 .f32) (w : FVec Ideal S1536x1024 .bf16) (o : Fin 1536) (r : Fin 512) :
    k0_pay117 (F := Ideal) (k0_pay4 x) w (ix2 o r) = projT w x o r := by
  unfold projT
  pointwise [k0_pay117, k0_pay4]

theorem rot512T (p : FVec Ideal S1536x512 .f32) (h) (o : Fin 1536) (r : Fin 512) :
    dynamicRotate 1 8#32 none p h (ix2 o r) = p (ix2 o ⟨(r.val + 504) % 512, Nat.mod_lt _ (by omega)⟩) :=
  dynamicRotate_apply (s := S1536x512) 1 8#32 p h _ _ (by
    intro b
    match b with
    | ⟨0, _⟩ => rfl
    | ⟨1, _⟩ => show (r.val + 504) % 512 = (r.val + 512 - 8 % 512) % 512; omega)

/-- A step's block of the shifted columns. -/
def blockT (w : FVec Ideal S1536x1024 .bf16) (x : FVec Ideal S512x1024 .f32) (mu cy : FVec Ideal S1536x128 .f32) : FVec Ideal S1536x512 .f32 := fun y =>
  mix (projT w x (y 0) (y 1))
    (if (y 1).val < 8 then cy (ix2 (y 0) ⟨((y 1).val + 120) % 128, Nat.mod_lt _ (by omega)⟩)
      else projT w x (y 0) ⟨((y 1).val + 504) % 512, Nat.mod_lt _ (by omega)⟩)
    (mu (ix2 (y 0) ⟨(y 1).val % 128, Nat.mod_lt _ (by omega)⟩))

theorem payRT_at (x : FVec Ideal S512x1024 .f32) (w : FVec Ideal S1536x1024 .bf16) (o : Fin 1536) (r : Fin 512) :
    k0_pay119 (F := Ideal) (k0_pay4 x) w (ix2 o r) = projT w x o ⟨(r.val + 504) % 512, Nat.mod_lt _ (by omega)⟩ := by
  unfold k0_pay119
  exact (rot512T _ _ o r).trans (payPT_at x w o _)

theorem blockT_near (x : FVec Ideal S512x1024 .f32) (w : FVec Ideal S1536x1024 .bf16) (mu cy : FVec Ideal S1536x128 .f32) (o : Fin 1536) (c : Fin 128) (q : Fin 512) (hq : q.val = c.val) :
    blockT w x mu cy (ix2 o q) = mix (projT w x o q)
      (if c.val < 8 then cy (ix2 o ⟨(c.val + 120) % 128, Nat.mod_lt _ (by omega)⟩) else projT w x o ⟨(q.val + 504) % 512, Nat.mod_lt _ (by omega)⟩) (mu (ix2 o c)) := by
  have hc := c.isLt
  have h1 : (⟨q.val % 128, Nat.mod_lt _ (by omega)⟩ : Fin 128) = c := Fin.ext (by show q.val % 128 = _; omega)
  obtain ⟨q, hq'⟩ := q
  dsimp only at hq
  subst hq
  show mix (projT w x o _) _ (mu (ix2 o ⟨c.val % 128, _⟩)) = _
  rw [h1]
  rfl

theorem blockT_far (x : FVec Ideal S512x1024 .f32) (w : FVec Ideal S1536x1024 .bf16) (mu cy : FVec Ideal S1536x128 .f32) (o : Fin 1536) (c : Fin 128) (q : Fin 512) (j : ℕ) (hj : 0 < j) (hq : q.val = 128 * j + c.val) :
    blockT w x mu cy (ix2 o q) = mix (projT w x o q) (projT w x o ⟨(q.val + 504) % 512, Nat.mod_lt _ (by omega)⟩) (mu (ix2 o c)) := by
  have hc := c.isLt
  have h1 : (⟨q.val % 128, Nat.mod_lt _ (by omega)⟩ : Fin 128) = c := Fin.ext (by show q.val % 128 = _; omega)
  have h2 : ¬ q.val < 8 := by omega
  show mix (projT w x o q) (if q.val < 8 then _ else _) (mu (ix2 o ⟨q.val % 128, _⟩)) = _
  rw [h1, if_neg h2]
  rfl

theorem embT (o : ℕ) (inb) (x : S1536x128.Idx) (h : o + 128 ≤ 512) :
    (Rect.unit (s := S1536x512) ![0, o] S1536x128.size inb).emb x = ix2 (x 0) ⟨o + (x 1).val, by have h1 : (x 1).val < 128 := (x 1).isLt; omega⟩ := by
  refine funext fun (a : Fin 2) => Fin.ext ?_
  match a with
  | ⟨0, _⟩ => show 0 + 1 * (x 0).val = (x 0).val; omega
  | ⟨1, _⟩ => show o + 1 * (x 1).val = o + (x 1).val; omega

theorem farT (x : FVec Ideal S512x1024 .f32) (w : FVec Ideal S1536x1024 .bf16) (mu cy : FVec Ideal S1536x128 .f32) (z : FVec Ideal S1536x128 .f32) (j o : ℕ) (ho : o = 128 * j) (hj : 0 < j) (hj3 : j < 4) (inb)
    (hz : ∀ (u : Fin 1536) (c : Fin 128), z (ix2 u c) = k0_pay117 (F := Ideal) (k0_pay4 x) w (ix2 u ⟨o + c.val, by omega⟩)
        + (k0_pay119 (F := Ideal) (k0_pay4 x) w (ix2 u ⟨o + c.val, by omega⟩) - k0_pay117 (F := Ideal) (k0_pay4 x) w (ix2 u ⟨o + c.val, by omega⟩)) * mu (ix2 u c)) (i : S1536x128.Idx) :
    z i = blockT w x mu cy ((Rect.unit (s := S1536x512) ![0, o] S1536x128.size inb).emb i) := by
  rw [embT o inb i (by omega)]
  have key : ∀ (u : Fin 1536) (c : Fin 128), z (ix2 u c) = blockT w x mu cy (ix2 u ⟨o + c.val, by omega⟩) := by
    intro u c
    rw [hz u c, payPT_at, payRT_at]
    exact (blockT_far x w mu cy u c ⟨o + c.val, by omega⟩ j hj (by show o + c.val = _; rw [ho])).symm
  exact (congrArg z (eq_ix2 i)).trans (key (i 0) (i 1))

theorem piece0T (x : FVec Ideal S512x1024 .f32) (w : FVec Ideal S1536x1024 .bf16) (mu cy : FVec Ideal S1536x128 .f32) (inb)
    {X : FVec Ideal S512x1024 .bf16} {W : FVec Ideal S1536x1024 .bf16} {M C : FVec Ideal S1536x128 .f32} (hX : X = k0_pay4 (F := Ideal) x) (hW : W = w) (hM : M = mu) (hC : C = cy) (i : S1536x128.Idx) :
    k0_pay120 (F := Ideal) X W M C i = blockT w x mu cy ((Rect.unit (s := S1536x512) ![0, 0] S1536x128.size inb).emb i) := by
  subst hX hW hM hC
  rw [embT 0 inb i (by omega)]
  suffices key : ∀ (o : Fin 1536) (c : Fin 128), k0_pay120 (F := Ideal) (k0_pay4 x) W M C (ix2 o c) = blockT W x M C (ix2 o ⟨0 + c.val, by omega⟩) from
    (congrArg (k0_pay120 (F := Ideal) (k0_pay4 x) W M C) (eq_ix2 i)).trans (key (i 0) (i 1))
  intro o c
  have h : k0_pay120 (F := Ideal) (k0_pay4 x) W M C (ix2 o c)
      = k0_pay117 (F := Ideal) (k0_pay4 x) W (ix2 o ⟨0 + c.val, by omega⟩)
        + ((if c.val < 8 then C (ix2 o ⟨(c.val + 120) % 128, Nat.mod_lt _ (by omega)⟩) else k0_pay119 (F := Ideal) (k0_pay4 x) W (ix2 o ⟨0 + c.val, by omega⟩))
          - k0_pay117 (F := Ideal) (k0_pay4 x) W (ix2 o ⟨0 + c.val, by omega⟩)) * M (ix2 o c) := by
    rw [← lane_select]
    have e : c.val + 128 - 8 = c.val + 120 := by omega
    pointwise [k0_pay120, k0_pay118]
    simp only [e]
  rw [h, payPT_at, payRT_at]
  exact (blockT_near x W M C o c ⟨0 + c.val, by omega⟩ (by show 0 + c.val = c.val; omega)).symm

theorem piece1T (x : FVec Ideal S512x1024 .f32) (w : FVec Ideal S1536x1024 .bf16) (mu cy : FVec Ideal S1536x128 .f32) (inb)
    {X : FVec Ideal S512x1024 .bf16} {W : FVec Ideal S1536x1024 .bf16} {M : FVec Ideal S1536x128 .f32} (hX : X = k0_pay4 (F := Ideal) x) (hW : W = w) (hM : M = mu) (i : S1536x128.Idx) :
    k0_pay121 (F := Ideal) X W M i = blockT w x mu cy ((Rect.unit (s := S1536x512) ![0, 128] S1536x128.size inb).emb i) := by
  subst hX hW hM
  exact farT x W M cy _ 1 128 rfl (by omega) (by omega) inb (fun u c => by pointwise [k0_pay121, k0_pay118]) i

theorem piece2T (x : FVec Ideal S512x1024 .f32) (w : FVec Ideal S1536x1024 .bf16) (mu cy : FVec Ideal S1536x128 .f32) (inb)
    {X : FVec Ideal S512x1024 .bf16} {W : FVec Ideal S1536x1024 .bf16} {M : FVec Ideal S1536x128 .f32} (hX : X = k0_pay4 (F := Ideal) x) (hW : W = w) (hM : M = mu) (i : S1536x128.Idx) :
    k0_pay122 (F := Ideal) X W M i = blockT w x mu cy ((Rect.unit (s := S1536x512) ![0, 256] S1536x128.size inb).emb i) := by
  rw [hX, hW, hM]
  exact farT x w mu cy _ 2 256 rfl (by omega) (by omega) inb (fun u c => by pointwise [k0_pay122, k0_pay118]) i

theorem piece3T (x : FVec Ideal S512x1024 .f32) (w : FVec Ideal S1536x1024 .bf16) (mu cy : FVec Ideal S1536x128 .f32) (inb)
    {P : FVec Ideal S1536x512 .f32} {M Q : FVec Ideal S1536x128 .f32} (hP : P = k0_pay117 (F := Ideal) (k0_pay4 x) w) (hM : M = k0_pay118 (F := Ideal) mu) (hQ : Q = k0_pay123 (F := Ideal) (k0_pay4 x) w) (i : S1536x128.Idx) :
    k0_pay124 (F := Ideal) P M Q i = blockT w x mu cy ((Rect.unit (s := S1536x512) ![0, 384] S1536x128.size inb).emb i) := by
  rw [hP, hM, hQ]
  exact farT x w mu cy _ 3 384 rfl (by omega) (by omega) inb (fun u c => by pointwise [k0_pay124, k0_pay118, k0_pay123]) i

/-- What the next step takes of this one: the last 128 rows. -/
def tailT (w : FVec Ideal S1536x1024 .bf16) (x : FVec Ideal S512x1024 .f32) : FVec Ideal S1536x128 .f32 := fun y =>
  projT w x (y 0) ⟨384 + (y 1).val, by have h1 : (y 1).val < 128 := (y 1).isLt; omega⟩

theorem payCT_at (x : FVec Ideal S512x1024 .f32) (w : FVec Ideal S1536x1024 .bf16) : k0_pay125 (F := Ideal) (k0_pay117 (F := Ideal) (k0_pay4 x) w) = tailT w x := by
  funext i
  rw [eq_ix2 i]
  refine Eq.trans ?_ (payPT_at x w (i 0) ⟨384 + (i 1).val, by have h1 : (i 1).val < 128 := (i 1).isLt; omega⟩)
  pointwise [k0_pay125]

theorem zeroT (i : S1536x128.Idx) : k0_pay115 (F := Ideal) i = 0 := by
  pointwise [k0_pay115]

/-! ## The shifted columns, 384 at a time -/

/-- A row of the block through a row of the transposed matrix. -/
def projL (w : FVec Ideal S384x1024 .bf16) (x : FVec Ideal S512x1024 .f32) (o : Fin 384) (r : Fin 512) : EReal := ∑ k : Fin 1024, w (ix2 o k) * x (ix2 r k)

theorem payPL_at (x : FVec Ideal S512x1024 .f32) (w : FVec Ideal S384x1024 .bf16) (o : Fin 384) (r : Fin 512) :
    k0_pay126 (F := Ideal) (k0_pay4 x) w (ix2 o r) = projL w x o r := by
  unfold projL
  pointwise [k0_pay126, k0_pay4]

theorem rot512L (p : FVec Ideal S384x512 .f32) (h) (o : Fin 384) (r : Fin 512) :
    dynamicRotate 1 8#32 none p h (ix2 o r) = p (ix2 o ⟨(r.val + 504) % 512, Nat.mod_lt _ (by omega)⟩) :=
  dynamicRotate_apply (s := S384x512) 1 8#32 p h _ _ (by
    intro b
    match b with
    | ⟨0, _⟩ => rfl
    | ⟨1, _⟩ => show (r.val + 504) % 512 = (r.val + 512 - 8 % 512) % 512; omega)

/-- A step's block of the shifted columns. -/
def blockL (w : FVec Ideal S384x1024 .bf16) (x : FVec Ideal S512x1024 .f32) (mu cy : FVec Ideal S384x128 .f32) : FVec Ideal S384x512 .f32 := fun y =>
  mix (projL w x (y 0) (y 1))
    (if (y 1).val < 8 then cy (ix2 (y 0) ⟨((y 1).val + 120) % 128, Nat.mod_lt _ (by omega)⟩)
      else projL w x (y 0) ⟨((y 1).val + 504) % 512, Nat.mod_lt _ (by omega)⟩)
    (mu (ix2 (y 0) ⟨(y 1).val % 128, Nat.mod_lt _ (by omega)⟩))

theorem payRL_at (x : FVec Ideal S512x1024 .f32) (w : FVec Ideal S384x1024 .bf16) (o : Fin 384) (r : Fin 512) :
    k0_pay128 (F := Ideal) (k0_pay4 x) w (ix2 o r) = projL w x o ⟨(r.val + 504) % 512, Nat.mod_lt _ (by omega)⟩ := by
  unfold k0_pay128
  exact (rot512L _ _ o r).trans (payPL_at x w o _)

theorem blockL_near (x : FVec Ideal S512x1024 .f32) (w : FVec Ideal S384x1024 .bf16) (mu cy : FVec Ideal S384x128 .f32) (o : Fin 384) (c : Fin 128) (q : Fin 512) (hq : q.val = c.val) :
    blockL w x mu cy (ix2 o q) = mix (projL w x o q)
      (if c.val < 8 then cy (ix2 o ⟨(c.val + 120) % 128, Nat.mod_lt _ (by omega)⟩) else projL w x o ⟨(q.val + 504) % 512, Nat.mod_lt _ (by omega)⟩) (mu (ix2 o c)) := by
  have hc := c.isLt
  have h1 : (⟨q.val % 128, Nat.mod_lt _ (by omega)⟩ : Fin 128) = c := Fin.ext (by show q.val % 128 = _; omega)
  obtain ⟨q, hq'⟩ := q
  dsimp only at hq
  subst hq
  show mix (projL w x o _) _ (mu (ix2 o ⟨c.val % 128, _⟩)) = _
  rw [h1]
  rfl

theorem blockL_far (x : FVec Ideal S512x1024 .f32) (w : FVec Ideal S384x1024 .bf16) (mu cy : FVec Ideal S384x128 .f32) (o : Fin 384) (c : Fin 128) (q : Fin 512) (j : ℕ) (hj : 0 < j) (hq : q.val = 128 * j + c.val) :
    blockL w x mu cy (ix2 o q) = mix (projL w x o q) (projL w x o ⟨(q.val + 504) % 512, Nat.mod_lt _ (by omega)⟩) (mu (ix2 o c)) := by
  have hc := c.isLt
  have h1 : (⟨q.val % 128, Nat.mod_lt _ (by omega)⟩ : Fin 128) = c := Fin.ext (by show q.val % 128 = _; omega)
  have h2 : ¬ q.val < 8 := by omega
  show mix (projL w x o q) (if q.val < 8 then _ else _) (mu (ix2 o ⟨q.val % 128, _⟩)) = _
  rw [h1, if_neg h2]
  rfl

theorem embL (o : ℕ) (inb) (x : S384x128.Idx) (h : o + 128 ≤ 512) :
    (Rect.unit (s := S384x512) ![0, o] S384x128.size inb).emb x = ix2 (x 0) ⟨o + (x 1).val, by have h1 : (x 1).val < 128 := (x 1).isLt; omega⟩ := by
  refine funext fun (a : Fin 2) => Fin.ext ?_
  match a with
  | ⟨0, _⟩ => show 0 + 1 * (x 0).val = (x 0).val; omega
  | ⟨1, _⟩ => show o + 1 * (x 1).val = o + (x 1).val; omega

theorem farL (x : FVec Ideal S512x1024 .f32) (w : FVec Ideal S384x1024 .bf16) (mu cy : FVec Ideal S384x128 .f32) (z : FVec Ideal S384x128 .f32) (j o : ℕ) (ho : o = 128 * j) (hj : 0 < j) (hj3 : j < 4) (inb)
    (hz : ∀ (u : Fin 384) (c : Fin 128), z (ix2 u c) = k0_pay126 (F := Ideal) (k0_pay4 x) w (ix2 u ⟨o + c.val, by omega⟩)
        + (k0_pay128 (F := Ideal) (k0_pay4 x) w (ix2 u ⟨o + c.val, by omega⟩) - k0_pay126 (F := Ideal) (k0_pay4 x) w (ix2 u ⟨o + c.val, by omega⟩)) * mu (ix2 u c)) (i : S384x128.Idx) :
    z i = blockL w x mu cy ((Rect.unit (s := S384x512) ![0, o] S384x128.size inb).emb i) := by
  rw [embL o inb i (by omega)]
  have key : ∀ (u : Fin 384) (c : Fin 128), z (ix2 u c) = blockL w x mu cy (ix2 u ⟨o + c.val, by omega⟩) := by
    intro u c
    rw [hz u c, payPL_at, payRL_at]
    exact (blockL_far x w mu cy u c ⟨o + c.val, by omega⟩ j hj (by show o + c.val = _; rw [ho])).symm
  exact (congrArg z (eq_ix2 i)).trans (key (i 0) (i 1))

theorem piece0L (x : FVec Ideal S512x1024 .f32) (w : FVec Ideal S384x1024 .bf16) (mu cy : FVec Ideal S384x128 .f32) (inb)
    {X : FVec Ideal S512x1024 .bf16} {W : FVec Ideal S384x1024 .bf16} {M C : FVec Ideal S384x128 .f32} (hX : X = k0_pay4 (F := Ideal) x) (hW : W = w) (hM : M = mu) (hC : C = cy) (i : S384x128.Idx) :
    k0_pay129 (F := Ideal) X (iota .tc S1x128 32 [1] iota_S1x128_d1_w32) W M C i = blockL w x mu cy ((Rect.unit (s := S384x512) ![0, 0] S384x128.size inb).emb i) := by
  subst hX hW hM hC
  rw [embL 0 inb i (by omega)]
  suffices key : ∀ (o : Fin 384) (c : Fin 128), k0_pay129 (F := Ideal) (k0_pay4 x) (iota .tc S1x128 32 [1] iota_S1x128_d1_w32) W M C (ix2 o c) = blockL W x M C (ix2 o ⟨0 + c.val, by omega⟩) from
    (congrArg (k0_pay129 (F := Ideal) (k0_pay4 x) (iota .tc S1x128 32 [1] iota_S1x128_d1_w32) W M C) (eq_ix2 i)).trans (key (i 0) (i 1))
  intro o c
  have h : k0_pay129 (F := Ideal) (k0_pay4 x) (iota .tc S1x128 32 [1] iota_S1x128_d1_w32) W M C (ix2 o c)
      = k0_pay126 (F := Ideal) (k0_pay4 x) W (ix2 o ⟨0 + c.val, by omega⟩)
        + ((if c.val < 8 then C (ix2 o ⟨(c.val + 120) % 128, Nat.mod_lt _ (by omega)⟩) else k0_pay128 (F := Ideal) (k0_pay4 x) W (ix2 o ⟨0 + c.val, by omega⟩))
          - k0_pay126 (F := Ideal) (k0_pay4 x) W (ix2 o ⟨0 + c.val, by omega⟩)) * M (ix2 o c) := by
    rw [← lane_select]
    have e : c.val + 128 - 8 = c.val + 120 := by omega
    pointwise [k0_pay129, k0_pay127]
    simp only [e]
  rw [h, payPL_at, payRL_at]
  exact (blockL_near x W M C o c ⟨0 + c.val, by omega⟩ (by show 0 + c.val = c.val; omega)).symm

theorem piece1L (x : FVec Ideal S512x1024 .f32) (w : FVec Ideal S384x1024 .bf16) (mu cy : FVec Ideal S384x128 .f32) (inb)
    {X : FVec Ideal S512x1024 .bf16} {W : FVec Ideal S384x1024 .bf16} {M : FVec Ideal S384x128 .f32} (hX : X = k0_pay4 (F := Ideal) x) (hW : W = w) (hM : M = mu) (i : S384x128.Idx) :
    k0_pay130 (F := Ideal) X W M i = blockL w x mu cy ((Rect.unit (s := S384x512) ![0, 128] S384x128.size inb).emb i) := by
  subst hX hW hM
  exact farL x W M cy _ 1 128 rfl (by omega) (by omega) inb (fun u c => by pointwise [k0_pay130, k0_pay127]) i

theorem piece2L (x : FVec Ideal S512x1024 .f32) (w : FVec Ideal S384x1024 .bf16) (mu cy : FVec Ideal S384x128 .f32) (inb)
    {P : FVec Ideal S384x512 .f32} {M Q : FVec Ideal S384x128 .f32} (hP : P = k0_pay126 (F := Ideal) (k0_pay4 x) w) (hM : M = k0_pay127 (F := Ideal) mu) (hQ : Q = k0_pay131 (F := Ideal) (k0_pay4 x) w) (i : S384x128.Idx) :
    k0_pay1 (F := Ideal) P M Q i = blockL w x mu cy ((Rect.unit (s := S384x512) ![0, 256] S384x128.size inb).emb i) := by
  rw [hP, hM, hQ]
  exact farL x w mu cy _ 2 256 rfl (by omega) (by omega) inb (fun u c => by pointwise [k0_pay1, k0_pay127, k0_pay131]) i

theorem piece3L (x : FVec Ideal S512x1024 .f32) (w : FVec Ideal S384x1024 .bf16) (mu cy : FVec Ideal S384x128 .f32) (inb)
    {P Q : FVec Ideal S384x512 .f32} {M : FVec Ideal S384x128 .f32} (hP : P = k0_pay126 (F := Ideal) (k0_pay4 x) w) (hM : M = k0_pay127 (F := Ideal) mu) (hQ : Q = k0_pay128 (F := Ideal) (k0_pay4 x) w) (i : S384x128.Idx) :
    k0_pay2 (F := Ideal) P M Q i = blockL w x mu cy ((Rect.unit (s := S384x512) ![0, 384] S384x128.size inb).emb i) := by
  rw [hP, hM, hQ]
  exact farL x w mu cy _ 3 384 rfl (by omega) (by omega) inb (fun u c => by pointwise [k0_pay2, k0_pay127]) i

/-- What the next step takes of this one: the last 128 rows. -/
def tailL (w : FVec Ideal S384x1024 .bf16) (x : FVec Ideal S512x1024 .f32) : FVec Ideal S384x128 .f32 := fun y =>
  projL w x (y 0) ⟨384 + (y 1).val, by have h1 : (y 1).val < 128 := (y 1).isLt; omega⟩

theorem payCL_at (x : FVec Ideal S512x1024 .f32) (w : FVec Ideal S384x1024 .bf16) : k0_pay3 (F := Ideal) (k0_pay126 (F := Ideal) (k0_pay4 x) w) = tailL w x := by
  funext i
  rw [eq_ix2 i]
  refine Eq.trans ?_ (payPL_at x w (i 0) ⟨384 + (i 1).val, by have h1 : (i 1).val < 128 := (i 1).isLt; omega⟩)
  pointwise [k0_pay3]

theorem zeroL (i : S384x128.Idx) : k0_pay116 (F := Ideal) i = 0 := by
  pointwise [k0_pay116]

end Cert.ProjIdeal.Proj

end
-- ==== Proof.ProjDeal.lean ====
/- The input projections of a layer: the tiles of a block of rows. -/
module

public import proofs.«01_k».proof.Proof.Proj
public import proofs.«01_k».proof.Proof.Norm
public import Idealize.ShloMosaic.Lib.KernelVsHost
public import Idealize.ShloMosaic.Lib.Pointwise
public import Idealize.ShloMosaic.Lib.StableHlo.ReadAt
public import Idealize.ShloMosaic.Lib.StableHlo.RunRead
public import Idealize.ShloMosaic.Lib.Pipeline.ValueKit.Acc

@[expose] public section

set_option maxRecDepth 16384

noncomputable section

namespace Cert.ProjIdeal.Proj

open Cert.ProjIdeal Cert.ProjIdeal.Gen Idealize.ShloMosaic Idealize.ShloMosaic.TcCoe Idealize.SL.Sem

/-! ## The rows of the first three heads' columns -/

/-- The rows laid out in twelve tiles of 128 columns. -/
def scr (w : FVec Ideal S512x1536 .f32) : Vec Ideal S12x512x128 .f32 :=
  fun y => w (ix2 (y 1) ⟨128 * (y 0).val + (y 2).val, by have h0 : (y 0).val < 12 := (y 0).isLt; have h2 : (y 2).val < 128 := (y 2).isLt; omega⟩)

/-- The rows dealt to the eight batches. -/
def deal (w : FVec Ideal S512x1536 .f32) : Vec Ideal S8x64x1536 .f32 :=
  fun y => w (ix2 ⟨8 * (y 1).val + (y 0).val, by have h0 : (y 0).val < 8 := (y 0).isLt; have h1 : (y 1).val < 64 := (y 1).isLt; omega⟩ (y 2))

theorem scr_piece (w : FVec Ideal S512x1536 .f32) (o j : ℕ) (hs) (hc) (inb) (h : o = 128 * j) (x : S1x512x128.Idx) :
    shapeCast S1x512x128 (extractStridedSlice S512x128 ![0, o] w hs) hc x
      = scr w ((Rect.unit (s := S12x512x128) ![j, 0, 0] S1x512x128.size inb).emb x) := by
  subst h
  rw [eq_ix3 x]
  pointwise [scr]
  have h0 : (x 0).val = 0 := by have : (x 0).val < 1 := (x 0).isLt; omega
  refine congrArg w (congrArg₂ ix2 (Fin.ext ?_) (Fin.ext ?_))
  · show (x 1).val = 0 + 1 * (x 1).val
    omega
  · show 128 * j + (x 2).val = 128 * (j + 1 * (x 0).val) + (0 + 1 * (x 2).val)
    omega

theorem deal_piece (w : FVec Ideal S512x1536 .f32) (L : List (View.Piece (Elt Ideal) S12x512x128 .f32)) (hL : ∀ y, View.canon L y = scr w y)
    (v : Memref sig .tc .vmem S12x512x128 .f32) (j b o : ℕ) (inb) (h1) (h2) (inb') (h : o = 128 * j) (x : S1x64x128.Idx) :
    shapeCast S1x64x128 (shapeCast S64x128 (v.view.readCov L ⟨![j, b, 0], S1x64x128.size, ![1, 8, 1], inb⟩) h1) h2 x
      = deal w ((Rect.unit (s := S8x64x1536) ![b, 0, o] S1x64x128.size inb').emb x) := by
  subst h
  rw [View.readCov_eq_canon']
  rw [eq_ix3 x]
  pointwise [deal]
  rw [hL]
  have h0 : (x 0).val = 0 := by have : (x 0).val < 1 := (x 0).isLt; omega
  refine congrArg w (congrArg₂ ix2 (Fin.ext ?_) (Fin.ext ?_))
  · show b + 8 * (x 1).val = 8 * (0 + 1 * (x 1).val) + (b + 1 * (x 0).val)
    omega
  · show 128 * j + (x 2).val = 128 * j + 1 * (x 2).val
    omega

/-- A row of the block through a column of the matrix. -/
theorem pay5_at (x : FVec Ideal S512x1024 .f32) (w : FVec Ideal S1024x1536 .bf16) (r : Fin 512) (o : Fin 1536) :
    k0_pay5 (F := Ideal) x w (ix2 r o) = ∑ k : Fin 1024, x (ix2 r k) * w (ix2 k o) := by
  pointwise [k0_pay5, k0_pay4]

variable (c : Dev nD) (i : grid0.Coords)
    (arg1 : Memref sig .tc .vmem S512x1024 .f32) (harg1 : arg1.IsWhole) (arg2 : Memref sig .tc .vmem S1024x1536 .bf16) (harg2 : arg2.IsWhole)
    (arg3 : Memref sig .tc .vmem S1536x1024 .bf16) (harg3 : arg3.IsWhole) (arg4 : Memref sig .tc .vmem S384x1024 .bf16) (harg4 : arg4.IsWhole)
    (arg5 : Memref sig .tc .vmem S1536x128 .f32) (harg5 : arg5.IsWhole) (arg6 : Memref sig .tc .vmem S384x128 .f32) (harg6 : arg6.IsWhole)
    (arg7 : Memref sig .tc .vmem S8x64x1536 .f32) (harg7 : arg7.IsWhole) (arg8 : Memref sig .tc .vmem S1536x512 .f32) (harg8 : arg8.IsWhole)
    (arg9 : Memref sig .tc .vmem S384x512 .f32) (harg9 : arg9.IsWhole) (arg10 : Memref sig .tc .vmem S1536x128 .f32) (harg10 : arg10.IsWhole)
    (arg11 : Memref sig .tc .vmem S384x128 .f32) (harg11 : arg11.IsWhole) (arg12 : Memref sig .tc .vmem S12x512x128 .f32) (harg12 : arg12.IsWhole)
    (x0 : FVec Ideal S512x1024 .f32) (x1 : FVec Ideal S1024x1536 .bf16) (x2 : FVec Ideal S1536x1024 .bf16) (x3 : FVec Ideal S384x1024 .bf16)
    (x4 : FVec Ideal S1536x128 .f32) (x5 : FVec Ideal S384x128 .f32)

/-- The rows as the step's code reads its blocks. -/
def rowsV : FVec Ideal S512x1536 .f32 :=
  k0_pay5 (F := Ideal) (View.readAt (Elt Ideal) arg1.view (Rect.unit (s := S512x1024) ![0, 0] S512x1024.size inb_S512x1024_S512x1024_0_0).toLoadRect (harg1.unread x0))
    (View.readAt (Elt Ideal) arg2.view (Rect.unit (s := S1024x1536) ![0, 0] S1024x1536.size inb_S1024x1536_S1024x1536_0_0).toLoadRect (harg2.unread x1))

theorem rowsV_eq : rowsV arg1 harg1 arg2 harg2 x0 x1 = k0_pay5 (F := Ideal) x0 x1 :=
  congrArg₂ (fun a b => k0_pay5 (F := Ideal) a b) (rdAll arg1 harg1 x0 _) (rdAll arg2 harg2 x1 _)

theorem scr_A (y : S12x512x128.Idx) :
    View.canon (kernelRun0_A.sl.HS2_12 c arg1 harg1 arg2 harg2 x0 x1) y = scr (rowsV arg1 harg1 arg2 harg2 x0 x1) y := by
  refine View.canon_apply_of_pieces _ _ ?_ y ?_
  · unfold kernelRun0_A.sl.HS2_12
    simp only [List.forall_mem_cons]
    exact ⟨fun x => scr_piece (rowsV arg1 harg1 arg2 harg2 x0 x1) 1408 11 slices_S512x1536_o0_1408_S512x128 _ _ rfl x,
      fun x => scr_piece (rowsV arg1 harg1 arg2 harg2 x0 x1) 1280 10 slices_S512x1536_o0_1280_S512x128 _ _ rfl x,
      fun x => scr_piece (rowsV arg1 harg1 arg2 harg2 x0 x1) 1152 9 slices_S512x1536_o0_1152_S512x128 _ _ rfl x,
      fun x => scr_piece (rowsV arg1 harg1 arg2 harg2 x0 x1) 1024 8 slices_S512x1536_o0_1024_S512x128 _ _ rfl x,
      fun x => scr_piece (rowsV arg1 harg1 arg2 harg2 x0 x1) 896 7 slices_S512x1536_o0_896_S512x128 _ _ rfl x,
      fun x => scr_piece (rowsV arg1 harg1 arg2 harg2 x0 x1) 768 6 slices_S512x1536_o0_768_S512x128 _ _ rfl x,
      fun x => scr_piece (rowsV arg1 harg1 arg2 harg2 x0 x1) 640 5 slices_S512x1536_o0_640_S512x128 _ _ rfl x,
      fun x => scr_piece (rowsV arg1 harg1 arg2 harg2 x0 x1) 512 4 slices_S512x1536_o0_512_S512x128 _ _ rfl x,
      fun x => scr_piece (rowsV arg1 harg1 arg2 harg2 x0 x1) 384 3 slices_S512x1536_o0_384_S512x128 _ _ rfl x,
      fun x => scr_piece (rowsV arg1 harg1 arg2 harg2 x0 x1) 256 2 slices_S512x1536_o0_256_S512x128 _ _ rfl x,
      fun x => scr_piece (rowsV arg1 harg1 arg2 harg2 x0 x1) 128 1 slices_S512x1536_o0_128_S512x128 _ _ rfl x,
      fun x => scr_piece (rowsV arg1 harg1 arg2 harg2 x0 x1) 0 0 slices_S512x1536_o0_0_S512x128 _ _ rfl x, fun p hp => absurd hp List.not_mem_nil⟩
  · exact View.cover_of_tiledL (kernelRun0_A.sl.HS2_12 (F := Ideal) c arg1 harg1 arg2 harg2 x0 x1) S1x512x128.size (by sl_kernel_rfl) y

theorem scr_B (y : S12x512x128.Idx) :
    View.canon (kernelRun0_B.sl.HS2_12 c arg1 harg1 arg2 harg2 x0 x1) y = scr (rowsV arg1 harg1 arg2 harg2 x0 x1) y := by
  refine View.canon_apply_of_pieces _ _ ?_ y ?_
  · unfold kernelRun0_B.sl.HS2_12
    simp only [List.forall_mem_cons]
    exact ⟨fun x => scr_piece (rowsV arg1 harg1 arg2 harg2 x0 x1) 1408 11 slices_S512x1536_o0_1408_S512x128 _ _ rfl x,
      fun x => scr_piece (rowsV arg1 harg1 arg2 harg2 x0 x1) 1280 10 slices_S512x1536_o0_1280_S512x128 _ _ rfl x,
      fun x => scr_piece (rowsV arg1 harg1 arg2 harg2 x0 x1) 1152 9 slices_S512x1536_o0_1152_S512x128 _ _ rfl x,
      fun x => scr_piece (rowsV arg1 harg1 arg2 harg2 x0 x1) 1024 8 slices_S512x1536_o0_1024_S512x128 _ _ rfl x,
      fun x => scr_piece (rowsV arg1 harg1 arg2 harg2 x0 x1) 896 7 slices_S512x1536_o0_896_S512x128 _ _ rfl x,
      fun x => scr_piece (rowsV arg1 harg1 arg2 harg2 x0 x1) 768 6 slices_S512x1536_o0_768_S512x128 _ _ rfl x,
      fun x => scr_piece (rowsV arg1 harg1 arg2 harg2 x0 x1) 640 5 slices_S512x1536_o0_640_S512x128 _ _ rfl x,
      fun x => scr_piece (rowsV arg1 harg1 arg2 harg2 x0 x1) 512 4 slices_S512x1536_o0_512_S512x128 _ _ rfl x,
      fun x => scr_piece (rowsV arg1 harg1 arg2 harg2 x0 x1) 384 3 slices_S512x1536_o0_384_S512x128 _ _ rfl x,
      fun x => scr_piece (rowsV arg1 harg1 arg2 harg2 x0 x1) 256 2 slices_S512x1536_o0_256_S512x128 _ _ rfl x,
      fun x => scr_piece (rowsV arg1 harg1 arg2 harg2 x0 x1) 128 1 slices_S512x1536_o0_128_S512x128 _ _ rfl x,
      fun x => scr_piece (rowsV arg1 harg1 arg2 harg2 x0 x1) 0 0 slices_S512x1536_o0_0_S512x128 _ _ rfl x, fun p hp => absurd hp List.not_mem_nil⟩
  · exact View.cover_of_tiledL (kernelRun0_B.sl.HS2_12 (F := Ideal) c arg1 harg1 arg2 harg2 x0 x1) S1x512x128.size (by sl_kernel_rfl) y

theorem v543_eq : kernelRun0_A.sl.v543 (F := Ideal) c arg10 = fun _ => 0 := by
  funext j
  unfold kernelRun0_A.sl.v543
  rw [View.readCov_eq_canon']
  refine View.canon_apply_of_pieces (fun _ => (0 : EReal)) (kernelRun0_A.sl.HS0_1 (F := Ideal)) ?_ _
    (View.cover_of_tiledL (kernelRun0_A.sl.HS0_1 (F := Ideal)) S1536x128.size (by sl_kernel_rfl) _)
  unfold kernelRun0_A.sl.HS0_1
  simp only [List.forall_mem_cons]
  exact ⟨fun x => zeroT x, fun p hp => absurd hp List.not_mem_nil⟩

theorem v588_eq : kernelRun0_A.sl.v588 (F := Ideal) c arg11 = fun _ => 0 := by
  funext j
  unfold kernelRun0_A.sl.v588
  rw [View.readCov_eq_canon']
  refine View.canon_apply_of_pieces (fun _ => (0 : EReal)) (kernelRun0_A.sl.HS1_1 (F := Ideal)) ?_ _
    (View.cover_of_tiledL (kernelRun0_A.sl.HS1_1 (F := Ideal)) S384x128.size (by sl_kernel_rfl) _)
  unfold kernelRun0_A.sl.HS1_1
  simp only [List.forall_mem_cons]
  exact ⟨fun x => zeroL x, fun p hp => absurd hp List.not_mem_nil⟩

end Cert.ProjIdeal.Proj

end
-- ==== Proof.ProjA.lean ====
/- The input projections of a layer: the blocks the first grid point leaves. -/
module

public import proofs.«01_k».proof.Proof.ProjDeal
public import proofs.«01_k».proof.Proof.Norm
public import Idealize.ShloMosaic.Lib.KernelVsHost
public import Idealize.ShloMosaic.Lib.Pointwise
public import Idealize.ShloMosaic.Lib.StableHlo.ReadAt
public import Idealize.ShloMosaic.Lib.StableHlo.RunRead
public import Idealize.ShloMosaic.Lib.Pipeline.ValueKit.Acc

@[expose] public section

set_option maxRecDepth 16384

noncomputable section

namespace Cert.ProjIdeal.Proj

open Cert.ProjIdeal Cert.ProjIdeal.Gen Idealize.ShloMosaic Idealize.ShloMosaic.TcCoe Idealize.SL.Sem

variable (c : Dev nD) (i : grid0.Coords)
    (arg1 : Memref sig .tc .vmem S512x1024 .f32) (harg1 : arg1.IsWhole) (arg2 : Memref sig .tc .vmem S1024x1536 .bf16) (harg2 : arg2.IsWhole)
    (arg3 : Memref sig .tc .vmem S1536x1024 .bf16) (harg3 : arg3.IsWhole) (arg4 : Memref sig .tc .vmem S384x1024 .bf16) (harg4 : arg4.IsWhole)
    (arg5 : Memref sig .tc .vmem S1536x128 .f32) (harg5 : arg5.IsWhole) (arg6 : Memref sig .tc .vmem S384x128 .f32) (harg6 : arg6.IsWhole)
    (arg7 : Memref sig .tc .vmem S8x64x1536 .f32) (harg7 : arg7.IsWhole) (arg8 : Memref sig .tc .vmem S1536x512 .f32) (harg8 : arg8.IsWhole)
    (arg9 : Memref sig .tc .vmem S384x512 .f32) (harg9 : arg9.IsWhole) (arg10 : Memref sig .tc .vmem S1536x128 .f32) (harg10 : arg10.IsWhole)
    (arg11 : Memref sig .tc .vmem S384x128 .f32) (harg11 : arg11.IsWhole) (arg12 : Memref sig .tc .vmem S12x512x128 .f32) (harg12 : arg12.IsWhole)
    (x0 : FVec Ideal S512x1024 .f32) (x1 : FVec Ideal S1024x1536 .bf16) (x2 : FVec Ideal S1536x1024 .bf16) (x3 : FVec Ideal S384x1024 .bf16)
    (x4 : FVec Ideal S1536x128 .f32) (x5 : FVec Ideal S384x128 .f32)

set_option maxHeartbeats 1000000 in
theorem out6_A (hc0 : cond0_0 i) :
    out0_A_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = deal (k0_pay5 (F := Ideal) x0 x1) := by
  have S := scr_A c arg1 harg1 arg2 harg2 x0 x1
  rw [← rowsV_eq arg1 harg1 arg2 harg2 x0 x1]
  funext y
  unfold out0_A_6
  refine View.read_writes_apply_of_pieces _ _ _ _ ?_ y ?_
  rotate_left
  · exact cover0_A_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 y
  unfold kernelRun0_A
  simp only [List.forall_mem_cons]
  exact ⟨fun x => deal_piece _ _ S arg12 11 7 _ _ _ _ _ rfl x,
    fun x => deal_piece _ _ S arg12 10 7 _ _ _ _ _ rfl x,
    fun x => deal_piece _ _ S arg12 9 7 _ _ _ _ _ rfl x,
    fun x => deal_piece _ _ S arg12 8 7 _ _ _ _ _ rfl x,
    fun x => deal_piece _ _ S arg12 7 7 _ _ _ _ _ rfl x,
    fun x => deal_piece _ _ S arg12 6 7 _ _ _ _ _ rfl x,
    fun x => deal_piece _ _ S arg12 5 7 _ _ _ _ _ rfl x,
    fun x => deal_piece _ _ S arg12 4 7 _ _ _ _ _ rfl x,
    fun x => deal_piece _ _ S arg12 3 7 _ _ _ _ _ rfl x,
    fun x => deal_piece _ _ S arg12 2 7 _ _ _ _ _ rfl x,
    fun x => deal_piece _ _ S arg12 1 7 _ _ _ _ _ rfl x,
    fun x => deal_piece _ _ S arg12 0 7 _ _ _ _ _ rfl x,
    fun x => deal_piece _ _ S arg12 11 6 _ _ _ _ _ rfl x,
    fun x => deal_piece _ _ S arg12 10 6 _ _ _ _ _ rfl x,
    fun x => deal_piece _ _ S arg12 9 6 _ _ _ _ _ rfl x,
    fun x => deal_piece _ _ S arg12 8 6 _ _ _ _ _ rfl x,
    fun x => deal_piece _ _ S arg12 7 6 _ _ _ _ _ rfl x,
    fun x => deal_piece _ _ S arg12 6 6 _ _ _ _ _ rfl x,
    fun x => deal_piece _ _ S arg12 5 6 _ _ _ _ _ rfl x,
    fun x => deal_piece _ _ S arg12 4 6 _ _ _ _ _ rfl x,
    fun x => deal_piece _ _ S arg12 3 6 _ _ _ _ _ rfl x,
    fun x => deal_piece _ _ S arg12 2 6 _ _ _ _ _ rfl x,
    fun x => deal_piece _ _ S arg12 1 6 _ _ _ _ _ rfl x,
    fun x => deal_piece _ _ S arg12 0 6 _ _ _ _ _ rfl x,
    fun x => deal_piece _ _ S arg12 11 5 _ _ _ _ _ rfl x,
    fun x => deal_piece _ _ S arg12 10 5 _ _ _ _ _ rfl x,
    fun x => deal_piece _ _ S arg12 9 5 _ _ _ _ _ rfl x,
    fun x => deal_piece _ _ S arg12 8 5 _ _ _ _ _ rfl x,
    fun x => deal_piece _ _ S arg12 7 5 _ _ _ _ _ rfl x,
    fun x => deal_piece _ _ S arg12 6 5 _ _ _ _ _ rfl x,
    fun x => deal_piece _ _ S arg12 5 5 _ _ _ _ _ rfl x,
    fun x => deal_piece _ _ S arg12 4 5 _ _ _ _ _ rfl x,
    fun x => deal_piece _ _ S arg12 3 5 _ _ _ _ _ rfl x,
    fun x => deal_piece _ _ S arg12 2 5 _ _ _ _ _ rfl x,
    fun x => deal_piece _ _ S arg12 1 5 _ _ _ _ _ rfl x,
    fun x => deal_piece _ _ S arg12 0 5 _ _ _ _ _ rfl x,
    fun x => deal_piece _ _ S arg12 11 4 _ _ _ _ _ rfl x,
    fun x => deal_piece _ _ S arg12 10 4 _ _ _ _ _ rfl x,
    fun x => deal_piece _ _ S arg12 9 4 _ _ _ _ _ rfl x,
    fun x => deal_piece _ _ S arg12 8 4 _ _ _ _ _ rfl x,
    fun x => deal_piece _ _ S arg12 7 4 _ _ _ _ _ rfl x,
    fun x => deal_piece _ _ S arg12 6 4 _ _ _ _ _ rfl x,
    fun x => deal_piece _ _ S arg12 5 4 _ _ _ _ _ rfl x,
    fun x => deal_piece _ _ S arg12 4 4 _ _ _ _ _ rfl x,
    fun x => deal_piece _ _ S arg12 3 4 _ _ _ _ _ rfl x,
    fun x => deal_piece _ _ S arg12 2 4 _ _ _ _ _ rfl x,
    fun x => deal_piece _ _ S arg12 1 4 _ _ _ _ _ rfl x,
    fun x => deal_piece _ _ S arg12 0 4 _ _ _ _ _ rfl x,
    fun x => deal_piece _ _ S arg12 11 3 _ _ _ _ _ rfl x,
    fun x => deal_piece _ _ S arg12 10 3 _ _ _ _ _ rfl x,
    fun x => deal_piece _ _ S arg12 9 3 _ _ _ _ _ rfl x,
    fun x => deal_piece _ _ S arg12 8 3 _ _ _ _ _ rfl x,
    fun x => deal_piece _ _ S arg12 7 3 _ _ _ _ _ rfl x,
    fun x => deal_piece _ _ S arg12 6 3 _ _ _ _ _ rfl x,
    fun x => deal_piece _ _ S arg12 5 3 _ _ _ _ _ rfl x,
    fun x => deal_piece _ _ S arg12 4 3 _ _ _ _ _ rfl x,
    fun x => deal_piece _ _ S arg12 3 3 _ _ _ _ _ rfl x,
    fun x => deal_piece _ _ S arg12 2 3 _ _ _ _ _ rfl x,
    fun x => deal_piece _ _ S arg12 1 3 _ _ _ _ _ rfl x,
    fun x => deal_piece _ _ S arg12 0 3 _ _ _ _ _ rfl x,
    fun x => deal_piece _ _ S arg12 11 2 _ _ _ _ _ rfl x,
    fun x => deal_piece _ _ S arg12 10 2 _ _ _ _ _ rfl x,
    fun x => deal_piece _ _ S arg12 9 2 _ _ _ _ _ rfl x,
    fun x => deal_piece _ _ S arg12 8 2 _ _ _ _ _ rfl x,
    fun x => deal_piece _ _ S arg12 7 2 _ _ _ _ _ rfl x,
    fun x => deal_piece _ _ S arg12 6 2 _ _ _ _ _ rfl x,
    fun x => deal_piece _ _ S arg12 5 2 _ _ _ _ _ rfl x,
    fun x => deal_piece _ _ S arg12 4 2 _ _ _ _ _ rfl x,
    fun x => deal_piece _ _ S arg12 3 2 _ _ _ _ _ rfl x,
    fun x => deal_piece _ _ S arg12 2 2 _ _ _ _ _ rfl x,
    fun x => deal_piece _ _ S arg12 1 2 _ _ _ _ _ rfl x,
    fun x => deal_piece _ _ S arg12 0 2 _ _ _ _ _ rfl x,
    fun x => deal_piece _ _ S arg12 11 1 _ _ _ _ _ rfl x,
    fun x => deal_piece _ _ S arg12 10 1 _ _ _ _ _ rfl x,
    fun x => deal_piece _ _ S arg12 9 1 _ _ _ _ _ rfl x,
    fun x => deal_piece _ _ S arg12 8 1 _ _ _ _ _ rfl x,
    fun x => deal_piece _ _ S arg12 7 1 _ _ _ _ _ rfl x,
    fun x => deal_piece _ _ S arg12 6 1 _ _ _ _ _ rfl x,
    fun x => deal_piece _ _ S arg12 5 1 _ _ _ _ _ rfl x,
    fun x => deal_piece _ _ S arg12 4 1 _ _ _ _ _ rfl x,
    fun x => deal_piece _ _ S arg12 3 1 _ _ _ _ _ rfl x,
    fun x => deal_piece _ _ S arg12 2 1 _ _ _ _ _ rfl x,
    fun x => deal_piece _ _ S arg12 1 1 _ _ _ _ _ rfl x,
    fun x => deal_piece _ _ S arg12 0 1 _ _ _ _ _ rfl x,
    fun x => deal_piece _ _ S arg12 11 0 _ _ _ _ _ rfl x,
    fun x => deal_piece _ _ S arg12 10 0 _ _ _ _ _ rfl x,
    fun x => deal_piece _ _ S arg12 9 0 _ _ _ _ _ rfl x,
    fun x => deal_piece _ _ S arg12 8 0 _ _ _ _ _ rfl x,
    fun x => deal_piece _ _ S arg12 7 0 _ _ _ _ _ rfl x,
    fun x => deal_piece _ _ S arg12 6 0 _ _ _ _ _ rfl x,
    fun x => deal_piece _ _ S arg12 5 0 _ _ _ _ _ rfl x,
    fun x => deal_piece _ _ S arg12 4 0 _ _ _ _ _ rfl x,
    fun x => deal_piece _ _ S arg12 3 0 _ _ _ _ _ rfl x,
    fun x => deal_piece _ _ S arg12 2 0 _ _ _ _ _ rfl x,
    fun x => deal_piece _ _ S arg12 1 0 _ _ _ _ _ rfl x,
    fun x => deal_piece _ _ S arg12 0 0 _ _ _ _ _ rfl x, fun p hp => absurd hp List.not_mem_nil⟩

set_option maxHeartbeats 1000000 in
theorem out7_A (hc0 : cond0_0 i) :
    out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = blockT x2 x0 x4 (fun _ => 0) := by
  have hX : kernelRun0_A.sl.r (F := Ideal) c arg1 harg1 x0 = k0_pay4 (F := Ideal) x0 := congrArg (fun z => k0_pay4 (F := Ideal) z) (rdAll arg1 harg1 x0 _)
  have hW := rdAll arg3 harg3 x2 inb_S1536x1024_S1536x1024_0_0
  have hM := rdAll arg5 harg5 x4 inb_S1536x128_S1536x128_0_0
  funext y
  unfold out0_A_7
  refine View.read_writes_apply_of_pieces _ _ _ _ ?_ y ?_
  rotate_left
  · exact cover0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 y
  unfold kernelRun0_A
  simp only [List.forall_mem_cons]
  exact ⟨fun x => piece3T x0 x2 x4 _ _ (congrArg₂ (fun a b => k0_pay117 (F := Ideal) a b) hX hW) (congrArg (fun a => k0_pay118 (F := Ideal) a) hM) (congrArg₂ (fun a b => k0_pay123 (F := Ideal) a b) hX hW) x,
    fun x => piece2T x0 x2 x4 _ _ hX hW hM x,
    fun x => piece1T x0 x2 x4 _ _ hX hW hM x,
    fun x => piece0T x0 x2 x4 _ _ hX hW hM (v543_eq c arg10) x, fun p hp => absurd hp List.not_mem_nil⟩

set_option maxHeartbeats 1000000 in
theorem out8_A (hc0 : cond0_0 i) :
    out0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = blockL x3 x0 x5 (fun _ => 0) := by
  have hX : kernelRun0_A.sl.r (F := Ideal) c arg1 harg1 x0 = k0_pay4 (F := Ideal) x0 := congrArg (fun z => k0_pay4 (F := Ideal) z) (rdAll arg1 harg1 x0 _)
  have hW := rdAll arg4 harg4 x3 inb_S384x1024_S384x1024_0_0
  have hM := rdAll arg6 harg6 x5 inb_S384x128_S384x128_0_0
  funext y
  unfold out0_A_8
  refine View.read_writes_apply_of_pieces _ _ _ _ ?_ y ?_
  rotate_left
  · exact cover0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 y
  unfold kernelRun0_A
  simp only [List.forall_mem_cons]
  exact ⟨fun x => piece3L x0 x3 x5 _ _ (congrArg₂ (fun a b => k0_pay126 (F := Ideal) a b) hX hW) (congrArg (fun a => k0_pay127 (F := Ideal) a) hM) (congrArg₂ (fun a b => k0_pay128 (F := Ideal) a b) hX hW) x,
    fun x => piece2L x0 x3 x5 _ _ (congrArg₂ (fun a b => k0_pay126 (F := Ideal) a b) hX hW) (congrArg (fun a => k0_pay127 (F := Ideal) a) hM) (congrArg₂ (fun a b => k0_pay131 (F := Ideal) a b) hX hW) x,
    fun x => piece1L x0 x3 x5 _ _ hX hW hM x,
    fun x => piece0L x0 x3 x5 _ _ hX hW hM (v588_eq c arg11) x, fun p hp => absurd hp List.not_mem_nil⟩

end Cert.ProjIdeal.Proj

end
-- ==== Proof.ProjSout.lean ====
/- The input projections of a layer: what a later grid point reads of an earlier one. -/
module

public import proofs.«01_k».proof.Proof.ProjDeal
public import proofs.«01_k».proof.Proof.Norm
public import Idealize.ShloMosaic.Lib.KernelVsHost
public import Idealize.ShloMosaic.Lib.Pointwise
public import Idealize.ShloMosaic.Lib.StableHlo.ReadAt
public import Idealize.ShloMosaic.Lib.StableHlo.RunRead
public import Idealize.ShloMosaic.Lib.Pipeline.ValueKit.Acc

@[expose] public section

set_option maxRecDepth 16384

noncomputable section

namespace Cert.ProjIdeal.Proj

open Cert.ProjIdeal Cert.ProjIdeal.Gen Idealize.ShloMosaic Idealize.ShloMosaic.TcCoe Idealize.SL.Sem

theorem read_first {a b : ℕ} {e : EltTy} {κ' : Kind} {sp' : Space} (v : View sig κ' sp' ⟨2, ![a, b]⟩ e) (f : v.ty.Contents (Elt Ideal)) (inb) (w : Vec Ideal ⟨2, ![a, b]⟩ e)
    (L : List (View.Piece (Elt Ideal) ⟨2, ![a, b]⟩ e)) :
    v.read (Elt Ideal) (v.writes (Elt Ideal) f (⟨Rect.unit (s := ⟨2, ![a, b]⟩) ![0, 0] ![a, b] inb, w⟩ :: L)) = w := by
  funext y
  have h : (Rect.unit (s := ⟨2, ![a, b]⟩) ![0, 0] ![a, b] inb).emb y = y := by
    refine funext fun (i : Fin 2) => Fin.ext ?_
    match i with
    | ⟨0, _⟩ => show 0 + 1 * (y 0).val = (y 0).val; omega
    | ⟨1, _⟩ => show 0 + 1 * (y 1).val = (y 1).val; omega
  exact (congrArg _ h.symm).trans (View.read_writes_cons_emb (Val := Elt Ideal) v f (Rect.unit (s := ⟨2, ![a, b]⟩) ![0, 0] ![a, b] inb) w L y)

section
variable (c : Dev nD) (i : grid0.Coords)
    (arg1 : Memref sig .tc .vmem S512x1024 .f32) (harg1 : arg1.IsWhole) (arg2 : Memref sig .tc .vmem S1024x1536 .bf16) (harg2 : arg2.IsWhole)
    (arg3 : Memref sig .tc .vmem S1536x1024 .bf16) (harg3 : arg3.IsWhole) (arg4 : Memref sig .tc .vmem S384x1024 .bf16) (harg4 : arg4.IsWhole)
    (arg5 : Memref sig .tc .vmem S1536x128 .f32) (harg5 : arg5.IsWhole) (arg6 : Memref sig .tc .vmem S384x128 .f32) (harg6 : arg6.IsWhole)
    (arg7 : Memref sig .tc .vmem S8x64x1536 .f32) (harg7 : arg7.IsWhole) (arg8 : Memref sig .tc .vmem S1536x512 .f32) (harg8 : arg8.IsWhole)
    (arg9 : Memref sig .tc .vmem S384x512 .f32) (harg9 : arg9.IsWhole) (arg10 : Memref sig .tc .vmem S1536x128 .f32) (harg10 : arg10.IsWhole)
    (arg11 : Memref sig .tc .vmem S384x128 .f32) (harg11 : arg11.IsWhole) (arg12 : Memref sig .tc .vmem S12x512x128 .f32) (harg12 : arg12.IsWhole)
    (x0 : FVec Ideal S512x1024 .f32) (x1 : FVec Ideal S1024x1536 .bf16) (x2 : FVec Ideal S1536x1024 .bf16) (x3 : FVec Ideal S384x1024 .bf16)
    (x4 : FVec Ideal S1536x128 .f32) (x5 : FVec Ideal S384x128 .f32)

set_option maxHeartbeats 1000000 in
theorem sout0_A (hc0 : cond0_0 i) :
    sout0_A_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = tailT x2 x0 := by
  have hX : kernelRun0_A.sl.r (F := Ideal) c arg1 harg1 x0 = k0_pay4 (F := Ideal) x0 := congrArg (fun z => k0_pay4 (F := Ideal) z) (rdAll arg1 harg1 x0 _)
  have hW := rdAll arg3 harg3 x2 (by decide)
  unfold sout0_A_0 kernelRun0_A
  refine (read_first ..).trans ?_
  exact (congrArg (fun a => k0_pay125 (F := Ideal) a) (congrArg₂ (fun a b => k0_pay117 (F := Ideal) a b) hX hW)).trans (payCT_at x0 x2)

set_option maxHeartbeats 1000000 in
theorem sout1_A (hc0 : cond0_0 i) :
    sout0_A_1 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 = tailL x3 x0 := by
  have hX : kernelRun0_A.sl.r (F := Ideal) c arg1 harg1 x0 = k0_pay4 (F := Ideal) x0 := congrArg (fun z => k0_pay4 (F := Ideal) z) (rdAll arg1 harg1 x0 _)
  have hW := rdAll arg4 harg4 x3 (by decide)
  unfold sout0_A_1 kernelRun0_A
  refine (read_first ..).trans ?_
  exact (congrArg (fun a => k0_pay3 (F := Ideal) a) (congrArg₂ (fun a b => k0_pay126 (F := Ideal) a b) hX hW)).trans (payCL_at x0 x3)

set_option maxHeartbeats 1000000 in
theorem sout0_B (hc0 : ¬cond0_0 i) (xs0 : FVec Ideal S1536x128 .f32) (xs1 : FVec Ideal S384x128 .f32) :
    sout0_B_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xs0 xs1 = tailT x2 x0 := by
  have hX : kernelRun0_B.sl.r (F := Ideal) c arg1 harg1 x0 = k0_pay4 (F := Ideal) x0 := congrArg (fun z => k0_pay4 (F := Ideal) z) (rdAll arg1 harg1 x0 _)
  have hW := rdAll arg3 harg3 x2 (by decide)
  unfold sout0_B_0 kernelRun0_B
  refine (read_first ..).trans ?_
  exact (congrArg (fun a => k0_pay125 (F := Ideal) a) (congrArg₂ (fun a b => k0_pay117 (F := Ideal) a b) hX hW)).trans (payCT_at x0 x2)

set_option maxHeartbeats 1000000 in
theorem sout1_B (hc0 : ¬cond0_0 i) (xs0 : FVec Ideal S1536x128 .f32) (xs1 : FVec Ideal S384x128 .f32) :
    sout0_B_1 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xs0 xs1 = tailL x3 x0 := by
  have hX : kernelRun0_B.sl.r (F := Ideal) c arg1 harg1 x0 = k0_pay4 (F := Ideal) x0 := congrArg (fun z => k0_pay4 (F := Ideal) z) (rdAll arg1 harg1 x0 _)
  have hW := rdAll arg4 harg4 x3 (by decide)
  unfold sout0_B_1 kernelRun0_B
  refine (read_first ..).trans ?_
  exact (congrArg (fun a => k0_pay3 (F := Ideal) a) (congrArg₂ (fun a b => k0_pay126 (F := Ideal) a b) hX hW)).trans (payCL_at x0 x3)

end

end Cert.ProjIdeal.Proj

end
-- ==== Proof.ProjB.lean ====
/- The input projections of a layer: the blocks a later grid point leaves. -/
module

public import proofs.«01_k».proof.Proof.ProjDeal
public import proofs.«01_k».proof.Proof.Norm
public import Idealize.ShloMosaic.Lib.KernelVsHost
public import Idealize.ShloMosaic.Lib.Pointwise
public import Idealize.ShloMosaic.Lib.StableHlo.ReadAt
public import Idealize.ShloMosaic.Lib.StableHlo.RunRead
public import Idealize.ShloMosaic.Lib.Pipeline.ValueKit.Acc

@[expose] public section

set_option maxRecDepth 16384

noncomputable section

namespace Cert.ProjIdeal.Proj

open Cert.ProjIdeal Cert.ProjIdeal.Gen Idealize.ShloMosaic Idealize.ShloMosaic.TcCoe Idealize.SL.Sem

variable (c : Dev nD) (i : grid0.Coords)
    (arg1 : Memref sig .tc .vmem S512x1024 .f32) (harg1 : arg1.IsWhole) (arg2 : Memref sig .tc .vmem S1024x1536 .bf16) (harg2 : arg2.IsWhole)
    (arg3 : Memref sig .tc .vmem S1536x1024 .bf16) (harg3 : arg3.IsWhole) (arg4 : Memref sig .tc .vmem S384x1024 .bf16) (harg4 : arg4.IsWhole)
    (arg5 : Memref sig .tc .vmem S1536x128 .f32) (harg5 : arg5.IsWhole) (arg6 : Memref sig .tc .vmem S384x128 .f32) (harg6 : arg6.IsWhole)
    (arg7 : Memref sig .tc .vmem S8x64x1536 .f32) (harg7 : arg7.IsWhole) (arg8 : Memref sig .tc .vmem S1536x512 .f32) (harg8 : arg8.IsWhole)
    (arg9 : Memref sig .tc .vmem S384x512 .f32) (harg9 : arg9.IsWhole) (arg10 : Memref sig .tc .vmem S1536x128 .f32) (harg10 : arg10.IsWhole)
    (arg11 : Memref sig .tc .vmem S384x128 .f32) (harg11 : arg11.IsWhole) (arg12 : Memref sig .tc .vmem S12x512x128 .f32) (harg12 : arg12.IsWhole)
    (x0 : FVec Ideal S512x1024 .f32) (x1 : FVec Ideal S1024x1536 .bf16) (x2 : FVec Ideal S1536x1024 .bf16) (x3 : FVec Ideal S384x1024 .bf16)
    (x4 : FVec Ideal S1536x128 .f32) (x5 : FVec Ideal S384x128 .f32)

set_option maxHeartbeats 1000000 in
theorem out6_B (hc0 : ¬cond0_0 i) (xs0 : FVec Ideal S1536x128 .f32) (xs1 : FVec Ideal S384x128 .f32) :
    out0_B_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xs0 xs1 = deal (k0_pay5 (F := Ideal) x0 x1) := by
  have S := scr_B c arg1 harg1 arg2 harg2 x0 x1
  rw [← rowsV_eq arg1 harg1 arg2 harg2 x0 x1]
  funext y
  unfold out0_B_6
  refine View.read_writes_apply_of_pieces _ _ _ _ ?_ y ?_
  rotate_left
  · exact cover0_B_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xs0 xs1 y
  unfold kernelRun0_B
  simp only [List.forall_mem_cons]
  exact ⟨fun x => deal_piece _ _ S arg12 11 7 _ _ _ _ _ rfl x,
    fun x => deal_piece _ _ S arg12 10 7 _ _ _ _ _ rfl x,
    fun x => deal_piece _ _ S arg12 9 7 _ _ _ _ _ rfl x,
    fun x => deal_piece _ _ S arg12 8 7 _ _ _ _ _ rfl x,
    fun x => deal_piece _ _ S arg12 7 7 _ _ _ _ _ rfl x,
    fun x => deal_piece _ _ S arg12 6 7 _ _ _ _ _ rfl x,
    fun x => deal_piece _ _ S arg12 5 7 _ _ _ _ _ rfl x,
    fun x => deal_piece _ _ S arg12 4 7 _ _ _ _ _ rfl x,
    fun x => deal_piece _ _ S arg12 3 7 _ _ _ _ _ rfl x,
    fun x => deal_piece _ _ S arg12 2 7 _ _ _ _ _ rfl x,
    fun x => deal_piece _ _ S arg12 1 7 _ _ _ _ _ rfl x,
    fun x => deal_piece _ _ S arg12 0 7 _ _ _ _ _ rfl x,
    fun x => deal_piece _ _ S arg12 11 6 _ _ _ _ _ rfl x,
    fun x => deal_piece _ _ S arg12 10 6 _ _ _ _ _ rfl x,
    fun x => deal_piece _ _ S arg12 9 6 _ _ _ _ _ rfl x,
    fun x => deal_piece _ _ S arg12 8 6 _ _ _ _ _ rfl x,
    fun x => deal_piece _ _ S arg12 7 6 _ _ _ _ _ rfl x,
    fun x => deal_piece _ _ S arg12 6 6 _ _ _ _ _ rfl x,
    fun x => deal_piece _ _ S arg12 5 6 _ _ _ _ _ rfl x,
    fun x => deal_piece _ _ S arg12 4 6 _ _ _ _ _ rfl x,
    fun x => deal_piece _ _ S arg12 3 6 _ _ _ _ _ rfl x,
    fun x => deal_piece _ _ S arg12 2 6 _ _ _ _ _ rfl x,
    fun x => deal_piece _ _ S arg12 1 6 _ _ _ _ _ rfl x,
    fun x => deal_piece _ _ S arg12 0 6 _ _ _ _ _ rfl x,
    fun x => deal_piece _ _ S arg12 11 5 _ _ _ _ _ rfl x,
    fun x => deal_piece _ _ S arg12 10 5 _ _ _ _ _ rfl x,
    fun x => deal_piece _ _ S arg12 9 5 _ _ _ _ _ rfl x,
    fun x => deal_piece _ _ S arg12 8 5 _ _ _ _ _ rfl x,
    fun x => deal_piece _ _ S arg12 7 5 _ _ _ _ _ rfl x,
    fun x => deal_piece _ _ S arg12 6 5 _ _ _ _ _ rfl x,
    fun x => deal_piece _ _ S arg12 5 5 _ _ _ _ _ rfl x,
    fun x => deal_piece _ _ S arg12 4 5 _ _ _ _ _ rfl x,
    fun x => deal_piece _ _ S arg12 3 5 _ _ _ _ _ rfl x,
    fun x => deal_piece _ _ S arg12 2 5 _ _ _ _ _ rfl x,
    fun x => deal_piece _ _ S arg12 1 5 _ _ _ _ _ rfl x,
    fun x => deal_piece _ _ S arg12 0 5 _ _ _ _ _ rfl x,
    fun x => deal_piece _ _ S arg12 11 4 _ _ _ _ _ rfl x,
    fun x => deal_piece _ _ S arg12 10 4 _ _ _ _ _ rfl x,
    fun x => deal_piece _ _ S arg12 9 4 _ _ _ _ _ rfl x,
    fun x => deal_piece _ _ S arg12 8 4 _ _ _ _ _ rfl x,
    fun x => deal_piece _ _ S arg12 7 4 _ _ _ _ _ rfl x,
    fun x => deal_piece _ _ S arg12 6 4 _ _ _ _ _ rfl x,
    fun x => deal_piece _ _ S arg12 5 4 _ _ _ _ _ rfl x,
    fun x => deal_piece _ _ S arg12 4 4 _ _ _ _ _ rfl x,
    fun x => deal_piece _ _ S arg12 3 4 _ _ _ _ _ rfl x,
    fun x => deal_piece _ _ S arg12 2 4 _ _ _ _ _ rfl x,
    fun x => deal_piece _ _ S arg12 1 4 _ _ _ _ _ rfl x,
    fun x => deal_piece _ _ S arg12 0 4 _ _ _ _ _ rfl x,
    fun x => deal_piece _ _ S arg12 11 3 _ _ _ _ _ rfl x,
    fun x => deal_piece _ _ S arg12 10 3 _ _ _ _ _ rfl x,
    fun x => deal_piece _ _ S arg12 9 3 _ _ _ _ _ rfl x,
    fun x => deal_piece _ _ S arg12 8 3 _ _ _ _ _ rfl x,
    fun x => deal_piece _ _ S arg12 7 3 _ _ _ _ _ rfl x,
    fun x => deal_piece _ _ S arg12 6 3 _ _ _ _ _ rfl x,
    fun x => deal_piece _ _ S arg12 5 3 _ _ _ _ _ rfl x,
    fun x => deal_piece _ _ S arg12 4 3 _ _ _ _ _ rfl x,
    fun x => deal_piece _ _ S arg12 3 3 _ _ _ _ _ rfl x,
    fun x => deal_piece _ _ S arg12 2 3 _ _ _ _ _ rfl x,
    fun x => deal_piece _ _ S arg12 1 3 _ _ _ _ _ rfl x,
    fun x => deal_piece _ _ S arg12 0 3 _ _ _ _ _ rfl x,
    fun x => deal_piece _ _ S arg12 11 2 _ _ _ _ _ rfl x,
    fun x => deal_piece _ _ S arg12 10 2 _ _ _ _ _ rfl x,
    fun x => deal_piece _ _ S arg12 9 2 _ _ _ _ _ rfl x,
    fun x => deal_piece _ _ S arg12 8 2 _ _ _ _ _ rfl x,
    fun x => deal_piece _ _ S arg12 7 2 _ _ _ _ _ rfl x,
    fun x => deal_piece _ _ S arg12 6 2 _ _ _ _ _ rfl x,
    fun x => deal_piece _ _ S arg12 5 2 _ _ _ _ _ rfl x,
    fun x => deal_piece _ _ S arg12 4 2 _ _ _ _ _ rfl x,
    fun x => deal_piece _ _ S arg12 3 2 _ _ _ _ _ rfl x,
    fun x => deal_piece _ _ S arg12 2 2 _ _ _ _ _ rfl x,
    fun x => deal_piece _ _ S arg12 1 2 _ _ _ _ _ rfl x,
    fun x => deal_piece _ _ S arg12 0 2 _ _ _ _ _ rfl x,
    fun x => deal_piece _ _ S arg12 11 1 _ _ _ _ _ rfl x,
    fun x => deal_piece _ _ S arg12 10 1 _ _ _ _ _ rfl x,
    fun x => deal_piece _ _ S arg12 9 1 _ _ _ _ _ rfl x,
    fun x => deal_piece _ _ S arg12 8 1 _ _ _ _ _ rfl x,
    fun x => deal_piece _ _ S arg12 7 1 _ _ _ _ _ rfl x,
    fun x => deal_piece _ _ S arg12 6 1 _ _ _ _ _ rfl x,
    fun x => deal_piece _ _ S arg12 5 1 _ _ _ _ _ rfl x,
    fun x => deal_piece _ _ S arg12 4 1 _ _ _ _ _ rfl x,
    fun x => deal_piece _ _ S arg12 3 1 _ _ _ _ _ rfl x,
    fun x => deal_piece _ _ S arg12 2 1 _ _ _ _ _ rfl x,
    fun x => deal_piece _ _ S arg12 1 1 _ _ _ _ _ rfl x,
    fun x => deal_piece _ _ S arg12 0 1 _ _ _ _ _ rfl x,
    fun x => deal_piece _ _ S arg12 11 0 _ _ _ _ _ rfl x,
    fun x => deal_piece _ _ S arg12 10 0 _ _ _ _ _ rfl x,
    fun x => deal_piece _ _ S arg12 9 0 _ _ _ _ _ rfl x,
    fun x => deal_piece _ _ S arg12 8 0 _ _ _ _ _ rfl x,
    fun x => deal_piece _ _ S arg12 7 0 _ _ _ _ _ rfl x,
    fun x => deal_piece _ _ S arg12 6 0 _ _ _ _ _ rfl x,
    fun x => deal_piece _ _ S arg12 5 0 _ _ _ _ _ rfl x,
    fun x => deal_piece _ _ S arg12 4 0 _ _ _ _ _ rfl x,
    fun x => deal_piece _ _ S arg12 3 0 _ _ _ _ _ rfl x,
    fun x => deal_piece _ _ S arg12 2 0 _ _ _ _ _ rfl x,
    fun x => deal_piece _ _ S arg12 1 0 _ _ _ _ _ rfl x,
    fun x => deal_piece _ _ S arg12 0 0 _ _ _ _ _ rfl x, fun p hp => absurd hp List.not_mem_nil⟩

set_option maxHeartbeats 1000000 in
theorem out7_B (hc0 : ¬cond0_0 i) (xs0 : FVec Ideal S1536x128 .f32) (xs1 : FVec Ideal S384x128 .f32) :
    out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xs0 xs1 = blockT x2 x0 x4 xs0 := by
  have hX : kernelRun0_B.sl.r (F := Ideal) c arg1 harg1 x0 = k0_pay4 (F := Ideal) x0 := congrArg (fun z => k0_pay4 (F := Ideal) z) (rdAll arg1 harg1 x0 _)
  have hW := rdAll arg3 harg3 x2 inb_S1536x1024_S1536x1024_0_0
  have hM := rdAll arg5 harg5 x4 inb_S1536x128_S1536x128_0_0
  funext y
  unfold out0_B_7
  refine View.read_writes_apply_of_pieces _ _ _ _ ?_ y ?_
  rotate_left
  · exact cover0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xs0 xs1 y
  unfold kernelRun0_B
  simp only [List.forall_mem_cons]
  exact ⟨fun x => piece3T x0 x2 x4 _ _ (congrArg₂ (fun a b => k0_pay117 (F := Ideal) a b) hX hW) (congrArg (fun a => k0_pay118 (F := Ideal) a) hM) (congrArg₂ (fun a b => k0_pay123 (F := Ideal) a b) hX hW) x,
    fun x => piece2T x0 x2 x4 _ _ hX hW hM x,
    fun x => piece1T x0 x2 x4 _ _ hX hW hM x,
    fun x => piece0T x0 x2 x4 _ _ hX hW hM (rdAll arg10 harg10 xs0 _) x, fun p hp => absurd hp List.not_mem_nil⟩

set_option maxHeartbeats 1000000 in
theorem out8_B (hc0 : ¬cond0_0 i) (xs0 : FVec Ideal S1536x128 .f32) (xs1 : FVec Ideal S384x128 .f32) :
    out0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xs0 xs1 = blockL x3 x0 x5 xs1 := by
  have hX : kernelRun0_B.sl.r (F := Ideal) c arg1 harg1 x0 = k0_pay4 (F := Ideal) x0 := congrArg (fun z => k0_pay4 (F := Ideal) z) (rdAll arg1 harg1 x0 _)
  have hW := rdAll arg4 harg4 x3 inb_S384x1024_S384x1024_0_0
  have hM := rdAll arg6 harg6 x5 inb_S384x128_S384x128_0_0
  funext y
  unfold out0_B_8
  refine View.read_writes_apply_of_pieces _ _ _ _ ?_ y ?_
  rotate_left
  · exact cover0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 xs0 xs1 y
  unfold kernelRun0_B
  simp only [List.forall_mem_cons]
  exact ⟨fun x => piece3L x0 x3 x5 _ _ (congrArg₂ (fun a b => k0_pay126 (F := Ideal) a b) hX hW) (congrArg (fun a => k0_pay127 (F := Ideal) a) hM) (congrArg₂ (fun a b => k0_pay128 (F := Ideal) a b) hX hW) x,
    fun x => piece2L x0 x3 x5 _ _ (congrArg₂ (fun a b => k0_pay126 (F := Ideal) a b) hX hW) (congrArg (fun a => k0_pay127 (F := Ideal) a) hM) (congrArg₂ (fun a b => k0_pay131 (F := Ideal) a b) hX hW) x,
    fun x => piece1L x0 x3 x5 _ _ hX hW hM x,
    fun x => piece0L x0 x3 x5 _ _ hX hW hM (rdAll arg11 harg11 xs1 _) x, fun p hp => absurd hp List.not_mem_nil⟩

end Cert.ProjIdeal.Proj

end
-- ==== Proof.ProjPrep.lean ====
/- The input projections of a layer: the arrays its host lines prepare. -/
module

public import proofs.«01_k».proof.Proof.Proj
public import proofs.«01_k».proof.Proof.Norm
public import Idealize.ShloMosaic.Lib.KernelVsHost
public import Idealize.ShloMosaic.Lib.Pointwise
public import Idealize.ShloMosaic.Lib.StableHlo.ReadAt
public import Idealize.ShloMosaic.Lib.StableHlo.RunRead
public import Idealize.ShloMosaic.Lib.Pipeline.ValueKit.Acc

@[expose] public section

set_option maxRecDepth 16384

noncomputable section

namespace Cert.ProjIdeal.Proj

open Cert.ProjIdeal Cert.ProjIdeal.Gen Idealize.ShloMosaic Idealize.ShloMosaic.TcCoe Idealize.SL.Sem

variable (m : (ℓ : Loc nD τ sig) → Buf (Elt Ideal) ℓ) (ρ : Dev nD → PrngReg) (c : Dev nD)

abbrev X0 : FVec Ideal S32768x1024 .f32 := m ((c.tc : Thread nD τ).loc main_arg0)
abbrev X1 : FVec Ideal S1024x3328 .f32 := m ((c.tc : Thread nD τ).loc main_arg1)
abbrev X2 : FVec Ideal S1024x32 .f32 := m ((c.tc : Thread nD τ).loc main_arg2)
abbrev X3 : FVec Ideal S1792 .f32 := m ((c.tc : Thread nD τ).loc main_arg3)
abbrev X4 : FVec Ideal S32 .f32 := m ((c.tc : Thread nD τ).loc main_arg4)

theorem varg0 : V m c main_arg0 = X0 m c := by
  unfold V
  after_reads_simp

theorem v7_lo (k : Fin 1024) (o : Fin 512) : V m c main_v7 (ix2 k ⟨o.val, by omega⟩) = X1 m c (ix2 k ⟨o.val, by omega⟩) * Ideal.ofBits .f32 0x3E000000#32 := by
  unfold V
  after_reads_simp
  pointwise
  after_reads_simp
  pointwise

theorem v7_hi (k : Fin 1024) (o : Fin 1024) : V m c main_v7 (ix2 k ⟨512 + o.val, by omega⟩) = X1 m c (ix2 k ⟨512 + o.val, by omega⟩) * Ideal.ofBits .f32 0x3F800000#32 := by
  unfold V
  after_reads_simp
  pointwise
  after_reads_simp
  pointwise

theorem v10_at (o : Fin 1536) (k : Fin 1024) : V m c main_v10 (ix2 o k) = X1 m c (ix2 k ⟨1536 + o.val, by omega⟩) := by
  unfold V
  after_reads_simp
  pointwise

/-- The remaining columns, padded to 384 and transposed. -/
def wL (w : FVec Ideal S1024x3328 .f32) (w2 : FVec Ideal S1024x32 .f32) : FVec Ideal S384x1024 .bf16 :=
  truncf .bf16 (transpose S384x1024 [1, 0]
    (pad S1024x384 ![0, 0] ![0, 96] ![0, 0]
      (concatenate S1024x288 1 [⟨S1024x256, extractStridedSlice S1024x256 ![0, 3072] w slices_S1024x3328_S1024x256_0_3072⟩, ⟨S1024x32, w2⟩] concatenates_S1024x256_S1024x32_S1024x288_d1)
      (sitofp .f32 (constantI S_ 32 0#32)) pads_S1024x288_S1024x384_000_0960 h_S_) transposes_S1024x384_S384x1024_1_0) bitsLt_bf16_f32

theorem v17_eq : V m c main_v17 = wL (X1 m c) (X2 m c) := by
  unfold V
  after_reads_simp
  rfl

theorem wL_lo (w : FVec Ideal S1024x3328 .f32) (w2 : FVec Ideal S1024x32 .f32) (o : Fin 256) (k : Fin 1024) :
    wL w w2 (ix2 ⟨o.val, by omega⟩ k) = w (ix2 k ⟨3072 + o.val, by omega⟩) := by
  pointwise [wL]
  rw [dif_pos (by omega)]

theorem wL_hi (w : FVec Ideal S1024x3328 .f32) (w2 : FVec Ideal S1024x32 .f32) (o : Fin 32) (k : Fin 1024) :
    wL w w2 (ix2 ⟨256 + o.val, by omega⟩ k) = w2 (ix2 k o) := by
  pointwise [wL]
  rw [dif_pos (by omega)]

theorem v23_at (o : Fin 1536) (d : Fin 128) : V m c main_v23 (ix2 o d) = X3 m c (ix1 ⟨o.val, by omega⟩) := by
  unfold V
  after_reads_simp
  pointwise

/-- The remaining columns' mixing weights, padded to 384. -/
def muL (u : FVec Ideal S1792 .f32) (v : FVec Ideal S32 .f32) : FVec Ideal S384x128 .f32 :=
  broadcastInDim S384x128 ![0, 1] bcast_S384x1_S384x128_0_1 (broadcastInDim S384x1 ![0] bcast_S384_S384x1_0
    (pad S384 ![0] ![96] ![0]
      (concatenate S288 0 [⟨S256, extractStridedSlice S256 ![1536] u slices_S1792_S256_1536⟩, ⟨S32, v⟩] concatenates_S256_S32_S288_d0)
      (sitofp .f32 (constantI S_ 32 0#32)) pads_S288_S384_0960 h_S_))

theorem v20_eq : V m c main_v20 = muL (X3 m c) (X4 m c) := by
  unfold V
  after_reads_simp
  rfl

theorem muL_lo (u : FVec Ideal S1792 .f32) (v : FVec Ideal S32 .f32) (o : Fin 256) (d : Fin 128) :
    muL u v (ix2 ⟨o.val, by omega⟩ d) = u (ix1 ⟨1536 + o.val, by omega⟩) := by
  pointwise [muL]
  rw [dif_pos (by omega)]

theorem muL_hi (u : FVec Ideal S1792 .f32) (v : FVec Ideal S32 .f32) (o : Fin 32) (d : Fin 128) :
    muL u v (ix2 ⟨256 + o.val, by omega⟩ d) = v (ix1 o) := by
  pointwise [muL]
  rw [dif_pos (by omega)]

end Cert.ProjIdeal.Proj

end
-- ==== Proof.ProjOuts.lean ====
/- The input projections of a layer: the blocks of every grid point. -/
module

public import proofs.«01_k».proof.Proof.ProjA
public import proofs.«01_k».proof.Proof.ProjSout
public import proofs.«01_k».proof.Proof.ProjB
public import proofs.«01_k».proof.Proof.ProjPrep
public import proofs.«01_k».proof.Proof.Norm
public import Idealize.ShloMosaic.Lib.KernelVsHost
public import Idealize.ShloMosaic.Lib.Pointwise
public import Idealize.ShloMosaic.Lib.StableHlo.ReadAt
public import Idealize.ShloMosaic.Lib.StableHlo.RunRead
public import Idealize.ShloMosaic.Lib.Pipeline.ValueKit.Acc

@[expose] public section

set_option maxRecDepth 16384

noncomputable section

namespace Cert.ProjIdeal.Proj

open Cert.ProjIdeal Cert.ProjIdeal.Gen Idealize.ShloMosaic Idealize.ShloMosaic.TcCoe Idealize.SL.Sem

variable (m : (ℓ : Loc nD τ sig) → Buf (Elt Ideal) ℓ) (ρ : Dev nD → PrngReg) (c : Dev nD)

theorem outQ_at (t : Fin cfg0.N) : (outsAt0 m c t.val t.isLt).1 = deal (k0_pay5 (F := Ideal) (iblk m c 0 t) (iblk m c 1 t)) := by
  by_cases h0 : t.val % 64 = 0
  · have h := congrArg (fun p => p.1) (outsAt0_A m c t h0)
    dsimp only at h
    exact h.trans (out6_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) ((hcond0_0 t).mpr h0))
  · have h := congrArg (fun p => p.1) (outsAt0_B m c t h0)
    dsimp only at h
    exact h.trans (out6_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (fun h => h0 ((hcond0_0 t).mp h)) (outsAt0 m c (t.val - 1) (Nat.lt_of_le_of_lt (Nat.sub_le _ _) t.isLt)).2.2.2.1 (outsAt0 m c (t.val - 1) (Nat.lt_of_le_of_lt (Nat.sub_le _ _) t.isLt)).2.2.2.2)

theorem carryT (t : Fin cfg0.N) : (outsAt0 m c t.val t.isLt).2.2.2.1 = tailT (iblk m c 2 t) (iblk m c 0 t) := by
  by_cases h0 : t.val % 64 = 0
  · have h := congrArg (fun p => p.2.2.2.1) (outsAt0_A m c t h0)
    dsimp only at h
    exact h.trans (sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) ((hcond0_0 t).mpr h0))
  · have h := congrArg (fun p => p.2.2.2.1) (outsAt0_B m c t h0)
    dsimp only at h
    exact h.trans (sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (fun h => h0 ((hcond0_0 t).mp h)) (outsAt0 m c (t.val - 1) (Nat.lt_of_le_of_lt (Nat.sub_le _ _) t.isLt)).2.2.2.1 (outsAt0 m c (t.val - 1) (Nat.lt_of_le_of_lt (Nat.sub_le _ _) t.isLt)).2.2.2.2)

theorem carryL (t : Fin cfg0.N) : (outsAt0 m c t.val t.isLt).2.2.2.2 = tailL (iblk m c 3 t) (iblk m c 0 t) := by
  by_cases h0 : t.val % 64 = 0
  · have h := congrArg (fun p => p.2.2.2.2) (outsAt0_A m c t h0)
    dsimp only at h
    exact h.trans (sout1_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) ((hcond0_0 t).mpr h0))
  · have h := congrArg (fun p => p.2.2.2.2) (outsAt0_B m c t h0)
    dsimp only at h
    exact h.trans (sout1_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (fun h => h0 ((hcond0_0 t).mp h)) (outsAt0 m c (t.val - 1) (Nat.lt_of_le_of_lt (Nat.sub_le _ _) t.isLt)).2.2.2.1 (outsAt0 m c (t.val - 1) (Nat.lt_of_le_of_lt (Nat.sub_le _ _) t.isLt)).2.2.2.2)

theorem zeroT_at (t : Fin cfg0.N) (h0 : t.val % 64 = 0) : (outsAt0 m c t.val t.isLt).2.1 = blockT (iblk m c 2 t) (iblk m c 0 t) (iblk m c 4 t) (fun _ => 0) := by
  · have h := congrArg (fun p => p.2.1) (outsAt0_A m c t h0)
    dsimp only at h
    exact h.trans (out7_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) ((hcond0_0 t).mpr h0))

theorem succT_at (t : Fin cfg0.N) (h0 : ¬t.val % 64 = 0) : (outsAt0 m c t.val t.isLt).2.1 = blockT (iblk m c 2 t) (iblk m c 0 t) (iblk m c 4 t)
    (tailT (iblk m c 2 ⟨t.val - 1, Nat.lt_of_le_of_lt (Nat.sub_le _ _) t.isLt⟩) (iblk m c 0 ⟨t.val - 1, Nat.lt_of_le_of_lt (Nat.sub_le _ _) t.isLt⟩)) := by
  rw [← carryT m c ⟨t.val - 1, Nat.lt_of_le_of_lt (Nat.sub_le _ _) t.isLt⟩]
  · have h := congrArg (fun p => p.2.1) (outsAt0_B m c t h0)
    dsimp only at h
    exact h.trans (out7_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (fun h => h0 ((hcond0_0 t).mp h)) (outsAt0 m c (t.val - 1) (Nat.lt_of_le_of_lt (Nat.sub_le _ _) t.isLt)).2.2.2.1 (outsAt0 m c (t.val - 1) (Nat.lt_of_le_of_lt (Nat.sub_le _ _) t.isLt)).2.2.2.2)

theorem zeroL_at (t : Fin cfg0.N) (h0 : t.val % 64 = 0) : (outsAt0 m c t.val t.isLt).2.2.1 = blockL (iblk m c 3 t) (iblk m c 0 t) (iblk m c 5 t) (fun _ => 0) := by
  · have h := congrArg (fun p => p.2.2.1) (outsAt0_A m c t h0)
    dsimp only at h
    exact h.trans (out8_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) ((hcond0_0 t).mpr h0))

theorem succL_at (t : Fin cfg0.N) (h0 : ¬t.val % 64 = 0) : (outsAt0 m c t.val t.isLt).2.2.1 = blockL (iblk m c 3 t) (iblk m c 0 t) (iblk m c 5 t)
    (tailL (iblk m c 3 ⟨t.val - 1, Nat.lt_of_le_of_lt (Nat.sub_le _ _) t.isLt⟩) (iblk m c 0 ⟨t.val - 1, Nat.lt_of_le_of_lt (Nat.sub_le _ _) t.isLt⟩)) := by
  rw [← carryL m c ⟨t.val - 1, Nat.lt_of_le_of_lt (Nat.sub_le _ _) t.isLt⟩]
  · have h := congrArg (fun p => p.2.2.1) (outsAt0_B m c t h0)
    dsimp only at h
    exact h.trans (out8_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (fun h => h0 ((hcond0_0 t).mp h)) (outsAt0 m c (t.val - 1) (Nat.lt_of_le_of_lt (Nat.sub_le _ _) t.isLt)).2.2.2.1 (outsAt0 m c (t.val - 1) (Nat.lt_of_le_of_lt (Nat.sub_le _ _) t.isLt)).2.2.2.2)

end Cert.ProjIdeal.Proj

end
-- ==== Proof.ProjVal.lean ====
/- The input projections over the extended reals: the result arrays. -/
module

public import proofs.«01_k».proof.Proof.ProjOuts
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ProjIdeal.Proj

open Cert.ProjIdeal Cert.ProjIdeal.Gen

variable (m : (ℓ : Loc nD τ sig) → Buf (Elt Ideal) ℓ) (ρ : Dev nD → PrngReg) (c : Dev nD)

/-! ## The blocks of a step -/

theorem t0 (t : Fin grid0.N) : cc0_transform_0 (grid0.coords t) = ![t.val, 0] := (by decide +kernel : ∀ t : Fin grid0.N, cc0_transform_0 (grid0.coords t) = ![t.val, 0]) t
theorem t1 (t : Fin grid0.N) : cc0_transform_1 (grid0.coords t) = ![0, 0] := (by decide +kernel : ∀ t : Fin grid0.N, cc0_transform_1 (grid0.coords t) = ![0, 0]) t
theorem t2 (t : Fin grid0.N) : cc0_transform_2 (grid0.coords t) = ![0, 0] := (by decide +kernel : ∀ t : Fin grid0.N, cc0_transform_2 (grid0.coords t) = ![0, 0]) t
theorem t3 (t : Fin grid0.N) : cc0_transform_3 (grid0.coords t) = ![0, 0] := (by decide +kernel : ∀ t : Fin grid0.N, cc0_transform_3 (grid0.coords t) = ![0, 0]) t
theorem t4 (t : Fin grid0.N) : cc0_transform_4 (grid0.coords t) = ![0, 0] := (by decide +kernel : ∀ t : Fin grid0.N, cc0_transform_4 (grid0.coords t) = ![0, 0]) t
theorem t5 (t : Fin grid0.N) : cc0_transform_5 (grid0.coords t) = ![0, 0] := (by decide +kernel : ∀ t : Fin grid0.N, cc0_transform_5 (grid0.coords t) = ![0, 0]) t
theorem t6 (t : Fin grid0.N) : cc0_transform_6 (grid0.coords t) = ![0, t.val, 0] := (by decide +kernel : ∀ t : Fin grid0.N, cc0_transform_6 (grid0.coords t) = ![0, t.val, 0]) t
theorem t7 (t : Fin grid0.N) : cc0_transform_7 (grid0.coords t) = ![0, t.val] := (by decide +kernel : ∀ t : Fin grid0.N, cc0_transform_7 (grid0.coords t) = ![0, t.val]) t
theorem t8 (t : Fin grid0.N) : cc0_transform_8 (grid0.coords t) = ![0, t.val] := (by decide +kernel : ∀ t : Fin grid0.N, cc0_transform_8 (grid0.coords t) = ![0, t.val]) t

theorem tlt (t : Fin cfg0.N) : t.val < 64 := t.isLt

theorem blk0_at (t : Fin cfg0.N) (R : Fin 32768) (r : Fin 512) (hR : R.val = 512 * t.val + r.val) (d : Fin 1024) :
    (iblk m c 0 t : FVec Ideal S512x1024 .f32) (ix2 r d) = X0 m c (ix2 R d) := by
  have hp : ∀ a : Fin 2, (((cfg0.win 0).blk t).view.emb (ix2 r d) a).val = cc0_transform_0 (grid0.coords t) a * S512x1024.size a + 1 * (ix2 r d a).val := fun a => rfl
  rw [t0] at hp
  unfold iblk
  refine Eq.trans (View.read_apply ..) (Eq.trans (congrArg (V m c main_arg0 : FVec Ideal S32768x1024 .f32) (funext fun (a : Fin 2) => ?_)) (congrFun (varg0 m c) (ix2 R d)))
  apply Fin.ext
  refine (hp a).trans ?_
  match a with
  | ⟨0, _⟩ => show t.val * 512 + 1 * r.val = R.val; omega
  | ⟨1, _⟩ => show 0 * 1024 + 1 * d.val = d.val; omega

theorem blk1_at (t : Fin cfg0.N) (r : Fin 1024) (d : Fin 1536) :
    (iblk m c 1 t : FVec Ideal S1024x1536 .bf16) (ix2 r d) = V m c main_v7 (ix2 r d) := by
  have hp : ∀ a : Fin 2, (((cfg0.win 1).blk t).view.emb (ix2 r d) a).val = cc0_transform_1 (grid0.coords t) a * S1024x1536.size a + 1 * (ix2 r d a).val := fun a => rfl
  rw [t1] at hp
  unfold iblk
  refine Eq.trans (View.read_apply ..) (congrArg (V m c main_v7 : FVec Ideal S1024x1536 .bf16) (funext fun (a : Fin 2) => ?_))
  apply Fin.ext
  refine (hp a).trans ?_
  match a with
  | ⟨0, _⟩ => show 0 * 1024 + 1 * r.val = r.val; omega
  | ⟨1, _⟩ => show 0 * 1536 + 1 * d.val = d.val; omega

theorem blk2_at (t : Fin cfg0.N) (r : Fin 1536) (d : Fin 1024) :
    (iblk m c 2 t : FVec Ideal S1536x1024 .bf16) (ix2 r d) = V m c main_v10 (ix2 r d) := by
  have hp : ∀ a : Fin 2, (((cfg0.win 2).blk t).view.emb (ix2 r d) a).val = cc0_transform_2 (grid0.coords t) a * S1536x1024.size a + 1 * (ix2 r d a).val := fun a => rfl
  rw [t2] at hp
  unfold iblk
  refine Eq.trans (View.read_apply ..) (congrArg (V m c main_v10 : FVec Ideal S1536x1024 .bf16) (funext fun (a : Fin 2) => ?_))
  apply Fin.ext
  refine (hp a).trans ?_
  match a with
  | ⟨0, _⟩ => show 0 * 1536 + 1 * r.val = r.val; omega
  | ⟨1, _⟩ => show 0 * 1024 + 1 * d.val = d.val; omega

theorem blk3_at (t : Fin cfg0.N) (r : Fin 384) (d : Fin 1024) :
    (iblk m c 3 t : FVec Ideal S384x1024 .bf16) (ix2 r d) = V m c main_v17 (ix2 r d) := by
  have hp : ∀ a : Fin 2, (((cfg0.win 3).blk t).view.emb (ix2 r d) a).val = cc0_transform_3 (grid0.coords t) a * S384x1024.size a + 1 * (ix2 r d a).val := fun a => rfl
  rw [t3] at hp
  unfold iblk
  refine Eq.trans (View.read_apply ..) (congrArg (V m c main_v17 : FVec Ideal S384x1024 .bf16) (funext fun (a : Fin 2) => ?_))
  apply Fin.ext
  refine (hp a).trans ?_
  match a with
  | ⟨0, _⟩ => show 0 * 384 + 1 * r.val = r.val; omega
  | ⟨1, _⟩ => show 0 * 1024 + 1 * d.val = d.val; omega

theorem blk4_at (t : Fin cfg0.N) (r : Fin 1536) (d : Fin 128) :
    (iblk m c 4 t : FVec Ideal S1536x128 .f32) (ix2 r d) = V m c main_v23 (ix2 r d) := by
  have hp : ∀ a : Fin 2, (((cfg0.win 4).blk t).view.emb (ix2 r d) a).val = cc0_transform_4 (grid0.coords t) a * S1536x128.size a + 1 * (ix2 r d a).val := fun a => rfl
  rw [t4] at hp
  unfold iblk
  refine Eq.trans (View.read_apply ..) (congrArg (V m c main_v23 : FVec Ideal S1536x128 .f32) (funext fun (a : Fin 2) => ?_))
  apply Fin.ext
  refine (hp a).trans ?_
  match a with
  | ⟨0, _⟩ => show 0 * 1536 + 1 * r.val = r.val; omega
  | ⟨1, _⟩ => show 0 * 128 + 1 * d.val = d.val; omega

theorem blk5_at (t : Fin cfg0.N) (r : Fin 384) (d : Fin 128) :
    (iblk m c 5 t : FVec Ideal S384x128 .f32) (ix2 r d) = V m c main_v20 (ix2 r d) := by
  have hp : ∀ a : Fin 2, (((cfg0.win 5).blk t).view.emb (ix2 r d) a).val = cc0_transform_5 (grid0.coords t) a * S384x128.size a + 1 * (ix2 r d a).val := fun a => rfl
  rw [t5] at hp
  unfold iblk
  refine Eq.trans (View.read_apply ..) (congrArg (V m c main_v20 : FVec Ideal S384x128 .f32) (funext fun (a : Fin 2) => ?_))
  apply Fin.ext
  refine (hp a).trans ?_
  match a with
  | ⟨0, _⟩ => show 0 * 384 + 1 * r.val = r.val; omega
  | ⟨1, _⟩ => show 0 * 128 + 1 * d.val = d.val; omega

/-! ## The first result -/

def arrQ (x : FVec Ideal S32768x1024 .f32) (w : FVec Ideal S1024x1536 .bf16) : FVec Ideal S8x4096x1536 .f32 := fun i =>
  ∑ k : Fin 1024, x (ix2 ⟨8 * (i 1).val + (i 0).val, by have h0 : (i 0).val < 8 := (i 0).isLt; have h1 : (i 1).val < 4096 := (i 1).isLt; omega⟩ k) * w (ix2 k (i 2))

theorem blkQ_at (t : Fin cfg0.N) (b : Fin 8) (u : Fin 64) (s : Fin 4096) (hs : s.val = 64 * t.val + u.val) (o : Fin 1536) :
    (outsAt0 m c t.val t.isLt).1 (ix3 b u o) = arrQ (X0 m c) (V m c main_v7) (ix3 b s o) := by
  have hb := b.isLt
  have hu := u.isLt
  have ht := tlt t
  rw [outQ_at]
  show k0_pay5 (F := Ideal) (iblk m c 0 t) (iblk m c 1 t) (ix2 ⟨8 * u.val + b.val, by omega⟩ o) = ∑ k : Fin 1024, X0 m c (ix2 ⟨8 * s.val + b.val, by omega⟩ k) * V m c main_v7 (ix2 k o)
  refine (pay5_at (iblk m c 0 t) (iblk m c 1 t) _ o).trans (Finset.sum_congr rfl fun k _ => ?_)
  exact congrArg₂ (fun u v : EReal => u * v) (blk0_at m c t ⟨8 * s.val + b.val, by omega⟩ ⟨8 * u.val + b.val, by omega⟩ (by show 8 * s.val + b.val = 512 * t.val + (8 * u.val + b.val); omega) k)
    (blk1_at m c t k o)

theorem flushed6 (t : Fin cfg0.N) (hf : (cfg0.win 6).flush t = true) :
    (dats m 0 c).flushed 6 t = ((cfg0.win 6).blk t).view.read (Elt Ideal) (arrQ (X0 m c) (V m c main_v7)) := by
  have ht := tlt t
  show (cfg0.win 6).cut (grid0.coords t) ((dats m 0 c).after 6 t) = _
  rw [after0_6]
  funext (j : S8x64x1536.Idx)
  have j0 : (j 0).val < 8 := (j 0).isLt
  have j1 : (j 1).val < 64 := (j 1).isLt
  have hp : ∀ a : Fin 3, (((cfg0.win 6).blk t).view.emb j a).val = cc0_transform_6 (grid0.coords t) a * S8x64x1536.size a + 1 * (j a).val := fun a => rfl
  rw [t6] at hp
  refine Eq.trans ?_ (View.read_apply ..).symm
  show (outsAt0 m c t.val t.isLt).1 j = _
  refine (congrArg (outsAt0 m c t.val t.isLt).1 (eq_ix3 j)).trans ((blkQ_at m c t (j 0) (j 1) ⟨64 * t.val + (j 1).val, by omega⟩ rfl (j 2)).trans ?_)
  refine congrArg (arrQ (X0 m c) (V m c main_v7)) (funext fun (a : Fin 3) => Fin.ext ?_)
  refine Eq.trans ?_ (hp a).symm
  match a with
  | ⟨0, _⟩ => show (j 0).val = 0 * 8 + 1 * (j 0).val; omega
  | ⟨1, _⟩ => show 64 * t.val + (j 1).val = t.val * 64 + 1 * (j 1).val; omega
  | ⟨2, _⟩ => show (j 2).val = 0 * 1536 + 1 * (j 2).val; omega

theorem final6 : (dats m 0 c).arrAt 6 cfg0.N = arrQ (X0 m c) (V m c main_v7) :=
  (dats m 0 c).arrAt_eq_of_cover 6 (arrQ (X0 m c) (V m c main_v7)) (flushed6 m c) fun (i : S8x4096x1536.Idx) => by
    have h0 : (i 0 : Nat) < 8 := (i 0).isLt
    have h1 : (i 1 : Nat) < 4096 := (i 1).isLt
    have h2 : (i 2 : Nat) < 1536 := (i 2).isLt
    have hN : (i 1).val / 64 < cfg0.N := by show _ < 64; omega
    refine ⟨⟨(i 1).val / 64, hN⟩, (by decide +kernel : ∀ t : Fin cfg0.N, (cfg0.win 6).flush t = true) _, ?_⟩
    show i ∈ ((View.whole main_v24_0).slice ((cfg0.win 6).rect ⟨(i 1).val / 64, hN⟩)).set
    have hix : (cfg0.win 6).index ⟨(i 1).val / 64, hN⟩ = (![0, (i 1).val / 64, 0] : Fin 3 → Nat) := t6 _
    have key : ∀ a : Fin 3, (![0, (i 1).val / 64, 0] : Fin 3 → Nat) a * S8x64x1536.size a ≤ (i a).val
        ∧ (i a).val < (![0, (i 1).val / 64, 0] : Fin 3 → Nat) a * S8x64x1536.size a + S8x64x1536.size a := by
      intro a
      match a with
      | ⟨0, _⟩ => show 0 * 8 ≤ (i 0).val ∧ (i 0).val < 0 * 8 + 8; omega
      | ⟨1, _⟩ => show (i 1).val / 64 * 64 ≤ (i 1).val ∧ (i 1).val < (i 1).val / 64 * 64 + 64; omega
      | ⟨2, _⟩ => show 0 * 1536 ≤ (i 2).val ∧ (i 2).val < 0 * 1536 + 1536; omega
    rw [← hix] at key
    exact (congrArg (fun s => i ∈ s) (View.set_slice_whole main_v24_0 _)).mpr (Rect.mem_set_unit.mpr key)

/-! ## The shifted columns, 1536 at a time -/

def rowT (w : FVec Ideal S1536x1024 .bf16) (x : FVec Ideal S32768x1024 .f32) (o : Fin 1536) (R : Fin 32768) : EReal := ∑ k : Fin 1024, w (ix2 o k) * x (ix2 R k)

def arrT (w : FVec Ideal S1536x1024 .bf16) (x : FVec Ideal S32768x1024 .f32) (mu : FVec Ideal S1536x128 .f32) : FVec Ideal S1536x32768 .f32 := fun y =>
  mix (rowT w x (y 0) (y 1))
    (if h : (y 1).val < 8 then 0 else rowT w x (y 0) ⟨(y 1).val - 8, by have h1 : (y 1).val < 32768 := (y 1).isLt; omega⟩)
    (mu (ix2 (y 0) ⟨(y 1).val % 128, Nat.mod_lt _ (by omega)⟩))

theorem projT_blk (t : Fin cfg0.N) (o : Fin 1536) (r : Fin 512) (R : Fin 32768) (hR : R.val = 512 * t.val + r.val) :
    projT (iblk m c 2 t) (iblk m c 0 t) o r = rowT (V m c main_v10) (X0 m c) o R :=
  Finset.sum_congr rfl fun k _ => congrArg₂ (fun u v : EReal => u * v) (blk2_at m c t o k) (blk0_at m c t R r hR k)

theorem blkT_at (t : Fin cfg0.N) (o : Fin 1536) (r : Fin 512) (R : Fin 32768) (hR : R.val = 512 * t.val + r.val) :
    (outsAt0 m c t.val t.isLt).2.1 (ix2 o r) = arrT (V m c main_v10) (X0 m c) (V m c main_v23) (ix2 o R) := by
  have ht := tlt t
  have hr := r.isLt
  have e0 := projT_blk m c t o r R hR
  have e2 : (iblk m c 4 t : FVec Ideal S1536x128 .f32) (ix2 o ⟨r.val % 128, Nat.mod_lt _ (by omega)⟩) = V m c main_v23 (ix2 o ⟨R.val % 128, Nat.mod_lt _ (by omega)⟩) :=
    (blk4_at m c t o _).trans (congrArg (fun z => V m c main_v23 (ix2 o z)) (Fin.ext (by show r.val % 128 = R.val % 128; omega)))
  have e1 : ∀ cy : EReal, (∀ h : r.val < 8, cy = if h : R.val < 8 then 0 else rowT (V m c main_v10) (X0 m c) o ⟨R.val - 8, by omega⟩) →
      (if r.val < 8 then cy else projT (iblk m c 2 t) (iblk m c 0 t) o ⟨(r.val + 504) % 512, Nat.mod_lt _ (by omega)⟩)
        = if h : R.val < 8 then 0 else rowT (V m c main_v10) (X0 m c) o ⟨R.val - 8, by omega⟩ := by
    intro cy hcy
    by_cases h8 : r.val < 8
    · rw [if_pos h8]
      exact hcy h8
    · rw [if_neg h8, dif_neg (by omega)]
      exact projT_blk m c t o _ _ (by show R.val - 8 = 512 * t.val + (r.val + 504) % 512; omega)
  by_cases h0 : t.val % 64 = 0
  · rw [zeroT_at m c t h0]
    exact congr (congr (congrArg mix e0) (e1 0 fun h => by rw [dif_pos (show R.val < 8 by omega)])) e2
  · rw [succT_at m c t h0]
    refine congr (congr (congrArg mix e0) (e1 _ fun h => ?_)) e2
    rw [dif_neg (by omega)]
    exact projT_blk m c ⟨t.val - 1, Nat.lt_of_le_of_lt (Nat.sub_le _ _) t.isLt⟩ o ⟨384 + (r.val + 120) % 128, by omega⟩ _
      (by show R.val - 8 = 512 * (t.val - 1) + (384 + (r.val + 120) % 128); omega)

theorem flushed7 (t : Fin cfg0.N) (hf : (cfg0.win 7).flush t = true) :
    (dats m 0 c).flushed 7 t = ((cfg0.win 7).blk t).view.read (Elt Ideal) (arrT (V m c main_v10) (X0 m c) (V m c main_v23)) := by
  have ht := tlt t
  show (cfg0.win 7).cut (grid0.coords t) ((dats m 0 c).after 7 t) = _
  rw [after0_7]
  funext (j : S1536x512.Idx)
  have j0 : (j 0).val < 1536 := (j 0).isLt
  have j1 : (j 1).val < 512 := (j 1).isLt
  have hp : ∀ a : Fin 2, (((cfg0.win 7).blk t).view.emb j a).val = cc0_transform_7 (grid0.coords t) a * S1536x512.size a + 1 * (j a).val := fun a => rfl
  rw [t7] at hp
  refine Eq.trans ?_ (View.read_apply ..).symm
  show (outsAt0 m c t.val t.isLt).2.1 j = _
  refine (congrArg (outsAt0 m c t.val t.isLt).2.1 (eq_ix2 j)).trans ((blkT_at m c t (j 0) (j 1) ⟨512 * t.val + (j 1).val, by omega⟩ rfl).trans ?_)
  refine congrArg (arrT (V m c main_v10) (X0 m c) (V m c main_v23)) (funext fun (a : Fin 2) => Fin.ext ?_)
  refine Eq.trans ?_ (hp a).symm
  match a with
  | ⟨0, _⟩ => show (j 0).val = 0 * 1536 + 1 * (j 0).val; omega
  | ⟨1, _⟩ => show 512 * t.val + (j 1).val = t.val * 512 + 1 * (j 1).val; omega

theorem final7 : (dats m 0 c).arrAt 7 cfg0.N = arrT (V m c main_v10) (X0 m c) (V m c main_v23) :=
  (dats m 0 c).arrAt_eq_of_cover 7 (arrT (V m c main_v10) (X0 m c) (V m c main_v23)) (flushed7 m c) fun (i : S1536x32768.Idx) => by
    have h0 : (i 0 : Nat) < 1536 := (i 0).isLt
    have h1 : (i 1 : Nat) < 32768 := (i 1).isLt
    have hN : (i 1).val / 512 < cfg0.N := by show _ < 64; omega
    refine ⟨⟨(i 1).val / 512, hN⟩, (by decide +kernel : ∀ t : Fin cfg0.N, (cfg0.win 7).flush t = true) _, ?_⟩
    show i ∈ ((View.whole main_v24_1).slice ((cfg0.win 7).rect ⟨(i 1).val / 512, hN⟩)).set
    have hix : (cfg0.win 7).index ⟨(i 1).val / 512, hN⟩ = (![0, (i 1).val / 512] : Fin 2 → Nat) := t7 _
    have key : ∀ a : Fin 2, (![0, (i 1).val / 512] : Fin 2 → Nat) a * S1536x512.size a ≤ (i a).val
        ∧ (i a).val < (![0, (i 1).val / 512] : Fin 2 → Nat) a * S1536x512.size a + S1536x512.size a := by
      intro a
      match a with
      | ⟨0, _⟩ => show 0 * 1536 ≤ (i 0).val ∧ (i 0).val < 0 * 1536 + 1536; omega
      | ⟨1, _⟩ => show (i 1).val / 512 * 512 ≤ (i 1).val ∧ (i 1).val < (i 1).val / 512 * 512 + 512; omega
    rw [← hix] at key
    exact (congrArg (fun s => i ∈ s) (View.set_slice_whole main_v24_1 _)).mpr (Rect.mem_set_unit.mpr key)

/-! ## The shifted columns, 384 at a time -/

def rowL (w : FVec Ideal S384x1024 .bf16) (x : FVec Ideal S32768x1024 .f32) (o : Fin 384) (R : Fin 32768) : EReal := ∑ k : Fin 1024, w (ix2 o k) * x (ix2 R k)

def arrL (w : FVec Ideal S384x1024 .bf16) (x : FVec Ideal S32768x1024 .f32) (mu : FVec Ideal S384x128 .f32) : FVec Ideal S384x32768 .f32 := fun y =>
  mix (rowL w x (y 0) (y 1))
    (if h : (y 1).val < 8 then 0 else rowL w x (y 0) ⟨(y 1).val - 8, by have h1 : (y 1).val < 32768 := (y 1).isLt; omega⟩)
    (mu (ix2 (y 0) ⟨(y 1).val % 128, Nat.mod_lt _ (by omega)⟩))

theorem projL_blk (t : Fin cfg0.N) (o : Fin 384) (r : Fin 512) (R : Fin 32768) (hR : R.val = 512 * t.val + r.val) :
    projL (iblk m c 3 t) (iblk m c 0 t) o r = rowL (V m c main_v17) (X0 m c) o R :=
  Finset.sum_congr rfl fun k _ => congrArg₂ (fun u v : EReal => u * v) (blk3_at m c t o k) (blk0_at m c t R r hR k)

theorem blkL_at (t : Fin cfg0.N) (o : Fin 384) (r : Fin 512) (R : Fin 32768) (hR : R.val = 512 * t.val + r.val) :
    (outsAt0 m c t.val t.isLt).2.2.1 (ix2 o r) = arrL (V m c main_v17) (X0 m c) (V m c main_v20) (ix2 o R) := by
  have ht := tlt t
  have hr := r.isLt
  have e0 := projL_blk m c t o r R hR
  have e2 : (iblk m c 5 t : FVec Ideal S384x128 .f32) (ix2 o ⟨r.val % 128, Nat.mod_lt _ (by omega)⟩) = V m c main_v20 (ix2 o ⟨R.val % 128, Nat.mod_lt _ (by omega)⟩) :=
    (blk5_at m c t o _).trans (congrArg (fun z => V m c main_v20 (ix2 o z)) (Fin.ext (by show r.val % 128 = R.val % 128; omega)))
  have e1 : ∀ cy : EReal, (∀ h : r.val < 8, cy = if h : R.val < 8 then 0 else rowL (V m c main_v17) (X0 m c) o ⟨R.val - 8, by omega⟩) →
      (if r.val < 8 then cy else projL (iblk m c 3 t) (iblk m c 0 t) o ⟨(r.val + 504) % 512, Nat.mod_lt _ (by omega)⟩)
        = if h : R.val < 8 then 0 else rowL (V m c main_v17) (X0 m c) o ⟨R.val - 8, by omega⟩ := by
    intro cy hcy
    by_cases h8 : r.val < 8
    · rw [if_pos h8]
      exact hcy h8
    · rw [if_neg h8, dif_neg (by omega)]
      exact projL_blk m c t o _ _ (by show R.val - 8 = 512 * t.val + (r.val + 504) % 512; omega)
  by_cases h0 : t.val % 64 = 0
  · rw [zeroL_at m c t h0]
    exact congr (congr (congrArg mix e0) (e1 0 fun h => by rw [dif_pos (show R.val < 8 by omega)])) e2
  · rw [succL_at m c t h0]
    refine congr (congr (congrArg mix e0) (e1 _ fun h => ?_)) e2
    rw [dif_neg (by omega)]
    exact projL_blk m c ⟨t.val - 1, Nat.lt_of_le_of_lt (Nat.sub_le _ _) t.isLt⟩ o ⟨384 + (r.val + 120) % 128, by omega⟩ _
      (by show R.val - 8 = 512 * (t.val - 1) + (384 + (r.val + 120) % 128); omega)

theorem flushed8 (t : Fin cfg0.N) (hf : (cfg0.win 8).flush t = true) :
    (dats m 0 c).flushed 8 t = ((cfg0.win 8).blk t).view.read (Elt Ideal) (arrL (V m c main_v17) (X0 m c) (V m c main_v20)) := by
  have ht := tlt t
  show (cfg0.win 8).cut (grid0.coords t) ((dats m 0 c).after 8 t) = _
  rw [after0_8]
  funext (j : S384x512.Idx)
  have j0 : (j 0).val < 384 := (j 0).isLt
  have j1 : (j 1).val < 512 := (j 1).isLt
  have hp : ∀ a : Fin 2, (((cfg0.win 8).blk t).view.emb j a).val = cc0_transform_8 (grid0.coords t) a * S384x512.size a + 1 * (j a).val := fun a => rfl
  rw [t8] at hp
  refine Eq.trans ?_ (View.read_apply ..).symm
  show (outsAt0 m c t.val t.isLt).2.2.1 j = _
  refine (congrArg (outsAt0 m c t.val t.isLt).2.2.1 (eq_ix2 j)).trans ((blkL_at m c t (j 0) (j 1) ⟨512 * t.val + (j 1).val, by omega⟩ rfl).trans ?_)
  refine congrArg (arrL (V m c main_v17) (X0 m c) (V m c main_v20)) (funext fun (a : Fin 2) => Fin.ext ?_)
  refine Eq.trans ?_ (hp a).symm
  match a with
  | ⟨0, _⟩ => show (j 0).val = 0 * 384 + 1 * (j 0).val; omega
  | ⟨1, _⟩ => show 512 * t.val + (j 1).val = t.val * 512 + 1 * (j 1).val; omega

theorem final8 : (dats m 0 c).arrAt 8 cfg0.N = arrL (V m c main_v17) (X0 m c) (V m c main_v20) :=
  (dats m 0 c).arrAt_eq_of_cover 8 (arrL (V m c main_v17) (X0 m c) (V m c main_v20)) (flushed8 m c) fun (i : S384x32768.Idx) => by
    have h0 : (i 0 : Nat) < 384 := (i 0).isLt
    have h1 : (i 1 : Nat) < 32768 := (i 1).isLt
    have hN : (i 1).val / 512 < cfg0.N := by show _ < 64; omega
    refine ⟨⟨(i 1).val / 512, hN⟩, (by decide +kernel : ∀ t : Fin cfg0.N, (cfg0.win 8).flush t = true) _, ?_⟩
    show i ∈ ((View.whole main_v24_2).slice ((cfg0.win 8).rect ⟨(i 1).val / 512, hN⟩)).set
    have hix : (cfg0.win 8).index ⟨(i 1).val / 512, hN⟩ = (![0, (i 1).val / 512] : Fin 2 → Nat) := t8 _
    have key : ∀ a : Fin 2, (![0, (i 1).val / 512] : Fin 2 → Nat) a * S384x512.size a ≤ (i a).val
        ∧ (i a).val < (![0, (i 1).val / 512] : Fin 2 → Nat) a * S384x512.size a + S384x512.size a := by
      intro a
      match a with
      | ⟨0, _⟩ => show 0 * 384 ≤ (i 0).val ∧ (i 0).val < 0 * 384 + 384; omega
      | ⟨1, _⟩ => show (i 1).val / 512 * 512 ≤ (i 1).val ∧ (i 1).val < (i 1).val / 512 * 512 + 512; omega
    rw [← hix] at key
    exact (congrArg (fun s => i ∈ s) (View.set_slice_whole main_v24_2 _)).mpr (Rect.mem_set_unit.mpr key)

/-- The third result: the columns that are not padding. -/
def tailV (y : FVec Ideal S384x32768 .f32) : FVec Ideal S288x32768 .f32 :=
  extractStridedSlice S288x32768 ![0, 0] y slices_S384x32768_S288x32768_0_0

theorem arr_ne : ∀ w w' : Fin 9, w ≠ w' → Pipeline.arrRef spec0 w ≠ Pipeline.arrRef spec0 w' := by decide

theorem tail_eq : Pipeline.afterTail₀ cfgs (dats m) 0 (V0 m) [hostOps1] c main_v25 = tailV (arrL (V m c main_v17) (X0 m c) (V m c main_v20)) := by
  have hA : Pipeline.withArrays spec0 c (V0 m c) (fun w => (dats m 0 c).arrAt w cfg0.N) (Proc.devRef .tc main_v24_2) = arrL (V m c main_v17) (X0 m c) (V m c main_v20) :=
    (Pipeline.withArrays_arr_shared spec0 c (V0 m c) (fun w => (dats m 0 c).arrAt w cfg0.N) (fun w w' hne e => absurd e (arr_ne w w' hne)) 8).trans (final8 m c)
  unfold Pipeline.afterTail₀
  simp only [List.flatten_cons, List.flatten_nil, List.append_nil]
  after_reads_simp
  rw [show Pipeline.withArrays (cfgs 0).spec c (V0 m c) (fun w => (dats m 0 c).arrAt w (cfgs 0).N) (Proc.devRef .tc main_v24_2) = arrL (V m c main_v17) (X0 m c) (V m c main_v20) from hA]
  rfl

/-- The run: the results, and the arguments unchanged. -/
theorem run : θ_run defs (onTc (τ := τ) (main (F := Ideal))) ⟨m, fun _ => 0, ρ⟩ (fun r => ∀ c : Dev nD,
      r.2.mem ((c.tc : Thread nD τ).loc main_v24_0) = arrQ (X0 m c) (V m c main_v7)
      ∧ r.2.mem ((c.tc : Thread nD τ).loc main_v24_1) = arrT (V m c main_v10) (X0 m c) (V m c main_v23)
      ∧ r.2.mem ((c.tc : Thread nD τ).loc main_v25) = tailV (arrL (V m c main_v17) (X0 m c) (V m c main_v20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1.trans (final6 m c), (h.1 c).2.1.trans (final7 m c), (h.1 c).2.2.trans (tail_eq m c), (h.2 c)⟩)
    (θ_run_and ((θ_run defs _ _).mono (fun _ h c => And.intro ((h c).1 6) (And.intro ((h c).1 7) ((h c).2 main_v25 (Pipeline.mem_restRefs_of main_v25 (by decide) (by decide))))) (run_main m ρ)) (unchanged m ρ))

end Cert.ProjIdeal.Proj

end
-- ==== Proof.ProjClaim.lean ====
/- The input projections' claims: the two frames by one run, the reference's frame, and the results equal. -/
module

public import proofs.«01_k».proof.Defs
public import proofs.«01_k».proof.Proof.Math
public import proofs.«01_k».proof.Proof.ProjRef
public import proofs.«01_k».proof.Proof.ProjVal
public import proofs.«01_k».proof.Proof.Gen.Proj
public import Idealize.ShloMosaic.Lib.IdealHost

@[expose] public section

noncomputable section

namespace Cert.Proof.Proj

open Idealize.ShloMosaic Idealize.ShloMosaic.TcCoe Idealize.SL.Sem
open Cert.ProjIdeal (S8x4096x1536 S1536x32768 S288x32768 S32768x1024 S1024x3328 S1024x32 S1792 S32)
open Cert.ProjIdeal.Gen (V)
open Cert.ProjIdeal (main_v7 main_v10 main_v17 main_v20 main_v23 nD τ sig)
open Cert.ProjIdeal.Proj (X0 X1 X2 X3 X4 mix arrQ arrT arrL rowT rowL)
open Cert.ProjRefIdeal.Proj (rowsV wallV dotV qV tokV prevV muV shiftV lanesV)

/-- The two programs are the same text. -/
theorem defs_eq : Cert.Proj.defs (F := Bits) = Cert.ProjIdeal.defs (F := Bits) := by chain_rfl

theorem main_eq : Cert.Proj.main (F := Bits) = Cert.ProjIdeal.main (F := Bits) := by chain_rfl

theorem frame_kernel : Cert.quiescent_Proj := fun m ρ _ => by
  rw [defs_eq, main_eq]
  exact Cert.ProjIdeal.Gen.frame (F := Bits) m ρ

theorem frame_ideal : Cert.quiescent_ProjIdeal := fun m ρ _ =>
  Cert.ProjIdeal.Gen.frame (F := Ideal) m ρ

theorem frame_ref : Cert.quiescent_ProjRefIdeal := fun m ρ _ =>
  (θ_run Cert.ProjRefIdeal.defs _ _).mono
    (fun r h => ⟨fun c => (h c).2.2.2, Idealize.ShloMosaic.sem_eq_zero_of_no_sems (by decide) r.2⟩)
    (Cert.ProjRefIdeal.Proj.run m ρ)

/-- A sum times a positive real. -/
theorem sum_mul_pos {n : ℕ} (f : Fin n → EReal) (P : EReal) (hP : ∃ p : ℝ, 0 < p ∧ P = (p : EReal)) (s : Finset (Fin n)) :
    (∑ k ∈ s, f k) * P = ∑ k ∈ s, f k * P := by
  induction s using Finset.induction_on with
  | empty => simp
  | insert a s ha ih => rw [Finset.sum_insert ha, Finset.sum_insert ha, Cert.KernelIdeal.Scan.add_mul_pos _ _ _ hP, ih]

theorem eighth : ∃ p : ℝ, 0 < p ∧ Ideal.ofBits .f32 0x3E000000#32 = (p : EReal) := by
  refine ⟨1 / 8, by norm_num, ?_⟩
  simp [Ideal.ofBits, Ideal.ieee]
  norm_num [← EReal.coe_mul]

variable (m : (ℓ : Loc nD τ sig) → Buf (Elt Ideal) ℓ) (c : Dev nD)

/-- An element of the reference's products, from any column of either matrix. -/
theorem dot_row (x : FVec Ideal S32768x1024 .f32) (w : FVec Ideal S1024x3328 .f32) (w2 : FVec Ideal S1024x32 .f32) (b : Fin 8) (s : Fin 4096) (R : Fin 32768)
    (hR : R.val = 8 * s.val + b.val) (o : Fin 3360) : dotV x w w2 (ix3 b s o) = ∑ k : Fin 1024, x (ix2 R k) * wallV w w2 (ix2 k o) :=
  (Cert.ProjRefIdeal.Proj.dotV_at x w w2 b s o).trans (Finset.sum_congr rfl fun k _ => by rw [Cert.ProjRefIdeal.Proj.rowsV_at x b s k R hR])

theorem qkv_eq : qV (dotV (X0 m c) (X1 m c) (X2 m c)) = arrQ (X0 m c) (V m c main_v7) := by
  funext (i : S8x4096x1536.Idx)
  obtain ⟨b, s, o, rfl⟩ : ∃ (b : Fin 8) (s : Fin 4096) (o : Fin 1536), i = ix3 b s o := ⟨i 0, i 1, i 2, eq_ix3 i⟩
  have hb := b.isLt
  have hs := s.isLt
  show _ = ∑ k : Fin 1024, X0 m c (ix2 ⟨8 * s.val + b.val, by omega⟩ k) * V m c main_v7 (ix2 k o)
  have lo : ∀ o' : Fin 512, qV (dotV (X0 m c) (X1 m c) (X2 m c)) (ix3 b s ⟨o'.val, by omega⟩)
      = ∑ k : Fin 1024, X0 m c (ix2 ⟨8 * s.val + b.val, by omega⟩ k) * V m c main_v7 (ix2 k ⟨o'.val, by omega⟩) := by
    intro o'
    rw [Cert.ProjRefIdeal.Proj.qV_lo, dot_row _ _ _ b s ⟨8 * s.val + b.val, by omega⟩ rfl, sum_mul_pos _ _ eighth]
    refine Finset.sum_congr rfl fun k _ => ?_
    rw [Cert.ProjIdeal.Proj.v7_lo m c k o', ← mul_assoc]
    exact congrArg (fun z : EReal => X0 m c (ix2 _ k) * z * _) (Cert.ProjRefIdeal.Proj.wallV_lo (X1 m c) (X2 m c) k ⟨o'.val, by omega⟩)
  have hi : ∀ o' : Fin 1024, qV (dotV (X0 m c) (X1 m c) (X2 m c)) (ix3 b s ⟨512 + o'.val, by omega⟩)
      = ∑ k : Fin 1024, X0 m c (ix2 ⟨8 * s.val + b.val, by omega⟩ k) * V m c main_v7 (ix2 k ⟨512 + o'.val, by omega⟩) := by
    intro o'
    rw [Cert.ProjRefIdeal.Proj.qV_hi, dot_row _ _ _ b s ⟨8 * s.val + b.val, by omega⟩ rfl]
    refine Finset.sum_congr rfl fun k _ => ?_
    rw [Cert.ProjIdeal.Proj.v7_hi m c k o', Ideal.ofBits_one_f32, mul_one]
    exact congrArg (fun z : EReal => X0 m c (ix2 _ k) * z) (Cert.ProjRefIdeal.Proj.wallV_lo (X1 m c) (X2 m c) k ⟨512 + o'.val, by omega⟩)
  by_cases ho : o.val < 512
  · exact lo ⟨o.val, ho⟩
  · have e : o = ⟨512 + (⟨o.val - 512, by omega⟩ : Fin 1024).val, by show 512 + (o.val - 512) < 1536; omega⟩ := Fin.ext (by show o.val = 512 + (o.val - 512); omega)
    rw [e]
    exact hi ⟨o.val - 512, by omega⟩

/-- A shifted column of the reference, when its products are `f` and its weight is `u`. -/
theorem shift_at (z : FVec Ideal Cert.ProjRefIdeal.S8x4096x3360 .f32) (mu : FVec Ideal Cert.ProjRefIdeal.S1824 .f32) (o : Fin 1824) (f : Fin 32768 → EReal) (u : EReal)
    (hf : ∀ (b : Fin 8) (s : Fin 4096) (R : Fin 32768), R.val = 8 * s.val + b.val → z (ix3 b s ⟨1536 + o.val, by omega⟩) = f R) (hu : mu (ix1 o) = u) (R : Fin 32768) :
    lanesV (shiftV (tokV z) mu) (ix2 o R) = mix (f R) (if h : R.val < 8 then 0 else f ⟨R.val - 8, by omega⟩) u := by
  have hR := R.isLt
  have ht : ∀ (b : Fin 8) (s : Fin 4096) (R : Fin 32768), R.val = 8 * s.val + b.val → tokV z (ix3 b s o) = f R := fun b s R h =>
    (Cert.ProjRefIdeal.Proj.tokV_at z b s o).trans (hf b s R h)
  rw [Cert.ProjRefIdeal.Proj.lanesV_at, Cert.ProjRefIdeal.Proj.shiftV_at, ht _ _ R (by show R.val = 8 * (R.val / 8) + R.val % 8; omega), hu]
  refine congrArg (fun q => mix (f R) q u) ?_
  by_cases h : R.val < 8
  · rw [dif_pos h, show (⟨R.val / 8, by omega⟩ : Fin 4096) = 0 from Fin.ext (by show R.val / 8 = 0; omega)]
    exact Cert.ProjRefIdeal.Proj.prevV_zero _ _ _
  · rw [dif_neg h, show (⟨R.val / 8, by omega⟩ : Fin 4096) = ⟨(⟨R.val / 8 - 1, by omega⟩ : Fin 4095).val + 1, by show R.val / 8 - 1 + 1 < 4096; omega⟩ from
      Fin.ext (by show R.val / 8 = R.val / 8 - 1 + 1; omega)]
    exact (Cert.ProjRefIdeal.Proj.prevV_succ _ _ ⟨R.val / 8 - 1, by omega⟩ _).trans (ht _ _ _ (by show R.val - 8 = 8 * (R.val / 8 - 1) + R.val % 8; omega))

/-- A product's sum with its factors in the other order. -/
theorem row_comm (f g h : Fin 1024 → EReal) (hg : ∀ k, g k = h k) : ∑ k, f k * g k = ∑ k, h k * f k :=
  Finset.sum_congr rfl fun k _ => by rw [hg, mul_comm]

theorem rkv_eq : extractStridedSlice Cert.ProjRefIdeal.S1536x32768 ![0, 0]
      (lanesV (shiftV (tokV (dotV (X0 m c) (X1 m c) (X2 m c))) (muV (X3 m c) (X4 m c)))) Cert.ProjRefIdeal.Gen.slices_S1824x32768_S1536x32768_0_0
    = arrT (V m c main_v10) (X0 m c) (V m c main_v23) := by
  funext (i : S1536x32768.Idx)
  obtain ⟨o, R, rfl⟩ : ∃ (o : Fin 1536) (R : Fin 32768), i = ix2 o R := ⟨i 0, i 1, eq_ix2 i⟩
  have ho := o.isLt
  have h := shift_at (dotV (X0 m c) (X1 m c) (X2 m c)) (muV (X3 m c) (X4 m c)) ⟨o.val, by omega⟩ (rowT (V m c main_v10) (X0 m c) o)
    (V m c main_v23 (ix2 o ⟨R.val % 128, Nat.mod_lt _ (by omega)⟩))
    (fun b s R hR => (dot_row _ _ _ b s R hR _).trans (row_comm _ _ _ fun k =>
      (Cert.ProjRefIdeal.Proj.wallV_lo (X1 m c) (X2 m c) k ⟨1536 + o.val, by omega⟩).trans (Cert.ProjIdeal.Proj.v10_at m c o k).symm))
    ((Cert.ProjRefIdeal.Proj.muV_lo (X3 m c) (X4 m c) ⟨o.val, by omega⟩).trans (Cert.ProjIdeal.Proj.v23_at m c o _).symm) R
  refine Eq.trans ?_ h
  pointwise

theorem lora_eq : extractStridedSlice Cert.ProjRefIdeal.S288x32768 ![1536, 0]
      (lanesV (shiftV (tokV (dotV (X0 m c) (X1 m c) (X2 m c))) (muV (X3 m c) (X4 m c)))) Cert.ProjRefIdeal.Gen.slices_S1824x32768_S288x32768_1536_0
    = Cert.ProjIdeal.Proj.tailV (arrL (V m c main_v17) (X0 m c) (V m c main_v20)) := by
  funext (i : S288x32768.Idx)
  obtain ⟨o, R, rfl⟩ : ∃ (o : Fin 288) (R : Fin 32768), i = ix2 o R := ⟨i 0, i 1, eq_ix2 i⟩
  have ho := o.isLt
  have hw : ∀ k, wallV (X1 m c) (X2 m c) (ix2 k ⟨1536 + (1536 + o.val), by omega⟩) = V m c main_v17 (ix2 ⟨o.val, by omega⟩ k) := by
    intro k
    rw [Cert.ProjIdeal.Proj.v17_eq]
    by_cases h : o.val < 256
    · refine Eq.trans ?_ (Cert.ProjIdeal.Proj.wL_lo (X1 m c) (X2 m c) ⟨o.val, h⟩ k).symm
      refine Eq.trans ?_ ((Cert.ProjRefIdeal.Proj.wallV_lo (X1 m c) (X2 m c) k ⟨3072 + o.val, by omega⟩))
      exact congrArg (fun z => wallV (X1 m c) (X2 m c) (ix2 k z)) (Fin.ext (by show 1536 + (1536 + o.val) = 3072 + o.val; omega))
    · have e : (⟨o.val, by omega⟩ : Fin 384) = ⟨256 + (⟨o.val - 256, by omega⟩ : Fin 32).val, by show 256 + (o.val - 256) < 384; omega⟩ := Fin.ext (by show o.val = 256 + (o.val - 256); omega)
      rw [e]
      refine Eq.trans ?_ (Cert.ProjIdeal.Proj.wL_hi (X1 m c) (X2 m c) ⟨o.val - 256, by omega⟩ k).symm
      refine Eq.trans ?_ ((Cert.ProjRefIdeal.Proj.wallV_hi (X1 m c) (X2 m c) k ⟨o.val - 256, by omega⟩))
      exact congrArg (fun z => wallV (X1 m c) (X2 m c) (ix2 k z)) (Fin.ext (by show 1536 + (1536 + o.val) = 3328 + (o.val - 256); omega))
  have hm : muV (X3 m c) (X4 m c) (ix1 ⟨1536 + o.val, by omega⟩) = V m c main_v20 (ix2 ⟨o.val, by omega⟩ ⟨R.val % 128, Nat.mod_lt _ (by omega)⟩) := by
    rw [Cert.ProjIdeal.Proj.v20_eq]
    by_cases h : o.val < 256
    · refine Eq.trans ?_ (Cert.ProjIdeal.Proj.muL_lo (X3 m c) (X4 m c) ⟨o.val, h⟩ _).symm
      exact Cert.ProjRefIdeal.Proj.muV_lo (X3 m c) (X4 m c) ⟨1536 + o.val, by omega⟩
    · have e : (⟨o.val, by omega⟩ : Fin 384) = ⟨256 + (⟨o.val - 256, by omega⟩ : Fin 32).val, by show 256 + (o.val - 256) < 384; omega⟩ := Fin.ext (by show o.val = 256 + (o.val - 256); omega)
      rw [e]
      refine Eq.trans ?_ (Cert.ProjIdeal.Proj.muL_hi (X3 m c) (X4 m c) ⟨o.val - 256, by omega⟩ _).symm
      refine Eq.trans ?_ ((Cert.ProjRefIdeal.Proj.muV_hi (X3 m c) (X4 m c) ⟨o.val - 256, by omega⟩))
      exact congrArg (fun z => muV (X3 m c) (X4 m c) (ix1 z)) (Fin.ext (by show 1536 + o.val = 1792 + (o.val - 256); omega))
  have h := shift_at (dotV (X0 m c) (X1 m c) (X2 m c)) (muV (X3 m c) (X4 m c)) ⟨1536 + o.val, by omega⟩ (rowL (V m c main_v17) (X0 m c) ⟨o.val, by omega⟩)
    (V m c main_v20 (ix2 ⟨o.val, by omega⟩ ⟨R.val % 128, Nat.mod_lt _ (by omega)⟩))
    (fun b s R hR => (dot_row _ _ _ b s R hR _).trans (row_comm _ _ _ hw)) hm R
  have e1 : extractStridedSlice Cert.ProjRefIdeal.S288x32768 ![1536, 0]
      (lanesV (shiftV (tokV (dotV (X0 m c) (X1 m c) (X2 m c))) (muV (X3 m c) (X4 m c)))) Cert.ProjRefIdeal.Gen.slices_S1824x32768_S288x32768_1536_0 (ix2 o R)
      = lanesV (shiftV (tokV (dotV (X0 m c) (X1 m c) (X2 m c))) (muV (X3 m c) (X4 m c))) (ix2 ⟨1536 + o.val, by omega⟩ R) := by
    pointwise
  have e2 : Cert.ProjIdeal.Proj.tailV (arrL (V m c main_v17) (X0 m c) (V m c main_v20)) (ix2 o R) = arrL (V m c main_v17) (X0 m c) (V m c main_v20) (ix2 ⟨o.val, by omega⟩ R) := by
    pointwise [Cert.ProjIdeal.Proj.tailV]
  exact e1.trans (h.trans e2.symm)

theorem algebraic : Cert.algebraic_ProjIdeal_ProjRefIdeal := by
  intro m g m' g' _ hagree
  refine ⟨fun c => arrQ (X0 m c) (V m c main_v7), fun c => arrT (V m c main_v10) (X0 m c) (V m c main_v23),
    fun c => Cert.ProjIdeal.Proj.tailV (arrL (V m c main_v17) (X0 m c) (V m c main_v20)), Cert.ProjIdeal.Proj.run m g, ?_⟩
  refine (θ_run Cert.ProjRefIdeal.defs _ _).mono (fun r h c => ?_) (Cert.ProjRefIdeal.Proj.run m' g')
  obtain ⟨a0, a1, a2, a3, a4⟩ := hagree c
  obtain ⟨h0, h1, h2, h3⟩ := h c
  rw [a0, a1, a2] at h0
  rw [a0, a1, a2, a3, a4] at h1 h2
  exact ⟨h0.trans (qkv_eq m c), h1.trans (rkv_eq m c), h2.trans (lora_eq m c), h3⟩

end Cert.Proof.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsRefIdeal
public import proofs.«01_k».proof.Proof.Gen.ExpertsRefIdeal.Run
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.Dense
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Points
public import proofs.«01_k».proof.Proof.Gen.DenseIdeal.Frame.RunB
public import proofs.«01_k».proof.Proof.Gen.DenseRefIdeal
public import proofs.«01_k».proof.Proof.Gen.DenseRefIdeal.Run
public import proofs.«01_k».proof.Proof.Gen.Third
public import proofs.«01_k».proof.Proof.Gen.ThirdIdeal
public import proofs.«01_k».proof.Proof.Gen.ThirdIdeal.Skeleton
public import proofs.«01_k».proof.Proof.Gen.ThirdIdeal.Launch
public import proofs.«01_k».proof.Proof.Gen.ThirdIdeal.Points
public import proofs.«01_k».proof.Proof.Gen.ThirdIdeal.Frame.RunB
public import proofs.«01_k».proof.Proof.Gen.ThirdRefIdeal
public import proofs.«01_k».proof.Proof.Gen.ThirdRefIdeal.Run
public import proofs.«01_k».proof.Proof.Gen.Proj
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Final
public import proofs.«01_k».proof.Proof.Ref
public import proofs.«01_k».proof.Proof.MoeClaim
public import proofs.«01_k».proof.Proof.LastClaim
public import proofs.«01_k».proof.Proof.DenseClaim
public import proofs.«01_k».proof.Proof.ThirdClaim
public import proofs.«01_k».proof.Proof.ProjClaim
public import Idealize.ShloMosaic.Lib.ReduceAll
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem decays_facts : Cert.Pre_decays.Facts where
  bcast_S_S4096x8x8x64 := by decide
  reducesTo_S4096x8x8x64_S_d0_1_2_3 := by decide
  h_S_ := by decide

/-- The precondition says that every logarithm of a decay is below infinity. -/
theorem below_top [hP : Cert.Pre_decays.Facts] (x0 x1 x2 x3 x4 x5 : FVec Ideal ⟨4, ![4096, 8, 8, 64]⟩ .f32) (j : Cert.Pre_decays.S_.Idx)
    (h : Cert.Pre_decays.fn (F := Ideal) x0 x1 x2 x3 x4 x5 j = 1#1) (i) : (x1 i : EReal) < ⊤ := by
  have hs : Subsingleton Cert.Pre_decays.S_.Idx := ⟨fun _ _ => funext fun a => a.elim0⟩
  unfold Cert.Pre_decays.fn at h
  have e : Ideal.cmp .olt (x1 i : EReal) (Ideal.ofBits .f32 0x7F800000#32) = 1#1 :=
    Host.reduce_andi_all (cmpf .olt x1 (broadcastInDim Cert.Pre_decays.S4096x8x8x64 ![] hP.bcast_S_S4096x8x8x64
      (constant (F := Ideal) Cert.Pre_decays.S_ .f32 0x7F800000#32))) (constantI Cert.Pre_decays.S_ 1 1#1)
      hP.reducesTo_S4096x8x8x64_S_d0_1_2_3 hP.h_S_ j h i
  rw [show Ideal.ofBits .f32 0x7F800000#32 = ⊤ from by simp [Ideal.ofBits, Ideal.ieee]] at e
  by_contra hn
  simp [Ideal.cmp, hn] at e

/-- The two kernel programs are the same text. -/
theorem defs_eq : Cert.Kernel.defs (F := Bits) = Cert.KernelIdeal.defs (F := Bits) := by chain_rfl

theorem main_eq : Cert.Kernel.main (F := Bits) = Cert.KernelIdeal.main (F := Bits) := by chain_rfl

theorem frame_kernel : Cert.quiescent_Kernel := fun m ρ _ => by
  rw [defs_eq, main_eq]
  exact Cert.KernelIdeal.Scan.frame (F := Bits) m ρ

theorem frame_ideal : Cert.quiescent_KernelIdeal := fun m ρ _ => Cert.KernelIdeal.Scan.frame (F := Ideal) m ρ

/-- The reference's states, of its arguments. -/
abbrev states (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal :=
  Cert.ReferenceIdeal.Scan.iter (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))
    (m ((c.tc : Thread Cert.ReferenceIdeal.nD Cert.ReferenceIdeal.τ).loc Cert.ReferenceIdeal.main_arg4))
    (m ((c.tc : Thread Cert.ReferenceIdeal.nD Cert.ReferenceIdeal.τ).loc Cert.ReferenceIdeal.main_arg5))

theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Scan.run m ρ (states m) (fun _ => rfl) (fun _ _ => rfl))

theorem algebraic [hP : Cert.Pre_decays.Facts] : Cert.algebraic_KernelIdeal_ReferenceIdeal_pre_decays := by
  intro m g m' g' hpre hagree
  refine ⟨fun c => Cert.KernelIdeal.Scan.tailV (Cert.KernelIdeal.Scan.outArr m c), Cert.KernelIdeal.Scan.run m g, ?_⟩
  refine (θ_run Cert.ReferenceIdeal.defs _ _).mono (fun r h c => ⟨(h c).1.trans ?_, (h c).2⟩)
    (Cert.ReferenceIdeal.Scan.run m' g' (states m') (fun _ => rfl) (fun _ _ => rfl))
  obtain ⟨a0, a1, a2, a3, a4, a5⟩ := hagree c
  show (states m' c 4096).main_v5_8 = _
  have hw : ∀ i, (Cert.KernelIdeal.Scan.X1 m c i : EReal) < ⊤ := fun i =>
    below_top _ _ _ _ _ _ (Shape.Idx.first hP.h_S_) (congrFun (hpre c) _) i
  unfold states
  rw [a0, a1, a2, a3, a4, a5]
  funext i
  rw [eq_ix4 i]
  exact (Cert.ReferenceIdeal.Scan.ref_val _ _ _ _ _ _ (i 1) (i 2) (i 0) (i 3)).trans
    (Cert.KernelIdeal.Scan.result_at m c hw (i 0) (i 1) (i 2) (i 3)).symm

theorem claim : Cert.Claim :=
  ⟨Cert.Kernel.Gen.facts, Cert.KernelIdeal.Gen.facts, Cert.ReferenceIdeal.Gen.facts,
    Cert.Experts.Gen.facts, Cert.ExpertsIdeal.Gen.facts, Cert.ExpertsRefIdeal.Gen.facts,
    Cert.Last.Gen.facts, Cert.LastIdeal.Gen.facts, Cert.LastRefIdeal.Gen.facts,
    Cert.Dense.Gen.facts, Cert.DenseIdeal.Gen.facts, Cert.DenseRefIdeal.Gen.facts,
    Cert.Third.Gen.facts, Cert.ThirdIdeal.Gen.facts, Cert.ThirdRefIdeal.Gen.facts,
    Cert.Proj.Gen.facts, Cert.ProjIdeal.Gen.facts, Cert.ProjRefIdeal.Gen.facts, decays_facts, Experts.experts_facts,
    frame_kernel, frame_ideal, fun m ρ _ => frame_ideal m ρ trivial, frame_ref, fun m ρ _ => frame_ref m ρ trivial,
    Experts.frame_kernel (hP := Experts.experts_facts), Experts.frame_ideal (hP := Experts.experts_facts),
    Experts.frame_ref, fun m ρ _ => Experts.frame_ref m ρ trivial,
    Last.frame_kernel, Last.frame_ideal, Last.frame_ref, Dense.frame_kernel, Dense.frame_ideal, Dense.frame_ref, Third.frame_kernel, Third.frame_ideal, Third.frame_ref,
    Proj.frame_kernel, Proj.frame_ideal, Proj.frame_ref,
    trivial, algebraic (hP := decays_facts), trivial, Experts.algebraic (hP := Experts.experts_facts),
    trivial, Last.algebraic, trivial, Dense.algebraic, trivial, Third.algebraic, trivial, Proj.algebraic⟩

end Cert.Proof

end
